-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S1024x2048 : Shape := ⟨2, ![1024, 2048]⟩
abbrev S_ : Shape := ⟨0, ![]⟩
abbrev S1024x256 : Shape := ⟨2, ![1024, 256]⟩
abbrev S1024x384 : Shape := ⟨2, ![1024, 384]⟩
abbrev S896x384 : Shape := ⟨2, ![896, 384]⟩
abbrev S896x256 : Shape := ⟨2, ![896, 256]⟩
abbrev S72 : Shape := ⟨1, ![72]⟩
abbrev S256x1024 : Shape := ⟨2, ![256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x384 : Shape := ⟨2, ![256, 384]⟩
abbrev S1 : Shape := ⟨1, ![1]⟩
abbrev S128x384 : Shape := ⟨2, ![128, 384]⟩
abbrev S128x256 : Shape := ⟨2, ![128, 256]⟩
abbrev S64x384 : Shape := ⟨2, ![64, 384]⟩
abbrev S64x256 : Shape := ⟨2, ![64, 256]⟩
abbrev S32x384 : Shape := ⟨2, ![32, 384]⟩
abbrev S32x256 : Shape := ⟨2, ![32, 256]⟩

abbrev nBuf : Space → Nat
  | .hbm => 30
  | .vmem => 19
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x2048, .f32⟩
  | .hbm, ⟨3, _⟩ => ⟨S1024x2048, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x256, .f32⟩
  | .hbm, ⟨29, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S1024x384, .bf16⟩
  | .local _ .vmem, ⟨11, _⟩ => ⟨S1024x384, .bf16⟩
  | .local _ .vmem, ⟨12, _⟩ => ⟨S1024x256, .bf16⟩
  | .local _ .vmem, ⟨13, _⟩ => ⟨S896x384, .bf16⟩
  | .local _ .vmem, ⟨14, _⟩ => ⟨S896x384, .bf16⟩
  | .local _ .vmem, ⟨15, _⟩ => ⟨S896x256, .bf16⟩
  | .local _ .vmem, ⟨16, _⟩ => ⟨S1024x384, .bf16⟩
  | .local _ .vmem, ⟨17, _⟩ => ⟨S1024x384, .bf16⟩
  | .local _ .vmem, ⟨18, _⟩ => ⟨S1024x256, .bf16⟩
  | _, _ => ⟨S4x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 150 → Bool
  | ⟨i, _⟩ => dmaSemScopedAt i

abbrev sig : RefSig :=
  (ofTc nBuf bufTy 1 150 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_9 : BitVec 32 := 1#32
  let v17 : BitVec 32 := Scalar.muli v3 c1_i32_9
  let v18 : BitVec 32 := Scalar.addi c0_i32_10 v17
  v18.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_12 : BitVec 32 := 1#32
  let v19 : BitVec 32 := Scalar.muli v4 c1_i32_12
  let v20 : BitVec 32 := Scalar.addi c0_i32_13 v19
  v20.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_15 : BitVec 32 := 1#32
  let v21 : BitVec 32 := Scalar.muli v5 c1_i32_15
  let v22 : BitVec 32 := Scalar.addi c0_i32_16 v21
  v22.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c128_i32 : BitVec 32 := 128#32
  let c0_i32_96 : BitVec 32 := 0#32
  let v207 : BitVec 32 := Scalar.select v9 c128_i32 c0_i32_96
  v207
def k0_off1 (d0 : Dev nD) (c128_i32 : BitVec 32) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v207 : BitVec 32 := Scalar.select v9 c128_i32 c0_i32_96
  let v208 : BitVec 32 := v207
  let c0_i32_103 : BitVec 32 := 0#32
  ![v208.toNat, 0]
def k0_off1_at (r : Fin 4) : BitVec 32 × BitVec 32 :=
  if r.val < 2 then
    if r.val < 1 then
      (128#32, 0#32)
    else
      (384#32, 256#32)
  else
    if r.val < 3 then
      (640#32, 512#32)
    else
      (896#32, 768#32)
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_99 : BitVec 32 := 1#32
  let v209 : BitVec 32 := Scalar.muli v3 c1_i32_99
  let v210 : BitVec 32 := Scalar.addi c0_i32_100 v209
  v210.toNat
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c128_i32_113 : BitVec 32 := 128#32
  let c0_i32_114 : BitVec 32 := 0#32
  let v226 : BitVec 32 := Scalar.select v12 c128_i32_113 c0_i32_114
  v226
def k0_off2 (d0 : Dev nD) (c128_i32_113 : BitVec 32) (c0_i32_114 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v226 : BitVec 32 := Scalar.select v12 c128_i32_113 c0_i32_114
  let v227 : BitVec 32 := v226
  let c0_i32_121 : BitVec 32 := 0#32
  ![v227.toNat, 0]
def k0_off2_at (r : Fin 4) : BitVec 32 × BitVec 32 :=
  if r.val < 2 then
    if r.val < 1 then
      (128#32, 0#32)
    else
      (384#32, 256#32)
  else
    if r.val < 3 then
      (640#32, 512#32)
    else
      (896#32, 768#32)
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_117 : BitVec 32 := 1#32
  let v228 : BitVec 32 := Scalar.muli v4 c1_i32_117
  let v229 : BitVec 32 := Scalar.addi c0_i32_118 v228
  v229.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c128_i32_131 : BitVec 32 := 128#32
  let c0_i32_132 : BitVec 32 := 0#32
  let v245 : BitVec 32 := Scalar.select v15 c128_i32_131 c0_i32_132
  v245
def k0_off3 (d0 : Dev nD) (c128_i32_131 : BitVec 32) (c0_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v245 : BitVec 32 := Scalar.select v15 c128_i32_131 c0_i32_132
  let v246 : BitVec 32 := v245
  let c0_i32_139 : BitVec 32 := 0#32
  ![v246.toNat, 0]
def k0_off3_at (r : Fin 4) : BitVec 32 × BitVec 32 :=
  if r.val < 2 then
    if r.val < 1 then
      (128#32, 0#32)
    else
      (384#32, 256#32)
  else
    if r.val < 3 then
      (640#32, 512#32)
    else
      (896#32, 768#32)
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_135 : BitVec 32 := 1#32
  let v247 : BitVec 32 := Scalar.muli v5 c1_i32_135
  let v248 : BitVec 32 := Scalar.addi c0_i32_136 v247
  v248.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c384_i32 : BitVec 32 := 384#32
  let c256_i32 : BitVec 32 := 256#32
  let v419 : BitVec 32 := Scalar.select v9 c384_i32 c256_i32
  v419
def k0_dev7 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_212 : BitVec 32 := 1#32
  let v421 : BitVec 32 := Scalar.muli v3 c1_i32_212
  let v422 : BitVec 32 := Scalar.addi c0_i32_213 v421
  v422.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c384_i32_225 : BitVec 32 := 384#32
  let c256_i32_226 : BitVec 32 := 256#32
  let v438 : BitVec 32 := Scalar.select v12 c384_i32_225 c256_i32_226
  v438
def k0_dev8 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_228 : BitVec 32 := 1#32
  let v440 : BitVec 32 := Scalar.muli v4 c1_i32_228
  let v441 : BitVec 32 := Scalar.addi c0_i32_229 v440
  v441.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c384_i32_242 : BitVec 32 := 384#32
  let c256_i32_243 : BitVec 32 := 256#32
  let v457 : BitVec 32 := Scalar.select v15 c384_i32_242 c256_i32_243
  v457
def k0_dev9 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_245 : BitVec 32 := 1#32
  let v459 : BitVec 32 := Scalar.muli v5 c1_i32_245
  let v460 : BitVec 32 := Scalar.addi c0_i32_246 v459
  v460.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c640_i32 : BitVec 32 := 640#32
  let c512_i32 : BitVec 32 := 512#32
  let v631 : BitVec 32 := Scalar.select v9 c640_i32 c512_i32
  v631
def k0_dev10 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_322 : BitVec 32 := 1#32
  let v633 : BitVec 32 := Scalar.muli v3 c1_i32_322
  let v634 : BitVec 32 := Scalar.addi c0_i32_323 v633
  v634.toNat
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c640_i32_335 : BitVec 32 := 640#32
  let c512_i32_336 : BitVec 32 := 512#32
  let v650 : BitVec 32 := Scalar.select v12 c640_i32_335 c512_i32_336
  v650
def k0_dev11 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_338 : BitVec 32 := 1#32
  let v652 : BitVec 32 := Scalar.muli v4 c1_i32_338
  let v653 : BitVec 32 := Scalar.addi c0_i32_339 v652
  v653.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c640_i32_352 : BitVec 32 := 640#32
  let c512_i32_353 : BitVec 32 := 512#32
  let v669 : BitVec 32 := Scalar.select v15 c640_i32_352 c512_i32_353
  v669
def k0_dev12 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_355 : BitVec 32 := 1#32
  let v671 : BitVec 32 := Scalar.muli v5 c1_i32_355
  let v672 : BitVec 32 := Scalar.addi c0_i32_356 v671
  v672.toNat
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c896_i32 : BitVec 32 := 896#32
  let c768_i32 : BitVec 32 := 768#32
  let v843 : BitVec 32 := Scalar.select v9 c896_i32 c768_i32
  v843
def k0_dev13 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_432 : BitVec 32 := 1#32
  let v845 : BitVec 32 := Scalar.muli v3 c1_i32_432
  let v846 : BitVec 32 := Scalar.addi c0_i32_433 v845
  v846.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c896_i32_445 : BitVec 32 := 896#32
  let c768_i32_446 : BitVec 32 := 768#32
  let v862 : BitVec 32 := Scalar.select v12 c896_i32_445 c768_i32_446
  v862
def k0_dev14 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_448 : BitVec 32 := 1#32
  let v864 : BitVec 32 := Scalar.muli v4 c1_i32_448
  let v865 : BitVec 32 := Scalar.addi c0_i32_449 v864
  v865.toNat
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c896_i32_462 : BitVec 32 := 896#32
  let c768_i32_463 : BitVec 32 := 768#32
  let v881 : BitVec 32 := Scalar.select v15 c896_i32_462 c768_i32_463
  v881
def k0_dev15 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_465 : BitVec 32 := 1#32
  let v883 : BitVec 32 := Scalar.muli v5 c1_i32_465
  let v884 : BitVec 32 := Scalar.addi c0_i32_466 v883
  v884.toNat
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  v217
def k0_off4 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let v902 : BitVec 32 := v217
  let v903 : Index := Scalar.indexCast v902
  let c0_485 : Index := 0#32
  ![v903.toNat, 0]
def k0_off4_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  v217
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  v236
def k0_off5 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let v922 : BitVec 32 := v236
  let v923 : Index := Scalar.indexCast v922
  let c0_502 : Index := 0#32
  ![v923.toNat, 0]
def k0_off5_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  v236
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  v255
def k0_off6 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let v942 : BitVec 32 := v255
  let v943 : Index := Scalar.indexCast v942
  let c0_519 : Index := 0#32
  ![v943.toNat, 0]
def k0_off6_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  v255
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32 : BitVec 32 := 64#32
  let v952 : BitVec 32 := Scalar.addi v217 c64_i32
  let v953 : BitVec 32 := Scalar.select v12 v952 v217
  v953
def k0_off7 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32 : BitVec 32 := 64#32
  let v952 : BitVec 32 := Scalar.addi v217 c64_i32
  let v953 : BitVec 32 := Scalar.select v12 v952 v217
  let v954 : BitVec 32 := v953
  let c0_i32_529 : BitVec 32 := 0#32
  ![v954.toNat, 0]
def k0_off7_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev16 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_525 : BitVec 32 := 1#32
  let v955 : BitVec 32 := Scalar.muli v4 c1_i32_525
  let v956 : BitVec 32 := Scalar.addi c0_i32_526 v955
  v956.toNat
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_531 : BitVec 32 := 64#32
  let v965 : BitVec 32 := Scalar.addi v236 c64_i32_531
  let v966 : BitVec 32 := Scalar.select v15 v965 v236
  v966
def k0_off8 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_531 : BitVec 32 := 64#32
  let v965 : BitVec 32 := Scalar.addi v236 c64_i32_531
  let v966 : BitVec 32 := Scalar.select v15 v965 v236
  let v967 : BitVec 32 := v966
  let c0_i32_538 : BitVec 32 := 0#32
  ![v967.toNat, 0]
def k0_off8_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev17 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_534 : BitVec 32 := 1#32
  let v968 : BitVec 32 := Scalar.muli v5 c1_i32_534
  let v969 : BitVec 32 := Scalar.addi c0_i32_535 v968
  v969.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_540 : BitVec 32 := 64#32
  let v978 : BitVec 32 := Scalar.addi v255 c64_i32_540
  let v979 : BitVec 32 := Scalar.select v9 v978 v255
  v979
def k0_off9 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_540 : BitVec 32 := 64#32
  let v978 : BitVec 32 := Scalar.addi v255 c64_i32_540
  let v979 : BitVec 32 := Scalar.select v9 v978 v255
  let v980 : BitVec 32 := v979
  let c0_i32_546 : BitVec 32 := 0#32
  ![v980.toNat, 0]
def k0_off9_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev18 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_542 : BitVec 32 := 1#32
  let v981 : BitVec 32 := Scalar.muli v3 c1_i32_542
  let v982 : BitVec 32 := Scalar.addi c0_i32_543 v981
  v982.toNat
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  v429
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  v429
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  v448
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  v448
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  v467
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  v467
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_598 : BitVec 32 := 64#32
  let v1051 : BitVec 32 := Scalar.addi v429 c64_i32_598
  let v1052 : BitVec 32 := Scalar.select v12 v1051 v429
  v1052
def k0_dev19 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_600 : BitVec 32 := 1#32
  let v1054 : BitVec 32 := Scalar.muli v4 c1_i32_600
  let v1055 : BitVec 32 := Scalar.addi c0_i32_601 v1054
  v1055.toNat
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_605 : BitVec 32 := 64#32
  let v1064 : BitVec 32 := Scalar.addi v448 c64_i32_605
  let v1065 : BitVec 32 := Scalar.select v15 v1064 v448
  v1065
def k0_dev20 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_607 : BitVec 32 := 1#32
  let v1067 : BitVec 32 := Scalar.muli v5 c1_i32_607
  let v1068 : BitVec 32 := Scalar.addi c0_i32_608 v1067
  v1068.toNat
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_613 : BitVec 32 := 64#32
  let v1077 : BitVec 32 := Scalar.addi v467 c64_i32_613
  let v1078 : BitVec 32 := Scalar.select v9 v1077 v467
  v1078
def k0_dev21 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_615 : BitVec 32 := 1#32
  let v1080 : BitVec 32 := Scalar.muli v3 c1_i32_615
  let v1081 : BitVec 32 := Scalar.addi c0_i32_616 v1080
  v1081.toNat
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  v641
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  v641
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  v660
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  v660
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  v679
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  v679
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_671 : BitVec 32 := 64#32
  let v1150 : BitVec 32 := Scalar.addi v641 c64_i32_671
  let v1151 : BitVec 32 := Scalar.select v12 v1150 v641
  v1151
def k0_dev22 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_673 : BitVec 32 := 1#32
  let v1153 : BitVec 32 := Scalar.muli v4 c1_i32_673
  let v1154 : BitVec 32 := Scalar.addi c0_i32_674 v1153
  v1154.toNat
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_678 : BitVec 32 := 64#32
  let v1163 : BitVec 32 := Scalar.addi v660 c64_i32_678
  let v1164 : BitVec 32 := Scalar.select v15 v1163 v660
  v1164
def k0_dev23 (d0 : Dev nD) : Nat :=
  let c0_i32_681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_680 : BitVec 32 := 1#32
  let v1166 : BitVec 32 := Scalar.muli v5 c1_i32_680
  let v1167 : BitVec 32 := Scalar.addi c0_i32_681 v1166
  v1167.toNat
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_686 : BitVec 32 := 64#32
  let v1176 : BitVec 32 := Scalar.addi v679 c64_i32_686
  let v1177 : BitVec 32 := Scalar.select v9 v1176 v679
  v1177
def k0_dev24 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_688 : BitVec 32 := 1#32
  let v1179 : BitVec 32 := Scalar.muli v3 c1_i32_688
  let v1180 : BitVec 32 := Scalar.addi c0_i32_689 v1179
  v1180.toNat
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  v853
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  v853
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  v872
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  v872
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  v891
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  v891
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_744 : BitVec 32 := 64#32
  let v1249 : BitVec 32 := Scalar.addi v853 c64_i32_744
  let v1250 : BitVec 32 := Scalar.select v12 v1249 v853
  v1250
def k0_dev25 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_746 : BitVec 32 := 1#32
  let v1252 : BitVec 32 := Scalar.muli v4 c1_i32_746
  let v1253 : BitVec 32 := Scalar.addi c0_i32_747 v1252
  v1253.toNat
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_751 : BitVec 32 := 64#32
  let v1262 : BitVec 32 := Scalar.addi v872 c64_i32_751
  let v1263 : BitVec 32 := Scalar.select v15 v1262 v872
  v1263
def k0_dev26 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_753 : BitVec 32 := 1#32
  let v1265 : BitVec 32 := Scalar.muli v5 c1_i32_753
  let v1266 : BitVec 32 := Scalar.addi c0_i32_754 v1265
  v1266.toNat
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_759 : BitVec 32 := 64#32
  let v1275 : BitVec 32 := Scalar.addi v891 c64_i32_759
  let v1276 : BitVec 32 := Scalar.select v9 v1275 v891
  v1276
def k0_dev27 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_761 : BitVec 32 := 1#32
  let v1278 : BitVec 32 := Scalar.muli v3 c1_i32_761
  let v1279 : BitVec 32 := Scalar.addi c0_i32_762 v1278
  v1279.toNat
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  v964
def k0_off10 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let v1298 : BitVec 32 := v964
  let v1299 : Index := Scalar.indexCast v1298
  let c0_780 : Index := 0#32
  ![v1299.toNat, 0]
def k0_off10_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  v964
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  v977
def k0_off11 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let v1318 : BitVec 32 := v977
  let v1319 : Index := Scalar.indexCast v1318
  let c0_797 : Index := 0#32
  ![v1319.toNat, 0]
def k0_off11_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  v977
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  v990
def k0_off12 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let v1338 : BitVec 32 := v990
  let v1339 : Index := Scalar.indexCast v1338
  let c0_814 : Index := 0#32
  ![v1339.toNat, 0]
def k0_off12_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  v990
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32 : BitVec 32 := 32#32
  let v1348 : BitVec 32 := Scalar.addi v964 c32_i32
  let v1349 : BitVec 32 := Scalar.select v15 v1348 v964
  v1349
def k0_off13 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32 : BitVec 32 := 32#32
  let v1348 : BitVec 32 := Scalar.addi v964 c32_i32
  let v1349 : BitVec 32 := Scalar.select v15 v1348 v964
  let v1350 : BitVec 32 := v1349
  let c0_i32_822 : BitVec 32 := 0#32
  ![v1350.toNat, 0]
def k0_off13_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev28 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_819 : BitVec 32 := 1#32
  let v1351 : BitVec 32 := Scalar.muli v5 c1_i32_819
  let v1352 : BitVec 32 := Scalar.addi c0_i32_820 v1351
  v1352.toNat
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_824 : BitVec 32 := 32#32
  let v1361 : BitVec 32 := Scalar.addi v977 c32_i32_824
  let v1362 : BitVec 32 := Scalar.select v9 v1361 v977
  v1362
def k0_off14 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_824 : BitVec 32 := 32#32
  let v1361 : BitVec 32 := Scalar.addi v977 c32_i32_824
  let v1362 : BitVec 32 := Scalar.select v9 v1361 v977
  let v1363 : BitVec 32 := v1362
  let c0_i32_830 : BitVec 32 := 0#32
  ![v1363.toNat, 0]
def k0_off14_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev29 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_826 : BitVec 32 := 1#32
  let v1364 : BitVec 32 := Scalar.muli v3 c1_i32_826
  let v1365 : BitVec 32 := Scalar.addi c0_i32_827 v1364
  v1365.toNat
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_832 : BitVec 32 := 32#32
  let v1374 : BitVec 32 := Scalar.addi v990 c32_i32_832
  let v1375 : BitVec 32 := Scalar.select v12 v1374 v990
  v1375
def k0_off15 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_832 : BitVec 32 := 32#32
  let v1374 : BitVec 32 := Scalar.addi v990 c32_i32_832
  let v1375 : BitVec 32 := Scalar.select v12 v1374 v990
  let v1376 : BitVec 32 := v1375
  let c0_i32_839 : BitVec 32 := 0#32
  ![v1376.toNat, 0]
def k0_off15_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev30 (d0 : Dev nD) : Nat :=
  let c0_i32_836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_835 : BitVec 32 := 1#32
  let v1377 : BitVec 32 := Scalar.muli v4 c1_i32_835
  let v1378 : BitVec 32 := Scalar.addi c0_i32_836 v1377
  v1378.toNat
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  v1063
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  v1063
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  v1076
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  v1076
def k0_mult62 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  v1089
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  v1089
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_891 : BitVec 32 := 32#32
  let v1447 : BitVec 32 := Scalar.addi v1063 c32_i32_891
  let v1448 : BitVec 32 := Scalar.select v15 v1447 v1063
  v1448
def k0_dev31 (d0 : Dev nD) : Nat :=
  let c0_i32_894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_893 : BitVec 32 := 1#32
  let v1450 : BitVec 32 := Scalar.muli v5 c1_i32_893
  let v1451 : BitVec 32 := Scalar.addi c0_i32_894 v1450
  v1451.toNat
def k0_mult65 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_898 : BitVec 32 := 32#32
  let v1460 : BitVec 32 := Scalar.addi v1076 c32_i32_898
  let v1461 : BitVec 32 := Scalar.select v9 v1460 v1076
  v1461
def k0_dev32 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_900 : BitVec 32 := 1#32
  let v1463 : BitVec 32 := Scalar.muli v3 c1_i32_900
  let v1464 : BitVec 32 := Scalar.addi c0_i32_901 v1463
  v1464.toNat
def k0_mult66 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_906 : BitVec 32 := 32#32
  let v1473 : BitVec 32 := Scalar.addi v1089 c32_i32_906
  let v1474 : BitVec 32 := Scalar.select v12 v1473 v1089
  v1474
def k0_dev33 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_908 : BitVec 32 := 1#32
  let v1476 : BitVec 32 := Scalar.muli v4 c1_i32_908
  let v1477 : BitVec 32 := Scalar.addi c0_i32_909 v1476
  v1477.toNat
def k0_mult67 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  v1162
def k0_mult68 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  v1162
def k0_mult69 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  v1175
def k0_mult70 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  v1175
def k0_mult71 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  v1188
def k0_mult72 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  v1188
def k0_mult73 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_964 : BitVec 32 := 32#32
  let v1546 : BitVec 32 := Scalar.addi v1162 c32_i32_964
  let v1547 : BitVec 32 := Scalar.select v15 v1546 v1162
  v1547
def k0_dev34 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_966 : BitVec 32 := 1#32
  let v1549 : BitVec 32 := Scalar.muli v5 c1_i32_966
  let v1550 : BitVec 32 := Scalar.addi c0_i32_967 v1549
  v1550.toNat
def k0_mult74 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_972 : BitVec 32 := 32#32
  let v1559 : BitVec 32 := Scalar.addi v1175 c32_i32_972
  let v1560 : BitVec 32 := Scalar.select v9 v1559 v1175
  v1560
def k0_dev35 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_974 : BitVec 32 := 1#32
  let v1562 : BitVec 32 := Scalar.muli v3 c1_i32_974
  let v1563 : BitVec 32 := Scalar.addi c0_i32_975 v1562
  v1563.toNat
def k0_mult75 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_980 : BitVec 32 := 32#32
  let v1572 : BitVec 32 := Scalar.addi v1188 c32_i32_980
  let v1573 : BitVec 32 := Scalar.select v12 v1572 v1188
  v1573
def k0_dev36 (d0 : Dev nD) : Nat :=
  let c0_i32_983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_982 : BitVec 32 := 1#32
  let v1575 : BitVec 32 := Scalar.muli v4 c1_i32_982
  let v1576 : BitVec 32 := Scalar.addi c0_i32_983 v1575
  v1576.toNat
def k0_mult76 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  v1261
def k0_mult77 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  v1261
def k0_mult78 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  v1274
def k0_mult79 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  v1274
def k0_mult80 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  v1287
def k0_mult81 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  v1287
def k0_mult82 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1038 : BitVec 32 := 32#32
  let v1645 : BitVec 32 := Scalar.addi v1261 c32_i32_1038
  let v1646 : BitVec 32 := Scalar.select v15 v1645 v1261
  v1646
def k0_dev37 (d0 : Dev nD) : Nat :=
  let c0_i32_1041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1040 : BitVec 32 := 1#32
  let v1648 : BitVec 32 := Scalar.muli v5 c1_i32_1040
  let v1649 : BitVec 32 := Scalar.addi c0_i32_1041 v1648
  v1649.toNat
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1045 : BitVec 32 := 32#32
  let v1658 : BitVec 32 := Scalar.addi v1274 c32_i32_1045
  let v1659 : BitVec 32 := Scalar.select v9 v1658 v1274
  v1659
def k0_dev38 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1047 : BitVec 32 := 1#32
  let v1661 : BitVec 32 := Scalar.muli v3 c1_i32_1047
  let v1662 : BitVec 32 := Scalar.addi c0_i32_1048 v1661
  v1662.toNat
def k0_mult84 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1053 : BitVec 32 := 32#32
  let v1671 : BitVec 32 := Scalar.addi v1287 c32_i32_1053
  let v1672 : BitVec 32 := Scalar.select v12 v1671 v1287
  v1672
def k0_dev39 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1055 : BitVec 32 := 1#32
  let v1674 : BitVec 32 := Scalar.muli v4 c1_i32_1055
  let v1675 : BitVec 32 := Scalar.addi c0_i32_1056 v1674
  v1675.toNat
def k0_mult85 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  v1360
def k0_off16 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let v1694 : BitVec 32 := v1360
  let v1695 : Index := Scalar.indexCast v1694
  let c0_1074 : Index := 0#32
  ![v1695.toNat, 0]
def k0_off16_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  v1360
def k0_mult87 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  v1373
def k0_off17 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let v1714 : BitVec 32 := v1373
  let v1715 : Index := Scalar.indexCast v1714
  let c0_1090 : Index := 0#32
  ![v1715.toNat, 0]
def k0_off17_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult88 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  v1373
def k0_mult89 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  v1386
def k0_off18 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let v1734 : BitVec 32 := v1386
  let v1735 : Index := Scalar.indexCast v1734
  let c0_1107 : Index := 0#32
  ![v1735.toNat, 0]
def k0_off18_at (r : Fin 4) : BitVec 32 × BitVec 32 :=
  if r.val < 2 then
    if r.val < 1 then
      (0#32, 128#32)
    else
      (256#32, 384#32)
  else
    if r.val < 3 then
      (512#32, 640#32)
    else
      (768#32, 896#32)
def k0_mult90 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  v1386
def k0_mult91 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  v1360
def k0_mult92 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  v1360
def k0_mult93 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  v1360
def k0_mult94 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  v1360
def k0_off19 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let v1753 : BitVec 32 := v1360
  let c0_i32_1116 : BitVec 32 := 0#32
  ![v1753.toNat, 0]
def k0_off19_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev40 (d0 : Dev nD) : Nat :=
  let c0_i32_1115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1114 : BitVec 32 := 1#32
  let v1754 : BitVec 32 := Scalar.muli v5 c1_i32_1114
  let v1755 : BitVec 32 := Scalar.addi c0_i32_1115 v1754
  v1755.toNat
def k0_mult95 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  v1373
def k0_mult96 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  v1373
def k0_mult97 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  v1373
def k0_mult98 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  v1373
def k0_off20 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let v1771 : BitVec 32 := v1373
  let c0_i32_1123 : BitVec 32 := 0#32
  ![v1771.toNat, 0]
def k0_off20_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev41 (d0 : Dev nD) : Nat :=
  let c0_i32_1122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1121 : BitVec 32 := 1#32
  let v1772 : BitVec 32 := Scalar.muli v3 c1_i32_1121
  let v1773 : BitVec 32 := Scalar.addi c0_i32_1122 v1772
  v1773.toNat
def k0_mult99 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  v1386
def k0_mult100 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  v1386
def k0_mult101 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  v1386
def k0_mult102 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  v1386
def k0_off21 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let v1789 : BitVec 32 := v1386
  let c0_i32_1130 : BitVec 32 := 0#32
  ![v1789.toNat, 0]
def k0_off21_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev42 (d0 : Dev nD) : Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1128 : BitVec 32 := 1#32
  let v1790 : BitVec 32 := Scalar.muli v4 c1_i32_1128
  let v1791 : BitVec 32 := Scalar.addi c0_i32_1129 v1790
  v1791.toNat
def k0_mult103 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  v1459
def k0_mult104 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  v1459
def k0_mult105 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  v1472
def k0_mult106 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  v1472
def k0_mult107 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  v1485
def k0_mult108 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  v1485
def k0_mult109 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  v1459
def k0_mult110 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  v1459
def k0_mult111 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  v1459
def k0_mult112 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  v1459
def k0_dev43 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1185 : BitVec 32 := 1#32
  let v1868 : BitVec 32 := Scalar.muli v5 c1_i32_1185
  let v1869 : BitVec 32 := Scalar.addi c0_i32_1186 v1868
  v1869.toNat
def k0_mult113 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  v1472
def k0_mult114 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  v1472
def k0_mult115 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  v1472
def k0_mult116 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  v1472
def k0_dev44 (d0 : Dev nD) : Nat :=
  let c0_i32_1193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1192 : BitVec 32 := 1#32
  let v1886 : BitVec 32 := Scalar.muli v3 c1_i32_1192
  let v1887 : BitVec 32 := Scalar.addi c0_i32_1193 v1886
  v1887.toNat
def k0_mult117 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  v1485
def k0_mult118 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  v1485
def k0_mult119 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  v1485
def k0_mult120 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  v1485
def k0_dev45 (d0 : Dev nD) : Nat :=
  let c0_i32_1200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1199 : BitVec 32 := 1#32
  let v1904 : BitVec 32 := Scalar.muli v4 c1_i32_1199
  let v1905 : BitVec 32 := Scalar.addi c0_i32_1200 v1904
  v1905.toNat
def k0_mult121 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  v1558
def k0_mult122 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  v1558
def k0_mult123 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  v1571
def k0_mult124 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  v1571
def k0_mult125 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  v1584
def k0_mult126 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  v1584
def k0_mult127 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  v1558
def k0_mult128 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  v1558
def k0_mult129 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  v1558
def k0_mult130 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  v1558
def k0_dev46 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1257 : BitVec 32 := 1#32
  let v1982 : BitVec 32 := Scalar.muli v5 c1_i32_1257
  let v1983 : BitVec 32 := Scalar.addi c0_i32_1258 v1982
  v1983.toNat
def k0_mult131 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  v1571
def k0_mult132 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  v1571
def k0_mult133 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  v1571
def k0_mult134 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  v1571
def k0_dev47 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1264 : BitVec 32 := 1#32
  let v2000 : BitVec 32 := Scalar.muli v3 c1_i32_1264
  let v2001 : BitVec 32 := Scalar.addi c0_i32_1265 v2000
  v2001.toNat
def k0_mult135 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  v1584
def k0_mult136 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  v1584
def k0_mult137 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  v1584
def k0_mult138 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  v1584
def k0_dev48 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1271 : BitVec 32 := 1#32
  let v2018 : BitVec 32 := Scalar.muli v4 c1_i32_1271
  let v2019 : BitVec 32 := Scalar.addi c0_i32_1272 v2018
  v2019.toNat
def k0_mult139 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  v1657
def k0_mult140 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  v1657
def k0_mult141 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  v1670
def k0_mult142 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  v1670
def k0_mult143 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  v1683
def k0_mult144 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  v1683
def k0_mult145 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  v1657
def k0_mult146 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  v1657
def k0_mult147 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  v1657
def k0_mult148 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  v1657
def k0_dev49 (d0 : Dev nD) : Nat :=
  let c0_i32_1329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1328 : BitVec 32 := 1#32
  let v2096 : BitVec 32 := Scalar.muli v5 c1_i32_1328
  let v2097 : BitVec 32 := Scalar.addi c0_i32_1329 v2096
  v2097.toNat
def k0_mult149 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  v1670
def k0_mult150 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  v1670
def k0_mult151 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  v1670
def k0_mult152 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  v1670
def k0_dev50 (d0 : Dev nD) : Nat :=
  let c0_i32_1337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1336 : BitVec 32 := 1#32
  let v2114 : BitVec 32 := Scalar.muli v3 c1_i32_1336
  let v2115 : BitVec 32 := Scalar.addi c0_i32_1337 v2114
  v2115.toNat
def k0_mult153 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  v1683
def k0_mult154 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  v1683
def k0_mult155 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  v1683
def k0_mult156 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  v1683
def k0_dev51 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1343 : BitVec 32 := 1#32
  let v2132 : BitVec 32 := Scalar.muli v4 c1_i32_1343
  let v2133 : BitVec 32 := Scalar.addi c0_i32_1344 v2132
  v2133.toNat
def k0_mult157 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let c32_i32_1358 : BitVec 32 := 32#32
  let v2150 : BitVec 32 := Scalar.subi v1360 c32_i32_1358
  let v2151 : BitVec 32 := Scalar.select v15 v1360 v2150
  v2151
def k0_mult158 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let c32_i32_1358 : BitVec 32 := 32#32
  let v2150 : BitVec 32 := Scalar.subi v1360 c32_i32_1358
  let v2151 : BitVec 32 := Scalar.select v15 v1360 v2150
  v2151
def k0_off22 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let c32_i32_1358 : BitVec 32 := 32#32
  let v2150 : BitVec 32 := Scalar.subi v1360 c32_i32_1358
  let v2151 : BitVec 32 := Scalar.select v15 v1360 v2150
  let v2177 : BitVec 32 := v2151
  let c0_i32_1386 : BitVec 32 := 0#32
  ![v2177.toNat, 0]
def k0_off22_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev52 (d0 : Dev nD) : Nat :=
  let c0_i32_1385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1384 : BitVec 32 := 1#32
  let v2178 : BitVec 32 := Scalar.muli v4 c1_i32_1384
  let v2179 : BitVec 32 := Scalar.addi c0_i32_1385 v2178
  v2179.toNat
def k0_mult159 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let c32_i32_1370 : BitVec 32 := 32#32
  let v2162 : BitVec 32 := Scalar.subi v1373 c32_i32_1370
  let v2163 : BitVec 32 := Scalar.select v9 v1373 v2162
  v2163
def k0_mult160 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let c32_i32_1370 : BitVec 32 := 32#32
  let v2162 : BitVec 32 := Scalar.subi v1373 c32_i32_1370
  let v2163 : BitVec 32 := Scalar.select v9 v1373 v2162
  v2163
def k0_off23 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let c32_i32_1370 : BitVec 32 := 32#32
  let v2162 : BitVec 32 := Scalar.subi v1373 c32_i32_1370
  let v2163 : BitVec 32 := Scalar.select v9 v1373 v2162
  let v2187 : BitVec 32 := v2163
  let c0_i32_1391 : BitVec 32 := 0#32
  ![v2187.toNat, 0]
def k0_off23_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev53 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1389 : BitVec 32 := 1#32
  let v2188 : BitVec 32 := Scalar.muli v5 c1_i32_1389
  let v2189 : BitVec 32 := Scalar.addi c0_i32_1390 v2188
  v2189.toNat
def k0_mult161 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let c32_i32_1382 : BitVec 32 := 32#32
  let v2174 : BitVec 32 := Scalar.subi v1386 c32_i32_1382
  let v2175 : BitVec 32 := Scalar.select v12 v1386 v2174
  v2175
def k0_mult162 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let c32_i32_1382 : BitVec 32 := 32#32
  let v2174 : BitVec 32 := Scalar.subi v1386 c32_i32_1382
  let v2175 : BitVec 32 := Scalar.select v12 v1386 v2174
  v2175
def k0_off24 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let c32_i32_1382 : BitVec 32 := 32#32
  let v2174 : BitVec 32 := Scalar.subi v1386 c32_i32_1382
  let v2175 : BitVec 32 := Scalar.select v12 v1386 v2174
  let v2197 : BitVec 32 := v2175
  let c0_i32_1396 : BitVec 32 := 0#32
  ![v2197.toNat, 0]
def k0_off24_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev54 (d0 : Dev nD) : Nat :=
  let c0_i32_1395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1394 : BitVec 32 := 1#32
  let v2198 : BitVec 32 := Scalar.muli v3 c1_i32_1394
  let v2199 : BitVec 32 := Scalar.addi c0_i32_1395 v2198
  v2199.toNat
def k0_mult163 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  let c32_i32_1409 : BitVec 32 := 32#32
  let v2216 : BitVec 32 := Scalar.subi v1459 c32_i32_1409
  let v2217 : BitVec 32 := Scalar.select v15 v1459 v2216
  v2217
def k0_mult164 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  let c32_i32_1409 : BitVec 32 := 32#32
  let v2216 : BitVec 32 := Scalar.subi v1459 c32_i32_1409
  let v2217 : BitVec 32 := Scalar.select v15 v1459 v2216
  v2217
def k0_dev55 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1435 : BitVec 32 := 1#32
  let v2244 : BitVec 32 := Scalar.muli v4 c1_i32_1435
  let v2245 : BitVec 32 := Scalar.addi c0_i32_1436 v2244
  v2245.toNat
def k0_mult165 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  let c32_i32_1421 : BitVec 32 := 32#32
  let v2228 : BitVec 32 := Scalar.subi v1472 c32_i32_1421
  let v2229 : BitVec 32 := Scalar.select v9 v1472 v2228
  v2229
def k0_mult166 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  let c32_i32_1421 : BitVec 32 := 32#32
  let v2228 : BitVec 32 := Scalar.subi v1472 c32_i32_1421
  let v2229 : BitVec 32 := Scalar.select v9 v1472 v2228
  v2229
def k0_dev56 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1440 : BitVec 32 := 1#32
  let v2254 : BitVec 32 := Scalar.muli v5 c1_i32_1440
  let v2255 : BitVec 32 := Scalar.addi c0_i32_1441 v2254
  v2255.toNat
def k0_mult167 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  let c32_i32_1433 : BitVec 32 := 32#32
  let v2240 : BitVec 32 := Scalar.subi v1485 c32_i32_1433
  let v2241 : BitVec 32 := Scalar.select v12 v1485 v2240
  v2241
def k0_mult168 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  let c32_i32_1433 : BitVec 32 := 32#32
  let v2240 : BitVec 32 := Scalar.subi v1485 c32_i32_1433
  let v2241 : BitVec 32 := Scalar.select v12 v1485 v2240
  v2241
def k0_dev57 (d0 : Dev nD) : Nat :=
  let c0_i32_1447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1446 : BitVec 32 := 1#32
  let v2264 : BitVec 32 := Scalar.muli v3 c1_i32_1446
  let v2265 : BitVec 32 := Scalar.addi c0_i32_1447 v2264
  v2265.toNat
def k0_mult169 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  let c32_i32_1461 : BitVec 32 := 32#32
  let v2282 : BitVec 32 := Scalar.subi v1558 c32_i32_1461
  let v2283 : BitVec 32 := Scalar.select v15 v1558 v2282
  v2283
def k0_mult170 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  let c32_i32_1461 : BitVec 32 := 32#32
  let v2282 : BitVec 32 := Scalar.subi v1558 c32_i32_1461
  let v2283 : BitVec 32 := Scalar.select v15 v1558 v2282
  v2283
def k0_dev58 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1487 : BitVec 32 := 1#32
  let v2310 : BitVec 32 := Scalar.muli v4 c1_i32_1487
  let v2311 : BitVec 32 := Scalar.addi c0_i32_1488 v2310
  v2311.toNat
def k0_mult171 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  let c32_i32_1473 : BitVec 32 := 32#32
  let v2294 : BitVec 32 := Scalar.subi v1571 c32_i32_1473
  let v2295 : BitVec 32 := Scalar.select v9 v1571 v2294
  v2295
def k0_mult172 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  let c32_i32_1473 : BitVec 32 := 32#32
  let v2294 : BitVec 32 := Scalar.subi v1571 c32_i32_1473
  let v2295 : BitVec 32 := Scalar.select v9 v1571 v2294
  v2295
def k0_dev59 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1492 : BitVec 32 := 1#32
  let v2320 : BitVec 32 := Scalar.muli v5 c1_i32_1492
  let v2321 : BitVec 32 := Scalar.addi c0_i32_1493 v2320
  v2321.toNat
def k0_mult173 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  let c32_i32_1485 : BitVec 32 := 32#32
  let v2306 : BitVec 32 := Scalar.subi v1584 c32_i32_1485
  let v2307 : BitVec 32 := Scalar.select v12 v1584 v2306
  v2307
def k0_mult174 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  let c32_i32_1485 : BitVec 32 := 32#32
  let v2306 : BitVec 32 := Scalar.subi v1584 c32_i32_1485
  let v2307 : BitVec 32 := Scalar.select v12 v1584 v2306
  v2307
def k0_dev60 (d0 : Dev nD) : Nat :=
  let c0_i32_1498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1497 : BitVec 32 := 1#32
  let v2330 : BitVec 32 := Scalar.muli v3 c1_i32_1497
  let v2331 : BitVec 32 := Scalar.addi c0_i32_1498 v2330
  v2331.toNat
def k0_mult175 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  let c32_i32_1512 : BitVec 32 := 32#32
  let v2348 : BitVec 32 := Scalar.subi v1657 c32_i32_1512
  let v2349 : BitVec 32 := Scalar.select v15 v1657 v2348
  v2349
def k0_mult176 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  let c32_i32_1512 : BitVec 32 := 32#32
  let v2348 : BitVec 32 := Scalar.subi v1657 c32_i32_1512
  let v2349 : BitVec 32 := Scalar.select v15 v1657 v2348
  v2349
def k0_dev61 (d0 : Dev nD) : Nat :=
  let c0_i32_1539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1538 : BitVec 32 := 1#32
  let v2376 : BitVec 32 := Scalar.muli v4 c1_i32_1538
  let v2377 : BitVec 32 := Scalar.addi c0_i32_1539 v2376
  v2377.toNat
def k0_mult177 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  let c32_i32_1524 : BitVec 32 := 32#32
  let v2360 : BitVec 32 := Scalar.subi v1670 c32_i32_1524
  let v2361 : BitVec 32 := Scalar.select v9 v1670 v2360
  v2361
def k0_mult178 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  let c32_i32_1524 : BitVec 32 := 32#32
  let v2360 : BitVec 32 := Scalar.subi v1670 c32_i32_1524
  let v2361 : BitVec 32 := Scalar.select v9 v1670 v2360
  v2361
def k0_dev62 (d0 : Dev nD) : Nat :=
  let c0_i32_1544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1543 : BitVec 32 := 1#32
  let v2386 : BitVec 32 := Scalar.muli v5 c1_i32_1543
  let v2387 : BitVec 32 := Scalar.addi c0_i32_1544 v2386
  v2387.toNat
def k0_mult179 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  let c32_i32_1536 : BitVec 32 := 32#32
  let v2372 : BitVec 32 := Scalar.subi v1683 c32_i32_1536
  let v2373 : BitVec 32 := Scalar.select v12 v1683 v2372
  v2373
def k0_mult180 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  let c32_i32_1536 : BitVec 32 := 32#32
  let v2372 : BitVec 32 := Scalar.subi v1683 c32_i32_1536
  let v2373 : BitVec 32 := Scalar.select v12 v1683 v2372
  v2373
def k0_dev63 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1548 : BitVec 32 := 1#32
  let v2396 : BitVec 32 := Scalar.muli v3 c1_i32_1548
  let v2397 : BitVec 32 := Scalar.addi c0_i32_1549 v2396
  v2397.toNat
def k0_mult181 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let c32_i32_1358 : BitVec 32 := 32#32
  let v2150 : BitVec 32 := Scalar.subi v1360 c32_i32_1358
  let v2151 : BitVec 32 := Scalar.select v15 v1360 v2150
  let c64_i32_1563 : BitVec 32 := 64#32
  let v2414 : BitVec 32 := Scalar.subi v2151 c64_i32_1563
  let v2415 : BitVec 32 := Scalar.select v12 v2151 v2414
  v2415
def k0_mult182 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c0_i32_104 : BitVec 32 := 0#32
  let c128_i32_105 : BitVec 32 := 128#32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let c32_i32_1358 : BitVec 32 := 32#32
  let v2150 : BitVec 32 := Scalar.subi v1360 c32_i32_1358
  let v2151 : BitVec 32 := Scalar.select v15 v1360 v2150
  let c64_i32_1563 : BitVec 32 := 64#32
  let v2414 : BitVec 32 := Scalar.subi v2151 c64_i32_1563
  let v2415 : BitVec 32 := Scalar.select v12 v2151 v2414
  v2415
def k0_off25 (d0 : Dev nD) (c0_i32_104 : BitVec 32) (c128_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let v217 : BitVec 32 := Scalar.select v9 c0_i32_104 c128_i32_105
  let c64_i32_530 : BitVec 32 := 64#32
  let v963 : BitVec 32 := Scalar.addi v217 c64_i32_530
  let v964 : BitVec 32 := Scalar.select v12 v217 v963
  let c32_i32_823 : BitVec 32 := 32#32
  let v1359 : BitVec 32 := Scalar.addi v964 c32_i32_823
  let v1360 : BitVec 32 := Scalar.select v15 v964 v1359
  let c32_i32_1358 : BitVec 32 := 32#32
  let v2150 : BitVec 32 := Scalar.subi v1360 c32_i32_1358
  let v2151 : BitVec 32 := Scalar.select v15 v1360 v2150
  let c64_i32_1563 : BitVec 32 := 64#32
  let v2414 : BitVec 32 := Scalar.subi v2151 c64_i32_1563
  let v2415 : BitVec 32 := Scalar.select v12 v2151 v2414
  let v2441 : BitVec 32 := v2415
  let c0_i32_1591 : BitVec 32 := 0#32
  ![v2441.toNat, 0]
def k0_off25_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev64 (d0 : Dev nD) : Nat :=
  let c0_i32_1590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1589 : BitVec 32 := 1#32
  let v2442 : BitVec 32 := Scalar.muli v3 c1_i32_1589
  let v2443 : BitVec 32 := Scalar.addi c0_i32_1590 v2442
  v2443.toNat
def k0_mult183 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let c32_i32_1370 : BitVec 32 := 32#32
  let v2162 : BitVec 32 := Scalar.subi v1373 c32_i32_1370
  let v2163 : BitVec 32 := Scalar.select v9 v1373 v2162
  let c64_i32_1575 : BitVec 32 := 64#32
  let v2426 : BitVec 32 := Scalar.subi v2163 c64_i32_1575
  let v2427 : BitVec 32 := Scalar.select v15 v2163 v2426
  v2427
def k0_mult184 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c0_i32_122 : BitVec 32 := 0#32
  let c128_i32_123 : BitVec 32 := 128#32
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let c32_i32_1370 : BitVec 32 := 32#32
  let v2162 : BitVec 32 := Scalar.subi v1373 c32_i32_1370
  let v2163 : BitVec 32 := Scalar.select v9 v1373 v2162
  let c64_i32_1575 : BitVec 32 := 64#32
  let v2426 : BitVec 32 := Scalar.subi v2163 c64_i32_1575
  let v2427 : BitVec 32 := Scalar.select v15 v2163 v2426
  v2427
def k0_off26 (d0 : Dev nD) (c0_i32_122 : BitVec 32) (c128_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let v236 : BitVec 32 := Scalar.select v12 c0_i32_122 c128_i32_123
  let c64_i32_539 : BitVec 32 := 64#32
  let v976 : BitVec 32 := Scalar.addi v236 c64_i32_539
  let v977 : BitVec 32 := Scalar.select v15 v236 v976
  let c32_i32_831 : BitVec 32 := 32#32
  let v1372 : BitVec 32 := Scalar.addi v977 c32_i32_831
  let v1373 : BitVec 32 := Scalar.select v9 v977 v1372
  let c32_i32_1370 : BitVec 32 := 32#32
  let v2162 : BitVec 32 := Scalar.subi v1373 c32_i32_1370
  let v2163 : BitVec 32 := Scalar.select v9 v1373 v2162
  let c64_i32_1575 : BitVec 32 := 64#32
  let v2426 : BitVec 32 := Scalar.subi v2163 c64_i32_1575
  let v2427 : BitVec 32 := Scalar.select v15 v2163 v2426
  let v2451 : BitVec 32 := v2427
  let c0_i32_1596 : BitVec 32 := 0#32
  ![v2451.toNat, 0]
def k0_off26_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev65 (d0 : Dev nD) : Nat :=
  let c0_i32_1595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1594 : BitVec 32 := 1#32
  let v2452 : BitVec 32 := Scalar.muli v4 c1_i32_1594
  let v2453 : BitVec 32 := Scalar.addi c0_i32_1595 v2452
  v2453.toNat
def k0_mult185 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let c32_i32_1382 : BitVec 32 := 32#32
  let v2174 : BitVec 32 := Scalar.subi v1386 c32_i32_1382
  let v2175 : BitVec 32 := Scalar.select v12 v1386 v2174
  let c64_i32_1587 : BitVec 32 := 64#32
  let v2438 : BitVec 32 := Scalar.subi v2175 c64_i32_1587
  let v2439 : BitVec 32 := Scalar.select v9 v2175 v2438
  v2439
def k0_mult186 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c0_i32_140 : BitVec 32 := 0#32
  let c128_i32_141 : BitVec 32 := 128#32
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let c32_i32_1382 : BitVec 32 := 32#32
  let v2174 : BitVec 32 := Scalar.subi v1386 c32_i32_1382
  let v2175 : BitVec 32 := Scalar.select v12 v1386 v2174
  let c64_i32_1587 : BitVec 32 := 64#32
  let v2438 : BitVec 32 := Scalar.subi v2175 c64_i32_1587
  let v2439 : BitVec 32 := Scalar.select v9 v2175 v2438
  v2439
def k0_off27 (d0 : Dev nD) (c0_i32_140 : BitVec 32) (c128_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let v255 : BitVec 32 := Scalar.select v15 c0_i32_140 c128_i32_141
  let c64_i32_547 : BitVec 32 := 64#32
  let v989 : BitVec 32 := Scalar.addi v255 c64_i32_547
  let v990 : BitVec 32 := Scalar.select v9 v255 v989
  let c32_i32_840 : BitVec 32 := 32#32
  let v1385 : BitVec 32 := Scalar.addi v990 c32_i32_840
  let v1386 : BitVec 32 := Scalar.select v12 v990 v1385
  let c32_i32_1382 : BitVec 32 := 32#32
  let v2174 : BitVec 32 := Scalar.subi v1386 c32_i32_1382
  let v2175 : BitVec 32 := Scalar.select v12 v1386 v2174
  let c64_i32_1587 : BitVec 32 := 64#32
  let v2438 : BitVec 32 := Scalar.subi v2175 c64_i32_1587
  let v2439 : BitVec 32 := Scalar.select v9 v2175 v2438
  let v2461 : BitVec 32 := v2439
  let c0_i32_1601 : BitVec 32 := 0#32
  ![v2461.toNat, 0]
def k0_off27_at (r : Fin 4) : BitVec 32 × BitVec 32 :=
  if r.val < 2 then
    if r.val < 1 then
      (0#32, 128#32)
    else
      (256#32, 384#32)
  else
    if r.val < 3 then
      (512#32, 640#32)
    else
      (768#32, 896#32)
def k0_dev66 (d0 : Dev nD) : Nat :=
  let c0_i32_1600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1599 : BitVec 32 := 1#32
  let v2462 : BitVec 32 := Scalar.muli v5 c1_i32_1599
  let v2463 : BitVec 32 := Scalar.addi c0_i32_1600 v2462
  v2463.toNat
def k0_mult187 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  let c32_i32_1409 : BitVec 32 := 32#32
  let v2216 : BitVec 32 := Scalar.subi v1459 c32_i32_1409
  let v2217 : BitVec 32 := Scalar.select v15 v1459 v2216
  let c64_i32_1614 : BitVec 32 := 64#32
  let v2480 : BitVec 32 := Scalar.subi v2217 c64_i32_1614
  let v2481 : BitVec 32 := Scalar.select v12 v2217 v2480
  v2481
def k0_mult188 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c256_i32_216 : BitVec 32 := 256#32
  let c384_i32_217 : BitVec 32 := 384#32
  let v429 : BitVec 32 := Scalar.select v9 c256_i32_216 c384_i32_217
  let c64_i32_604 : BitVec 32 := 64#32
  let v1062 : BitVec 32 := Scalar.addi v429 c64_i32_604
  let v1063 : BitVec 32 := Scalar.select v12 v429 v1062
  let c32_i32_897 : BitVec 32 := 32#32
  let v1458 : BitVec 32 := Scalar.addi v1063 c32_i32_897
  let v1459 : BitVec 32 := Scalar.select v15 v1063 v1458
  let c32_i32_1409 : BitVec 32 := 32#32
  let v2216 : BitVec 32 := Scalar.subi v1459 c32_i32_1409
  let v2217 : BitVec 32 := Scalar.select v15 v1459 v2216
  let c64_i32_1614 : BitVec 32 := 64#32
  let v2480 : BitVec 32 := Scalar.subi v2217 c64_i32_1614
  let v2481 : BitVec 32 := Scalar.select v12 v2217 v2480
  v2481
def k0_dev67 (d0 : Dev nD) : Nat :=
  let c0_i32_1641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1640 : BitVec 32 := 1#32
  let v2508 : BitVec 32 := Scalar.muli v3 c1_i32_1640
  let v2509 : BitVec 32 := Scalar.addi c0_i32_1641 v2508
  v2509.toNat
def k0_mult189 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  let c32_i32_1421 : BitVec 32 := 32#32
  let v2228 : BitVec 32 := Scalar.subi v1472 c32_i32_1421
  let v2229 : BitVec 32 := Scalar.select v9 v1472 v2228
  let c64_i32_1626 : BitVec 32 := 64#32
  let v2492 : BitVec 32 := Scalar.subi v2229 c64_i32_1626
  let v2493 : BitVec 32 := Scalar.select v15 v2229 v2492
  v2493
def k0_mult190 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c256_i32_233 : BitVec 32 := 256#32
  let c384_i32_234 : BitVec 32 := 384#32
  let v448 : BitVec 32 := Scalar.select v12 c256_i32_233 c384_i32_234
  let c64_i32_612 : BitVec 32 := 64#32
  let v1075 : BitVec 32 := Scalar.addi v448 c64_i32_612
  let v1076 : BitVec 32 := Scalar.select v15 v448 v1075
  let c32_i32_905 : BitVec 32 := 32#32
  let v1471 : BitVec 32 := Scalar.addi v1076 c32_i32_905
  let v1472 : BitVec 32 := Scalar.select v9 v1076 v1471
  let c32_i32_1421 : BitVec 32 := 32#32
  let v2228 : BitVec 32 := Scalar.subi v1472 c32_i32_1421
  let v2229 : BitVec 32 := Scalar.select v9 v1472 v2228
  let c64_i32_1626 : BitVec 32 := 64#32
  let v2492 : BitVec 32 := Scalar.subi v2229 c64_i32_1626
  let v2493 : BitVec 32 := Scalar.select v15 v2229 v2492
  v2493
def k0_dev68 (d0 : Dev nD) : Nat :=
  let c0_i32_1646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1645 : BitVec 32 := 1#32
  let v2518 : BitVec 32 := Scalar.muli v4 c1_i32_1645
  let v2519 : BitVec 32 := Scalar.addi c0_i32_1646 v2518
  v2519.toNat
def k0_mult191 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  let c32_i32_1433 : BitVec 32 := 32#32
  let v2240 : BitVec 32 := Scalar.subi v1485 c32_i32_1433
  let v2241 : BitVec 32 := Scalar.select v12 v1485 v2240
  let c64_i32_1638 : BitVec 32 := 64#32
  let v2504 : BitVec 32 := Scalar.subi v2241 c64_i32_1638
  let v2505 : BitVec 32 := Scalar.select v9 v2241 v2504
  v2505
def k0_mult192 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c256_i32_250 : BitVec 32 := 256#32
  let c384_i32_251 : BitVec 32 := 384#32
  let v467 : BitVec 32 := Scalar.select v15 c256_i32_250 c384_i32_251
  let c64_i32_620 : BitVec 32 := 64#32
  let v1088 : BitVec 32 := Scalar.addi v467 c64_i32_620
  let v1089 : BitVec 32 := Scalar.select v9 v467 v1088
  let c32_i32_913 : BitVec 32 := 32#32
  let v1484 : BitVec 32 := Scalar.addi v1089 c32_i32_913
  let v1485 : BitVec 32 := Scalar.select v12 v1089 v1484
  let c32_i32_1433 : BitVec 32 := 32#32
  let v2240 : BitVec 32 := Scalar.subi v1485 c32_i32_1433
  let v2241 : BitVec 32 := Scalar.select v12 v1485 v2240
  let c64_i32_1638 : BitVec 32 := 64#32
  let v2504 : BitVec 32 := Scalar.subi v2241 c64_i32_1638
  let v2505 : BitVec 32 := Scalar.select v9 v2241 v2504
  v2505
def k0_dev69 (d0 : Dev nD) : Nat :=
  let c0_i32_1651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1650 : BitVec 32 := 1#32
  let v2528 : BitVec 32 := Scalar.muli v5 c1_i32_1650
  let v2529 : BitVec 32 := Scalar.addi c0_i32_1651 v2528
  v2529.toNat
def k0_mult193 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  let c32_i32_1461 : BitVec 32 := 32#32
  let v2282 : BitVec 32 := Scalar.subi v1558 c32_i32_1461
  let v2283 : BitVec 32 := Scalar.select v15 v1558 v2282
  let c64_i32_1665 : BitVec 32 := 64#32
  let v2546 : BitVec 32 := Scalar.subi v2283 c64_i32_1665
  let v2547 : BitVec 32 := Scalar.select v12 v2283 v2546
  v2547
def k0_mult194 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c512_i32_326 : BitVec 32 := 512#32
  let c640_i32_327 : BitVec 32 := 640#32
  let v641 : BitVec 32 := Scalar.select v9 c512_i32_326 c640_i32_327
  let c64_i32_677 : BitVec 32 := 64#32
  let v1161 : BitVec 32 := Scalar.addi v641 c64_i32_677
  let v1162 : BitVec 32 := Scalar.select v12 v641 v1161
  let c32_i32_971 : BitVec 32 := 32#32
  let v1557 : BitVec 32 := Scalar.addi v1162 c32_i32_971
  let v1558 : BitVec 32 := Scalar.select v15 v1162 v1557
  let c32_i32_1461 : BitVec 32 := 32#32
  let v2282 : BitVec 32 := Scalar.subi v1558 c32_i32_1461
  let v2283 : BitVec 32 := Scalar.select v15 v1558 v2282
  let c64_i32_1665 : BitVec 32 := 64#32
  let v2546 : BitVec 32 := Scalar.subi v2283 c64_i32_1665
  let v2547 : BitVec 32 := Scalar.select v12 v2283 v2546
  v2547
def k0_dev70 (d0 : Dev nD) : Nat :=
  let c0_i32_1692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1691 : BitVec 32 := 1#32
  let v2574 : BitVec 32 := Scalar.muli v3 c1_i32_1691
  let v2575 : BitVec 32 := Scalar.addi c0_i32_1692 v2574
  v2575.toNat
def k0_mult195 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  let c32_i32_1473 : BitVec 32 := 32#32
  let v2294 : BitVec 32 := Scalar.subi v1571 c32_i32_1473
  let v2295 : BitVec 32 := Scalar.select v9 v1571 v2294
  let c64_i32_1677 : BitVec 32 := 64#32
  let v2558 : BitVec 32 := Scalar.subi v2295 c64_i32_1677
  let v2559 : BitVec 32 := Scalar.select v15 v2295 v2558
  v2559
def k0_mult196 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c512_i32_343 : BitVec 32 := 512#32
  let c640_i32_344 : BitVec 32 := 640#32
  let v660 : BitVec 32 := Scalar.select v12 c512_i32_343 c640_i32_344
  let c64_i32_685 : BitVec 32 := 64#32
  let v1174 : BitVec 32 := Scalar.addi v660 c64_i32_685
  let v1175 : BitVec 32 := Scalar.select v15 v660 v1174
  let c32_i32_979 : BitVec 32 := 32#32
  let v1570 : BitVec 32 := Scalar.addi v1175 c32_i32_979
  let v1571 : BitVec 32 := Scalar.select v9 v1175 v1570
  let c32_i32_1473 : BitVec 32 := 32#32
  let v2294 : BitVec 32 := Scalar.subi v1571 c32_i32_1473
  let v2295 : BitVec 32 := Scalar.select v9 v1571 v2294
  let c64_i32_1677 : BitVec 32 := 64#32
  let v2558 : BitVec 32 := Scalar.subi v2295 c64_i32_1677
  let v2559 : BitVec 32 := Scalar.select v15 v2295 v2558
  v2559
def k0_dev71 (d0 : Dev nD) : Nat :=
  let c0_i32_1697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1696 : BitVec 32 := 1#32
  let v2584 : BitVec 32 := Scalar.muli v4 c1_i32_1696
  let v2585 : BitVec 32 := Scalar.addi c0_i32_1697 v2584
  v2585.toNat
def k0_mult197 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  let c32_i32_1485 : BitVec 32 := 32#32
  let v2306 : BitVec 32 := Scalar.subi v1584 c32_i32_1485
  let v2307 : BitVec 32 := Scalar.select v12 v1584 v2306
  let c64_i32_1689 : BitVec 32 := 64#32
  let v2570 : BitVec 32 := Scalar.subi v2307 c64_i32_1689
  let v2571 : BitVec 32 := Scalar.select v9 v2307 v2570
  v2571
def k0_mult198 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c512_i32_360 : BitVec 32 := 512#32
  let c640_i32_361 : BitVec 32 := 640#32
  let v679 : BitVec 32 := Scalar.select v15 c512_i32_360 c640_i32_361
  let c64_i32_693 : BitVec 32 := 64#32
  let v1187 : BitVec 32 := Scalar.addi v679 c64_i32_693
  let v1188 : BitVec 32 := Scalar.select v9 v679 v1187
  let c32_i32_987 : BitVec 32 := 32#32
  let v1583 : BitVec 32 := Scalar.addi v1188 c32_i32_987
  let v1584 : BitVec 32 := Scalar.select v12 v1188 v1583
  let c32_i32_1485 : BitVec 32 := 32#32
  let v2306 : BitVec 32 := Scalar.subi v1584 c32_i32_1485
  let v2307 : BitVec 32 := Scalar.select v12 v1584 v2306
  let c64_i32_1689 : BitVec 32 := 64#32
  let v2570 : BitVec 32 := Scalar.subi v2307 c64_i32_1689
  let v2571 : BitVec 32 := Scalar.select v9 v2307 v2570
  v2571
def k0_dev72 (d0 : Dev nD) : Nat :=
  let c0_i32_1702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1701 : BitVec 32 := 1#32
  let v2594 : BitVec 32 := Scalar.muli v5 c1_i32_1701
  let v2595 : BitVec 32 := Scalar.addi c0_i32_1702 v2594
  v2595.toNat
def k0_mult199 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  let c32_i32_1512 : BitVec 32 := 32#32
  let v2348 : BitVec 32 := Scalar.subi v1657 c32_i32_1512
  let v2349 : BitVec 32 := Scalar.select v15 v1657 v2348
  let c64_i32_1716 : BitVec 32 := 64#32
  let v2612 : BitVec 32 := Scalar.subi v2349 c64_i32_1716
  let v2613 : BitVec 32 := Scalar.select v12 v2349 v2612
  v2613
def k0_mult200 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c768_i32_436 : BitVec 32 := 768#32
  let c896_i32_437 : BitVec 32 := 896#32
  let v853 : BitVec 32 := Scalar.select v9 c768_i32_436 c896_i32_437
  let c64_i32_750 : BitVec 32 := 64#32
  let v1260 : BitVec 32 := Scalar.addi v853 c64_i32_750
  let v1261 : BitVec 32 := Scalar.select v12 v853 v1260
  let c32_i32_1044 : BitVec 32 := 32#32
  let v1656 : BitVec 32 := Scalar.addi v1261 c32_i32_1044
  let v1657 : BitVec 32 := Scalar.select v15 v1261 v1656
  let c32_i32_1512 : BitVec 32 := 32#32
  let v2348 : BitVec 32 := Scalar.subi v1657 c32_i32_1512
  let v2349 : BitVec 32 := Scalar.select v15 v1657 v2348
  let c64_i32_1716 : BitVec 32 := 64#32
  let v2612 : BitVec 32 := Scalar.subi v2349 c64_i32_1716
  let v2613 : BitVec 32 := Scalar.select v12 v2349 v2612
  v2613
def k0_dev73 (d0 : Dev nD) : Nat :=
  let c0_i32_1743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1742 : BitVec 32 := 1#32
  let v2640 : BitVec 32 := Scalar.muli v3 c1_i32_1742
  let v2641 : BitVec 32 := Scalar.addi c0_i32_1743 v2640
  v2641.toNat
def k0_mult201 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  let c32_i32_1524 : BitVec 32 := 32#32
  let v2360 : BitVec 32 := Scalar.subi v1670 c32_i32_1524
  let v2361 : BitVec 32 := Scalar.select v9 v1670 v2360
  let c64_i32_1728 : BitVec 32 := 64#32
  let v2624 : BitVec 32 := Scalar.subi v2361 c64_i32_1728
  let v2625 : BitVec 32 := Scalar.select v15 v2361 v2624
  v2625
def k0_mult202 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c768_i32_453 : BitVec 32 := 768#32
  let c896_i32_454 : BitVec 32 := 896#32
  let v872 : BitVec 32 := Scalar.select v12 c768_i32_453 c896_i32_454
  let c64_i32_758 : BitVec 32 := 64#32
  let v1273 : BitVec 32 := Scalar.addi v872 c64_i32_758
  let v1274 : BitVec 32 := Scalar.select v15 v872 v1273
  let c32_i32_1052 : BitVec 32 := 32#32
  let v1669 : BitVec 32 := Scalar.addi v1274 c32_i32_1052
  let v1670 : BitVec 32 := Scalar.select v9 v1274 v1669
  let c32_i32_1524 : BitVec 32 := 32#32
  let v2360 : BitVec 32 := Scalar.subi v1670 c32_i32_1524
  let v2361 : BitVec 32 := Scalar.select v9 v1670 v2360
  let c64_i32_1728 : BitVec 32 := 64#32
  let v2624 : BitVec 32 := Scalar.subi v2361 c64_i32_1728
  let v2625 : BitVec 32 := Scalar.select v15 v2361 v2624
  v2625
def k0_dev74 (d0 : Dev nD) : Nat :=
  let c0_i32_1748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1747 : BitVec 32 := 1#32
  let v2650 : BitVec 32 := Scalar.muli v4 c1_i32_1747
  let v2651 : BitVec 32 := Scalar.addi c0_i32_1748 v2650
  v2651.toNat
def k0_mult203 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  let c32_i32_1536 : BitVec 32 := 32#32
  let v2372 : BitVec 32 := Scalar.subi v1683 c32_i32_1536
  let v2373 : BitVec 32 := Scalar.select v12 v1683 v2372
  let c64_i32_1740 : BitVec 32 := 64#32
  let v2636 : BitVec 32 := Scalar.subi v2373 c64_i32_1740
  let v2637 : BitVec 32 := Scalar.select v9 v2373 v2636
  v2637
def k0_mult204 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c0_i32 : BitVec 32 := 0#32
  let v9 : BitVec 1 := Scalar.cmpi .eq v8 c0_i32
  let c1_i32_3 : BitVec 32 := 1#32
  let v10 : BitVec 32 := Scalar.shrsi v2 c1_i32_3
  let c1_i32_4 : BitVec 32 := 1#32
  let v11 : BitVec 32 := Scalar.andi v10 c1_i32_4
  let c0_i32_5 : BitVec 32 := 0#32
  let v12 : BitVec 1 := Scalar.cmpi .eq v11 c0_i32_5
  let c2_i32 : BitVec 32 := 2#32
  let v13 : BitVec 32 := Scalar.shrsi v2 c2_i32
  let c1_i32_6 : BitVec 32 := 1#32
  let v14 : BitVec 32 := Scalar.andi v13 c1_i32_6
  let c0_i32_7 : BitVec 32 := 0#32
  let v15 : BitVec 1 := Scalar.cmpi .eq v14 c0_i32_7
  let c768_i32_470 : BitVec 32 := 768#32
  let c896_i32_471 : BitVec 32 := 896#32
  let v891 : BitVec 32 := Scalar.select v15 c768_i32_470 c896_i32_471
  let c64_i32_766 : BitVec 32 := 64#32
  let v1286 : BitVec 32 := Scalar.addi v891 c64_i32_766
  let v1287 : BitVec 32 := Scalar.select v9 v891 v1286
  let c32_i32_1060 : BitVec 32 := 32#32
  let v1682 : BitVec 32 := Scalar.addi v1287 c32_i32_1060
  let v1683 : BitVec 32 := Scalar.select v12 v1287 v1682
  let c32_i32_1536 : BitVec 32 := 32#32
  let v2372 : BitVec 32 := Scalar.subi v1683 c32_i32_1536
  let v2373 : BitVec 32 := Scalar.select v12 v1683 v2372
  let c64_i32_1740 : BitVec 32 := 64#32
  let v2636 : BitVec 32 := Scalar.subi v2373 c64_i32_1740
  let v2637 : BitVec 32 := Scalar.select v9 v2373 v2636
  v2637
def k0_dev75 (d0 : Dev nD) : Nat :=
  let c0_i32_1753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1752 : BitVec 32 := 1#32
  let v2660 : BitVec 32 := Scalar.muli v5 c1_i32_1752
  let v2661 : BitVec 32 := Scalar.addi c0_i32_1753 v2660
  v2661.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S1024x2048 : Shape := ⟨2, ![1024, 2048]⟩
abbrev S8192x1024 : Shape := ⟨2, ![8192, 1024]⟩
abbrev S4x256x8192 : Shape := ⟨3, ![4, 256, 8192]⟩
abbrev S4x256x64x128 : Shape := ⟨4, ![4, 256, 64, 128]⟩
abbrev S4x256x2048 : Shape := ⟨3, ![4, 256, 2048]⟩
abbrev S4x256x16x128 : Shape := ⟨4, ![4, 256, 16, 128]⟩
abbrev S4x256x16x4x128 : Shape := ⟨5, ![4, 256, 16, 4, 128]⟩
abbrev S_ : Shape := ⟨0, ![]⟩
abbrev S4x64x256x1 : Shape := ⟨4, ![4, 64, 256, 1]⟩
abbrev S4x64x256x256 : Shape := ⟨4, ![4, 64, 256, 256]⟩
abbrev S4x64x256 : Shape := ⟨3, ![4, 64, 256]⟩
abbrev S4x256x64x1 : Shape := ⟨4, ![4, 256, 64, 1]⟩
abbrev S4x64x128x256 : Shape := ⟨4, ![4, 64, 128, 256]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S1024x2048, .f32⟩
  | .hbm, ⟨3, _⟩ => ⟨S1024x2048, .f32⟩
  | .hbm, ⟨4, _⟩ => ⟨S8192x1024, .f32⟩
  | .hbm, ⟨5, _⟩ => ⟨S4x256x8192, .f32⟩
  | .hbm, ⟨6, _⟩ => ⟨S4x256x64x128, .f32⟩
  | .hbm, ⟨7, _⟩ => ⟨S4x256x2048, .f32⟩
  | .hbm, ⟨8, _⟩ => ⟨S4x256x16x128, .f32⟩
  | .hbm, ⟨9, _⟩ => ⟨S4x256x2048, .f32⟩
  | .hbm, ⟨10, _⟩ => ⟨S4x256x16x128, .f32⟩
  | .hbm, ⟨11, _⟩ => ⟨S4x256x16x4x128, .f32⟩
  | .hbm, ⟨12, _⟩ => ⟨S4x256x64x128, .f32⟩
  | .hbm, ⟨13, _⟩ => ⟨S4x256x16x4x128, .f32⟩
  | .hbm, ⟨14, _⟩ => ⟨S4x256x64x128, .f32⟩
  | .hbm, ⟨15, _⟩ => ⟨S_, .f32⟩
  | .hbm, ⟨16, _⟩ => ⟨S4x256x64x128, .f32⟩
  | .hbm, ⟨17, _⟩ => ⟨S_, .f32⟩
  | .hbm, ⟨18, _⟩ => ⟨S4x64x256x1, .f32⟩
  | .hbm, ⟨19, _⟩ => ⟨S_, .f32⟩
  | .hbm, ⟨20, _⟩ => ⟨S4x64x256x1, .f32⟩
  | .hbm, ⟨21, _⟩ => ⟨S4x64x256x256, .f32⟩
  | .hbm, ⟨22, _⟩ => ⟨S_, .f32⟩
  | .hbm, ⟨23, _⟩ => ⟨S4x64x256x256, .f32⟩
  | .hbm, ⟨24, _⟩ => ⟨S4x64x256x256, .f32⟩
  | .hbm, ⟨25, _⟩ => ⟨S_, .f32⟩
  | .hbm, ⟨26, _⟩ => ⟨S4x64x256, .f32⟩
  | .hbm, ⟨27, _⟩ => ⟨S4x64x256x1, .f32⟩
  | .hbm, ⟨28, _⟩ => ⟨S4x64x256x1, .f32⟩
  | .hbm, ⟨29, _⟩ => ⟨S4x64x256x1, .f32⟩
  | .hbm, ⟨30, _⟩ => ⟨S4x64x256x1, .f32⟩
  | .hbm, ⟨31, _⟩ => ⟨S4x64x256x256, .f32⟩
  | .hbm, ⟨32, _⟩ => ⟨S4x64x256x256, .f32⟩
  | .hbm, ⟨33, _⟩ => ⟨S4x64x256x256, .f32⟩
  | .hbm, ⟨34, _⟩ => ⟨S4x64x256x1, .f32⟩
  | .hbm, ⟨35, _⟩ => ⟨S_, .f32⟩
  | .hbm, ⟨36, _⟩ => ⟨S4x64x256, .f32⟩
  | .hbm, ⟨37, _⟩ => ⟨S4x64x256x1, .f32⟩
  | .hbm, ⟨38, _⟩ => ⟨S4x64x256x1, .f32⟩
  | .hbm, ⟨39, _⟩ => ⟨S4x256x64x1, .f32⟩
  | .hbm, ⟨40, _⟩ => ⟨S4x256x64x128, .f32⟩
  | .hbm, ⟨41, _⟩ => ⟨S4x256x64x128, .f32⟩
  | .hbm, ⟨42, _⟩ => ⟨S4x64x128x256, .f32⟩
  | .hbm, ⟨43, _⟩ => ⟨S4x256x64x128, .f32⟩
  | .hbm, ⟨44, _⟩ => ⟨S4x256x64x128, .f32⟩
  | .hbm, ⟨45, _⟩ => ⟨S4x256x64x1, .f32⟩
  | .hbm, ⟨46, _⟩ => ⟨S4x256x64x128, .f32⟩
  | .hbm, ⟨47, _⟩ => ⟨S4x256x64x128, .f32⟩
  | .hbm, ⟨48, _⟩ => ⟨S4x256x8192, .f32⟩
  | .hbm, ⟨49, _⟩ => ⟨S4x256x1024, .f32⟩
  | .hbm, ⟨50, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Blk.lean ====
module

public import proofs.«01_k».proof.Proof.Gen.KernelIdeal.Launch
public import proofs.«01_k».proof.Proof.Gen.KernelIdeal.Skeleton
public import Idealize.ShloMosaic.Lib.Pipeline.Regions
public import Idealize.ShloMosaic.Lib.Pipeline.Kit
public import Idealize.ShloMosaic.Lib.Tactic

/-! # Holding a part of a buffer by what it reads

`blk c M S v` holds, on device `c`, the elements of the memref `M` at the indices `S`, reading `v`
there; `blkx` forgets the values. -/

@[expose] public section
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]

abbrev 𝒱₀ : Variants := Variants.none
abbrev UU : Type := UR sig nD τ × Rounds.URounds (GSem nD τ sig) (Fin 3)
local notation "𝕄" => MT nD τ sig Unit (Elt F) ℕ UU ℕ

/-- The elements of `M` at the indices `S`, on device `c`, reading `v`. -/
def blk (c : Dev nD) {s : Shape} {e : EltTy} (M : Memref sig .tc .vmem s e) (S : Finset s.Idx)
    (v : s.Idx → Elt F e) : sProp 𝕄 :=
  iprop(∃ f : Buf (Elt F) (M.view.loc (c : Thread nD τ)), ⌜∀ x ∈ S, M.view.read (Elt F) f x = v x⌝
    ∗ M.view.loc (c : Thread nD τ) ↦[M.view.setOn S]{fullShare} f)

/-- The same with the values forgotten. -/
def blkx (c : Dev nD) {s : Shape} {e : EltTy} (M : Memref sig .tc .vmem s e) (S : Finset s.Idx) : sProp 𝕄 :=
  iprop(∃ v : s.Idx → Elt F e, blk c M S v)

theorem mem_emb {s : Shape} (r : Rect s) (j) : r.emb j ∈ r.set := by
  rw [← Rect.map_emb_univ]; exact Finset.mem_map.mpr ⟨j, Finset.mem_univ _, rfl⟩
theorem of_mem {s : Shape} (r : Rect s) {x} (hx : x ∈ r.set) : ∃ j, r.emb j = x := by
  rw [← Rect.map_emb_univ] at hx
  obtain ⟨j, -, h⟩ := Finset.mem_map.mp hx
  exact ⟨j, h⟩

section
variable {c : Dev nD} {s : Shape} {e : EltTy} {M : Memref sig .tc .vmem s e} {S T : Finset s.Idx}
  {v w : s.Idx → Elt F e}

omit [FloatOps F] in
theorem blk_congr (h : ∀ x ∈ S, v x = w x) : (blk c M S v : sProp 𝕄) ⊢ blk c M S w := by
  unfold blk
  iintro ⟨%f, %hf, H⟩
  iexists f
  isplitr
  · ipureintro; exact fun x hx => (hf x hx).trans (h x hx)
  · iexact H

omit [FloatOps F] in
theorem blk_forget : (blk c M S v : sProp 𝕄) ⊢ blkx c M S := by
  unfold blkx
  iintro H
  iexists v
  iexact H

omit [FloatOps F] in
theorem setOn_disj (h : Disjoint S T) : Disjoint (M.view.setOn S) (M.view.setOn T) :=
  (Finset.disjoint_map _).mpr h

omit [FloatOps F] in
theorem blk_split (h : Disjoint S T) : (blk c M (S ∪ T) v : sProp 𝕄) ⊢ iprop(blk c M S v ∗ blk c M T v) := by
  unfold blk
  iintro ⟨%f, %hf, H⟩
  rw [show M.view.setOn (S ∪ T) = M.view.setOn S ∪ M.view.setOn T from Finset.map_union _ _]
  ihave H := (pointsTo_union (setOn_disj (M := M) h)).1 $$ H
  icases H with ⟨HS, HT⟩
  isplitl [HS]
  · iexists f
    isplitr
    · ipureintro; exact fun x hx => hf x (Finset.mem_union_left _ hx)
    · iexact HS
  · iexists f
    isplitr
    · ipureintro; exact fun x hx => hf x (Finset.mem_union_right _ hx)
    · iexact HT

omit [FloatOps F] in
theorem blk_join (h : Disjoint S T) : iprop(blk c M S v ∗ blk c M T v) ⊢ (blk c M (S ∪ T) v : sProp 𝕄) := by
  unfold blk
  iintro ⟨⟨%f, %hf, HS⟩, %g, %hg, HT⟩
  iexists (M.view.setOn T).piecewise g f
  isplitr
  · ipureintro
    intro x hx
    rw [View.read_apply]
    by_cases hT : x ∈ T
    · rw [Finset.piecewise_eq_of_mem _ _ _ (M.view.mem_setOn.mpr hT), ← View.read_apply]
      exact hg x hT
    · have hS : x ∈ S := (Finset.mem_union.mp hx).resolve_right hT
      rw [Finset.piecewise_eq_of_notMem _ _ _ (Finset.disjoint_left.mp (setOn_disj (M := M) h) (M.view.mem_setOn.mpr hS)),
        ← View.read_apply]
      exact hf x hS
  · rw [show M.view.setOn (S ∪ T) = M.view.setOn S ∪ M.view.setOn T from Finset.map_union _ _]
    iapply (pointsTo_join (setOn_disj (M := M) h))
    isplitl [HS]
    · iexact HS
    · iexact HT

omit [FloatOps F] in
theorem blk_cast (h : S = T) : (blk c M S v : sProp 𝕄) ⊢ blk c M T v := by subst h; exact .rfl

omit [FloatOps F] in
theorem blkx_cast (h : S = T) : (blkx c M S : sProp 𝕄) ⊢ blkx c M T := by subst h; exact .rfl

omit [FloatOps F] in
theorem blkx_split (h : Disjoint S T) : (blkx c M (S ∪ T) : sProp 𝕄) ⊢ iprop(blkx c M S ∗ blkx c M T) := by
  unfold blkx
  iintro ⟨%v, H⟩
  ihave H := (blk_split h) $$ H
  icases H with ⟨HS, HT⟩
  isplitl [HS]
  · iexists v; iexact HS
  · iexists v; iexact HT

omit [FloatOps F] in
/-- Two parts at different values: one value function that is each on its part. -/
theorem blk_join2 (h : Disjoint S T) :
    iprop(blk c M S v ∗ blk c M T w) ⊢ (blk c M (S ∪ T) (T.piecewise w v) : sProp 𝕄) := by
  iintro ⟨HS, HT⟩
  iapply (blk_join h)
  isplitl [HS]
  · iapply (blk_congr fun x hx => (Finset.piecewise_eq_of_notMem _ _ _ (Finset.disjoint_left.mp h hx)).symm)
    iexact HS
  · iapply (blk_congr fun x hx => (Finset.piecewise_eq_of_mem _ _ _ hx).symm)
    iexact HT

omit [FloatOps F] in
theorem blkx_join (h : Disjoint S T) : iprop(blkx c M S ∗ blkx c M T) ⊢ (blkx c M (S ∪ T) : sProp 𝕄) := by
  unfold blkx
  iintro ⟨⟨%v, HS⟩, %w, HT⟩
  iexists T.piecewise w v
  iapply (blk_join2 h)
  isplitl [HS]
  · iexact HS
  · iexact HT

omit [FloatOps F] in
/-- The whole memref reading `v`. -/
theorem blk_of_pt {q : Finset _} {f : Buf (Elt F) (M.view.loc (c : Thread nD τ))} (hq : q = M.view.setOn S) :
    (M.view.loc (c : Thread nD τ) ↦[q]{fullShare} f : sProp 𝕄) ⊢ blk c M S (M.view.read (Elt F) f) := by
  subst hq
  unfold blk
  iintro H
  iexists f
  isplitr
  · ipureintro; exact fun _ _ => rfl
  · iexact H

/-- The elements of a slice, by the slice's own indices. -/
theorem slice_setOn (r : Rect s) (hr) : (M.slice r hr).view.set = M.view.setOn r.set := by
  exact View.set_slice _ _

omit [FloatOps F] in
/-- A part as the points-to of the slice that covers it. -/
theorem blk_slice (r : Rect s) (hr) :
    (blk c M r.set v : sProp 𝕄) ⊢ iprop(∃ f, ⌜(M.slice r hr).view.read (Elt F) f = fun j => v (r.emb j)⌝
      ∗ ((M.slice r hr).view.loc (c : Thread nD τ) ↦[(M.slice r hr).view.set]{fullShare} f)) := by
  unfold blk
  iintro ⟨%f, %hf, H⟩
  iexists f
  isplitr
  · ipureintro
    funext j
    exact hf _ (mem_emb r j)
  · rw [slice_setOn]
    iexact H

omit [FloatOps F] in
theorem blk_unslice (r : Rect s) (hr) {f : Buf (Elt F) (M.view.loc (c : Thread nD τ))}
    (hv : ∀ j, (M.slice r hr).view.read (Elt F) f j = v (r.emb j)) :
    ((M.slice r hr).view.loc (c : Thread nD τ) ↦[(M.slice r hr).view.set]{fullShare} f : sProp 𝕄) ⊢ blk c M r.set v := by
  rw [slice_setOn]
  unfold blk
  iintro H
  iexists f
  isplitr
  · ipureintro
    intro x hx
    obtain ⟨j, rfl⟩ := of_mem r hx
    exact hv j
  · iexact H

instance blk_storable : BI.Storable (upEmb : UEmb _ (MT nD τ sig Unit (Elt F) ℕ UU ℕ)) (blk c M S v) := by
  unfold blk; infer_instance
instance blkx_storable : BI.Storable (upEmb : UEmb _ (MT nD τ sig Unit (Elt F) ℕ UU ℕ)) (blkx c M S : sProp 𝕄) := by
  unfold blkx; infer_instance
end

section
variable {s : Shape} {e : EltTy} {M : Memref sig .tc .vmem s e} {S : Finset s.Idx} {v : s.Idx → Elt F e}

/-- A load from within a held part. -/
theorem wp_load_blk (c : Dev nD) {α : Type} {Q : α → sProp 𝕄} {r : Rect s} {hl : M.view.LoadsAt r.toLoadRect}
    {k : (r.shape.Idx → Elt F e) → Prog (TpuEff nD τ sig (Elt F) Λ₀ .tc) α}
    (hS : r.set ⊆ S) :
    (blk c M S v : sProp 𝕄)
      ⊢ iprop((blk c M S v -∗ wp frame (wpE (defs₀ (F := F)) 𝒱₀ (c : Thread nD τ) none) Set.univ (k fun j => v (r.emb j)) Q)
        -∗ wp frame (wpE (defs₀ (F := F)) 𝒱₀ (c : Thread nD τ) none) Set.univ (.op (.load M r.toLoadRect hl) k) Q) := by
  unfold blk
  iintro ⟨%f, %hf, H⟩ Hk
  iapply (Idealize.ShloMosaic.wp_load 𝒱₀ (c : Thread nD τ) none Set.univ
    (S := M.view.setOn S) (q := fullShare) (f := f) (Finset.map_subset_map.mpr hS)) $$ H
  iintro H
  rw [show M.view.readAt (Elt F) r.toLoadRect f = fun j => v (r.emb j) from by
    funext j
    exact hf _ (hS (mem_emb r j))]
  iapply Hk
  iexists f
  isplitr
  · ipureintro; exact hf
  · iexact H

/-- A store over exactly a held part. -/
theorem wp_store_blk (c : Dev nD) {α : Type} {Q : α → sProp 𝕄} {r : Rect s} {w : r.shape.Idx → Elt F e} {hx : (M.access r).Stores Finset.univ} {hm}
    {k : PUnit → Prog (TpuEff nD τ sig (Elt F) Λ₀ .tc) α}
    (hS : r.set = S) {v' : s.Idx → Elt F e} (hv : ∀ j, w j = v' (r.emb j)) :
    (blkx c M S : sProp 𝕄)
      ⊢ iprop((blk c M S v' -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  subst hS
  unfold blkx blk
  iintro ⟨%u, %f, %hf, H⟩ Hk
  iapply (Idealize.ShloMosaic.wp_store 𝒱₀ (c : Thread nD τ) none Set.univ (m := M) (r := r) (w := w) (Mk := Finset.univ)
    (S := M.view.setOn r.set) (f := f) (by rw [View.setOn_univ, View.set_slice]; exact subset_rfl)) $$ H
  iintro H
  iapply Hk
  iexists _
  isplitr; rotate_left
  · iexact H
  · ipureintro
    intro x hx
    obtain ⟨j, rfl⟩ := of_mem r hx
    exact (View.read_slice_write_emb _ _ _ (Finset.mem_univ j)).trans (hv j)
end

end Cert.TreeProof
-- ==== Proof.Proto.lean ====
module

public import proofs.«01_k».proof.Proof.Blk

/-! # The exchange: coordinates, buffers, cells and the schedule

Eight devices hold three hypercube coordinates each; a copy `(s, g, p)` is stage `s` (three halving stages, then
three doubling stages) of row group `g` and column part `p`. -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Coordinates -/

/-- Whether device `c` is on the low side of coordinate `q`. -/
def low (c : Dev nD) (q : Fin 3) : Bool :=
  match q with
  | 0 => (c.val / 2 + c.val) % 2 == 0
  | 1 => (c.val / 2) % 2 == 0
  | 2 => (c.val / 4) % 2 == 0

/-- The device across coordinate `q`. -/
def peer (c : Dev nD) (q : Fin 3) : Dev nD :=
  match q with
  | 0 => ⟨c.val ^^^ 1, by revert c; decide⟩
  | 1 => ⟨c.val ^^^ 3, by revert c; decide⟩
  | 2 => ⟨c.val ^^^ 4, by revert c; decide⟩

theorem peer_peer (c : Dev nD) (q : Fin 3) : peer (peer c q) q = c := by revert c q; decide

/-- The coordinate part `p` halves at level `k`. -/
def ord (p : Fin 3) (k : ℕ) : Fin 3 := ⟨(p.val + k) % 3, Nat.mod_lt _ (by decide)⟩

abbrev mate (c : Dev nD) (p : Fin 3) (k : ℕ) : Dev nD := peer c (ord p k)

/-- First row, within a group, of what device `c` still keeps after `k` halvings. -/
def keep (c : Dev nD) (p : Fin 3) : ℕ → ℕ
  | 0 => 0
  | k + 1 => keep c p k + if low c (ord p k) then 0 else 128 / 2 ^ k
/-- First row of what it sends at halving `k`. -/
def snt (c : Dev nD) (p : Fin 3) (k : ℕ) : ℕ := keep c p k + if low c (ord p k) then 128 / 2 ^ k else 0

/-- The level of a stage. -/
def lvl (s : Fin 6) : ℕ := if s.val < 3 then s.val else 5 - s.val
/-- Rows of a transfer at level `k`. -/
def sz (k : ℕ) : ℕ := 128 / 2 ^ k
/-- First row, within a group's landing slots, of halving `k`'s slot. -/
def slot (k : ℕ) : ℕ := 256 - 256 / 2 ^ k

theorem keep_mate (c : Dev nD) (p k : Fin 3) : keep (mate c p k.val) p k.val = keep c p k.val := by revert c p k; decide
theorem snt_mate (c : Dev nD) (p k : Fin 3) : snt (mate c p k.val) p k.val = keep c p (k.val + 1) := by revert c p k; decide
theorem keep_succ_mate (c : Dev nD) (p k : Fin 3) : keep (mate c p k.val) p (k.val + 1) = snt c p k.val := by revert c p k; decide
theorem keep_le (c : Dev nD) (p k : Fin 3) : keep c p (k.val + 1) + sz k.val ≤ 256 := by revert c p k; decide
theorem snt_le (c : Dev nD) (p k : Fin 3) : snt c p k.val + sz k.val ≤ 256 := by revert c p k; decide
theorem slot_le (k : Fin 3) : slot k.val + sz k.val ≤ 224 := by revert k; decide
/-- What is kept at `k` is what is kept at `k + 1` beside what is sent. -/
theorem halves (c : Dev nD) (p k : Fin 3) :
    (keep c p (k.val + 1) = keep c p k.val ∧ snt c p k.val = keep c p k.val + sz k.val
      ∨ snt c p k.val = keep c p k.val ∧ keep c p (k.val + 1) = keep c p k.val + sz k.val)
    ∧ 256 / 2 ^ k.val = sz k.val + sz k.val ∧ 256 / 2 ^ (k.val + 1) = sz k.val := by
  revert c p k; decide

/-! ## Row blocks -/

/-- The indices of rows `a … a + n`. -/
def rows (A B a n : ℕ) : Finset (Shape.Idx ⟨2, ![A, B]⟩) :=
  Finset.univ.filter fun x => a ≤ (x 0).val ∧ (x 0).val < a + n

theorem mem_rows {A B a n : ℕ} {x : Shape.Idx ⟨2, ![A, B]⟩} : x ∈ rows A B a n ↔ a ≤ (x 0).val ∧ (x 0).val < a + n := by
  simp [rows]

theorem rows_disj {A B a n b m : ℕ} (h : a + n ≤ b ∨ b + m ≤ a) : Disjoint (rows A B a n) (rows A B b m) :=
  Finset.disjoint_left.mpr fun x hx hy => by
    rw [mem_rows] at hx hy; omega

theorem rows_union {A B a n m : ℕ} : rows A B a (n + m) = rows A B a n ∪ rows A B (a + n) m := by
  ext x; rw [Finset.mem_union, mem_rows, mem_rows, mem_rows]; omega

theorem rect_rows {A B a n : ℕ} {off : Fin 2 → ℕ} {inb} (h : off = ![a, 0]) :
    (Rect.unit (s := ⟨2, ![A, B]⟩) off ![n, B] inb).set = rows A B a n := by
  subst h
  ext x
  rw [Rect.mem_set_unit, mem_rows]
  constructor
  · intro hx
    exact hx 0
  · intro hx i
    fin_cases i
    · exact hx
    · exact ⟨Nat.zero_le _, by simpa using (x 1).isLt⟩

theorem emb_row {A B a n b m : ℕ} {off : Fin 2 → ℕ} {inb} (h : off = ![a, b])
    (j : (Rect.unit (s := ⟨2, ![A, B]⟩) off ![n, m] inb).shape.Idx) :
    ((Rect.unit (s := ⟨2, ![A, B]⟩) off ![n, m] inb).emb j 0).val = a + (j 0).val
    ∧ ((Rect.unit (s := ⟨2, ![A, B]⟩) off ![n, m] inb).emb j 1).val = b + (j 1).val := by
  subst h
  constructor
  · rw [Rect.emb_apply]; simp
  · rw [Rect.emb_apply]; simp

section
variable (c : Dev nD) {A B : ℕ} {e : EltTy} (M : Memref sig .tc .vmem ⟨2, ![A, B]⟩ e)

/-- Rows `a … a + n` of `M`, element `(i, j)` reading `v i j`. -/
def rb (a n : ℕ) (v : ℕ → ℕ → Elt F e) : sProp 𝕄 := blk c M (rows A B a n) fun x => v (x 0).val (x 1).val
def rbx (a n : ℕ) : sProp 𝕄 := blkx c M (rows A B a n)

instance rb_storable (a n : ℕ) (v : ℕ → ℕ → Elt F e) : BI.Storable (upEmb : UEmb _ 𝕄) (rb c M a n v) := by unfold rb; infer_instance
instance rbx_storable (a n : ℕ) : BI.Storable (upEmb : UEmb _ 𝕄) (rbx (F := F) c M a n) := by unfold rbx; infer_instance
end

section
variable {c : Dev nD} {A B : ℕ} {e : EltTy} {M : Memref sig .tc .vmem ⟨2, ![A, B]⟩ e} {a n b m : ℕ} {v w : ℕ → ℕ → Elt F e}

omit [FloatOps F] in
theorem rb_congr (h : ∀ i j, a ≤ i → i < a + n → v i j = w i j) : (rb c M a n v : sProp 𝕄) ⊢ rb c M a n w :=
  blk_congr fun x hx => h _ _ (mem_rows.mp hx).1 (mem_rows.mp hx).2
omit [FloatOps F] in
theorem rb_forget : (rb c M a n v : sProp 𝕄) ⊢ rbx c M a n := blk_forget
omit [FloatOps F] in
theorem rb_split (h : b = a + n) : (rb c M a (n + m) v : sProp 𝕄) ⊢ iprop(rb c M a n v ∗ rb c M b m v) := by
  subst h
  unfold rb
  rw [rows_union]
  exact blk_split (rows_disj (Or.inl le_rfl))
omit [FloatOps F] in
theorem rb_join (h : b = a + n) : iprop(rb c M a n v ∗ rb c M b m v) ⊢ (rb c M a (n + m) v : sProp 𝕄) := by
  subst h
  unfold rb
  rw [rows_union]
  exact blk_join (rows_disj (Or.inl le_rfl))
omit [FloatOps F] in
theorem rbx_split (h : b = a + n) : (rbx c M a (n + m) : sProp 𝕄) ⊢ iprop(rbx c M a n ∗ rbx c M b m) := by
  subst h
  unfold rbx
  rw [rows_union]
  exact blkx_split (rows_disj (Or.inl le_rfl))
omit [FloatOps F] in
theorem rbx_join (h : b = a + n) : iprop(rbx c M a n ∗ rbx c M b m) ⊢ (rbx c M a (n + m) : sProp 𝕄) := by
  subst h
  unfold rbx
  rw [rows_union]
  exact blkx_join (rows_disj (Or.inl le_rfl))

/-- A load of exactly those rows. -/
theorem wp_load_rb {α : Type} {Q : α → sProp 𝕄} {off : Fin 2 → ℕ} {a' n' : ℕ} {inb} {hl : M.view.LoadsAt (Rect.unit (s := ⟨2, ![A, B]⟩) off ![n', B] inb).toLoadRect} {k}
    (hoff : off = ![a', 0]) (ha : a ≤ a' ∧ a' + n' ≤ a + n) :
    (rb c M a n v : sProp 𝕄)
      ⊢ iprop((rb c M a n v -∗ wp frame (wpE (defs₀ (F := F)) 𝒱₀ (c : Thread nD τ) none) Set.univ (k fun j => v (a' + (j 0).val) (j 1).val) Q)
        -∗ wp frame (wpE (defs₀ (F := F)) 𝒱₀ (c : Thread nD τ) none) Set.univ (.op (.load M (Rect.unit (s := ⟨2, ![A, B]⟩) off ![n', B] inb).toLoadRect hl) k) Q) := by
  have he : (fun j : (Rect.unit (s := ⟨2, ![A, B]⟩) off ![n', B] inb).shape.Idx => v (a' + (j 0).val) (j 1).val)
      = fun j => (fun x : Shape.Idx ⟨2, ![A, B]⟩ => v (x 0).val (x 1).val) ((Rect.unit (s := ⟨2, ![A, B]⟩) off ![n', B] inb).emb j) := by
    funext j
    show _ = v _ _
    rw [(emb_row hoff j).1, (emb_row hoff j).2, Nat.zero_add]
  rw [he]
  unfold rb
  exact Cert.TreeProof.wp_load_blk c (by
    rw [rect_rows hoff]
    intro x hx
    rw [mem_rows] at hx ⊢
    omega)

/-- A load of rows whose values are not known. -/
theorem wp_load_rbx {α : Type} {Q : α → sProp 𝕄} {off : Fin 2 → ℕ} {a' n' : ℕ} {inb} {hl : M.view.LoadsAt (Rect.unit (s := ⟨2, ![A, B]⟩) off ![n', B] inb).toLoadRect} {k}
    (hoff : off = ![a', 0]) (ha : a ≤ a' ∧ a' + n' ≤ a + n) :
    (rbx c M a n : sProp 𝕄)
      ⊢ iprop((∀ u, rbx c M a n -∗ wp frame (wpE (defs₀ (F := F)) 𝒱₀ (c : Thread nD τ) none) Set.univ (k u) Q)
        -∗ wp frame (wpE (defs₀ (F := F)) 𝒱₀ (c : Thread nD τ) none) Set.univ (.op (.load M (Rect.unit (s := ⟨2, ![A, B]⟩) off ![n', B] inb).toLoadRect hl) k) Q) := by
  unfold rbx blkx
  iintro ⟨%u, H⟩ Hk
  iapply (wp_load_blk c (M := M) (by
    rw [rect_rows hoff]
    intro x hx
    rw [mem_rows] at hx ⊢
    omega)) $$ H
  iintro H
  iapply Hk
  iexists u
  iexact H

/-- A store over exactly those rows. -/
theorem wp_store_rb {α : Type} {Q : α → sProp 𝕄} {off : Fin 2 → ℕ} {inb} {pay : (Rect.unit (s := ⟨2, ![A, B]⟩) off ![n, B] inb).shape.Idx → Elt F e} {hx} {hm} {k}
    (hoff : off = ![a, 0]) (hv : ∀ j, pay j = v (a + (j 0).val) (j 1).val) :
    (rbx c M a n : sProp 𝕄)
      ⊢ iprop((rb c M a n v -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := ⟨2, ![A, B]⟩) off ![n, B] inb) pay Finset.univ hx hm) k) Q) := by
  unfold rbx rb
  exact wp_store_blk c (rect_rows hoff) (fun j => by
    rw [hv j]
    show _ = v _ _
    rw [(emb_row hoff j).1, (emb_row hoff j).2, Nat.zero_add])
end

end Cert.TreeProof
-- ==== Proof.Sched.lean ====
module

public import proofs.«01_k».proof.Proof.Proto

/-! # Buffers, cells, values in flight and the schedule -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

abbrev ER : Emb (Rounds.URounds (GSem nD τ sig) (Fin 3)) (MT nD τ sig Unit (Elt F) ℕ UU ℕ) := embR

/-! ## Buffers -/

/-- Columns of a part. -/
def CC : Fin 3 → ℕ | 0 => 384 | 1 => 384 | 2 => 256
theorem CC_pos (p : Fin 3) : 0 < CC p := by revert p; decide

/-- A part's partial sums, landing slots and gathered rows. -/
def pM : (p : Fin 3) → Memref sig .tc .vmem ⟨2, ![1024, CC p]⟩ .bf16
  | 0 => Memref.whole cc0_scratch4 | 1 => Memref.whole cc0_scratch5 | 2 => Memref.whole cc0_scratch6
def rM : (p : Fin 3) → Memref sig .tc .vmem ⟨2, ![896, CC p]⟩ .bf16
  | 0 => Memref.whole cc0_scratch7 | 1 => Memref.whole cc0_scratch8 | 2 => Memref.whole cc0_scratch9
def gM : (p : Fin 3) → Memref sig .tc .vmem ⟨2, ![1024, CC p]⟩ .bf16
  | 0 => Memref.whole cc0_scratch10 | 1 => Memref.whole cc0_scratch11 | 2 => Memref.whole cc0_scratch12

/-! ## Copies and cells -/

abbrev Tri : Type := Fin 6 × Fin 4 × Fin 3

/-- The copy started at place `n` of program order. -/
def tri (n : ℕ) : Tri := (⟨n / 12 % 6, Nat.mod_lt _ (by decide)⟩, ⟨n / 3 % 4, Nat.mod_lt _ (by decide)⟩, ⟨n % 3, Nat.mod_lt _ (by decide)⟩)
def place (t : Tri) : ℕ := 12 * t.1.val + 3 * t.2.1.val + t.2.2.val
theorem tri_place (t : Tri) : tri (place t) = t := by revert t; decide
theorem place_lt (t : Tri) : place t < 72 := by revert t; decide
theorem place_tri (n : Fin 72) : place (tri n.val) = n.val := by revert n; decide

/-- A copy's number in the two semaphore arrays, and back. -/
def enc (t : Tri) : ℕ := 18 * t.2.1.val + 3 * t.1.val + t.2.2.val
def dec (n : ℕ) : Tri := (⟨n / 3 % 6, Nat.mod_lt _ (by decide)⟩, ⟨n / 18 % 4, Nat.mod_lt _ (by decide)⟩, ⟨n % 3, Nat.mod_lt _ (by decide)⟩)
theorem dec_enc (t : Tri) : dec (enc t) = t := by revert t; decide
theorem enc_lt (t : Tri) : enc t < 72 := by revert t; decide
theorem enc_dec (n : Fin 72) : enc (dec n.val) = n.val := by revert n; decide

theorem nDma : sig.nDmaSem = 150 := rfl
def sndS (t : Tri) : DmaSem sig := ⟨6 + enc t, by rw [nDma]; have := enc_lt t; omega⟩
def rcvS (t : Tri) : DmaSem sig := ⟨78 + enc t, by rw [nDma]; have := enc_lt t; omega⟩
abbrev barS : Sem sig := (SemArray.scalar (sig.barrier 0 rfl) : Sems sig S_).sem

abbrev barCell (c : Dev nD) : GSem nD τ sig := ((c : Thread nD τ), .reg barS)
abbrev sndCell (c : Dev nD) (t : Tri) : GSem nD τ sig := ((c : Thread nD τ), .dma (sndS t))
abbrev rcvCell (c : Dev nD) (t : Tri) : GSem nD τ sig := ((c : Thread nD τ), .dma (rcvS t))

/-- The coordinate a copy crosses and the device it lands on. -/
def dir (t : Tri) : Fin 3 := ord t.2.2 (lvl t.1)
abbrev mateT (c : Dev nD) (t : Tri) : Dev nD := peer c (dir t)
theorem mateT_mateT (c : Dev nD) (t : Tri) : mateT (mateT c t) t = c := peer_peer c _

/-- What a copy adds to its two semaphores. -/
def amt (t : Tri) : ℕ := sig.dmaCredit .tc (Kind.tc.table .vmem) 0 ⟨2, ![sz (lvl t.1), CC t.2.2]⟩ .bf16
theorem sz_pos (s : Fin 6) : 0 < sz (lvl s) := by revert s; decide
theorem amt_pos (t : Tri) : 0 < amt t := sig.dmaCredit_pos _ _ _ _ _ (by
  show 0 < Shape.numel ⟨2, ![sz (lvl t.1), CC t.2.2]⟩
  have h1 := sz_pos t.1
  have h2 := CC_pos t.2.2
  simp only [Shape.numel, Fin.prod_univ_two, Matrix.cons_val_zero, Matrix.cons_val_one]
  exact Nat.mul_pos h1 h2)

/-! ## Values -/

section
variable (P0 : Dev nD → Fin 3 → ℕ → ℕ → Elt F .bf16)

/-- A part's partial sums after `k` halvings, as if every row were exchanged. -/
def red (p : Fin 3) : ℕ → Dev nD → ℕ → ℕ → Elt F .bf16
  | 0 => fun c => P0 c p
  | k + 1 => fun c i j => FloatOps.addf (red p k c i j) (red p k (mate c p k) i j)

/-- The device that ends the halvings with row `i`. -/
def own (p : Fin 3) (i : ℕ) : Dev nD := ((List.finRange nD).find? fun c => keep c p 3 == 32 * (i % 256 / 32)).getD ⟨0, by decide⟩
theorem own_keep (p : Fin 3) (c : Dev nD) : ∀ b : Fin 8, keep c p 3 = 32 * b.val → ((List.finRange nD).find? fun c => keep c p 3 == 32 * b.val).getD ⟨0, by decide⟩ = c := by
  revert p c; decide +kernel
theorem own_eq (p : Fin 3) (c : Dev nD) (i : ℕ) (h : keep c p 3 ≤ i % 256 ∧ i % 256 < keep c p 3 + 32) : own p i = c := by
  have hk : keep c p 3 % 32 = 0 ∧ keep c p 3 ≤ 224 := by clear h; revert c p; decide
  unfold own
  exact own_keep p c ⟨i % 256 / 32, by omega⟩ (by simp only; omega)

/-- The finished sums. -/
def full (p : Fin 3) (i j : ℕ) : Elt F .bf16 := red P0 p 3 (own p i) i j

/-! ## What a copy carries -/

/-- The region of device `c` a copy lands in. -/
def land (c : Dev nD) (t : Tri) : sProp 𝕄 :=
  if t.1.val < 3 then rbx c (rM t.2.2) (224 * t.2.1.val + slot (lvl t.1)) (sz (lvl t.1))
  else rbx c (gM t.2.2) (256 * t.2.1.val + snt c t.2.2 (lvl t.1)) (sz (lvl t.1))
/-- What the sender has back when its copy has left. -/
def spay (c : Dev nD) (t : Tri) : sProp 𝕄 :=
  if t.1.val < 3 then rb c (pM t.2.2) (256 * t.2.1.val + snt c t.2.2 (lvl t.1)) (sz (lvl t.1)) (red P0 t.2.2 (lvl t.1) c)
  else rb c (gM t.2.2) (256 * t.2.1.val + keep c t.2.2 (lvl t.1 + 1)) (sz (lvl t.1)) (full P0 t.2.2)
/-- The partner's sums as they lie in a landing slot. -/
def landed (c : Dev nD) (t : Tri) (i j : ℕ) : Elt F .bf16 :=
  red P0 t.2.2 (lvl t.1) (mateT c t) (i + 256 * t.2.1.val + keep c t.2.2 (lvl t.1 + 1) - (224 * t.2.1.val + slot (lvl t.1))) j
/-- What the receiver has when a copy has landed. -/
def rpay (c : Dev nD) (t : Tri) : sProp 𝕄 :=
  if t.1.val < 3 then rb c (rM t.2.2) (224 * t.2.1.val + slot (lvl t.1)) (sz (lvl t.1)) (landed P0 c t)
  else rb c (gM t.2.2) (256 * t.2.1.val + snt c t.2.2 (lvl t.1)) (sz (lvl t.1)) (full P0 t.2.2)
/-- What a device's ready signal across coordinate `d` hands its partner `c`: every landing region there that `c` copies
    into, and that the receive cells are at their first round. -/
def bpay (c : Dev nD) (d : Fin 3) : sProp 𝕄 :=
  bigSep (Finset.univ.filter fun t : Tri => dir t = d) fun t => iprop(land (peer c d) t ∗ reached ER (rcvCell (peer c d) t) 0)

omit [FloatOps F] in
instance land_storable (c : Dev nD) (t : Tri) : BI.Storable (upEmb : UEmb _ 𝕄) (land (F := F) c t) := by
  unfold land; split <;> infer_instance
instance spay_storable (c : Dev nD) (t : Tri) : BI.Storable (upEmb : UEmb _ 𝕄) (spay P0 c t) := by
  unfold spay; split <;> infer_instance
instance rpay_storable (c : Dev nD) (t : Tri) : BI.Storable (upEmb : UEmb _ 𝕄) (rpay P0 c t) := by
  unfold rpay; split <;> infer_instance
omit [FloatOps F] in
instance bpay_storable (c : Dev nD) (d : Fin 3) : BI.Storable (upEmb : UEmb _ 𝕄) (bpay (F := F) c d) := by
  unfold bpay; infer_instance

/-! ## The schedule: one round per cell -/

def dmaDuties (q : ℕ) : Finset (Fin 3) := if 6 ≤ q then {0} else ∅
def dmaAmt (q : ℕ) : ℕ := if q < 78 then amt (dec (q - 6)) else amt (dec (q - 78))
def dmaPay (c : Dev nD) (q : ℕ) : sProp 𝕄 :=
  if q < 78 then spay P0 c (dec (q - 6)) else rpay P0 c (dec (q - 78))

def sched : Rounds.Schedule (GSem nD τ sig) (Fin 3) 𝕄 where
  duties g r := if r = 0 ∧ g.1.2 = .tc then (match g.2 with | .reg _ => Finset.univ | .dma q => dmaDuties q.val) else ∅
  unitless _ := False
  amount g _ _ := match g.2 with | .reg _ => 1 | .dma q => dmaAmt q.val
  payload g _ d := match g.2 with | .reg _ => bpay g.1.1 d | .dma q => dmaPay P0 g.1.1 q.val
  amount_pos g _ _ _ := by
    rcases g with ⟨c, q | q⟩
    · exact Nat.one_pos
    · show 0 < dmaAmt q.val
      unfold dmaAmt; split <;> exact amt_pos _

instance sched_storable (g : GSem nD τ sig) (r : ℕ) (d : Fin 3) : BI.Storable (upEmb : UEmb _ 𝕄) ((sched (F := F) P0).payload g r d) := by
  rcases g with ⟨c, q | q⟩
  · show BI.Storable upEmb (bpay c.1 d); infer_instance
  · show BI.Storable upEmb (dmaPay P0 c.1 q.val)
    unfold dmaPay; split <;> infer_instance

variable (c : Dev nD) (t : Tri)

theorem duties_bar : (sched (F := F) P0).duties (barCell c) 0 = Finset.univ := by dsimp only [sched]; exact if_pos ⟨rfl, rfl⟩
theorem duties_snd : (sched (F := F) P0).duties (sndCell c t) 0 = {0} := by
  dsimp only [sched]; rw [if_pos ⟨rfl, rfl⟩]; exact if_pos (Nat.le_add_right _ _)
theorem duties_rcv : (sched (F := F) P0).duties (rcvCell c t) 0 = {0} := by
  dsimp only [sched]; rw [if_pos ⟨rfl, rfl⟩]; exact if_pos (show 6 ≤ 78 + enc t by omega)
theorem duties_later (g : GSem nD τ sig) : ∀ r, 1 ≤ r → (sched (F := F) P0).duties g r = ∅ :=
  fun r hr => by dsimp only [sched]; exact if_neg fun h => by omega

theorem amount_snd (d : Fin 3) : (sched (F := F) P0).amount (sndCell c t) 0 d = amt t := by
  show dmaAmt (6 + enc t) = _
  have := enc_lt t
  unfold dmaAmt; rw [if_pos (by omega), Nat.add_sub_cancel_left, dec_enc]
theorem amount_rcv (d : Fin 3) : (sched (F := F) P0).amount (rcvCell c t) 0 d = amt t := by
  show dmaAmt (78 + enc t) = _
  unfold dmaAmt; rw [if_neg (by omega), Nat.add_sub_cancel_left, dec_enc]
theorem payload_bar (d : Fin 3) : (sched (F := F) P0).payload (barCell c) 0 d = bpay c d := rfl
theorem payload_snd (d : Fin 3) : (sched (F := F) P0).payload (sndCell c t) 0 d = spay P0 c t := by
  show dmaPay P0 c (6 + enc t) = _
  have := enc_lt t
  unfold dmaPay; rw [if_pos (by omega), Nat.add_sub_cancel_left, dec_enc]
theorem payload_rcv (d : Fin 3) : (sched (F := F) P0).payload (rcvCell c t) 0 d = rpay P0 c t := by
  show dmaPay P0 c (78 + enc t) = _
  unfold dmaPay; rw [if_neg (by omega), Nat.add_sub_cancel_left, dec_enc]

theorem expect_bar : (sched (F := F) P0).expect (barCell c) 0 = 3 := by
  unfold Schedule.expect Schedule.amountOf
  rw [duties_bar]; rfl
theorem expect_snd : (sched (F := F) P0).expect (sndCell c t) 0 = amt t := by
  unfold Schedule.expect Schedule.amountOf; rw [duties_snd, Finset.sum_singleton, amount_snd]
theorem expect_rcv : (sched (F := F) P0).expect (rcvCell c t) 0 = amt t := by
  unfold Schedule.expect Schedule.amountOf; rw [duties_rcv, Finset.sum_singleton, amount_rcv]
theorem rest_bar : bigSep ((sched (F := F) P0).duties (barCell c) 0 \ ∅) (fun d => (sched (F := F) P0).payload (barCell c) 0 d)
    = bigSep Finset.univ (fun d => bpay (F := F) c d) := by
  rw [Finset.sdiff_empty, duties_bar]; rfl
theorem rest_snd : bigSep ((sched (F := F) P0).duties (sndCell c t) 0 \ ∅) (fun d => (sched (F := F) P0).payload (sndCell c t) 0 d) = spay P0 c t := by
  rw [Finset.sdiff_empty, duties_snd, bigSep_singleton, payload_snd]
theorem rest_rcv : bigSep ((sched (F := F) P0).duties (rcvCell c t) 0 \ ∅) (fun d => (sched (F := F) P0).payload (rcvCell c t) 0 d) = rpay P0 c t := by
  rw [Finset.sdiff_empty, duties_rcv, bigSep_singleton, payload_rcv]
end

/-! ## What each device owes; the levels -/

/-- The arrivals device `c` owes from its copy `n` on. -/
def OC (c : Dev nD) (n : ℕ) : CellTallies nD τ sig Unit :=
  ∑ i ∈ Finset.Ico n 72, tallyAt (rcvCell (mateT c (tri i)) (tri i)) () (amt (tri i))
theorem Ico_cons {n m : ℕ} (h : n < m) : Finset.Ico n m = insert n (Finset.Ico (n + 1) m) := by
  ext x; simp only [Finset.mem_insert, Finset.mem_Ico]; omega
theorem Ico_snoc {n m : ℕ} (h : n ≤ m) : Finset.Ico n (m + 1) = insert m (Finset.Ico n m) := by
  ext x; simp only [Finset.mem_insert, Finset.mem_Ico]; omega
theorem OC_succ (c : Dev nD) {n : ℕ} (h : n < 72) :
    OC c n = OC c (n + 1) + tallyAt (rcvCell (mateT c (tri n)) (tri n)) () (amt (tri n)) := by
  unfold OC; rw [Ico_cons h, Finset.sum_insert (by simp), add_comm]
theorem OC_end (c : Dev nD) : OC c 72 = 0 := by unfold OC; rw [Finset.Ico_self, Finset.sum_empty]

/-- With the ready signals still to give, the last first. -/
def O1 (c : Dev nD) : CellTallies nD τ sig Unit := OC c 0 + tallyAt (barCell (peer c 2)) () 1
def O2 (c : Dev nD) : CellTallies nD τ sig Unit := O1 c + tallyAt (barCell (peer c 1)) () 1
def O₀ (c : Dev nD) : CellTallies nD τ sig Unit := O2 c + tallyAt (barCell (peer c 0)) () 1

def L (g : GSem nD τ sig) : Finset Unit := if g.1.2 = .tc then {()} else ∅
def lv (g : GSem nD τ sig) (_ : Unit) : ℕ :=
  match g.2 with | .reg _ => 1 | .dma q => if q.val < 78 then 0 else (dec (q.val - 78)).1.val + 2
theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (t : Tri) : lv (rcvCell c t) () = t.1.val + 2 := by
  show (if 78 + enc t < 78 then 0 else (dec (78 + enc t - 78)).1.val + 2) = _
  rw [if_neg (by omega), Nat.add_sub_cancel_left, dec_enc]
theorem lv_snd (c : Dev nD) (t : Tri) : lv (sndCell c t) () = 0 := by
  have := enc_lt t
  exact if_pos (show 6 + enc t < 78 by omega)

theorem OC_pos {c : Dev nD} {n : ℕ} {g : GSem nD τ sig} {u : Unit} (h : 0 < OC c n g u) :
    ∃ i, n ≤ i ∧ i < 72 ∧ g = rcvCell (mateT c (tri i)) (tri i) := by
  unfold OC at h
  rw [Finset.sum_apply, Finsupp.finset_sum_apply] at h
  obtain ⟨i, hi, hp⟩ := Finset.exists_ne_zero_of_sum_ne_zero (Nat.pos_iff_ne_zero.mp h)
  refine ⟨i, (Finset.mem_Ico.mp hi).1, (Finset.mem_Ico.mp hi).2, ?_⟩
  by_contra hn
  rw [tallyAt_apply, if_neg (fun h' => hn h'.1)] at hp
  exact hp rfl

theorem O₀_pos {c : Dev nD} {g : GSem nD τ sig} {u : Unit} (h : 0 < O₀ c g u) :
    (∃ t, g = rcvCell (mateT c t) t) ∨ ∃ q, g = barCell (peer c q) := by
  unfold O₀ O2 O1 at h
  rw [Pi.add_apply, Finsupp.add_apply, tallyAt_apply, Pi.add_apply, Finsupp.add_apply, tallyAt_apply,
    Pi.add_apply, Finsupp.add_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨i, -, -, hi⟩ := OC_pos (show 0 < OC c 0 g u by omega)
  exact hn.1 ⟨_, hi⟩

/-- A cell below every arrival still owed may be waited for. -/
theorem mayWait_OC (c : Dev nD) (sm : SemLoc sig) (n : ℕ)
    (h : ∀ i, n ≤ i → i < 72 → lv ((c : Thread nD τ), sm) () < (tri i).1.val + 2) :
    (levAts L lv : sProp 𝕄) ⊢ MayWait (c : Thread nD τ) sm () (OC c n) :=
  MayOwe.of_cut (L := L) (lev := lv) (lv ((c : Thread nD τ), sm) ())
    (fun p hp => by rw [Finset.mem_singleton.mp hp, L_tc]; exact Finset.mem_singleton_self _)
    (fun g u hg => by obtain ⟨i, -, -, rfl⟩ := OC_pos hg; rw [L_tc]; exact Finset.mem_singleton_self _)
    (fun p hp => by rw [Finset.mem_singleton.mp hp])
    (fun g u hg => by obtain ⟨i, h1, h2, rfl⟩ := OC_pos hg; rw [lv_rcv]; exact h i h1 h2)
theorem mayWait_snd (c : Dev nD) (t : Tri) (n : ℕ) :
    (levAts L lv : sProp 𝕄) ⊢ MayWait (c : Thread nD τ) (.dma (sndS t)) () (OC c n) :=
  mayWait_OC c _ n fun i _ _ => by rw [lv_snd]; omega
theorem mayWait_rcv (c : Dev nD) (t : Tri) (n : ℕ) (h : 12 * (t.1.val + 1) ≤ n) :
    (levAts L lv : sProp 𝕄) ⊢ MayWait (c : Thread nD τ) (.dma (rcvS t)) () (OC c n) :=
  mayWait_OC c _ n fun i h1 h2 => by
    rw [lv_rcv]
    show _ < i / 12 % 6 + 2
    omega
theorem mayWait_bar (c : Dev nD) : (levAts L lv : sProp 𝕄) ⊢ MayWait (c : Thread nD τ) (.reg barS) () (OC c 0) :=
  mayWait_OC c _ 0 fun i _ _ => by show 1 < _; omega
/-- The staging cells are waited for with everything owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := if_pos (show q.val < 78 by omega)
    refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> rw [L_tc] <;> exact Finset.mem_singleton_self _)
      (fun p hp => by rw [Finset.mem_singleton.mp hp, h0])
      (fun g u hg => by
        rcases O₀_pos hg with ⟨_, rfl⟩ | ⟨_, rfl⟩
        · rw [lv_rcv]; omega
        · show 0 < 1; omega)
  · rw [MayWait_zero]; iintro -; iempintro

end Cert.TreeProof
-- ==== Proof.Ops.lean ====
module

public import proofs.«01_k».proof.Proof.Sched

/-! # The copies and their waits, at a symbolic copy -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The records and the state of the exchange -/

abbrev Key : Type := Option (Bool × Tri)
def kcell (ck : Dev nD × Key) : GSem nD τ sig :=
  match ck.2 with | none => barCell ck.1 | some (false, t) => sndCell ck.1 t | some (true, t) => rcvCell ck.1 t

section
variable (P0 : Dev nD → Fin 3 → ℕ → ℕ → Elt F .bf16)
variable (K : Dev nD × Key → ℕ)

/-- What every device may consult: every cell's invariant, and the levels. -/
def Ctx : sProp 𝕄 :=
  iprop((bigSep Finset.univ fun ck : Dev nD × Key => cellInv ER (sched P0) (K ck) (kcell ck)) ∗ levAts L lv)
instance Ctx_persistent : BI.Persistent (Ctx (F := F) P0 K) := by unfold Ctx; infer_instance

theorem recs_elim (ck : Dev nD × Key) : (bigSep Finset.univ fun ck : Dev nD × Key => cellInv ER (sched P0) (K ck) (kcell ck) : sProp 𝕄) ⊢ cellInv ER (sched P0) (K ck) (kcell ck) :=
  bigSep_elim (Finset.mem_univ ck)
theorem ctx_inv (ck : Dev nD × Key) : (Ctx P0 K : sProp 𝕄) ⊢ cellInv ER (sched P0) (K ck) (kcell ck) := by
  unfold Ctx
  iintro ⟨H, -⟩
  iapply (recs_elim P0 K ck)
  iexact H
theorem ctx_lev : (Ctx P0 K : sProp 𝕄) ⊢ levAts L lv := by
  unfold Ctx
  iintro ⟨-, H⟩
  iexact H
theorem ctx_snd (c : Dev nD) (t : Tri) : (Ctx P0 K : sProp 𝕄) ⊢ cellInv ER (sched P0) (K (c, some (false, t))) (sndCell c t) := ctx_inv P0 K (c, some (false, t))
theorem ctx_rcv (c : Dev nD) (t : Tri) : (Ctx P0 K : sProp 𝕄) ⊢ cellInv ER (sched P0) (K (c, some (true, t))) (rcvCell c t) := ctx_inv P0 K (c, some (true, t))
theorem ctx_bar (c : Dev nD) : (Ctx P0 K : sProp 𝕄) ⊢ cellInv ER (sched P0) (K (c, none)) (barCell c) := ctx_inv P0 K (c, none)
end

/-- What starting copy `t` takes. -/
def tok (c : Dev nD) (t : Tri) : sProp 𝕄 :=
  iprop(land (mateT c t) t ∗ reached ER (rcvCell (mateT c t) t) 0
    ∗ dutyTok ER (sndCell c t) 0 (0 : Fin 3) ∗ reached ER (sndCell c t) 0 ∗ dutyTok ER (rcvCell (mateT c t) t) 0 (0 : Fin 3))
def sCred (c : Dev nD) (t : Tri) : sProp 𝕄 := cred (tallyAt (sndCell c t) () (amt t))
def sPos (c : Dev nD) (t : Tri) : sProp 𝕄 := atPos ER (sndCell c t) 0 (∅ : Finset (Fin 3)) 0
def sEnd (c : Dev nD) (t : Tri) : sProp 𝕄 := atPos ER (sndCell c t) (0 + 1) (∅ : Finset (Fin 3)) 0
def rPos (c : Dev nD) (t : Tri) : sProp 𝕄 := iprop(cred (tallyAt (rcvCell c t) () (amt t)) ∗ atPos ER (rcvCell c t) 0 (∅ : Finset (Fin 3)) 0)
def rEnd (c : Dev nD) (t : Tri) : sProp 𝕄 := atPos ER (rcvCell c t) (0 + 1) (∅ : Finset (Fin 3)) 0

/-- The exchange with `b` copies started, `a` of them known to have left and `r` known to have arrived. -/
def Comm (c : Dev nD) (b a r : ℕ) : sProp 𝕄 :=
  iprop((∃ W, owes (c : Thread nD τ) (OC c b) W)
    ∗ (bigSep (Finset.Ico b 72) fun i => tok c (tri i))
    ∗ (bigSep (Finset.Ico a b) fun i => sCred c (tri i))
    ∗ (bigSep (Finset.Ico a 72) fun i => sPos c (tri i))
    ∗ (bigSep (Finset.Ico r 72) fun i => rPos c (tri i))
    ∗ (bigSep (Finset.Ico 0 a) fun i => sEnd c (tri i))
    ∗ bigSep (Finset.Ico 0 r) fun i => rEnd c (tri i))

omit [FloatOps F] in
theorem pop (Φ : ℕ → sProp 𝕄) {n m : ℕ} (h : n < m) : (bigSep (Finset.Ico n m) Φ : sProp 𝕄) = iprop(Φ n ∗ bigSep (Finset.Ico (n + 1) m) Φ) := by
  rw [Ico_cons h]; exact bigSep_insert (by simp)
omit [FloatOps F] in
theorem push (Φ : ℕ → sProp 𝕄) {n m : ℕ} (h : n ≤ m) : (bigSep (Finset.Ico n (m + 1)) Φ : sProp 𝕄) = iprop(Φ m ∗ bigSep (Finset.Ico n m) Φ) := by
  rw [Ico_snoc h]; exact bigSep_insert (by simp)

section
variable (P0 : Dev nD → Fin 3 → ℕ → ℕ → Elt F .bf16)
variable (K : Dev nD × Key → ℕ)
variable (c : Dev nD)

/-- Starting copy `t`. -/
theorem wp_start {α : Type} {Q : α → sProp 𝕄} {A A' B n' x y : ℕ} {M : Memref sig .tc .vmem ⟨2, ![A, B]⟩ .bf16} {N : Memref sig .tc .vmem ⟨2, ![A', B]⟩ .bf16}
    (t : Tri) {v w : ℕ → ℕ → Elt F .bf16} {n a r : ℕ} {off off' : Fin 2 → ℕ} {inb inb' hr hr'} {c' : Dev nD} {sS sR : DmaSem sig}
    {hsc : (N.slice (Rect.unit (s := ⟨2, ![A', B]⟩) off' ![n', B] inb') hr').view.ref.isScScratch = false} {hsrc} {hdst} {hsem}
    {k : PUnit → Prog (TpuEff nD τ sig (Elt F) Λ₀ .tc) α}
    (hn : n = place t) (han : a ≤ n)
    (hoff : off = ![x, 0]) (hoff' : off' = ![y, 0])
    (hS : spay P0 c t = rb c M x n' v) (hL : land (F := F) (mateT c t) t = rbx (mateT c t) N y n')
    (hR : rpay P0 (mateT c t) t = rb (mateT c t) N y n' w) (hvw : ∀ i j, i < n' → w (y + i) j = v (x + i) j)
    (hc : c' = mateT c t) (hsS : sS = sndS t) (hsR : sR = rcvS t)
    (hamt : amt t = sig.dmaCredit .tc (Kind.tc.table .vmem) 0 ⟨2, ![n', B]⟩ .bf16) :
    iprop(Ctx P0 K ∗ Comm c n a r ∗ spay P0 c t)
      ⊢ iprop((Comm c (n + 1) a r -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (M.slice (Rect.unit (s := ⟨2, ![A, B]⟩) off ![n', B] inb) hr)
            (.remote (Dev.tc c' : Thread nD τ) (N.slice (Rect.unit (s := ⟨2, ![A', B]⟩) off' ![n', B] inb') hr') (.dma sS) hsc) (.dma sR) hsrc hdst hsem) k) Q) := by
  subst hc hsS hsR
  have hlt : n < 72 := hn ▸ place_lt t
  have ht : tri n = t := by rw [hn]; exact tri_place t
  unfold Comm
  rw [pop (fun i => tok c (tri i)) hlt, push (fun i => sCred c (tri i)) han, ht]
  unfold tok
  rw [hL, hS]
  unfold rb rbx blkx
  rw [← rect_rows (inb := inb) hoff, ← rect_rows (inb := inb') hoff']
  iintro ⟨#HC, ⟨⟨%W, HO⟩, ⟨⟨⟨%u, Hd⟩, Hr2, Hd1, Hr1, Hd2⟩, Hpend⟩, Hcr, Hrest⟩, Hs⟩ Hk
  ihave Hs := (blk_slice (M := M) _ hr) $$ Hs
  icases Hs with ⟨%fs, %hfs, Hs⟩
  ihave Hd := (blk_slice (M := N) _ hr') $$ Hd
  icases Hd with ⟨%fd, %hfd, Hd⟩
  ihave #HI1 := (ctx_snd P0 K c t) $$ HC
  ihave #HI2 := (ctx_rcv P0 K (mateT c t) t) $$ HC
  iapply (Rounds.wp_send_pointsTo 𝒱₀ ER (sched P0) (c : Thread nD τ) none (c' := (mateT c t : Thread nD τ)) (κ₁ := K (c, some (false, t))) (κ₂ := K (mateT c t, some (true, t)))
    (src := M.slice (Rect.unit (s := ⟨2, ![A, B]⟩) off ![n', B] inb) hr) (dst := N.slice (Rect.unit (s := ⟨2, ![A', B]⟩) off' ![n', B] inb') hr')
    (q := fullShare) (fs := fs) (fd := fd) (O₀ := OC c n) (W := W) (r₁ := 0) (r₂ := 0) (d₁ := 0) (d₂ := 0)
    (by rw [duties_snd]; exact Finset.mem_singleton_self _) (by rw [duties_rcv]; exact Finset.mem_singleton_self _)
    () () (amt t) (hamt.symm) (amount_snd P0 c t 0) (amount_rcv P0 (mateT c t) t 0) (OC c (n + 1)) (by rw [OC_succ c hlt, ht])
    (by
      rw [payload_snd, hS]
      unfold rb
      rw [← rect_rows (inb := inb) hoff]
      exact blk_unslice _ hr (fun j => by rw [hfs]))
    (by
      rw [payload_rcv, hR]
      unfold rb
      rw [← rect_rows (inb := inb') hoff']
      exact blk_unslice _ hr' (fun j => by
        rw [View.read_write_univ, hfs]
        show v _ _ = w _ _
        have h1 := emb_row (inb := inb) hoff j
        have h2 := emb_row (inb := inb') hoff' j
        refine (congrArg₂ v h1.1 h1.2).trans (Eq.trans ?_ (congrArg₂ w h2.1 h2.2).symm)
        simp only [Nat.zero_add]
        exact (hvw _ _ (j 0).isLt).symm))
    (hsc := hsc) (hsrc := hsrc) (hdst := hdst) (hsem := hsem)) $$ [Hs Hd HO Hd1 Hr1 Hd2 Hr2]
  · isplitr; · iexact HI1
    isplitr; · iexact HI2
    isplitl [Hs]; · iexact Hs
    isplitl [Hd]; · iexact Hd
    isplitl [HO]; · iexact HO
    isplitl [Hd1]; · iexact Hd1
    isplitl [Hr1]; · iexact Hr1
    isplitl [Hd2]; · iexact Hd2
    iexact Hr2
  iintro ⟨Hc, HO⟩
  iapply Hk
  isplitl [HO]
  · iexists W; iexact HO
  isplitl [Hpend]; · iexact Hpend
  isplitl [Hc Hcr]
  · isplitl [Hc]
    · unfold sCred; iexact Hc
    · iexact Hcr
  iexact Hrest

/-- Waiting until copy `t` has left. -/
theorem wp_wait_left {α : Type} {Q : α → sProp 𝕄} (t : Tri) {b a r : ℕ} {sm : DmaSem sig} {s s' : Shape} {e e' : EltTy} {sp sp' : Space}
    {src : Memref sig .tc sp' s' e'} {dst : Memref sig .tc sp s e} {hsrc} {hdst}
    {k : PUnit → Prog (TpuEff nD τ sig (Elt F) Λ₀ .tc) α}
    (ha : a = place t) (hab : a < b) (hsm : sm = sndS t) (hamt : dst.view.dmaCredit = amt t) :
    iprop(Ctx P0 K ∗ Comm c b a r)
      ⊢ iprop((iprop(Comm c b (a + 1) r ∗ spay P0 c t) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  have hlt : a < 72 := ha ▸ place_lt t
  have ht : tri a = t := by rw [ha]; exact tri_place t
  unfold Comm
  rw [pop (fun i => sCred c (tri i)) hab, pop (fun i => sPos c (tri i)) hlt, push (fun i => sEnd c (tri i)) (Nat.zero_le a), ht]
  iintro ⟨#HC, ⟨%W, HO⟩, Hpend, ⟨Hcr, Hcrs⟩, ⟨Hp, Hps⟩, Hr, Hse, Hre⟩ Hk
  ihave #HI := (ctx_snd P0 K c t) $$ HC
  ihave #HL := (ctx_lev P0 K) $$ HC
  unfold sCred sPos
  iapply (Rounds.wp_wait_rest_token 𝒱₀ ER (sched P0) (c : Thread nD τ) none (κ := K (c, some (false, t)))
    (wpE_waitDma2_eq 𝒱₀ (c : Thread nD τ) none Set.univ) (Set.mem_univ _) () (O := OC c b) (W := W) (R := 0) (m := 0) (T := ∅)
    (by rw [expect_snd, Nat.zero_add, hamt])) $$ [Hcr HO Hp]
  · isplitr; · iexact HI
    isplitl [Hcr]; · rw [hamt]; iexact Hcr
    isplitl [HO]; · iexact HO
    isplitr
    · iapply (mayWait_snd c t b); iexact HL
    iexact Hp
  iintro ⟨HO, Hp, -, Hpay⟩
  ihave Hpay := (Entails.of_eq (rest_snd P0 c t)) $$ Hpay
  iapply Hk
  isplitr [Hpay]
  · isplitl [HO]
    · iexists _; iexact HO
    isplitl [Hpend]; · iexact Hpend
    isplitl [Hcrs]; · iexact Hcrs
    isplitl [Hps]; · iexact Hps
    isplitl [Hr]; · iexact Hr
    isplitl [Hp Hse]
    · isplitl [Hp]
      · unfold sEnd; iexact Hp
      · iexact Hse
    iexact Hre
  · iexact Hpay

/-- Waiting until copy `t` from the partner has landed. -/
theorem wp_wait_landed {α : Type} {Q : α → sProp 𝕄} (t : Tri) {b a r : ℕ} {sm : DmaSem sig} {s s' : Shape} {e e' : EltTy} {sp sp' : Space}
    {src : Memref sig .tc sp' s' e'} {dst : Memref sig .tc sp s e} {hsrc} {hdst}
    {k : PUnit → Prog (TpuEff nD τ sig (Elt F) Λ₀ .tc) α}
    (hr : r = place t) (hb : 12 * (t.1.val + 1) ≤ b) (hsm : sm = rcvS t) (hamt : dst.view.dmaCredit = amt t) :
    iprop(Ctx P0 K ∗ Comm c b a r)
      ⊢ iprop((iprop(Comm c b a (r + 1) ∗ rpay P0 c t) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  have hlt : r < 72 := hr ▸ place_lt t
  have ht : tri r = t := by rw [hr]; exact tri_place t
  unfold Comm
  rw [pop (fun i => rPos c (tri i)) hlt, push (fun i => rEnd c (tri i)) (Nat.zero_le r), ht]
  iintro ⟨#HC, ⟨%W, HO⟩, Hpend, Hcrs, Hps, ⟨Hp, Hr⟩, Hse, Hre⟩ Hk
  ihave #HI := (ctx_rcv P0 K c t) $$ HC
  ihave #HL := (ctx_lev P0 K) $$ HC
  unfold rPos
  icases Hp with ⟨Hcr, Hp⟩
  iapply (Rounds.wp_wait_rest_token 𝒱₀ ER (sched P0) (c : Thread nD τ) none (κ := K (c, some (true, t)))
    (wpE_waitDma2_eq 𝒱₀ (c : Thread nD τ) none Set.univ) (Set.mem_univ _) () (O := OC c b) (W := W) (R := 0) (m := 0) (T := ∅)
    (by rw [expect_rcv, Nat.zero_add, hamt])) $$ [Hcr HO Hp]
  · isplitr; · iexact HI
    isplitl [Hcr]; · rw [hamt]; iexact Hcr
    isplitl [HO]; · iexact HO
    isplitr
    · iapply (mayWait_rcv c t b hb); iexact HL
    iexact Hp
  iintro ⟨HO, Hp, -, Hpay⟩
  ihave Hpay := (Entails.of_eq (rest_rcv P0 c t)) $$ Hpay
  iapply Hk
  isplitr [Hpay]
  · isplitl [HO]
    · iexists _; iexact HO
    isplitl [Hpend]; · iexact Hpend
    isplitl [Hcrs]; · iexact Hcrs
    isplitl [Hps]; · iexact Hps
    isplitl [Hr]; · iexact Hr
    isplitl [Hse]; · iexact Hse
    isplitl [Hp]
    · unfold rEnd; iexact Hp
    · iexact Hre
  · iexact Hpay
end

end Cert.TreeProof
-- ==== Proof.Chan.lean ====
module

public import proofs.«01_k».proof.Proof.Ops

/-! # The operations of one part of the exchange, and of the buffers beside it -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Boxes of a block of rows -/

section
variable {c : Dev nD} {A B : ℕ} {e : EltTy} {M : Memref sig .tc .vmem ⟨2, ![A, B]⟩ e} {a n : ℕ} {v : ℕ → ℕ → Elt F e}

/-- A load of a box within the rows held. -/
theorem wp_load_box {α : Type} {Q : α → sProp 𝕄} {off : Fin 2 → ℕ} {a' b' n' m' : ℕ} {inb} {hl : M.view.LoadsAt (Rect.unit (s := ⟨2, ![A, B]⟩) off ![n', m'] inb).toLoadRect}
    {k : ((Rect.unit (s := ⟨2, ![A, B]⟩) off ![n', m'] inb).shape.Idx → Elt F e) → Prog (TpuEff nD τ sig (Elt F) Λ₀ .tc) α}
    (hoff : off = ![a', b']) (ha : a ≤ a' ∧ a' + n' ≤ a + n) :
    (rb c M a n v : sProp 𝕄)
      ⊢ iprop((rb c M a n v -∗ wp frame (wpE (defs₀ (F := F)) 𝒱₀ (c : Thread nD τ) none) Set.univ (k fun j => v (a' + (j 0).val) (b' + (j 1).val)) Q)
        -∗ wp frame (wpE (defs₀ (F := F)) 𝒱₀ (c : Thread nD τ) none) Set.univ (.op (.load M (Rect.unit (s := ⟨2, ![A, B]⟩) off ![n', m'] inb).toLoadRect hl) k) Q) := by
  have he : (fun j : (Rect.unit (s := ⟨2, ![A, B]⟩) off ![n', m'] inb).shape.Idx => v (a' + (j 0).val) (b' + (j 1).val))
      = fun j => (fun x : Shape.Idx ⟨2, ![A, B]⟩ => v (x 0).val (x 1).val) ((Rect.unit (s := ⟨2, ![A, B]⟩) off ![n', m'] inb).emb j) := by
    funext j
    have h := emb_row (inb := inb) hoff j
    exact congrArg₂ v h.1.symm h.2.symm
  unfold rb
  rw [he]
  exact wp_load_blk c (by
    intro x hx
    obtain ⟨j, rfl⟩ := of_mem _ hx
    have h := emb_row (inb := inb) hoff j
    have hj : (j 0).val < n' := (j 0).isLt
    rw [mem_rows, h.1]
    omega)

/-- A store over a box within the rows held. -/
theorem wp_store_box {α : Type} {Q : α → sProp 𝕄} {off : Fin 2 → ℕ} {a' b' n' m' : ℕ} {inb} {pay : (Rect.unit (s := ⟨2, ![A, B]⟩) off ![n', m'] inb).shape.Idx → Elt F e} {hx} {hm}
    {k : PUnit → Prog (TpuEff nD τ sig (Elt F) Λ₀ .tc) α}
    (hoff : off = ![a', b']) (ha : a ≤ a' ∧ a' + n' ≤ a + n) {v' : ℕ → ℕ → Elt F e}
    (hin : ∀ j, pay j = v' (a' + (j 0).val) (b' + (j 1).val))
    (hout : ∀ i j, a ≤ i → i < a + n → j < B → ¬ (a' ≤ i ∧ i < a' + n' ∧ b' ≤ j ∧ j < b' + m') → v' i j = v i j) :
    (rb c M a n v : sProp 𝕄)
      ⊢ iprop((rb c M a n v' -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := ⟨2, ![A, B]⟩) off ![n', m'] inb) pay Finset.univ hx hm) k) Q) := by
  have hsub : (Rect.unit (s := ⟨2, ![A, B]⟩) off ![n', m'] inb).set ⊆ rows A B a n := by
    intro x hx
    obtain ⟨j, rfl⟩ := of_mem _ hx
    have h := emb_row (inb := inb) hoff j
    have hj : (j 0).val < n' := (j 0).isLt
    rw [mem_rows, h.1]
    omega
  have hrest : ∀ x ∈ rows A B a n \ (Rect.unit (s := ⟨2, ![A, B]⟩) off ![n', m'] inb).set, v (x 0).val (x 1).val = v' (x 0).val (x 1).val := by
    intro x hx
    have hx' := Finset.mem_sdiff.mp hx
    have hr := mem_rows.mp hx'.1
    refine (hout _ _ hr.1 hr.2 (x 1).isLt fun hb => hx'.2 ?_).symm
    refine Rect.mem_set_unit.mpr fun q => ?_
    subst hoff
    fin_cases q
    · exact ⟨hb.1, hb.2.1⟩
    · exact ⟨hb.2.2.1, hb.2.2.2⟩
  unfold rb
  rw [show rows A B a n = (Rect.unit (s := ⟨2, ![A, B]⟩) off ![n', m'] inb).set ∪ (rows A B a n \ (Rect.unit (s := ⟨2, ![A, B]⟩) off ![n', m'] inb).set) from
    (Finset.union_sdiff_of_subset hsub).symm]
  iintro H Hk
  ihave H := (blk_split Finset.disjoint_sdiff) $$ H
  icases H with ⟨H1, H2⟩
  ihave H2 := (blk_congr hrest) $$ H2
  ihave H1 := blk_forget $$ H1
  iapply (wp_store_blk c (M := M) (r := Rect.unit (s := ⟨2, ![A, B]⟩) off ![n', m'] inb) (w := pay) rfl (v' := fun x => v' (x 0).val (x 1).val) (fun j => by
    have h := emb_row (inb := inb) hoff j
    exact (hin j).trans (congrArg₂ v' h.1.symm h.2.symm))) $$ H1
  iintro H1
  iapply Hk
  iapply (blk_join Finset.disjoint_sdiff)
  isplitl [H1]
  · iexact H1
  · iexact H2
end

/-! ## A part of one group -/

/-- The copy at level `k` on the way down, and on the way back. -/
abbrev tR (k : Fin 3) (g : Fin 4) (p : Fin 3) : Tri := (⟨k.val, Nat.lt_trans k.isLt (by decide)⟩, g, p)
abbrev tA (k : Fin 3) (g : Fin 4) (p : Fin 3) : Tri := (⟨5 - k.val, by omega⟩, g, p)
theorem lvl_tR (k : Fin 3) : lvl ⟨k.val, Nat.lt_trans k.isLt (by decide)⟩ = k.val := by revert k; decide
theorem lvl_tA (k : Fin 3) : lvl ⟨5 - k.val, by omega⟩ = k.val := by revert k; decide
theorem ge_tA (k : Fin 3) : ¬ (5 - k.val < 3) := by revert k; decide

section
variable (P0 : Dev nD → Fin 3 → ℕ → ℕ → Elt F .bf16)

/-- The rows still kept after `k` halvings, at sums of `j` exchanges. -/
def pK (c : Dev nD) (g : Fin 4) (p : Fin 3) (k j : ℕ) : sProp 𝕄 :=
  rb c (pM p) (256 * g.val + keep c p k) (256 / 2 ^ k) (red P0 p j c)
/-- The rows sent at halving `k`, back and of no more use. -/
def pS (c : Dev nD) (g : Fin 4) (p k : Fin 3) : sProp 𝕄 := rbx c (pM p) (256 * g.val + snt c p k.val) (sz k.val)
/-- The landing slot of halving `k`, filled. -/
def rL (c : Dev nD) (g : Fin 4) (p k : Fin 3) : sProp 𝕄 :=
  rb c (rM p) (224 * g.val + slot k.val) (sz k.val) (landed P0 c (tR k g p))
/-- The gathered rows of region `k`. -/
def gK (c : Dev nD) (g : Fin 4) (p : Fin 3) (k : ℕ) : sProp 𝕄 :=
  rb c (gM p) (256 * g.val + keep c p k) (256 / 2 ^ k) (full P0 p)
/-- The rows the device's own sums go to. -/
def gJ (c : Dev nD) (g : Fin 4) (p : Fin 3) : sProp 𝕄 := rbx c (gM p) (256 * g.val + keep c p 3) 32
/-- A group's rows of the partial sums before they are written. -/
def pJ (c : Dev nD) (g : Fin 4) (p : Fin 3) : sProp 𝕄 := rbx c (pM p) (256 * g.val) 256

theorem spay_tR (c : Dev nD) (k : Fin 3) (g : Fin 4) (p : Fin 3) :
    spay P0 c (tR k g p) = rb c (pM p) (256 * g.val + snt c p k.val) (sz k.val) (red P0 p k.val c) := by
  unfold spay; rw [if_pos (show (tR k g p).1.val < 3 from k.isLt)]; show rb c (pM p) (256 * g.val + snt c p (lvl _)) (sz (lvl _)) (red P0 p (lvl _) c) = _; rw [lvl_tR]
theorem spay_tA (c : Dev nD) (k : Fin 3) (g : Fin 4) (p : Fin 3) : spay P0 c (tA k g p) = gK P0 c g p (k.val + 1) := by
  unfold spay gK; rw [if_neg (show ¬ (tA k g p).1.val < 3 from ge_tA k)]; show rb c (gM p) (256 * g.val + keep c p (lvl _ + 1)) (sz (lvl _)) (full P0 p) = _; rw [lvl_tA, (halves c p k).2.2]
omit [FloatOps F] in
theorem land_tR (c : Dev nD) (k : Fin 3) (g : Fin 4) (p : Fin 3) :
    (land c (tR k g p) : sProp 𝕄) = rbx c (rM p) (224 * g.val + slot k.val) (sz k.val) := by
  unfold land; rw [if_pos (show (tR k g p).1.val < 3 from k.isLt)]; show rbx c (rM p) (224 * g.val + slot (lvl _)) (sz (lvl _)) = _; rw [lvl_tR]
omit [FloatOps F] in
theorem land_tA (c : Dev nD) (k : Fin 3) (g : Fin 4) (p : Fin 3) :
    (land c (tA k g p) : sProp 𝕄) = rbx c (gM p) (256 * g.val + snt c p k.val) (sz k.val) := by
  unfold land; rw [if_neg (show ¬ (tA k g p).1.val < 3 from ge_tA k)]; show rbx c (gM p) (256 * g.val + snt c p (lvl _)) (sz (lvl _)) = _; rw [lvl_tA]
theorem rpay_tR (c : Dev nD) (k : Fin 3) (g : Fin 4) (p : Fin 3) : rpay P0 c (tR k g p) = rL P0 c g p k := by
  unfold rpay rL; rw [if_pos (show (tR k g p).1.val < 3 from k.isLt)]; show rb c (rM p) (224 * g.val + slot (lvl _)) (sz (lvl _)) _ = _; rw [lvl_tR]
theorem rpay_tA (c : Dev nD) (k : Fin 3) (g : Fin 4) (p : Fin 3) :
    rpay P0 c (tA k g p) = rb c (gM p) (256 * g.val + snt c p k.val) (sz k.val) (full P0 p) := by
  unfold rpay; rw [if_neg (show ¬ (tA k g p).1.val < 3 from ge_tA k)]; show rb c (gM p) (256 * g.val + snt c p (lvl _)) (sz (lvl _)) (full P0 p) = _; rw [lvl_tA]
theorem mate_tR (c : Dev nD) (k : Fin 3) (g : Fin 4) (p : Fin 3) : mateT c (tR k g p) = mate c p k.val := by
  show peer c (ord p (lvl _)) = _; rw [lvl_tR]
theorem mate_tA (c : Dev nD) (k : Fin 3) (g : Fin 4) (p : Fin 3) : mateT c (tA k g p) = mate c p k.val := by
  show peer c (ord p (lvl _)) = _; rw [lvl_tA]

/-- A region is what stays of it beside what goes. -/
theorem pK_split (c : Dev nD) (g : Fin 4) (p k : Fin 3) (j : ℕ) :
    (pK P0 c g p k.val j : sProp 𝕄) ⊢ iprop(pK P0 c g p (k.val + 1) j ∗ rb c (pM p) (256 * g.val + snt c p k.val) (sz k.val) (red P0 p j c)) := by
  obtain ⟨h, h1, h2⟩ := halves c p k
  unfold pK
  rw [h1, h2]
  rcases h with ⟨ha, hb⟩ | ⟨ha, hb⟩
  · rw [ha]
    exact rb_split (by rw [hb]; omega)
  · rw [ha]
    iintro H
    ihave H := (rb_split (b := 256 * g.val + keep c p (k.val + 1)) (by rw [hb]; omega)) $$ H
    icases H with ⟨H1, H2⟩
    isplitl [H2]
    · iexact H2
    · iexact H1
theorem gK_join (c : Dev nD) (g : Fin 4) (p k : Fin 3) :
    iprop(gK P0 c g p (k.val + 1) ∗ rb c (gM p) (256 * g.val + snt c p k.val) (sz k.val) (full P0 p)) ⊢ (gK P0 c g p k.val : sProp 𝕄) := by
  obtain ⟨h, h1, h2⟩ := halves c p k
  unfold gK
  rw [h1, h2]
  rcases h with ⟨ha, hb⟩ | ⟨ha, hb⟩
  · rw [ha]
    exact rb_join (by rw [hb]; omega)
  · rw [ha]
    iintro ⟨H1, H2⟩
    iapply (rb_join (b := 256 * g.val + keep c p (k.val + 1)) (by rw [hb]; omega))
    isplitl [H2]
    · iexact H2
    · iexact H1

variable (K : Dev nD × Key → ℕ) (c : Dev nD)

theorem start_rs {α : Type} {Q : α → sProp 𝕄} (k : Fin 3) (g : Fin 4) (p : Fin 3) {k0 k1 : ℕ} (h0 : k0 = k.val) (h1 : k1 = k.val + 1)  {n a r : ℕ} {off off' : Fin 2 → ℕ} {inb inb' hr hr'} {c' : Dev nD} {sS sR : DmaSem sig}
    {hsc : ((rM p).slice (Rect.unit (s := ⟨2, ![896, CC p]⟩) off' ![sz k.val, CC p] inb') hr').view.ref.isScScratch = false} {hsrc} {hdst} {hsem}
    {kk : PUnit → Prog (TpuEff nD τ sig (Elt F) Λ₀ .tc) α}
    (hn : n = place (tR k g p)) (han : a ≤ n)
    (hoff : off = ![256 * g.val + snt c p k.val, 0]) (hoff' : off' = ![224 * g.val + slot k.val, 0])
    (hc : c' = mate c p k.val) (hsS : sS = sndS (tR k g p)) (hsR : sR = rcvS (tR k g p)) :
    iprop(Ctx P0 K ∗ Comm c n a r ∗ pK P0 c g p k0 k0)
      ⊢ iprop((iprop(Comm c (n + 1) a r ∗ pK P0 c g p k1 k0) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma ((pM p).slice (Rect.unit (s := ⟨2, ![1024, CC p]⟩) off ![sz k.val, CC p] inb) hr)
            (.remote (Dev.tc c' : Thread nD τ) ((rM p).slice (Rect.unit (s := ⟨2, ![896, CC p]⟩) off' ![sz k.val, CC p] inb') hr') (.dma sS) hsc) (.dma sR) hsrc hdst hsem) kk) Q) := by
  subst h0 h1
  iintro ⟨HC, HM, Hp⟩ Hk
  ihave Hp := (pK_split P0 c g p k k.val) $$ Hp
  icases Hp with ⟨Hp, Hs⟩
  iapply (wp_start P0 K c (M := pM p) (N := rM p) (tR k g p) hn han hoff hoff'
    (spay_tR P0 c k g p) (land_tR _ k g p) (by rw [rpay_tR]; rfl) (by
      intro i j hi
      show red P0 p (lvl _) (mateT (mateT c (tR k g p)) (tR k g p)) _ j = _
      rw [mateT_mateT, lvl_tR, mate_tR, keep_succ_mate]
      congr 1
      have h1 : (tR k g p).2.1.val = g.val := rfl
      omega)
    (hc.trans (mate_tR c k g p).symm) hsS hsR (by unfold amt; rw [lvl_tR])) $$ [HC HM Hs]
  · isplitl [HC]; · iexact HC
    isplitl [HM]; · iexact HM
    iapply (Entails.of_eq (spay_tR P0 c k g p).symm); iexact Hs
  iintro HM
  iapply Hk
  isplitl [HM]
  · iexact HM
  · iexact Hp

theorem start_ag {α : Type} {Q : α → sProp 𝕄} (k : Fin 3) (g : Fin 4) (p : Fin 3) {k0 k1 : ℕ} (h0 : k0 = k.val) (h1 : k1 = k.val + 1)  {n a r : ℕ} {off off' : Fin 2 → ℕ} {inb inb' hr hr'} {c' : Dev nD} {sS sR : DmaSem sig}
    {hsc : ((gM p).slice (Rect.unit (s := ⟨2, ![1024, CC p]⟩) off' ![sz k.val, CC p] inb') hr').view.ref.isScScratch = false} {hsrc} {hdst} {hsem}
    {kk : PUnit → Prog (TpuEff nD τ sig (Elt F) Λ₀ .tc) α}
    (hn : n = place (tA k g p)) (han : a ≤ n)
    (hoff : off = ![256 * g.val + keep c p (k.val + 1), 0]) (hoff' : off' = ![256 * g.val + keep c p (k.val + 1), 0])
    (hc : c' = mate c p k.val) (hsS : sS = sndS (tA k g p)) (hsR : sR = rcvS (tA k g p)) :
    iprop(Ctx P0 K ∗ Comm c n a r ∗ gK P0 c g p k1)
      ⊢ iprop((Comm c (n + 1) a r -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma ((gM p).slice (Rect.unit (s := ⟨2, ![1024, CC p]⟩) off ![sz k.val, CC p] inb) hr)
            (.remote (Dev.tc c' : Thread nD τ) ((gM p).slice (Rect.unit (s := ⟨2, ![1024, CC p]⟩) off' ![sz k.val, CC p] inb') hr') (.dma sS) hsc) (.dma sR) hsrc hdst hsem) kk) Q) := by
  subst h0 h1
  iintro ⟨HC, HM, Hs⟩ Hk
  iapply (wp_start P0 K c (M := gM p) (N := gM p) (tA k g p) hn han hoff hoff' (v := full P0 p) (w := full P0 p)
    (by rw [spay_tA]; unfold gK; rw [(halves c p k).2.2]) (by rw [land_tA, mate_tA, snt_mate]) (by rw [rpay_tA, mate_tA, snt_mate]) (by intros; rfl)
    (hc.trans (mate_tA c k g p).symm) hsS hsR (by unfold amt; rw [lvl_tA])) $$ [HC HM Hs]
  · isplitl [HC]; · iexact HC
    isplitl [HM]; · iexact HM
    iapply (Entails.of_eq (spay_tA P0 c k g p).symm); iexact Hs
  iintro HM
  iapply Hk
  iexact HM

section
variable {s s' : Shape} {e e' : EltTy} {sp sp' : Space}
    {src : Memref sig .tc sp' s' e'} {dst : Memref sig .tc sp s e} {hsrc} {hdst} {sm : DmaSem sig}

theorem left_rs {α : Type} {Q : α → sProp 𝕄} (k : Fin 3) (g : Fin 4) (p : Fin 3) {b a r : ℕ}
    {kk : PUnit → Prog (TpuEff nD τ sig (Elt F) Λ₀ .tc) α}
    (ha : a = place (tR k g p)) (hab : a < b) (hsm : sm = sndS (tR k g p)) (hamt : dst.view.dmaCredit = amt (tR k g p)) :
    iprop(Ctx P0 K ∗ Comm c b a r)
      ⊢ iprop((iprop(Comm c b (a + 1) r ∗ pS c g p k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  iintro ⟨HC, HM⟩ Hk
  iapply (wp_wait_left P0 K c (tR k g p) ha hab hsm hamt) $$ [HC HM]
  · isplitl [HC]; · iexact HC
    iexact HM
  iintro ⟨HM, Hp⟩
  iapply Hk
  isplitl [HM]
  · iexact HM
  · ihave Hp := (Entails.of_eq (spay_tR P0 c k g p)) $$ Hp
    unfold pS
    iapply rb_forget
    iexact Hp

theorem left_ag {α : Type} {Q : α → sProp 𝕄} (k : Fin 3) (g : Fin 4) (p : Fin 3) {k0 k1 : ℕ} (h0 : k0 = k.val) (h1 : k1 = k.val + 1)  {b a r : ℕ}
    {kk : PUnit → Prog (TpuEff nD τ sig (Elt F) Λ₀ .tc) α}
    (ha : a = place (tA k g p)) (hab : a < b) (hsm : sm = sndS (tA k g p)) (hamt : dst.view.dmaCredit = amt (tA k g p)) :
    iprop(Ctx P0 K ∗ Comm c b a r)
      ⊢ iprop((iprop(Comm c b (a + 1) r ∗ gK P0 c g p k1) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  subst h0 h1
  have h := wp_wait_left (src := src) (dst := dst) (hsrc := hsrc) (hdst := hdst) (k := kk) (Q := Q) (r := r) P0 K c (tA k g p) ha hab hsm hamt
  rw [spay_tA] at h
  exact h

theorem landed_rs {α : Type} {Q : α → sProp 𝕄} (k : Fin 3) (g : Fin 4) (p : Fin 3) {b a r : ℕ}
    {kk : PUnit → Prog (TpuEff nD τ sig (Elt F) Λ₀ .tc) α}
    (hr : r = place (tR k g p)) (hb : 12 * ((tR k g p).1.val + 1) ≤ b) (hsm : sm = rcvS (tR k g p)) (hamt : dst.view.dmaCredit = amt (tR k g p)) :
    iprop(Ctx P0 K ∗ Comm c b a r)
      ⊢ iprop((iprop(Comm c b a (r + 1) ∗ rL P0 c g p k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  have h := wp_wait_landed (src := src) (dst := dst) (hsrc := hsrc) (hdst := hdst) (k := kk) (Q := Q) (a := a) P0 K c (tR k g p) hr hb hsm hamt
  rw [rpay_tR] at h
  exact h

theorem landed_ag {α : Type} {Q : α → sProp 𝕄} (k : Fin 3) (g : Fin 4) (p : Fin 3) {k0 k1 : ℕ} (h0 : k0 = k.val) (h1 : k1 = k.val + 1)  {b a r : ℕ}
    {kk : PUnit → Prog (TpuEff nD τ sig (Elt F) Λ₀ .tc) α}
    (hr : r = place (tA k g p)) (hb : 12 * ((tA k g p).1.val + 1) ≤ b) (hsm : sm = rcvS (tA k g p)) (hamt : dst.view.dmaCredit = amt (tA k g p)) :
    iprop(Ctx P0 K ∗ Comm c b a r ∗ gK P0 c g p k1)
      ⊢ iprop((iprop(Comm c b a (r + 1) ∗ gK P0 c g p k0) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst hsrc hdst) kk) Q) := by
  subst h0 h1
  iintro ⟨HC, HM, Hg⟩ Hk
  iapply (wp_wait_landed P0 K c (tA k g p) hr hb hsm hamt) $$ [HC HM]
  · isplitl [HC]; · iexact HC
    iexact HM
  iintro ⟨HM, Hp⟩
  iapply Hk
  isplitl [HM]
  · iexact HM
  · ihave Hp := (Entails.of_eq (rpay_tA P0 c k g p)) $$ Hp
    iapply (gK_join P0 c g p k)
    isplitl [Hg]
    · iexact Hg
    · iexact Hp
end

section
variable {α : Type} (g : Fin 4) (p : Fin 3)

/-- What a load of the kept rows reads, and of a filled slot. -/
def pV (g : Fin 4) (p k : Fin 3) (j : ℕ) : Shape.Idx ⟨2, ![sz k.val, CC p]⟩ → Elt F .bf16 :=
  fun x => red P0 p j c (256 * g.val + keep c p (k.val + 1) + (x 0).val) (x 1).val
def rV (g : Fin 4) (p k : Fin 3) : Shape.Idx ⟨2, ![sz k.val, CC p]⟩ → Elt F .bf16 :=
  fun x => red P0 p k.val (mate c p k.val) (256 * g.val + keep c p (k.val + 1) + (x 0).val) (x 1).val

theorem load_p {Q : α → sProp 𝕄} (k : Fin 3) {k0 k1 : ℕ} (h0 : k0 = k.val) (h1 : k1 = k.val + 1)  (j : ℕ) {off : Fin 2 → ℕ} {inb} {hl : (pM p).view.LoadsAt (Rect.unit (s := ⟨2, ![1024, CC p]⟩) off ![sz k.val, CC p] inb).toLoadRect}
    {kk : (Shape.Idx ⟨2, ![sz k.val, CC p]⟩ → Elt F .bf16) → Prog (TpuEff nD τ sig (Elt F) Λ₀ .tc) α}
    (hoff : off = ![256 * g.val + keep c p (k.val + 1), 0]) :
    (pK P0 c g p k1 j : sProp 𝕄)
      ⊢ iprop((pK P0 c g p k1 j -∗ wp frame (wpE (defs₀ (F := F)) 𝒱₀ (c : Thread nD τ) none) Set.univ (kk (pV P0 c g p k j)) Q)
        -∗ wp frame (wpE (defs₀ (F := F)) 𝒱₀ (c : Thread nD τ) none) Set.univ (.op (.load (pM p) (Rect.unit (s := ⟨2, ![1024, CC p]⟩) off ![sz k.val, CC p] inb).toLoadRect hl) kk) Q) := by
  subst h0 h1
  unfold pK
  rw [(halves c p k).2.2]
  exact wp_load_rb hoff ⟨le_refl _, le_refl _⟩

theorem load_r {Q : α → sProp 𝕄} (k : Fin 3) {off : Fin 2 → ℕ} {inb} {hl : (rM p).view.LoadsAt (Rect.unit (s := ⟨2, ![896, CC p]⟩) off ![sz k.val, CC p] inb).toLoadRect}
    {kk : (Shape.Idx ⟨2, ![sz k.val, CC p]⟩ → Elt F .bf16) → Prog (TpuEff nD τ sig (Elt F) Λ₀ .tc) α}
    (hoff : off = ![224 * g.val + slot k.val, 0]) :
    (rL P0 c g p k : sProp 𝕄)
      ⊢ iprop((rL P0 c g p k -∗ wp frame (wpE (defs₀ (F := F)) 𝒱₀ (c : Thread nD τ) none) Set.univ (kk (rV P0 c g p k)) Q)
        -∗ wp frame (wpE (defs₀ (F := F)) 𝒱₀ (c : Thread nD τ) none) Set.univ (.op (.load (rM p) (Rect.unit (s := ⟨2, ![896, CC p]⟩) off ![sz k.val, CC p] inb).toLoadRect hl) kk) Q) := by
  rw [show rV P0 c g p k = fun x => landed P0 c (tR k g p) (224 * g.val + slot k.val + (x 0).val) (x 1).val from by
    funext x
    unfold rV landed
    show _ = red P0 p (lvl _) (mateT c (tR k g p)) _ _
    rw [mate_tR, lvl_tR]
    congr 1
    simp only
    omega]
  exact wp_load_rb hoff ⟨le_refl _, le_refl _⟩

/-- Storing the sums of what was kept and what has landed. -/
theorem store_p {Q : α → sProp 𝕄} (k : Fin 3) {k0 k1 : ℕ} (h0 : k0 = k.val) (h1 : k1 = k.val + 1)  {off : Fin 2 → ℕ} {inb} {pay : Shape.Idx ⟨2, ![sz k.val, CC p]⟩ → Elt F .bf16} {hx} {hm}
    {kk : PUnit → Prog (TpuEff nD τ sig (Elt F) Λ₀ .tc) α}
    (hoff : off = ![256 * g.val + keep c p (k.val + 1), 0])
    (hpay : pay = fun x => FloatOps.addf (pV P0 c g p k k0 x) (rV P0 c g p k x)) :
    (pK P0 c g p k1 k0 : sProp 𝕄)
      ⊢ iprop((pK P0 c g p k1 k1 -∗ wp frame (wpE (defs₀ (F := F)) 𝒱₀ (c : Thread nD τ) none) Set.univ (kk ⟨⟩) Q)
        -∗ wp frame (wpE (defs₀ (F := F)) 𝒱₀ (c : Thread nD τ) none) Set.univ (.op (.store (pM p) (Rect.unit (s := ⟨2, ![1024, CC p]⟩) off ![sz k.val, CC p] inb) pay Finset.univ hx hm) kk) Q) := by
  subst h0 h1
  subst hpay
  unfold pK
  rw [(halves c p k).2.2]
  iintro H
  ihave H := rb_forget $$ H
  iapply (wp_store_rb hoff (fun j => rfl)) $$ H

/-- Writing a group's rows of the partial sums. -/
theorem store_p0 {Q : α → sProp 𝕄} {off : Fin 2 → ℕ} {inb} {pay : Shape.Idx ⟨2, ![256, CC p]⟩ → Elt F .bf16} {hx} {hm}
    {kk : PUnit → Prog (TpuEff nD τ sig (Elt F) Λ₀ .tc) α}
    (hoff : off = ![256 * g.val, 0]) (hpay : ∀ x, pay x = P0 c p (256 * g.val + (x 0).val) (x 1).val) :
    (pJ c g p : sProp 𝕄)
      ⊢ iprop((pK P0 c g p 0 0 -∗ wp frame (wpE (defs₀ (F := F)) 𝒱₀ (c : Thread nD τ) none) Set.univ (kk ⟨⟩) Q)
        -∗ wp frame (wpE (defs₀ (F := F)) 𝒱₀ (c : Thread nD τ) none) Set.univ (.op (.store (pM p) (Rect.unit (s := ⟨2, ![1024, CC p]⟩) off ![256, CC p] inb) pay Finset.univ hx hm) kk) Q) := by
  unfold pK pJ
  exact wp_store_rb hoff hpay
theorem load_p0 {Q : α → sProp 𝕄} {off : Fin 2 → ℕ} {inb} {hl : (pM p).view.LoadsAt (Rect.unit (s := ⟨2, ![1024, CC p]⟩) off ![256, CC p] inb).toLoadRect}
    {kk : (Shape.Idx ⟨2, ![256, CC p]⟩ → Elt F .bf16) → Prog (TpuEff nD τ sig (Elt F) Λ₀ .tc) α}
    (hoff : off = ![256 * g.val, 0]) :
    (pJ c g p : sProp 𝕄)
      ⊢ iprop((∀ u, pJ c g p -∗ wp frame (wpE (defs₀ (F := F)) 𝒱₀ (c : Thread nD τ) none) Set.univ (kk u) Q)
        -∗ wp frame (wpE (defs₀ (F := F)) 𝒱₀ (c : Thread nD τ) none) Set.univ (.op (.load (pM p) (Rect.unit (s := ⟨2, ![1024, CC p]⟩) off ![256, CC p] inb).toLoadRect hl) kk) Q) := by
  unfold pJ
  exact wp_load_rbx hoff ⟨le_refl _, le_refl _⟩

/-- The device's own finished rows go to the gathered rows. -/
theorem store_g {Q : α → sProp 𝕄} {off : Fin 2 → ℕ} {inb} {pay : Shape.Idx ⟨2, ![32, CC p]⟩ → Elt F .bf16} {hx} {hm}
    {kk : PUnit → Prog (TpuEff nD τ sig (Elt F) Λ₀ .tc) α}
    (hoff : off = ![256 * g.val + keep c p 3, 0]) (hpay : pay = pV P0 c g p 2 3) :
    (gJ c g p : sProp 𝕄)
      ⊢ iprop((gK P0 c g p 3 -∗ wp frame (wpE (defs₀ (F := F)) 𝒱₀ (c : Thread nD τ) none) Set.univ (kk ⟨⟩) Q)
        -∗ wp frame (wpE (defs₀ (F := F)) 𝒱₀ (c : Thread nD τ) none) Set.univ (.op (.store (gM p) (Rect.unit (s := ⟨2, ![1024, CC p]⟩) off ![32, CC p] inb) pay Finset.univ hx hm) kk) Q) := by
  unfold gJ gK
  exact wp_store_rb hoff (fun j => by
    have h0 : (j 0).val < 32 := (j 0).isLt
    have h1 : keep c p 3 + 32 ≤ 256 := keep_le c p 2
    rw [hpay]
    unfold pV full
    rw [own_eq p c _ (by omega)]
    rfl)
theorem load_g {Q : α → sProp 𝕄} {off : Fin 2 → ℕ} {inb} {hl : (gM p).view.LoadsAt (Rect.unit (s := ⟨2, ![1024, CC p]⟩) off ![32, CC p] inb).toLoadRect}
    {kk : (Shape.Idx ⟨2, ![32, CC p]⟩ → Elt F .bf16) → Prog (TpuEff nD τ sig (Elt F) Λ₀ .tc) α}
    (hoff : off = ![256 * g.val + keep c p 3, 0]) :
    (gJ c g p : sProp 𝕄)
      ⊢ iprop((∀ u, gJ c g p -∗ wp frame (wpE (defs₀ (F := F)) 𝒱₀ (c : Thread nD τ) none) Set.univ (kk u) Q)
        -∗ wp frame (wpE (defs₀ (F := F)) 𝒱₀ (c : Thread nD τ) none) Set.univ (.op (.load (gM p) (Rect.unit (s := ⟨2, ![1024, CC p]⟩) off ![32, CC p] inb).toLoadRect hl) kk) Q) := by
  unfold gJ
  exact wp_load_rbx hoff ⟨le_refl _, le_refl _⟩

/-- Reading back a group's finished rows. -/
def gV (g : Fin 4) (p : Fin 3) : Shape.Idx ⟨2, ![256, CC p]⟩ → Elt F .bf16 := fun x => full P0 p (256 * g.val + (x 0).val) (x 1).val
theorem load_gK {Q : α → sProp 𝕄} {off : Fin 2 → ℕ} {inb} {hl : (gM p).view.LoadsAt (Rect.unit (s := ⟨2, ![1024, CC p]⟩) off ![256, CC p] inb).toLoadRect}
    {kk : (Shape.Idx ⟨2, ![256, CC p]⟩ → Elt F .bf16) → Prog (TpuEff nD τ sig (Elt F) Λ₀ .tc) α}
    (hoff : off = ![256 * g.val, 0]) :
    (gK P0 c g p 0 : sProp 𝕄)
      ⊢ iprop((gK P0 c g p 0 -∗ wp frame (wpE (defs₀ (F := F)) 𝒱₀ (c : Thread nD τ) none) Set.univ (kk (gV P0 g p)) Q)
        -∗ wp frame (wpE (defs₀ (F := F)) 𝒱₀ (c : Thread nD τ) none) Set.univ (.op (.load (gM p) (Rect.unit (s := ⟨2, ![1024, CC p]⟩) off ![256, CC p] inb).toLoadRect hl) kk) Q) := by
  unfold gK
  exact wp_load_rb hoff ⟨le_refl _, le_refl _⟩
end
end

end Cert.TreeProof
-- ==== Proof.Vals.lean ====
module

public import proofs.«01_k».proof.Proof.Chan

/-! # What the buffers hold: one device's values, from its inputs -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Arrays by two numbers -/

/-- Element `(i, j)` of an array, the coordinates taken modulo its sides. -/
def at2 {α : Type} {A B : ℕ} [NeZero A] [NeZero B] (f : Shape.Idx ⟨2, ![A, B]⟩ → α) (i j : ℕ) : α :=
  f fun q => match q with | 0 => Fin.ofNat A i | 1 => Fin.ofNat B j
/-- The `n × m` box of `v` from `(a, b)` on. -/
def box {α : Type} (v : ℕ → ℕ → α) (a b n m : ℕ) : Shape.Idx ⟨2, ![n, m]⟩ → α := fun j => v (a + (j 0).val) (b + (j 1).val)

theorem at2_of {α : Type} {A B : ℕ} [NeZero A] [NeZero B] (f : Shape.Idx ⟨2, ![A, B]⟩ → α) (x : Shape.Idx ⟨2, ![A, B]⟩) {i j : ℕ}
    (hi : i = (x 0).val) (hj : j = (x 1).val) : at2 f i j = f x := by
  unfold at2
  congr 1
  subst hi hj
  funext q
  fin_cases q
  · exact Fin.ext (Nat.mod_eq_of_lt (x 0).isLt)
  · exact Fin.ext (Nat.mod_eq_of_lt (x 1).isLt)

/-! ## One device's values -/

/-- What a device starts from: the input, and its blocks of the four weights. -/
structure Ins (F : FTy → Type) [FloatOps F] where
  x : S4x256x1024.Idx → Elt F .f32
  wq : ℕ → ℕ → Elt F .f32
  wo : ℕ → ℕ → Elt F .f32
  wk : ℕ → ℕ → Elt F .f32
  wv : ℕ → ℕ → Elt F .f32

theorem slice_q (h : Fin 8) : S256x1024.Slices ![0, 128 * h.val] S256x128 := by revert h; decide
theorem slice_k (h : Fin 8) : S256x256.Slices ![0, 128 * (h.val / 4)] S256x128 := by revert h; decide

/-- One head of one group, its queries and its share of the keys and the values cut out. -/
def head (h : Fin 8) (q : Vec F S256x1024 .f32) (k v : Vec F S256x256 .f32) : FVec F S256x128 .f32 :=
  k0_pay20 (extractStridedSlice S256x128 ![0, 128 * (h.val / 4)] v (slice_k h))
    (matmul (φ₁ := .f32) (φ₂ := .f32) dot_S256x128_S256x128_S256x256_1_1_0_0_n_n none (extractStridedSlice S256x128 ![0, 128 * h.val] q (slice_q h))
      (extractStridedSlice S256x128 ![0, 128 * (h.val / 4)] k (slice_k h)) (constant S256x256 .f32 0x00000000#32)) k0_pay19

namespace Ins
variable (I : Ins F)
def q (i j : ℕ) : Elt F .f32 := at2 (A := 1024) (B := 1024) (k0_pay2 (k0_pay1 I.x) (box I.wq 0 0 1024 1024)) i j
def k (i j : ℕ) : Elt F .f32 := at2 (A := 1024) (B := 256) (k0_pay3 (k0_pay1 I.x) (box I.wk 0 0 1024 256)) i j
def v (i j : ℕ) : Elt F .f32 := at2 (A := 1024) (B := 256) (k0_pay4 (k0_pay1 I.x) (box I.wv 0 0 1024 256)) i j
def headOf (g : ℕ) (h : Fin 8) : FVec F S256x128 .f32 := head h (box I.q (256 * g) 0 256 1024) (box I.k (256 * g) 0 256 256) (box I.v (256 * g) 0 256 256)
def attn (i j : ℕ) : Elt F .f32 := at2 (A := 256) (B := 128) (I.headOf (i / 256) (Fin.ofNat 8 (j / 128))) (i % 256) (j % 128)
/-- The partial sums of part `p`. -/
def part (p : Fin 3) (i j : ℕ) : Elt F .bf16 :=
  match p with
  | 0 => at2 (A := 256) (B := 384) (k0_pay21 (box I.attn (256 * (i / 256)) 0 256 1024) (box I.wo 0 0 1024 384)) (i % 256) j
  | 1 => at2 (A := 256) (B := 384) (k0_pay21 (box I.attn (256 * (i / 256)) 0 256 1024) (box I.wo 0 384 1024 384)) (i % 256) j
  | 2 => at2 (A := 256) (B := 256) (k0_pay23 (box I.attn (256 * (i / 256)) 0 256 1024) (box I.wo 0 768 1024 256)) (i % 256) j
end Ins

/-- Every device's partial sums. -/
def PP (I : Dev nD → Ins F) (c : Dev nD) (p : Fin 3) (i j : ℕ) : Elt F .bf16 := (I c).part p i j
/-- The result. -/
def ov (I : Dev nD → Ins F) (i j : ℕ) : Elt F .f32 := FloatOps.extf (φ := .bf16) .f32 bitsLt_bf16_f32 (full (PP I) (Fin.ofNat 3 (j / 384)) i (j % 384))

/-! ## The buffers beside the exchange -/

def aM : Memref sig .tc .vmem ⟨2, ![1024, 1024]⟩ .f32 := Memref.whole cc0_scratch0
def qM : Memref sig .tc .vmem ⟨2, ![1024, 1024]⟩ .f32 := Memref.whole cc0_scratch1
def kM : Memref sig .tc .vmem ⟨2, ![1024, 256]⟩ .f32 := Memref.whole cc0_scratch2
def vM : Memref sig .tc .vmem ⟨2, ![1024, 256]⟩ .f32 := Memref.whole cc0_scratch3

section
variable (I : Dev nD → Ins F) (c : Dev nD)
/-- Group `g`'s rows of the heads' results, the first `h` heads in place. -/
def At (g : Fin 4) (h : ℕ) : sProp 𝕄 :=
  iprop(∃ u : ℕ → ℕ → Elt F .f32, ⌜∀ i j, 256 * g.val ≤ i → i < 256 * g.val + 256 → j < 128 * h → u i j = (I c).attn i j⌝ ∗ rb c aM (256 * g.val) 256 u)
/-- The result, the first `n` of its twelve boxes in place. -/
def Ot (M : Memref sig .tc .vmem ⟨2, ![1024, 1024]⟩ .f32) (n : ℕ) : sProp 𝕄 :=
  iprop(∃ u : ℕ → ℕ → Elt F .f32, ⌜∀ i j, i < 1024 → j < 1024 → 3 * (i / 256) + j / 384 < n → u i j = ov I i j⌝ ∗ rb c M 0 1024 u)

section
variable {A B : ℕ} {e : EltTy} {M : Memref sig .tc .vmem ⟨2, ![A, B]⟩ e} {a n : ℕ} {v : ℕ → ℕ → Elt F e}
/-- A load of a box of known rows. -/
theorem load_box {α : Type} {Q : α → sProp 𝕄} {off : Fin 2 → ℕ} (a' b' n' m' : ℕ) {inb} {hl : M.view.LoadsAt (Rect.unit (s := ⟨2, ![A, B]⟩) off ![n', m'] inb).toLoadRect}
    {k : (Shape.Idx ⟨2, ![n', m']⟩ → Elt F e) → Prog (TpuEff nD τ sig (Elt F) Λ₀ .tc) α}
    (hoff : off = ![a', b']) (ha : a ≤ a' ∧ a' + n' ≤ a + n) :
    (rb c M a n v : sProp 𝕄)
      ⊢ iprop((rb c M a n v -∗ wp frame (wpE (defs₀ (F := F)) 𝒱₀ (c : Thread nD τ) none) Set.univ (k (box v a' b' n' m')) Q)
        -∗ wp frame (wpE (defs₀ (F := F)) 𝒱₀ (c : Thread nD τ) none) Set.univ (.op (.load M (Rect.unit (s := ⟨2, ![A, B]⟩) off ![n', m'] inb).toLoadRect hl) k) Q) :=
  wp_load_box hoff ha
/-- A store over every row of an array. -/
theorem store_all {α : Type} {Q : α → sProp 𝕄} [NeZero A] [NeZero B] {off : Fin 2 → ℕ} {inb} {pay : Shape.Idx ⟨2, ![A, B]⟩ → Elt F e} {hx} {hm}
    {k : PUnit → Prog (TpuEff nD τ sig (Elt F) Λ₀ .tc) α}
    (hoff : off = ![0, 0]) (hv : v = at2 pay) :
    (rbx c M 0 A : sProp 𝕄)
      ⊢ iprop((rb c M 0 A v -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := ⟨2, ![A, B]⟩) off ![A, B] inb) pay Finset.univ hx hm) k) Q) := by
  subst hv
  exact wp_store_rb hoff (fun j => (at2_of pay j (Nat.zero_add _) rfl).symm)
end

/-- A load of every element of the input. -/
theorem load_x {α : Type} {Q : α → sProp 𝕄} {M : Memref sig .tc .vmem S4x256x1024 .f32} {v : S4x256x1024.Idx → Elt F .f32} {off : Fin 3 → ℕ} {inb}
    {hl : M.view.LoadsAt (Rect.unit (s := S4x256x1024) off S4x256x1024.size inb).toLoadRect}
    {k : (S4x256x1024.Idx → Elt F .f32) → Prog (TpuEff nD τ sig (Elt F) Λ₀ .tc) α} (hoff : off = fun _ => 0) :
    (blk c M Finset.univ v : sProp 𝕄)
      ⊢ iprop((blk c M Finset.univ v -∗ wp frame (wpE (defs₀ (F := F)) 𝒱₀ (c : Thread nD τ) none) Set.univ (k v) Q)
        -∗ wp frame (wpE (defs₀ (F := F)) 𝒱₀ (c : Thread nD τ) none) Set.univ (.op (.load M (Rect.unit (s := S4x256x1024) off S4x256x1024.size inb).toLoadRect hl) k) Q) := by
  subst hoff
  have he : (fun j => v ((Rect.unit (s := S4x256x1024) (fun _ => 0) S4x256x1024.size inb).emb j)) = v := by
    funext j
    congr 1
    funext q
    refine Fin.ext ?_
    rw [Rect.emb_apply]
    simp [Rect.unit]
  have h := wp_load_blk c (M := M) (Q := Q) (hl := hl) (k := k) (v := v) (r := Rect.unit (s := S4x256x1024) (fun _ => 0) S4x256x1024.size inb) (Finset.subset_univ _)
  rw [he] at h
  exact h

theorem attn_at (g : Fin 4) (h : Fin 8) (i j : ℕ) (hi : i < 256) (hj : j < 128) :
    (I c).attn (256 * g.val + i) (128 * h.val + j) = at2 (A := 256) (B := 128) ((I c).headOf g.val h) i j := by
  unfold Ins.attn
  rw [show (256 * g.val + i) / 256 = g.val from by omega, show (256 * g.val + i) % 256 = i from by omega,
    show (128 * h.val + j) / 128 = h.val from by omega, show (128 * h.val + j) % 128 = j from by omega,
    show Fin.ofNat 8 h.val = h from Fin.ext (Nat.mod_eq_of_lt h.isLt)]

section
variable {α : Type} (g : Fin 4)
theorem load_at8 {Q : α → sProp 𝕄} {off : Fin 2 → ℕ} {inb} {hl : aM.view.LoadsAt (Rect.unit (s := ⟨2, ![1024, 1024]⟩) off ![256, 1024] inb).toLoadRect}
    {k : (Shape.Idx ⟨2, ![256, 1024]⟩ → Elt F .f32) → Prog (TpuEff nD τ sig (Elt F) Λ₀ .tc) α} (hoff : off = ![256 * g.val, 0]) :
    (At I c g 8 : sProp 𝕄)
      ⊢ iprop((At I c g 8 -∗ wp frame (wpE (defs₀ (F := F)) 𝒱₀ (c : Thread nD τ) none) Set.univ (k (box (I c).attn (256 * g.val) 0 256 1024)) Q)
        -∗ wp frame (wpE (defs₀ (F := F)) 𝒱₀ (c : Thread nD τ) none) Set.univ (.op (.load aM (Rect.unit (s := ⟨2, ![1024, 1024]⟩) off ![256, 1024] inb).toLoadRect hl) k) Q) := by
  unfold At
  iintro ⟨%u, %hu, H⟩ Hk
  iapply (load_box c (256 * g.val) 0 256 1024 hoff ⟨le_refl _, le_refl _⟩) $$ H
  iintro H
  rw [show box u (256 * g.val) 0 256 1024 = box (I c).attn (256 * g.val) 0 256 1024 from by
    funext j
    have h0 : (j 0).val < 256 := (j 0).isLt
    have h1 : (j 1).val < 1024 := (j 1).isLt
    exact hu _ _ (by omega) (by omega) (by omega)]
  iapply Hk
  iexists u
  isplitr
  · ipureintro; exact hu
  · iexact H
theorem load_at {Q : α → sProp 𝕄} (h : Fin 8) {h0 : ℕ} {off : Fin 2 → ℕ} {inb} {hl : aM.view.LoadsAt (Rect.unit (s := ⟨2, ![1024, 1024]⟩) off ![256, 128] inb).toLoadRect}
    {k : (Shape.Idx ⟨2, ![256, 128]⟩ → Elt F .f32) → Prog (TpuEff nD τ sig (Elt F) Λ₀ .tc) α} (hoff : off = ![256 * g.val, 128 * h.val]) :
    (At I c g h0 : sProp 𝕄)
      ⊢ iprop((∀ u, At I c g h0 -∗ wp frame (wpE (defs₀ (F := F)) 𝒱₀ (c : Thread nD τ) none) Set.univ (k u) Q)
        -∗ wp frame (wpE (defs₀ (F := F)) 𝒱₀ (c : Thread nD τ) none) Set.univ (.op (.load aM (Rect.unit (s := ⟨2, ![1024, 1024]⟩) off ![256, 128] inb).toLoadRect hl) k) Q) := by
  unfold At
  iintro ⟨%u, %hu, H⟩ Hk
  iapply (load_box c (256 * g.val) (128 * h.val) 256 128 hoff ⟨le_refl _, le_refl _⟩) $$ H
  iintro H
  iapply Hk
  iexists u
  isplitr
  · ipureintro; exact hu
  · iexact H
theorem store_at {Q : α → sProp 𝕄} (h : Fin 8) {h0 h1 : ℕ} (hh0 : h0 = h.val) (hh1 : h1 = h.val + 1) {off : Fin 2 → ℕ} {inb} {pay : Shape.Idx ⟨2, ![256, 128]⟩ → Elt F .f32} {hx} {hm}
    {k : PUnit → Prog (TpuEff nD τ sig (Elt F) Λ₀ .tc) α} (hoff : off = ![256 * g.val, 128 * h.val])
    (hpay : pay = head h (box (I c).q (256 * g.val) 0 256 1024) (box (I c).k (256 * g.val) 0 256 256) (box (I c).v (256 * g.val) 0 256 256)) :
    (At I c g h0 : sProp 𝕄)
      ⊢ iprop((At I c g h1 -∗ wp frame (wpE (defs₀ (F := F)) 𝒱₀ (c : Thread nD τ) none) Set.univ (k ⟨⟩) Q)
        -∗ wp frame (wpE (defs₀ (F := F)) 𝒱₀ (c : Thread nD τ) none) Set.univ (.op (.store aM (Rect.unit (s := ⟨2, ![1024, 1024]⟩) off ![256, 128] inb) pay Finset.univ hx hm) k) Q) := by
  subst hh0 hh1 hpay
  unfold At
  iintro ⟨%u, %hu, H⟩ Hk
  iapply (wp_store_box (v' := fun i j => if 128 * h.val ≤ j ∧ j < 128 * h.val + 128 then (I c).attn i j else u i j) (a' := 256 * g.val) (b' := 128 * h.val) (n' := 256) (m' := 128) hoff ⟨le_refl _, le_refl _⟩
    (fun j => by
      have h0 : (j 0).val < 256 := (j 0).isLt
      have h1 : (j 1).val < 128 := (j 1).isLt
      rw [if_pos (by omega), attn_at I c g h _ _ h0 h1]
      exact (at2_of (A := 256) (B := 128) ((I c).headOf g.val h) j rfl rfl).symm)
    (fun i j h1 h2 h3 h4 => if_neg (by omega))) $$ H
  iintro H
  iapply Hk
  iexists _
  isplitr; rotate_left
  · iexact H
  · ipureintro
    intro i j h1 h2 h3
    by_cases hj : 128 * h.val ≤ j ∧ j < 128 * h.val + 128
    · exact if_pos hj
    · exact (if_neg hj).trans (hu i j h1 h2 (by omega))

theorem load_o {Q : α → sProp 𝕄} {M : Memref sig .tc .vmem ⟨2, ![1024, 1024]⟩ .f32} (p : Fin 3) {n : ℕ} {off : Fin 2 → ℕ} {inb} {hl : M.view.LoadsAt (Rect.unit (s := ⟨2, ![1024, 1024]⟩) off ![256, CC p] inb).toLoadRect}
    {k : (Shape.Idx ⟨2, ![256, CC p]⟩ → Elt F .f32) → Prog (TpuEff nD τ sig (Elt F) Λ₀ .tc) α} (hoff : off = ![256 * g.val, 384 * p.val]) :
    (Ot I c M n : sProp 𝕄)
      ⊢ iprop((∀ u, Ot I c M n -∗ wp frame (wpE (defs₀ (F := F)) 𝒱₀ (c : Thread nD τ) none) Set.univ (k u) Q)
        -∗ wp frame (wpE (defs₀ (F := F)) 𝒱₀ (c : Thread nD τ) none) Set.univ (.op (.load M (Rect.unit (s := ⟨2, ![1024, 1024]⟩) off ![256, CC p] inb).toLoadRect hl) k) Q) := by
  unfold Ot
  iintro ⟨%u, %hu, H⟩ Hk
  iapply (load_box c (256 * g.val) (384 * p.val) 256 (CC p) hoff ⟨by omega, by omega⟩) $$ H
  iintro H
  iapply Hk
  iexists u
  isplitr
  · ipureintro; exact hu
  · iexact H
theorem CC_lt (p : Fin 3) : CC p ≤ 384 ∧ 384 * p.val + CC p ≤ 1024 ∧ (p.val < 2 → CC p = 384) ∧ (p.val = 2 → CC p = 256) := by revert p; decide
theorem store_o {Q : α → sProp 𝕄} {M : Memref sig .tc .vmem ⟨2, ![1024, 1024]⟩ .f32} (p : Fin 3) {n n1 : ℕ} (hn : n = 3 * g.val + p.val) (hn1 : n1 = 3 * g.val + p.val + 1) {off : Fin 2 → ℕ} {inb}
    {pay : Shape.Idx ⟨2, ![256, CC p]⟩ → Elt F .f32} {hx} {hm}
    {k : PUnit → Prog (TpuEff nD τ sig (Elt F) Λ₀ .tc) α} (hoff : off = ![256 * g.val, 384 * p.val])
    (hpay : pay = fun x => FloatOps.extf (φ := .bf16) .f32 bitsLt_bf16_f32 (gV (PP I) g p x)) :
    (Ot I c M n : sProp 𝕄)
      ⊢ iprop((Ot I c M n1 -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := ⟨2, ![1024, 1024]⟩) off ![256, CC p] inb) pay Finset.univ hx hm) k) Q) := by
  subst hn hn1 hpay
  obtain ⟨hC1, hC2, hC3, hC4⟩ := CC_lt p
  unfold Ot
  iintro ⟨%u, %hu, H⟩ Hk
  iapply (wp_store_box (v' := fun i j => if 256 * g.val ≤ i ∧ i < 256 * g.val + 256 ∧ 384 * p.val ≤ j ∧ j < 384 * p.val + CC p then ov I i j else u i j) (a' := 256 * g.val) (b' := 384 * p.val) (n' := 256) (m' := CC p) hoff ⟨by omega, by omega⟩
    (fun j => by
      have h0 : (j 0).val < 256 := (j 0).isLt
      have h1 : (j 1).val < CC p := (j 1).isLt
      rw [if_pos (by omega)]
      unfold ov gV
      rw [show (384 * p.val + (j 1).val) / 384 = p.val from by omega, show (384 * p.val + (j 1).val) % 384 = (j 1).val from by omega,
        show Fin.ofNat 3 p.val = p from Fin.ext (Nat.mod_eq_of_lt p.isLt)])
    (fun i j h1 h2 h3 h4 => if_neg (by omega))) $$ H
  iintro H
  iapply Hk
  iexists _
  isplitr; rotate_left
  · iexact H
  · ipureintro
    intro i j h1 h2 h3
    by_cases hj : 256 * g.val ≤ i ∧ i < 256 * g.val + 256 ∧ 384 * p.val ≤ j ∧ j < 384 * p.val + CC p
    · exact if_pos hj
    · exact (if_neg hj).trans (hu i j h1 h2 (by
        have h5 := p.isLt
        rcases Nat.lt_or_ge p.val 2 with h6 | h6
        · have := hC3 h6
          omega
        · have := hC4 (by omega)
          omega))

/-- What is stored as a group's rows of the partial sums. -/
theorem part_at (x : ℕ) (hx : x < 256) :
    (256 * g.val + x) / 256 = g.val ∧ (256 * g.val + x) % 256 = x := by omega
theorem part0 (pay : Shape.Idx ⟨2, ![256, 384]⟩ → Elt F .bf16)
    (h : pay = k0_pay21 (box (I c).attn (256 * g.val) 0 256 1024) (box (I c).wo 0 0 1024 384)) (x : Shape.Idx ⟨2, ![256, 384]⟩) :
    pay x = PP I c 0 (256 * g.val + (x 0).val) (x 1).val := by
  have h0 : (x 0).val < 256 := (x 0).isLt
  subst h
  show _ = at2 (A := 256) (B := 384) (k0_pay21 (box (I c).attn (256 * (_ / 256)) 0 256 1024) (box (I c).wo 0 0 1024 384)) (_ % 256) _
  rw [(part_at g _ h0).1, (part_at g _ h0).2]
  exact (at2_of (A := 256) (B := 384) _ x rfl rfl).symm
theorem part1 (pay : Shape.Idx ⟨2, ![256, 384]⟩ → Elt F .bf16)
    (h : pay = k0_pay21 (box (I c).attn (256 * g.val) 0 256 1024) (box (I c).wo 0 384 1024 384)) (x : Shape.Idx ⟨2, ![256, 384]⟩) :
    pay x = PP I c 1 (256 * g.val + (x 0).val) (x 1).val := by
  have h0 : (x 0).val < 256 := (x 0).isLt
  subst h
  show _ = at2 (A := 256) (B := 384) (k0_pay21 (box (I c).attn (256 * (_ / 256)) 0 256 1024) (box (I c).wo 0 384 1024 384)) (_ % 256) _
  rw [(part_at g _ h0).1, (part_at g _ h0).2]
  exact (at2_of (A := 256) (B := 384) _ x rfl rfl).symm
theorem part2 (pay : Shape.Idx ⟨2, ![256, 256]⟩ → Elt F .bf16)
    (h : pay = k0_pay23 (box (I c).attn (256 * g.val) 0 256 1024) (box (I c).wo 0 768 1024 256)) (x : Shape.Idx ⟨2, ![256, 256]⟩) :
    pay x = PP I c 2 (256 * g.val + (x 0).val) (x 1).val := by
  have h0 : (x 0).val < 256 := (x 0).isLt
  subst h
  show _ = at2 (A := 256) (B := 256) (k0_pay23 (box (I c).attn (256 * (_ / 256)) 0 256 1024) (box (I c).wo 0 768 1024 256)) (_ % 256) _
  rw [(part_at g _ h0).1, (part_at g _ h0).2]
  exact (at2_of (A := 256) (B := 256) _ x rfl rfl).symm
end
end

end Cert.TreeProof
-- ==== Proof.Offs.lean ====
module

public import proofs.«01_k».proof.Proof.Vals

/-! # Where the copies' rows lie, and which device is across -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (c : Dev nD)
theorem off1_128_0 : k0_off1 c 128#32 0#32 = ![256 * (0 : Fin 4).val + snt c 0 (0 : Fin 3).val, 0] := by revert c; decide +kernel
theorem off2_128_0 : k0_off2 c 128#32 0#32 = ![256 * (0 : Fin 4).val + snt c 1 (0 : Fin 3).val, 0] := by revert c; decide +kernel
theorem off3_128_0 : k0_off3 c 128#32 0#32 = ![256 * (0 : Fin 4).val + snt c 2 (0 : Fin 3).val, 0] := by revert c; decide +kernel
theorem off1_384_256 : k0_off1 c 384#32 256#32 = ![256 * (1 : Fin 4).val + snt c 0 (0 : Fin 3).val, 0] := by revert c; decide +kernel
theorem off2_384_256 : k0_off2 c 384#32 256#32 = ![256 * (1 : Fin 4).val + snt c 1 (0 : Fin 3).val, 0] := by revert c; decide +kernel
theorem off3_384_256 : k0_off3 c 384#32 256#32 = ![256 * (1 : Fin 4).val + snt c 2 (0 : Fin 3).val, 0] := by revert c; decide +kernel
theorem off1_640_512 : k0_off1 c 640#32 512#32 = ![256 * (2 : Fin 4).val + snt c 0 (0 : Fin 3).val, 0] := by revert c; decide +kernel
theorem off2_640_512 : k0_off2 c 640#32 512#32 = ![256 * (2 : Fin 4).val + snt c 1 (0 : Fin 3).val, 0] := by revert c; decide +kernel
theorem off3_640_512 : k0_off3 c 640#32 512#32 = ![256 * (2 : Fin 4).val + snt c 2 (0 : Fin 3).val, 0] := by revert c; decide +kernel
theorem off1_896_768 : k0_off1 c 896#32 768#32 = ![256 * (3 : Fin 4).val + snt c 0 (0 : Fin 3).val, 0] := by revert c; decide +kernel
theorem off2_896_768 : k0_off2 c 896#32 768#32 = ![256 * (3 : Fin 4).val + snt c 1 (0 : Fin 3).val, 0] := by revert c; decide +kernel
theorem off3_896_768 : k0_off3 c 896#32 768#32 = ![256 * (3 : Fin 4).val + snt c 2 (0 : Fin 3).val, 0] := by revert c; decide +kernel
theorem off4_0_128 : k0_off4 c 0#32 128#32 = ![256 * (0 : Fin 4).val + keep c 0 ((0 : Fin 3).val + 1), 0] := by revert c; decide +kernel
theorem off5_0_128 : k0_off5 c 0#32 128#32 = ![256 * (0 : Fin 4).val + keep c 1 ((0 : Fin 3).val + 1), 0] := by revert c; decide +kernel
theorem off6_0_128 : k0_off6 c 0#32 128#32 = ![256 * (0 : Fin 4).val + keep c 2 ((0 : Fin 3).val + 1), 0] := by revert c; decide +kernel
theorem off7_0_128 : k0_off7 c 0#32 128#32 = ![256 * (0 : Fin 4).val + snt c 0 (1 : Fin 3).val, 0] := by revert c; decide +kernel
theorem off8_0_128 : k0_off8 c 0#32 128#32 = ![256 * (0 : Fin 4).val + snt c 1 (1 : Fin 3).val, 0] := by revert c; decide +kernel
theorem off9_0_128 : k0_off9 c 0#32 128#32 = ![256 * (0 : Fin 4).val + snt c 2 (1 : Fin 3).val, 0] := by revert c; decide +kernel
theorem off4_256_384 : k0_off4 c 256#32 384#32 = ![256 * (1 : Fin 4).val + keep c 0 ((0 : Fin 3).val + 1), 0] := by revert c; decide +kernel
theorem off5_256_384 : k0_off5 c 256#32 384#32 = ![256 * (1 : Fin 4).val + keep c 1 ((0 : Fin 3).val + 1), 0] := by revert c; decide +kernel
theorem off6_256_384 : k0_off6 c 256#32 384#32 = ![256 * (1 : Fin 4).val + keep c 2 ((0 : Fin 3).val + 1), 0] := by revert c; decide +kernel
theorem off7_256_384 : k0_off7 c 256#32 384#32 = ![256 * (1 : Fin 4).val + snt c 0 (1 : Fin 3).val, 0] := by revert c; decide +kernel
theorem off8_256_384 : k0_off8 c 256#32 384#32 = ![256 * (1 : Fin 4).val + snt c 1 (1 : Fin 3).val, 0] := by revert c; decide +kernel
theorem off9_256_384 : k0_off9 c 256#32 384#32 = ![256 * (1 : Fin 4).val + snt c 2 (1 : Fin 3).val, 0] := by revert c; decide +kernel
theorem off4_512_640 : k0_off4 c 512#32 640#32 = ![256 * (2 : Fin 4).val + keep c 0 ((0 : Fin 3).val + 1), 0] := by revert c; decide +kernel
theorem off5_512_640 : k0_off5 c 512#32 640#32 = ![256 * (2 : Fin 4).val + keep c 1 ((0 : Fin 3).val + 1), 0] := by revert c; decide +kernel
theorem off6_512_640 : k0_off6 c 512#32 640#32 = ![256 * (2 : Fin 4).val + keep c 2 ((0 : Fin 3).val + 1), 0] := by revert c; decide +kernel
theorem off7_512_640 : k0_off7 c 512#32 640#32 = ![256 * (2 : Fin 4).val + snt c 0 (1 : Fin 3).val, 0] := by revert c; decide +kernel
theorem off8_512_640 : k0_off8 c 512#32 640#32 = ![256 * (2 : Fin 4).val + snt c 1 (1 : Fin 3).val, 0] := by revert c; decide +kernel
theorem off9_512_640 : k0_off9 c 512#32 640#32 = ![256 * (2 : Fin 4).val + snt c 2 (1 : Fin 3).val, 0] := by revert c; decide +kernel
theorem off4_768_896 : k0_off4 c 768#32 896#32 = ![256 * (3 : Fin 4).val + keep c 0 ((0 : Fin 3).val + 1), 0] := by revert c; decide +kernel
theorem off5_768_896 : k0_off5 c 768#32 896#32 = ![256 * (3 : Fin 4).val + keep c 1 ((0 : Fin 3).val + 1), 0] := by revert c; decide +kernel
theorem off6_768_896 : k0_off6 c 768#32 896#32 = ![256 * (3 : Fin 4).val + keep c 2 ((0 : Fin 3).val + 1), 0] := by revert c; decide +kernel
theorem off7_768_896 : k0_off7 c 768#32 896#32 = ![256 * (3 : Fin 4).val + snt c 0 (1 : Fin 3).val, 0] := by revert c; decide +kernel
theorem off8_768_896 : k0_off8 c 768#32 896#32 = ![256 * (3 : Fin 4).val + snt c 1 (1 : Fin 3).val, 0] := by revert c; decide +kernel
theorem off9_768_896 : k0_off9 c 768#32 896#32 = ![256 * (3 : Fin 4).val + snt c 2 (1 : Fin 3).val, 0] := by revert c; decide +kernel
theorem off10_0_128 : k0_off10 c 0#32 128#32 = ![256 * (0 : Fin 4).val + keep c 0 ((1 : Fin 3).val + 1), 0] := by revert c; decide +kernel
theorem off11_0_128 : k0_off11 c 0#32 128#32 = ![256 * (0 : Fin 4).val + keep c 1 ((1 : Fin 3).val + 1), 0] := by revert c; decide +kernel
theorem off12_0_128 : k0_off12 c 0#32 128#32 = ![256 * (0 : Fin 4).val + keep c 2 ((1 : Fin 3).val + 1), 0] := by revert c; decide +kernel
theorem off13_0_128 : k0_off13 c 0#32 128#32 = ![256 * (0 : Fin 4).val + snt c 0 (2 : Fin 3).val, 0] := by revert c; decide +kernel
theorem off14_0_128 : k0_off14 c 0#32 128#32 = ![256 * (0 : Fin 4).val + snt c 1 (2 : Fin 3).val, 0] := by revert c; decide +kernel
theorem off15_0_128 : k0_off15 c 0#32 128#32 = ![256 * (0 : Fin 4).val + snt c 2 (2 : Fin 3).val, 0] := by revert c; decide +kernel
theorem off10_256_384 : k0_off10 c 256#32 384#32 = ![256 * (1 : Fin 4).val + keep c 0 ((1 : Fin 3).val + 1), 0] := by revert c; decide +kernel
theorem off11_256_384 : k0_off11 c 256#32 384#32 = ![256 * (1 : Fin 4).val + keep c 1 ((1 : Fin 3).val + 1), 0] := by revert c; decide +kernel
theorem off12_256_384 : k0_off12 c 256#32 384#32 = ![256 * (1 : Fin 4).val + keep c 2 ((1 : Fin 3).val + 1), 0] := by revert c; decide +kernel
theorem off13_256_384 : k0_off13 c 256#32 384#32 = ![256 * (1 : Fin 4).val + snt c 0 (2 : Fin 3).val, 0] := by revert c; decide +kernel
theorem off14_256_384 : k0_off14 c 256#32 384#32 = ![256 * (1 : Fin 4).val + snt c 1 (2 : Fin 3).val, 0] := by revert c; decide +kernel
theorem off15_256_384 : k0_off15 c 256#32 384#32 = ![256 * (1 : Fin 4).val + snt c 2 (2 : Fin 3).val, 0] := by revert c; decide +kernel
theorem off10_512_640 : k0_off10 c 512#32 640#32 = ![256 * (2 : Fin 4).val + keep c 0 ((1 : Fin 3).val + 1), 0] := by revert c; decide +kernel
theorem off11_512_640 : k0_off11 c 512#32 640#32 = ![256 * (2 : Fin 4).val + keep c 1 ((1 : Fin 3).val + 1), 0] := by revert c; decide +kernel
theorem off12_512_640 : k0_off12 c 512#32 640#32 = ![256 * (2 : Fin 4).val + keep c 2 ((1 : Fin 3).val + 1), 0] := by revert c; decide +kernel
theorem off13_512_640 : k0_off13 c 512#32 640#32 = ![256 * (2 : Fin 4).val + snt c 0 (2 : Fin 3).val, 0] := by revert c; decide +kernel
theorem off14_512_640 : k0_off14 c 512#32 640#32 = ![256 * (2 : Fin 4).val + snt c 1 (2 : Fin 3).val, 0] := by revert c; decide +kernel
theorem off15_512_640 : k0_off15 c 512#32 640#32 = ![256 * (2 : Fin 4).val + snt c 2 (2 : Fin 3).val, 0] := by revert c; decide +kernel
theorem off10_768_896 : k0_off10 c 768#32 896#32 = ![256 * (3 : Fin 4).val + keep c 0 ((1 : Fin 3).val + 1), 0] := by revert c; decide +kernel
theorem off11_768_896 : k0_off11 c 768#32 896#32 = ![256 * (3 : Fin 4).val + keep c 1 ((1 : Fin 3).val + 1), 0] := by revert c; decide +kernel
theorem off12_768_896 : k0_off12 c 768#32 896#32 = ![256 * (3 : Fin 4).val + keep c 2 ((1 : Fin 3).val + 1), 0] := by revert c; decide +kernel
theorem off13_768_896 : k0_off13 c 768#32 896#32 = ![256 * (3 : Fin 4).val + snt c 0 (2 : Fin 3).val, 0] := by revert c; decide +kernel
theorem off14_768_896 : k0_off14 c 768#32 896#32 = ![256 * (3 : Fin 4).val + snt c 1 (2 : Fin 3).val, 0] := by revert c; decide +kernel
theorem off15_768_896 : k0_off15 c 768#32 896#32 = ![256 * (3 : Fin 4).val + snt c 2 (2 : Fin 3).val, 0] := by revert c; decide +kernel
theorem off16_0_128 : k0_off16 c 0#32 128#32 = ![256 * (0 : Fin 4).val + keep c 0 ((2 : Fin 3).val + 1), 0] := by revert c; decide +kernel
theorem off17_0_128 : k0_off17 c 0#32 128#32 = ![256 * (0 : Fin 4).val + keep c 1 ((2 : Fin 3).val + 1), 0] := by revert c; decide +kernel
theorem off18_0_128 : k0_off18 c 0#32 128#32 = ![256 * (0 : Fin 4).val + keep c 2 ((2 : Fin 3).val + 1), 0] := by revert c; decide +kernel
theorem off19_0_128 : k0_off19 c 0#32 128#32 = ![256 * (0 : Fin 4).val + keep c 0 ((2 : Fin 3).val + 1), 0] := by revert c; decide +kernel
theorem off20_0_128 : k0_off20 c 0#32 128#32 = ![256 * (0 : Fin 4).val + keep c 1 ((2 : Fin 3).val + 1), 0] := by revert c; decide +kernel
theorem off21_0_128 : k0_off21 c 0#32 128#32 = ![256 * (0 : Fin 4).val + keep c 2 ((2 : Fin 3).val + 1), 0] := by revert c; decide +kernel
theorem off16_256_384 : k0_off16 c 256#32 384#32 = ![256 * (1 : Fin 4).val + keep c 0 ((2 : Fin 3).val + 1), 0] := by revert c; decide +kernel
theorem off17_256_384 : k0_off17 c 256#32 384#32 = ![256 * (1 : Fin 4).val + keep c 1 ((2 : Fin 3).val + 1), 0] := by revert c; decide +kernel
theorem off18_256_384 : k0_off18 c 256#32 384#32 = ![256 * (1 : Fin 4).val + keep c 2 ((2 : Fin 3).val + 1), 0] := by revert c; decide +kernel
theorem off19_256_384 : k0_off19 c 256#32 384#32 = ![256 * (1 : Fin 4).val + keep c 0 ((2 : Fin 3).val + 1), 0] := by revert c; decide +kernel
theorem off20_256_384 : k0_off20 c 256#32 384#32 = ![256 * (1 : Fin 4).val + keep c 1 ((2 : Fin 3).val + 1), 0] := by revert c; decide +kernel
theorem off21_256_384 : k0_off21 c 256#32 384#32 = ![256 * (1 : Fin 4).val + keep c 2 ((2 : Fin 3).val + 1), 0] := by revert c; decide +kernel
theorem off16_512_640 : k0_off16 c 512#32 640#32 = ![256 * (2 : Fin 4).val + keep c 0 ((2 : Fin 3).val + 1), 0] := by revert c; decide +kernel
theorem off17_512_640 : k0_off17 c 512#32 640#32 = ![256 * (2 : Fin 4).val + keep c 1 ((2 : Fin 3).val + 1), 0] := by revert c; decide +kernel
theorem off18_512_640 : k0_off18 c 512#32 640#32 = ![256 * (2 : Fin 4).val + keep c 2 ((2 : Fin 3).val + 1), 0] := by revert c; decide +kernel
theorem off19_512_640 : k0_off19 c 512#32 640#32 = ![256 * (2 : Fin 4).val + keep c 0 ((2 : Fin 3).val + 1), 0] := by revert c; decide +kernel
theorem off20_512_640 : k0_off20 c 512#32 640#32 = ![256 * (2 : Fin 4).val + keep c 1 ((2 : Fin 3).val + 1), 0] := by revert c; decide +kernel
theorem off21_512_640 : k0_off21 c 512#32 640#32 = ![256 * (2 : Fin 4).val + keep c 2 ((2 : Fin 3).val + 1), 0] := by revert c; decide +kernel
theorem off16_768_896 : k0_off16 c 768#32 896#32 = ![256 * (3 : Fin 4).val + keep c 0 ((2 : Fin 3).val + 1), 0] := by revert c; decide +kernel
theorem off17_768_896 : k0_off17 c 768#32 896#32 = ![256 * (3 : Fin 4).val + keep c 1 ((2 : Fin 3).val + 1), 0] := by revert c; decide +kernel
theorem off18_768_896 : k0_off18 c 768#32 896#32 = ![256 * (3 : Fin 4).val + keep c 2 ((2 : Fin 3).val + 1), 0] := by revert c; decide +kernel
theorem off19_768_896 : k0_off19 c 768#32 896#32 = ![256 * (3 : Fin 4).val + keep c 0 ((2 : Fin 3).val + 1), 0] := by revert c; decide +kernel
theorem off20_768_896 : k0_off20 c 768#32 896#32 = ![256 * (3 : Fin 4).val + keep c 1 ((2 : Fin 3).val + 1), 0] := by revert c; decide +kernel
theorem off21_768_896 : k0_off21 c 768#32 896#32 = ![256 * (3 : Fin 4).val + keep c 2 ((2 : Fin 3).val + 1), 0] := by revert c; decide +kernel
theorem off22_0_128 : k0_off22 c 0#32 128#32 = ![256 * (0 : Fin 4).val + keep c 0 ((1 : Fin 3).val + 1), 0] := by revert c; decide +kernel
theorem off23_0_128 : k0_off23 c 0#32 128#32 = ![256 * (0 : Fin 4).val + keep c 1 ((1 : Fin 3).val + 1), 0] := by revert c; decide +kernel
theorem off24_0_128 : k0_off24 c 0#32 128#32 = ![256 * (0 : Fin 4).val + keep c 2 ((1 : Fin 3).val + 1), 0] := by revert c; decide +kernel
theorem off22_256_384 : k0_off22 c 256#32 384#32 = ![256 * (1 : Fin 4).val + keep c 0 ((1 : Fin 3).val + 1), 0] := by revert c; decide +kernel
theorem off23_256_384 : k0_off23 c 256#32 384#32 = ![256 * (1 : Fin 4).val + keep c 1 ((1 : Fin 3).val + 1), 0] := by revert c; decide +kernel
theorem off24_256_384 : k0_off24 c 256#32 384#32 = ![256 * (1 : Fin 4).val + keep c 2 ((1 : Fin 3).val + 1), 0] := by revert c; decide +kernel
theorem off22_512_640 : k0_off22 c 512#32 640#32 = ![256 * (2 : Fin 4).val + keep c 0 ((1 : Fin 3).val + 1), 0] := by revert c; decide +kernel
theorem off23_512_640 : k0_off23 c 512#32 640#32 = ![256 * (2 : Fin 4).val + keep c 1 ((1 : Fin 3).val + 1), 0] := by revert c; decide +kernel
theorem off24_512_640 : k0_off24 c 512#32 640#32 = ![256 * (2 : Fin 4).val + keep c 2 ((1 : Fin 3).val + 1), 0] := by revert c; decide +kernel
theorem off22_768_896 : k0_off22 c 768#32 896#32 = ![256 * (3 : Fin 4).val + keep c 0 ((1 : Fin 3).val + 1), 0] := by revert c; decide +kernel
theorem off23_768_896 : k0_off23 c 768#32 896#32 = ![256 * (3 : Fin 4).val + keep c 1 ((1 : Fin 3).val + 1), 0] := by revert c; decide +kernel
theorem off24_768_896 : k0_off24 c 768#32 896#32 = ![256 * (3 : Fin 4).val + keep c 2 ((1 : Fin 3).val + 1), 0] := by revert c; decide +kernel
theorem off25_0_128 : k0_off25 c 0#32 128#32 = ![256 * (0 : Fin 4).val + keep c 0 ((0 : Fin 3).val + 1), 0] := by revert c; decide +kernel
theorem off26_0_128 : k0_off26 c 0#32 128#32 = ![256 * (0 : Fin 4).val + keep c 1 ((0 : Fin 3).val + 1), 0] := by revert c; decide +kernel
theorem off27_0_128 : k0_off27 c 0#32 128#32 = ![256 * (0 : Fin 4).val + keep c 2 ((0 : Fin 3).val + 1), 0] := by revert c; decide +kernel
theorem off25_256_384 : k0_off25 c 256#32 384#32 = ![256 * (1 : Fin 4).val + keep c 0 ((0 : Fin 3).val + 1), 0] := by revert c; decide +kernel
theorem off26_256_384 : k0_off26 c 256#32 384#32 = ![256 * (1 : Fin 4).val + keep c 1 ((0 : Fin 3).val + 1), 0] := by revert c; decide +kernel
theorem off27_256_384 : k0_off27 c 256#32 384#32 = ![256 * (1 : Fin 4).val + keep c 2 ((0 : Fin 3).val + 1), 0] := by revert c; decide +kernel
theorem off25_512_640 : k0_off25 c 512#32 640#32 = ![256 * (2 : Fin 4).val + keep c 0 ((0 : Fin 3).val + 1), 0] := by revert c; decide +kernel
theorem off26_512_640 : k0_off26 c 512#32 640#32 = ![256 * (2 : Fin 4).val + keep c 1 ((0 : Fin 3).val + 1), 0] := by revert c; decide +kernel
theorem off27_512_640 : k0_off27 c 512#32 640#32 = ![256 * (2 : Fin 4).val + keep c 2 ((0 : Fin 3).val + 1), 0] := by revert c; decide +kernel
theorem off25_768_896 : k0_off25 c 768#32 896#32 = ![256 * (3 : Fin 4).val + keep c 0 ((0 : Fin 3).val + 1), 0] := by revert c; decide +kernel
theorem off26_768_896 : k0_off26 c 768#32 896#32 = ![256 * (3 : Fin 4).val + keep c 1 ((0 : Fin 3).val + 1), 0] := by revert c; decide +kernel
theorem off27_768_896 : k0_off27 c 768#32 896#32 = ![256 * (3 : Fin 4).val + keep c 2 ((0 : Fin 3).val + 1), 0] := by revert c; decide +kernel
theorem dv4 : (⟨k0_dev4 c, k0_dev4_lt c⟩ : Dev nD) = mate c 0 (0 : Fin 3).val := by revert c; decide +kernel
theorem dv5 : (⟨k0_dev5 c, k0_dev5_lt c⟩ : Dev nD) = mate c 1 (0 : Fin 3).val := by revert c; decide +kernel
theorem dv6 : (⟨k0_dev6 c, k0_dev6_lt c⟩ : Dev nD) = mate c 2 (0 : Fin 3).val := by revert c; decide +kernel
theorem dv7 : (⟨k0_dev7 c, k0_dev7_lt c⟩ : Dev nD) = mate c 0 (0 : Fin 3).val := by revert c; decide +kernel
theorem dv8 : (⟨k0_dev8 c, k0_dev8_lt c⟩ : Dev nD) = mate c 1 (0 : Fin 3).val := by revert c; decide +kernel
theorem dv9 : (⟨k0_dev9 c, k0_dev9_lt c⟩ : Dev nD) = mate c 2 (0 : Fin 3).val := by revert c; decide +kernel
theorem dv10 : (⟨k0_dev10 c, k0_dev10_lt c⟩ : Dev nD) = mate c 0 (0 : Fin 3).val := by revert c; decide +kernel
theorem dv11 : (⟨k0_dev11 c, k0_dev11_lt c⟩ : Dev nD) = mate c 1 (0 : Fin 3).val := by revert c; decide +kernel
theorem dv12 : (⟨k0_dev12 c, k0_dev12_lt c⟩ : Dev nD) = mate c 2 (0 : Fin 3).val := by revert c; decide +kernel
theorem dv13 : (⟨k0_dev13 c, k0_dev13_lt c⟩ : Dev nD) = mate c 0 (0 : Fin 3).val := by revert c; decide +kernel
theorem dv14 : (⟨k0_dev14 c, k0_dev14_lt c⟩ : Dev nD) = mate c 1 (0 : Fin 3).val := by revert c; decide +kernel
theorem dv15 : (⟨k0_dev15 c, k0_dev15_lt c⟩ : Dev nD) = mate c 2 (0 : Fin 3).val := by revert c; decide +kernel
theorem dv16 : (⟨k0_dev16 c, k0_dev16_lt c⟩ : Dev nD) = mate c 0 (1 : Fin 3).val := by revert c; decide +kernel
theorem dv17 : (⟨k0_dev17 c, k0_dev17_lt c⟩ : Dev nD) = mate c 1 (1 : Fin 3).val := by revert c; decide +kernel
theorem dv18 : (⟨k0_dev18 c, k0_dev18_lt c⟩ : Dev nD) = mate c 2 (1 : Fin 3).val := by revert c; decide +kernel
theorem dv19 : (⟨k0_dev19 c, k0_dev19_lt c⟩ : Dev nD) = mate c 0 (1 : Fin 3).val := by revert c; decide +kernel
theorem dv20 : (⟨k0_dev20 c, k0_dev20_lt c⟩ : Dev nD) = mate c 1 (1 : Fin 3).val := by revert c; decide +kernel
theorem dv21 : (⟨k0_dev21 c, k0_dev21_lt c⟩ : Dev nD) = mate c 2 (1 : Fin 3).val := by revert c; decide +kernel
theorem dv22 : (⟨k0_dev22 c, k0_dev22_lt c⟩ : Dev nD) = mate c 0 (1 : Fin 3).val := by revert c; decide +kernel
theorem dv23 : (⟨k0_dev23 c, k0_dev23_lt c⟩ : Dev nD) = mate c 1 (1 : Fin 3).val := by revert c; decide +kernel
theorem dv24 : (⟨k0_dev24 c, k0_dev24_lt c⟩ : Dev nD) = mate c 2 (1 : Fin 3).val := by revert c; decide +kernel
theorem dv25 : (⟨k0_dev25 c, k0_dev25_lt c⟩ : Dev nD) = mate c 0 (1 : Fin 3).val := by revert c; decide +kernel
theorem dv26 : (⟨k0_dev26 c, k0_dev26_lt c⟩ : Dev nD) = mate c 1 (1 : Fin 3).val := by revert c; decide +kernel
theorem dv27 : (⟨k0_dev27 c, k0_dev27_lt c⟩ : Dev nD) = mate c 2 (1 : Fin 3).val := by revert c; decide +kernel
theorem dv28 : (⟨k0_dev28 c, k0_dev28_lt c⟩ : Dev nD) = mate c 0 (2 : Fin 3).val := by revert c; decide +kernel
theorem dv29 : (⟨k0_dev29 c, k0_dev29_lt c⟩ : Dev nD) = mate c 1 (2 : Fin 3).val := by revert c; decide +kernel
theorem dv30 : (⟨k0_dev30 c, k0_dev30_lt c⟩ : Dev nD) = mate c 2 (2 : Fin 3).val := by revert c; decide +kernel
theorem dv31 : (⟨k0_dev31 c, k0_dev31_lt c⟩ : Dev nD) = mate c 0 (2 : Fin 3).val := by revert c; decide +kernel
theorem dv32 : (⟨k0_dev32 c, k0_dev32_lt c⟩ : Dev nD) = mate c 1 (2 : Fin 3).val := by revert c; decide +kernel
theorem dv33 : (⟨k0_dev33 c, k0_dev33_lt c⟩ : Dev nD) = mate c 2 (2 : Fin 3).val := by revert c; decide +kernel
theorem dv34 : (⟨k0_dev34 c, k0_dev34_lt c⟩ : Dev nD) = mate c 0 (2 : Fin 3).val := by revert c; decide +kernel
theorem dv35 : (⟨k0_dev35 c, k0_dev35_lt c⟩ : Dev nD) = mate c 1 (2 : Fin 3).val := by revert c; decide +kernel
theorem dv36 : (⟨k0_dev36 c, k0_dev36_lt c⟩ : Dev nD) = mate c 2 (2 : Fin 3).val := by revert c; decide +kernel
theorem dv37 : (⟨k0_dev37 c, k0_dev37_lt c⟩ : Dev nD) = mate c 0 (2 : Fin 3).val := by revert c; decide +kernel
theorem dv38 : (⟨k0_dev38 c, k0_dev38_lt c⟩ : Dev nD) = mate c 1 (2 : Fin 3).val := by revert c; decide +kernel
theorem dv39 : (⟨k0_dev39 c, k0_dev39_lt c⟩ : Dev nD) = mate c 2 (2 : Fin 3).val := by revert c; decide +kernel
theorem dv40 : (⟨k0_dev40 c, k0_dev40_lt c⟩ : Dev nD) = mate c 0 (2 : Fin 3).val := by revert c; decide +kernel
theorem dv41 : (⟨k0_dev41 c, k0_dev41_lt c⟩ : Dev nD) = mate c 1 (2 : Fin 3).val := by revert c; decide +kernel
theorem dv42 : (⟨k0_dev42 c, k0_dev42_lt c⟩ : Dev nD) = mate c 2 (2 : Fin 3).val := by revert c; decide +kernel
theorem dv43 : (⟨k0_dev43 c, k0_dev43_lt c⟩ : Dev nD) = mate c 0 (2 : Fin 3).val := by revert c; decide +kernel
theorem dv44 : (⟨k0_dev44 c, k0_dev44_lt c⟩ : Dev nD) = mate c 1 (2 : Fin 3).val := by revert c; decide +kernel
theorem dv45 : (⟨k0_dev45 c, k0_dev45_lt c⟩ : Dev nD) = mate c 2 (2 : Fin 3).val := by revert c; decide +kernel
theorem dv46 : (⟨k0_dev46 c, k0_dev46_lt c⟩ : Dev nD) = mate c 0 (2 : Fin 3).val := by revert c; decide +kernel
theorem dv47 : (⟨k0_dev47 c, k0_dev47_lt c⟩ : Dev nD) = mate c 1 (2 : Fin 3).val := by revert c; decide +kernel
theorem dv48 : (⟨k0_dev48 c, k0_dev48_lt c⟩ : Dev nD) = mate c 2 (2 : Fin 3).val := by revert c; decide +kernel
theorem dv49 : (⟨k0_dev49 c, k0_dev49_lt c⟩ : Dev nD) = mate c 0 (2 : Fin 3).val := by revert c; decide +kernel
theorem dv50 : (⟨k0_dev50 c, k0_dev50_lt c⟩ : Dev nD) = mate c 1 (2 : Fin 3).val := by revert c; decide +kernel
theorem dv51 : (⟨k0_dev51 c, k0_dev51_lt c⟩ : Dev nD) = mate c 2 (2 : Fin 3).val := by revert c; decide +kernel
theorem dv52 : (⟨k0_dev52 c, k0_dev52_lt c⟩ : Dev nD) = mate c 0 (1 : Fin 3).val := by revert c; decide +kernel
theorem dv53 : (⟨k0_dev53 c, k0_dev53_lt c⟩ : Dev nD) = mate c 1 (1 : Fin 3).val := by revert c; decide +kernel
theorem dv54 : (⟨k0_dev54 c, k0_dev54_lt c⟩ : Dev nD) = mate c 2 (1 : Fin 3).val := by revert c; decide +kernel
theorem dv55 : (⟨k0_dev55 c, k0_dev55_lt c⟩ : Dev nD) = mate c 0 (1 : Fin 3).val := by revert c; decide +kernel
theorem dv56 : (⟨k0_dev56 c, k0_dev56_lt c⟩ : Dev nD) = mate c 1 (1 : Fin 3).val := by revert c; decide +kernel
theorem dv57 : (⟨k0_dev57 c, k0_dev57_lt c⟩ : Dev nD) = mate c 2 (1 : Fin 3).val := by revert c; decide +kernel
theorem dv58 : (⟨k0_dev58 c, k0_dev58_lt c⟩ : Dev nD) = mate c 0 (1 : Fin 3).val := by revert c; decide +kernel
theorem dv59 : (⟨k0_dev59 c, k0_dev59_lt c⟩ : Dev nD) = mate c 1 (1 : Fin 3).val := by revert c; decide +kernel
theorem dv60 : (⟨k0_dev60 c, k0_dev60_lt c⟩ : Dev nD) = mate c 2 (1 : Fin 3).val := by revert c; decide +kernel
theorem dv61 : (⟨k0_dev61 c, k0_dev61_lt c⟩ : Dev nD) = mate c 0 (1 : Fin 3).val := by revert c; decide +kernel
theorem dv62 : (⟨k0_dev62 c, k0_dev62_lt c⟩ : Dev nD) = mate c 1 (1 : Fin 3).val := by revert c; decide +kernel
theorem dv63 : (⟨k0_dev63 c, k0_dev63_lt c⟩ : Dev nD) = mate c 2 (1 : Fin 3).val := by revert c; decide +kernel
theorem dv64 : (⟨k0_dev64 c, k0_dev64_lt c⟩ : Dev nD) = mate c 0 (0 : Fin 3).val := by revert c; decide +kernel
theorem dv65 : (⟨k0_dev65 c, k0_dev65_lt c⟩ : Dev nD) = mate c 1 (0 : Fin 3).val := by revert c; decide +kernel
theorem dv66 : (⟨k0_dev66 c, k0_dev66_lt c⟩ : Dev nD) = mate c 2 (0 : Fin 3).val := by revert c; decide +kernel
theorem dv67 : (⟨k0_dev67 c, k0_dev67_lt c⟩ : Dev nD) = mate c 0 (0 : Fin 3).val := by revert c; decide +kernel
theorem dv68 : (⟨k0_dev68 c, k0_dev68_lt c⟩ : Dev nD) = mate c 1 (0 : Fin 3).val := by revert c; decide +kernel
theorem dv69 : (⟨k0_dev69 c, k0_dev69_lt c⟩ : Dev nD) = mate c 2 (0 : Fin 3).val := by revert c; decide +kernel
theorem dv70 : (⟨k0_dev70 c, k0_dev70_lt c⟩ : Dev nD) = mate c 0 (0 : Fin 3).val := by revert c; decide +kernel
theorem dv71 : (⟨k0_dev71 c, k0_dev71_lt c⟩ : Dev nD) = mate c 1 (0 : Fin 3).val := by revert c; decide +kernel
theorem dv72 : (⟨k0_dev72 c, k0_dev72_lt c⟩ : Dev nD) = mate c 2 (0 : Fin 3).val := by revert c; decide +kernel
theorem dv73 : (⟨k0_dev73 c, k0_dev73_lt c⟩ : Dev nD) = mate c 0 (0 : Fin 3).val := by revert c; decide +kernel
theorem dv74 : (⟨k0_dev74 c, k0_dev74_lt c⟩ : Dev nD) = mate c 1 (0 : Fin 3).val := by revert c; decide +kernel
theorem dv75 : (⟨k0_dev75 c, k0_dev75_lt c⟩ : Dev nD) = mate c 2 (0 : Fin 3).val := by revert c; decide +kernel

end Cert.TreeProof
-- ==== Proof.Parts1.lean ====
module

public import proofs.«01_k».proof.Proof.Offs
public import Idealize.ShloMosaic.Lib.Pipeline.Value

/-! # The body, statement groups 2 to 16 -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 1600000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

theorem part_2 {Q : (Σ' (v44 : Vec F S256x1024 .f32) (v45 : Vec F S256x256 .f32) (v46 : Vec F S256x256 .f32) (v49 : FVec F S256x128 .f32) (v57 : FVec F S256x256 .f32), FVec F S256 .f32) → sProp 𝕄} (v25 : FVec F S1024x1024 .f32) (h_v25 : v25 = (k0_pay1 (I c).x)) :
    iprop(Ctx (PP I) K ∗ rb c A1 0 1024 (I c).wq ∗ rbx c qM 0 1024 ∗ rb c A3 0 1024 (I c).wk ∗ rbx c kM 0 1024 ∗ rb c A4 0 1024 (I c).wv ∗ rbx c vM 0 1024)
      ⊢ iprop((∀ r, iprop(⌜r.1 = (box (I c).q (256 * (0 : Fin 4).val) 0 256 1024) ∧ r.2.1 = (box (I c).k (256 * (0 : Fin 4).val) 0 256 256) ∧ r.2.2.1 = (box (I c).v (256 * (0 : Fin 4).val) 0 256 256) ∧ r.2.2.2.1 = (k0_pay5 (box (I c).v (256 * (0 : Fin 4).val) 0 256 256)) ∧ r.2.2.2.2.1 = (k0_pay6 (box (I c).q (256 * (0 : Fin 4).val) 0 256 1024) (box (I c).k (256 * (0 : Fin 4).val) 0 256 256)) ∧ r.2.2.2.2.2 = (k0_pay7 (box (I c).q (256 * (0 : Fin 4).val) 0 256 1024) (box (I c).k (256 * (0 : Fin 4).val) 0 256 256))⌝ ∗ rb c A1 0 1024 (I c).wq ∗ rb c qM 0 1024 (I c).q ∗ rb c A3 0 1024 (I c).wk ∗ rb c kM 0 1024 (I c).k ∗ rb c A4 0 1024 (I c).wv ∗ rb c vM 0 1024 (I c).v) -∗ Q r)
        -∗ wp frame (wpE (defs₀ (F := F)) 𝒱₀ (c : Thread nD τ) none) Set.univ (k0_part2 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v25) Q) := by
  subst h_v25
  rw [k0_part2_eq_skeleton]
  simp only [k0_part2_skel, Prog.lift, Prog.bind_op, Prog.bind_ret, Prog.pure_eq_ret]
  iintro ⟨#HC, Hw1, Hq, Hw3, Hkk, Hw4, Hv⟩ HK
  iapply (load_box c 0 0 1024 1024 rfl (by decide)) $$ Hw1
  iintro Hw1
  iapply (wp_load_rbx (M := qM) (c := c) (a := 0) (n := 1024) (a' := 0) (n' := 1024) rfl (by decide)) $$ Hq
  iintro %v29 Hq
  iapply (store_all c (M := qM) (v := (I c).q) rfl rfl) $$ Hq
  iintro Hq
  iapply (load_box c 0 0 1024 256 rfl (by decide)) $$ Hw3
  iintro Hw3
  iapply (wp_load_rbx (M := kM) (c := c) (a := 0) (n := 1024) (a' := 0) (n' := 1024) rfl (by decide)) $$ Hkk
  iintro %v35 Hkk
  iapply (store_all c (M := kM) (v := (I c).k) rfl rfl) $$ Hkk
  iintro Hkk
  iapply (load_box c 0 0 1024 256 rfl (by decide)) $$ Hw4
  iintro Hw4
  iapply (wp_load_rbx (M := vM) (c := c) (a := 0) (n := 1024) (a' := 0) (n' := 1024) rfl (by decide)) $$ Hv
  iintro %v41 Hv
  iapply (store_all c (M := vM) (v := (I c).v) rfl rfl) $$ Hv
  iintro Hv
  iapply (load_box c (256 * (0 : Fin 4).val) 0 256 1024 (M := qM) rfl (by decide)) $$ Hq
  iintro Hq
  iapply (load_box c (256 * (0 : Fin 4).val) 0 256 256 (M := kM) rfl (by decide)) $$ Hkk
  iintro Hkk
  iapply (load_box c (256 * (0 : Fin 4).val) 0 256 256 (M := vM) rfl (by decide)) $$ Hv
  iintro Hv
  iapply (le_wp_ret _)
  iapply HK
  isplitr
  · ipureintro; first | (simp only [and_self]; done) | exact ⟨rfl, rfl, rfl, rfl, rfl, rfl⟩
  isplitl [Hw1]; · iexact Hw1
  isplitl [Hq]; · iexact Hq
  isplitl [Hw3]; · iexact Hw3
  isplitl [Hkk]; · iexact Hkk
  isplitl [Hw4]; · iexact Hw4
  iexact Hv

theorem part_3 {Q : (FVec F S256x128 .f32) → sProp 𝕄} (v44 : Vec F S256x1024 .f32) (v45 : Vec F S256x256 .f32) (v46 : Vec F S256x256 .f32) (v49 : FVec F S256x128 .f32) (v57 : FVec F S256x256 .f32) (v58 : FVec F S256 .f32) (h_v44 : v44 = (box (I c).q (256 * (0 : Fin 4).val) 0 256 1024)) (h_v45 : v45 = (box (I c).k (256 * (0 : Fin 4).val) 0 256 256)) (h_v46 : v46 = (box (I c).v (256 * (0 : Fin 4).val) 0 256 256)) (h_v49 : v49 = (k0_pay5 (box (I c).v (256 * (0 : Fin 4).val) 0 256 256))) (h_v57 : v57 = (k0_pay6 (box (I c).q (256 * (0 : Fin 4).val) 0 256 1024) (box (I c).k (256 * (0 : Fin 4).val) 0 256 256))) (h_v58 : v58 = (k0_pay7 (box (I c).q (256 * (0 : Fin 4).val) 0 256 1024) (box (I c).k (256 * (0 : Fin 4).val) 0 256 256))) :
    iprop(Ctx (PP I) K ∗ At I c 0 0)
      ⊢ iprop((∀ r, iprop(⌜r = (k0_pay10 (box (I c).q (256 * (0 : Fin 4).val) 0 256 1024) (box (I c).k (256 * (0 : Fin 4).val) 0 256 256) (box (I c).v (256 * (0 : Fin 4).val) 0 256 256))⌝ ∗ At I c 0 2) -∗ Q r)
        -∗ wp frame (wpE (defs₀ (F := F)) 𝒱₀ (c : Thread nD τ) none) Set.univ (k0_part3 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v44 v45 v46 v49 v57 v58) Q) := by
  subst h_v44 h_v45 h_v46 h_v49 h_v57 h_v58
  rw [k0_part3_eq_skeleton]
  simp only [k0_part3_skel, Prog.lift, Prog.bind_op, Prog.bind_ret, Prog.pure_eq_ret]
  iintro ⟨#HC, Ha_0⟩ HK
  iapply (load_at I c (0 : Fin 4) (0 : Fin 8) rfl) $$ Ha_0
  iintro %v63 Ha_0
  iapply (store_at I c (0 : Fin 4) (0 : Fin 8) (h0 := 0) (h1 := 1) rfl rfl rfl rfl) $$ Ha_0
  iintro Ha_0
  iapply (load_at I c (0 : Fin 4) (1 : Fin 8) rfl) $$ Ha_0
  iintro %v82 Ha_0
  iapply (store_at I c (0 : Fin 4) (1 : Fin 8) (h0 := 1) (h1 := 2) rfl rfl rfl rfl) $$ Ha_0
  iintro Ha_0
  iapply (le_wp_ret _)
  iapply HK
  isplitr
  · ipureintro; first | (simp only [and_self]; done) | exact rfl
  iexact Ha_0

theorem part_4 {Q : (FVec F S256x128 .f32) → sProp 𝕄} (v44 : Vec F S256x1024 .f32) (v45 : Vec F S256x256 .f32) (v46 : Vec F S256x256 .f32) (v100 : FVec F S256x128 .f32) (h_v44 : v44 = (box (I c).q (256 * (0 : Fin 4).val) 0 256 1024)) (h_v45 : v45 = (box (I c).k (256 * (0 : Fin 4).val) 0 256 256)) (h_v46 : v46 = (box (I c).v (256 * (0 : Fin 4).val) 0 256 256)) (h_v100 : v100 = (k0_pay10 (box (I c).q (256 * (0 : Fin 4).val) 0 256 1024) (box (I c).k (256 * (0 : Fin 4).val) 0 256 256) (box (I c).v (256 * (0 : Fin 4).val) 0 256 256))) :
    iprop(Ctx (PP I) K ∗ At I c 0 2)
      ⊢ iprop((∀ r, iprop(⌜r = (k0_pay14 (box (I c).q (256 * (0 : Fin 4).val) 0 256 1024))⌝ ∗ At I c 0 5) -∗ Q r)
        -∗ wp frame (wpE (defs₀ (F := F)) 𝒱₀ (c : Thread nD τ) none) Set.univ (k0_part4 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v44 v45 v46 v100) Q) := by
  subst h_v44 h_v45 h_v46 h_v100
  rw [k0_part4_eq_skeleton]
  simp only [k0_part4_skel, Prog.lift, Prog.bind_op, Prog.bind_ret, Prog.pure_eq_ret]
  iintro ⟨#HC, Ha_0⟩ HK
  iapply (load_at I c (0 : Fin 4) (2 : Fin 8) rfl) $$ Ha_0
  iintro %v101 Ha_0
  iapply (store_at I c (0 : Fin 4) (2 : Fin 8) (h0 := 2) (h1 := 3) rfl rfl rfl rfl) $$ Ha_0
  iintro Ha_0
  iapply (load_at I c (0 : Fin 4) (3 : Fin 8) rfl) $$ Ha_0
  iintro %v120 Ha_0
  iapply (store_at I c (0 : Fin 4) (3 : Fin 8) (h0 := 3) (h1 := 4) rfl rfl rfl rfl) $$ Ha_0
  iintro Ha_0
  iapply (load_at I c (0 : Fin 4) (4 : Fin 8) rfl) $$ Ha_0
  iintro %v139 Ha_0
  iapply (store_at I c (0 : Fin 4) (4 : Fin 8) (h0 := 4) (h1 := 5) rfl rfl rfl rfl) $$ Ha_0
  iintro Ha_0
  iapply (le_wp_ret _)
  iapply HK
  isplitr
  · ipureintro; first | (simp only [and_self]; done) | exact rfl
  iexact Ha_0

theorem part_5 {Q : (Σ' (v182 : FVec F S256x128 .f32) (v183 : FVec F S256x256 .f32), FVec F S256x256 .f32) → sProp 𝕄} (v44 : Vec F S256x1024 .f32) (v45 : Vec F S256x256 .f32) (v46 : Vec F S256x256 .f32) (v142 : FVec F S256x128 .f32) (h_v44 : v44 = (box (I c).q (256 * (0 : Fin 4).val) 0 256 1024)) (h_v45 : v45 = (box (I c).k (256 * (0 : Fin 4).val) 0 256 256)) (h_v46 : v46 = (box (I c).v (256 * (0 : Fin 4).val) 0 256 256)) (h_v142 : v142 = (k0_pay14 (box (I c).q (256 * (0 : Fin 4).val) 0 256 1024))) :
    iprop(Ctx (PP I) K ∗ At I c 0 5)
      ⊢ iprop((∀ r, iprop(⌜r.1 = (k0_pay17 (box (I c).v (256 * (0 : Fin 4).val) 0 256 256)) ∧ r.2.1 = (k0_pay18 (box (I c).q (256 * (0 : Fin 4).val) 0 256 1024) (box (I c).k (256 * (0 : Fin 4).val) 0 256 256)) ∧ r.2.2 = (k0_pay19 (F := F))⌝ ∗ At I c 0 7) -∗ Q r)
        -∗ wp frame (wpE (defs₀ (F := F)) 𝒱₀ (c : Thread nD τ) none) Set.univ (k0_part5 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v44 v45 v46 v142) Q) := by
  subst h_v44 h_v45 h_v46 h_v142
  rw [k0_part5_eq_skeleton]
  simp only [k0_part5_skel, Prog.lift, Prog.bind_op, Prog.bind_ret, Prog.pure_eq_ret]
  iintro ⟨#HC, Ha_0⟩ HK
  iapply (load_at I c (0 : Fin 4) (5 : Fin 8) rfl) $$ Ha_0
  iintro %v158 Ha_0
  iapply (store_at I c (0 : Fin 4) (5 : Fin 8) (h0 := 5) (h1 := 6) rfl rfl rfl rfl) $$ Ha_0
  iintro Ha_0
  iapply (load_at I c (0 : Fin 4) (6 : Fin 8) rfl) $$ Ha_0
  iintro %v177 Ha_0
  iapply (store_at I c (0 : Fin 4) (6 : Fin 8) (h0 := 6) (h1 := 7) rfl rfl rfl rfl) $$ Ha_0
  iintro Ha_0
  iapply (le_wp_ret _)
  iapply HK
  isplitr
  · ipureintro; first | (simp only [and_self]; done) | exact ⟨rfl, rfl, rfl⟩
  iexact Ha_0

theorem part_6 {Q : (BitVec 32) → sProp 𝕄} (v3 : BitVec 32) (v9 : BitVec 1) (v182 : FVec F S256x128 .f32) (v183 : FVec F S256x256 .f32) (v184 : FVec F S256x256 .f32) (h_v182 : v182 = (k0_pay17 (box (I c).v (256 * (0 : Fin 4).val) 0 256 256))) (h_v183 : v183 = (k0_pay18 (box (I c).q (256 * (0 : Fin 4).val) 0 256 1024) (box (I c).k (256 * (0 : Fin 4).val) 0 256 256))) (h_v184 : v184 = (k0_pay19 (F := F))) :
    iprop(Ctx (PP I) K ∗ At I c 0 7 ∗ rb c A2 0 1024 (I c).wo ∗ pJ c 0 0 ∗ Comm c 0 0 0)
      ⊢ iprop((∀ r, iprop(At I c 0 8 ∗ rb c A2 0 1024 (I c).wo ∗ pK (PP I) c 0 0 1 0 ∗ Comm c 1 0 0) -∗ Q r)
        -∗ wp frame (wpE (defs₀ (F := F)) 𝒱₀ (c : Thread nD τ) none) Set.univ (k0_part6 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v9 v182 v183 v184) Q) := by
  subst h_v182 h_v183 h_v184
  rw [k0_part6_eq_skeleton]
  simp only [k0_part6_skel, Prog.lift, Prog.bind_op, Prog.bind_ret, Prog.pure_eq_ret]
  iintro ⟨#HC, Ha_0, Hw2, Hp_0_0, HM⟩ HK
  iapply (load_at I c (0 : Fin 4) (7 : Fin 8) rfl) $$ Ha_0
  iintro %v196 Ha_0
  iapply (store_at I c (0 : Fin 4) (7 : Fin 8) (h0 := 7) (h1 := 8) rfl rfl rfl rfl) $$ Ha_0
  iintro Ha_0
  iapply (load_at8 I c (0 : Fin 4) rfl) $$ Ha_0
  iintro Ha_0
  iapply (load_box c 0 0 1024 384 rfl (by decide)) $$ Hw2
  iintro Hw2
  iapply (load_p0 c (0 : Fin 4) (0 : Fin 3) rfl) $$ Hp_0_0
  iintro %v204 Hp_0_0
  iapply (store_p0 (PP I) c (0 : Fin 4) (0 : Fin 3) rfl (part0 I c (0 : Fin 4) _ rfl)) $$ Hp_0_0
  iintro Hp_0_0
  iapply (start_rs (PP I) K c (0 : Fin 3) (0 : Fin 4) (0 : Fin 3) (k0 := 0) (k1 := 1) rfl rfl (n := 0) (a := 0) (r := 0) rfl (by decide) (off1_128_0 c) rfl (dv4 c) rfl rfl) $$ [HM Hp_0_0]
  · isplitr; · iexact HC
    isplitl [HM]; · iexact HM
    iexact Hp_0_0
  iintro ⟨HM, Hp_0_0⟩
  iapply (le_wp_ret _)
  iapply HK
  isplitl [Ha_0]; · iexact Ha_0
  isplitl [Hw2]; · iexact Hw2
  isplitl [Hp_0_0]; · iexact Hp_0_0
  iexact HM

theorem part_7 {Q : (BitVec 32) → sProp 𝕄} (v4 : BitVec 32) (v12 : BitVec 1) (v15 : BitVec 1)  :
    iprop(Ctx (PP I) K ∗ At I c 0 8 ∗ rb c A2 0 1024 (I c).wo ∗ pJ c 0 1 ∗ Comm c 1 0 0 ∗ pJ c 0 2)
      ⊢ iprop((∀ r, iprop(At I c 0 8 ∗ rb c A2 0 1024 (I c).wo ∗ pK (PP I) c 0 1 1 0 ∗ Comm c 2 0 0 ∗ pK (PP I) c 0 2 0 0) -∗ Q r)
        -∗ wp frame (wpE (defs₀ (F := F)) 𝒱₀ (c : Thread nD τ) none) Set.univ (k0_part7 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v12 v15) Q) := by
  rw [k0_part7_eq_skeleton]
  simp only [k0_part7_skel, Prog.lift, Prog.bind_op, Prog.bind_ret, Prog.pure_eq_ret]
  iintro ⟨#HC, Ha_0, Hw2, Hp_0_1, HM, Hp_0_2⟩ HK
  iapply (load_at8 I c (0 : Fin 4) rfl) $$ Ha_0
  iintro Ha_0
  iapply (load_box c 0 384 1024 384 rfl (by decide)) $$ Hw2
  iintro Hw2
  iapply (load_p0 c (0 : Fin 4) (1 : Fin 3) rfl) $$ Hp_0_1
  iintro %v223 Hp_0_1
  iapply (store_p0 (PP I) c (0 : Fin 4) (1 : Fin 3) rfl (part1 I c (0 : Fin 4) _ rfl)) $$ Hp_0_1
  iintro Hp_0_1
  iapply (start_rs (PP I) K c (0 : Fin 3) (0 : Fin 4) (1 : Fin 3) (k0 := 0) (k1 := 1) rfl rfl (n := 1) (a := 0) (r := 0) rfl (by decide) (off2_128_0 c) rfl (dv5 c) rfl rfl) $$ [HM Hp_0_1]
  · isplitr; · iexact HC
    isplitl [HM]; · iexact HM
    iexact Hp_0_1
  iintro ⟨HM, Hp_0_1⟩
  iapply (load_at8 I c (0 : Fin 4) rfl) $$ Ha_0
  iintro Ha_0
  iapply (load_box c 0 768 1024 256 rfl (by decide)) $$ Hw2
  iintro Hw2
  iapply (load_p0 c (0 : Fin 4) (2 : Fin 3) rfl) $$ Hp_0_2
  iintro %v242 Hp_0_2
  iapply (store_p0 (PP I) c (0 : Fin 4) (2 : Fin 3) rfl (part2 I c (0 : Fin 4) _ rfl)) $$ Hp_0_2
  iintro Hp_0_2
  iapply (le_wp_ret _)
  iapply HK
  isplitl [Ha_0]; · iexact Ha_0
  isplitl [Hw2]; · iexact Hw2
  isplitl [Hp_0_1]; · iexact Hp_0_1
  isplitl [HM]; · iexact HM
  iexact Hp_0_2

theorem part_8 {Q : (Σ' (v255 : BitVec 32) (v256 : Vec F S256x1024 .f32) (v257 : Vec F S256x256 .f32) (v258 : Vec F S256x256 .f32) (v280 : FVec F S256x128 .f32) (v281 : FVec F S256x256 .f32), FVec F S256x256 .f32) → sProp 𝕄} (v5 : BitVec 32) (v15 : BitVec 1)  :
    iprop(Ctx (PP I) K ∗ Comm c 2 0 0 ∗ pK (PP I) c 0 2 0 0 ∗ rb c qM 0 1024 (I c).q ∗ rb c kM 0 1024 (I c).k ∗ rb c vM 0 1024 (I c).v ∗ At I c 1 0)
      ⊢ iprop((∀ r, iprop(⌜r.2.1 = (box (I c).q (256 * (1 : Fin 4).val) 0 256 1024) ∧ r.2.2.1 = (box (I c).k (256 * (1 : Fin 4).val) 0 256 256) ∧ r.2.2.2.1 = (box (I c).v (256 * (1 : Fin 4).val) 0 256 256) ∧ r.2.2.2.2.1 = (k0_pay25 (box (I c).v (256 * (1 : Fin 4).val) 0 256 256)) ∧ r.2.2.2.2.2.1 = (k0_pay26 (box (I c).q (256 * (1 : Fin 4).val) 0 256 1024) (box (I c).k (256 * (1 : Fin 4).val) 0 256 256)) ∧ r.2.2.2.2.2.2 = (k0_pay27 (F := F))⌝ ∗ Comm c 3 0 0 ∗ pK (PP I) c 0 2 1 0 ∗ rb c qM 0 1024 (I c).q ∗ rb c kM 0 1024 (I c).k ∗ rb c vM 0 1024 (I c).v ∗ At I c 1 1) -∗ Q r)
        -∗ wp frame (wpE (defs₀ (F := F)) 𝒱₀ (c : Thread nD τ) none) Set.univ (k0_part8 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v5 v15) Q) := by
  rw [k0_part8_eq_skeleton]
  simp only [k0_part8_skel, Prog.lift, Prog.bind_op, Prog.bind_ret, Prog.pure_eq_ret]
  iintro ⟨#HC, HM, Hp_0_2, Hq, Hkk, Hv, Ha_1⟩ HK
  iapply (start_rs (PP I) K c (0 : Fin 3) (0 : Fin 4) (2 : Fin 3) (k0 := 0) (k1 := 1) rfl rfl (n := 2) (a := 0) (r := 0) rfl (by decide) (off3_128_0 c) rfl (dv6 c) rfl rfl) $$ [HM Hp_0_2]
  · isplitr; · iexact HC
    isplitl [HM]; · iexact HM
    iexact Hp_0_2
  iintro ⟨HM, Hp_0_2⟩
  iapply (load_box c (256 * (1 : Fin 4).val) 0 256 1024 (M := qM) rfl (by decide)) $$ Hq
  iintro Hq
  iapply (load_box c (256 * (1 : Fin 4).val) 0 256 256 (M := kM) rfl (by decide)) $$ Hkk
  iintro Hkk
  iapply (load_box c (256 * (1 : Fin 4).val) 0 256 256 (M := vM) rfl (by decide)) $$ Hv
  iintro Hv
  iapply (load_at I c (1 : Fin 4) (0 : Fin 8) rfl) $$ Ha_1
  iintro %v275 Ha_1
  iapply (store_at I c (1 : Fin 4) (0 : Fin 8) (h0 := 0) (h1 := 1) rfl rfl rfl rfl) $$ Ha_1
  iintro Ha_1
  iapply (le_wp_ret _)
  iapply HK
  isplitr
  · ipureintro; first | (simp only [and_self]; done) | exact ⟨rfl, rfl, rfl, rfl, rfl, rfl⟩
  isplitl [HM]; · iexact HM
  isplitl [Hp_0_2]; · iexact Hp_0_2
  isplitl [Hq]; · iexact Hq
  isplitl [Hkk]; · iexact Hkk
  isplitl [Hv]; · iexact Hv
  iexact Ha_1

theorem part_9 {Q : (Σ' (v318 : FVec F S256x128 .f32), FVec F S256x256 .f32) → sProp 𝕄} (v256 : Vec F S256x1024 .f32) (v257 : Vec F S256x256 .f32) (v258 : Vec F S256x256 .f32) (v280 : FVec F S256x128 .f32) (v281 : FVec F S256x256 .f32) (v282 : FVec F S256x256 .f32) (h_v256 : v256 = (box (I c).q (256 * (1 : Fin 4).val) 0 256 1024)) (h_v257 : v257 = (box (I c).k (256 * (1 : Fin 4).val) 0 256 256)) (h_v258 : v258 = (box (I c).v (256 * (1 : Fin 4).val) 0 256 256)) (h_v280 : v280 = (k0_pay25 (box (I c).v (256 * (1 : Fin 4).val) 0 256 256))) (h_v281 : v281 = (k0_pay26 (box (I c).q (256 * (1 : Fin 4).val) 0 256 1024) (box (I c).k (256 * (1 : Fin 4).val) 0 256 256))) (h_v282 : v282 = (k0_pay27 (F := F))) :
    iprop(Ctx (PP I) K ∗ At I c 1 1)
      ⊢ iprop((∀ r, iprop(⌜r.1 = (k0_pay30 (box (I c).v (256 * (1 : Fin 4).val) 0 256 256)) ∧ r.2 = (k0_pay31 (box (I c).q (256 * (1 : Fin 4).val) 0 256 1024) (box (I c).k (256 * (1 : Fin 4).val) 0 256 256))⌝ ∗ At I c 1 3) -∗ Q r)
        -∗ wp frame (wpE (defs₀ (F := F)) 𝒱₀ (c : Thread nD τ) none) Set.univ (k0_part9 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v256 v257 v258 v280 v281 v282) Q) := by
  subst h_v256 h_v257 h_v258 h_v280 h_v281 h_v282
  rw [k0_part9_eq_skeleton]
  simp only [k0_part9_skel, Prog.lift, Prog.bind_op, Prog.bind_ret, Prog.pure_eq_ret]
  iintro ⟨#HC, Ha_1⟩ HK
  iapply (load_at I c (1 : Fin 4) (1 : Fin 8) rfl) $$ Ha_1
  iintro %v294 Ha_1
  iapply (store_at I c (1 : Fin 4) (1 : Fin 8) (h0 := 1) (h1 := 2) rfl rfl rfl rfl) $$ Ha_1
  iintro Ha_1
  iapply (load_at I c (1 : Fin 4) (2 : Fin 8) rfl) $$ Ha_1
  iintro %v313 Ha_1
  iapply (store_at I c (1 : Fin 4) (2 : Fin 8) (h0 := 2) (h1 := 3) rfl rfl rfl rfl) $$ Ha_1
  iintro Ha_1
  iapply (le_wp_ret _)
  iapply HK
  isplitr
  · ipureintro; first | (simp only [and_self]; done) | exact ⟨rfl, rfl⟩
  iexact Ha_1

theorem part_10 {Q : (Σ' (v366 : FVec F S256x1 .f32), FVec F S256x128 .f32) → sProp 𝕄} (v256 : Vec F S256x1024 .f32) (v257 : Vec F S256x256 .f32) (v258 : Vec F S256x256 .f32) (v318 : FVec F S256x128 .f32) (v325 : FVec F S256x256 .f32) (h_v256 : v256 = (box (I c).q (256 * (1 : Fin 4).val) 0 256 1024)) (h_v257 : v257 = (box (I c).k (256 * (1 : Fin 4).val) 0 256 256)) (h_v258 : v258 = (box (I c).v (256 * (1 : Fin 4).val) 0 256 256)) (h_v318 : v318 = (k0_pay30 (box (I c).v (256 * (1 : Fin 4).val) 0 256 256))) (h_v325 : v325 = (k0_pay31 (box (I c).q (256 * (1 : Fin 4).val) 0 256 1024) (box (I c).k (256 * (1 : Fin 4).val) 0 256 256))) :
    iprop(Ctx (PP I) K ∗ At I c 1 3)
      ⊢ iprop((∀ r, iprop(⌜r.1 = (k0_pay35 (box (I c).q (256 * (1 : Fin 4).val) 0 256 1024) (box (I c).k (256 * (1 : Fin 4).val) 0 256 256)) ∧ r.2 = (k0_pay36 (box (I c).q (256 * (1 : Fin 4).val) 0 256 1024) (box (I c).k (256 * (1 : Fin 4).val) 0 256 256) (box (I c).v (256 * (1 : Fin 4).val) 0 256 256))⌝ ∗ At I c 1 5) -∗ Q r)
        -∗ wp frame (wpE (defs₀ (F := F)) 𝒱₀ (c : Thread nD τ) none) Set.univ (k0_part10 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v256 v257 v258 v318 v325) Q) := by
  subst h_v256 h_v257 h_v258 h_v318 h_v325
  rw [k0_part10_eq_skeleton]
  simp only [k0_part10_skel, Prog.lift, Prog.bind_op, Prog.bind_ret, Prog.pure_eq_ret]
  iintro ⟨#HC, Ha_1⟩ HK
  iapply (load_at I c (1 : Fin 4) (3 : Fin 8) rfl) $$ Ha_1
  iintro %v332 Ha_1
  iapply (store_at I c (1 : Fin 4) (3 : Fin 8) (h0 := 3) (h1 := 4) rfl rfl rfl rfl) $$ Ha_1
  iintro Ha_1
  iapply (load_at I c (1 : Fin 4) (4 : Fin 8) rfl) $$ Ha_1
  iintro %v351 Ha_1
  iapply (store_at I c (1 : Fin 4) (4 : Fin 8) (h0 := 4) (h1 := 5) rfl rfl rfl rfl) $$ Ha_1
  iintro Ha_1
  iapply (le_wp_ret _)
  iapply HK
  isplitr
  · ipureintro; first | (simp only [and_self]; done) | exact ⟨rfl, rfl⟩
  iexact Ha_1

theorem part_11 {Q : (FVec F S256x128 .f32) → sProp 𝕄} (v256 : Vec F S256x1024 .f32) (v257 : Vec F S256x256 .f32) (v258 : Vec F S256x256 .f32) (v366 : FVec F S256x1 .f32) (v367 : FVec F S256x128 .f32) (h_v256 : v256 = (box (I c).q (256 * (1 : Fin 4).val) 0 256 1024)) (h_v257 : v257 = (box (I c).k (256 * (1 : Fin 4).val) 0 256 256)) (h_v258 : v258 = (box (I c).v (256 * (1 : Fin 4).val) 0 256 256)) (h_v366 : v366 = (k0_pay35 (box (I c).q (256 * (1 : Fin 4).val) 0 256 1024) (box (I c).k (256 * (1 : Fin 4).val) 0 256 256))) (h_v367 : v367 = (k0_pay36 (box (I c).q (256 * (1 : Fin 4).val) 0 256 1024) (box (I c).k (256 * (1 : Fin 4).val) 0 256 256) (box (I c).v (256 * (1 : Fin 4).val) 0 256 256))) :
    iprop(Ctx (PP I) K ∗ At I c 1 5)
      ⊢ iprop((∀ r, iprop(⌜r = (k0_pay39 (box (I c).q (256 * (1 : Fin 4).val) 0 256 1024) (box (I c).k (256 * (1 : Fin 4).val) 0 256 256) (box (I c).v (256 * (1 : Fin 4).val) 0 256 256))⌝ ∗ At I c 1 7) -∗ Q r)
        -∗ wp frame (wpE (defs₀ (F := F)) 𝒱₀ (c : Thread nD τ) none) Set.univ (k0_part11 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v256 v257 v258 v366 v367) Q) := by
  subst h_v256 h_v257 h_v258 h_v366 h_v367
  rw [k0_part11_eq_skeleton]
  simp only [k0_part11_skel, Prog.lift, Prog.bind_op, Prog.bind_ret, Prog.pure_eq_ret]
  iintro ⟨#HC, Ha_1⟩ HK
  iapply (load_at I c (1 : Fin 4) (5 : Fin 8) rfl) $$ Ha_1
  iintro %v370 Ha_1
  iapply (store_at I c (1 : Fin 4) (5 : Fin 8) (h0 := 5) (h1 := 6) rfl rfl rfl rfl) $$ Ha_1
  iintro Ha_1
  iapply (load_at I c (1 : Fin 4) (6 : Fin 8) rfl) $$ Ha_1
  iintro %v389 Ha_1
  iapply (store_at I c (1 : Fin 4) (6 : Fin 8) (h0 := 6) (h1 := 7) rfl rfl rfl rfl) $$ Ha_1
  iintro Ha_1
  iapply (load_at I c (1 : Fin 4) (7 : Fin 8) rfl) $$ Ha_1
  iintro %v408 Ha_1
  iapply (le_wp_ret _)
  iapply HK
  isplitr
  · ipureintro; first | (simp only [and_self]; done) | exact rfl
  iexact Ha_1

theorem part_12 {Q : (Σ' (v429 : BitVec 32), BitVec 32) → sProp 𝕄} (v3 : BitVec 32) (v9 : BitVec 1) (v12 : BitVec 1) (v407 : FVec F S256x128 .f32) (h_v407 : v407 = (k0_pay39 (box (I c).q (256 * (1 : Fin 4).val) 0 256 1024) (box (I c).k (256 * (1 : Fin 4).val) 0 256 256) (box (I c).v (256 * (1 : Fin 4).val) 0 256 256))) :
    iprop(Ctx (PP I) K ∗ At I c 1 7 ∗ rb c A2 0 1024 (I c).wo ∗ pJ c 1 0 ∗ Comm c 3 0 0 ∗ pJ c 1 1)
      ⊢ iprop((∀ r, iprop(At I c 1 8 ∗ rb c A2 0 1024 (I c).wo ∗ pK (PP I) c 1 0 1 0 ∗ Comm c 4 0 0 ∗ pK (PP I) c 1 1 0 0) -∗ Q r)
        -∗ wp frame (wpE (defs₀ (F := F)) 𝒱₀ (c : Thread nD τ) none) Set.univ (k0_part12 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v9 v12 v407) Q) := by
  subst h_v407
  rw [k0_part12_eq_skeleton]
  simp only [k0_part12_skel, Prog.lift, Prog.bind_op, Prog.bind_ret, Prog.pure_eq_ret]
  iintro ⟨#HC, Ha_1, Hw2, Hp_1_0, HM, Hp_1_1⟩ HK
  iapply (store_at I c (1 : Fin 4) (7 : Fin 8) (h0 := 7) (h1 := 8) rfl rfl rfl rfl) $$ Ha_1
  iintro Ha_1
  iapply (load_at8 I c (1 : Fin 4) rfl) $$ Ha_1
  iintro Ha_1
  iapply (load_box c 0 0 1024 384 rfl (by decide)) $$ Hw2
  iintro Hw2
  iapply (load_p0 c (1 : Fin 4) (0 : Fin 3) rfl) $$ Hp_1_0
  iintro %v416 Hp_1_0
  iapply (store_p0 (PP I) c (1 : Fin 4) (0 : Fin 3) rfl (part0 I c (1 : Fin 4) _ rfl)) $$ Hp_1_0
  iintro Hp_1_0
  iapply (start_rs (PP I) K c (0 : Fin 3) (1 : Fin 4) (0 : Fin 3) (k0 := 0) (k1 := 1) rfl rfl (n := 3) (a := 0) (r := 0) rfl (by decide) (off1_384_256 c) rfl (dv7 c) rfl rfl) $$ [HM Hp_1_0]
  · isplitr; · iexact HC
    isplitl [HM]; · iexact HM
    iexact Hp_1_0
  iintro ⟨HM, Hp_1_0⟩
  iapply (load_at8 I c (1 : Fin 4) rfl) $$ Ha_1
  iintro Ha_1
  iapply (load_box c 0 384 1024 384 rfl (by decide)) $$ Hw2
  iintro Hw2
  iapply (load_p0 c (1 : Fin 4) (1 : Fin 3) rfl) $$ Hp_1_1
  iintro %v435 Hp_1_1
  iapply (store_p0 (PP I) c (1 : Fin 4) (1 : Fin 3) rfl (part1 I c (1 : Fin 4) _ rfl)) $$ Hp_1_1
  iintro Hp_1_1
  iapply (le_wp_ret _)
  iapply HK
  isplitl [Ha_1]; · iexact Ha_1
  isplitl [Hw2]; · iexact Hw2
  isplitl [Hp_1_0]; · iexact Hp_1_0
  isplitl [HM]; · iexact HM
  iexact Hp_1_1

theorem part_13 {Q : (Σ' (v448 : BitVec 32), BitVec 32) → sProp 𝕄} (v4 : BitVec 32) (v5 : BitVec 32) (v12 : BitVec 1) (v15 : BitVec 1) (v438 : BitVec 32)  :
    iprop(Ctx (PP I) K ∗ Comm c 4 0 0 ∗ pK (PP I) c 1 1 0 0 ∗ At I c 1 8 ∗ rb c A2 0 1024 (I c).wo ∗ pJ c 1 2)
      ⊢ iprop((∀ r, iprop(Comm c 6 0 0 ∗ pK (PP I) c 1 1 1 0 ∗ At I c 1 8 ∗ rb c A2 0 1024 (I c).wo ∗ pK (PP I) c 1 2 1 0) -∗ Q r)
        -∗ wp frame (wpE (defs₀ (F := F)) 𝒱₀ (c : Thread nD τ) none) Set.univ (k0_part13 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v15 v438) Q) := by
  rw [k0_part13_eq_skeleton]
  simp only [k0_part13_skel, Prog.lift, Prog.bind_op, Prog.bind_ret, Prog.pure_eq_ret]
  iintro ⟨#HC, HM, Hp_1_1, Ha_1, Hw2, Hp_1_2⟩ HK
  iapply (start_rs (PP I) K c (0 : Fin 3) (1 : Fin 4) (1 : Fin 3) (k0 := 0) (k1 := 1) rfl rfl (n := 4) (a := 0) (r := 0) rfl (by decide) (off2_384_256 c) rfl (dv8 c) rfl rfl) $$ [HM Hp_1_1]
  · isplitr; · iexact HC
    isplitl [HM]; · iexact HM
    iexact Hp_1_1
  iintro ⟨HM, Hp_1_1⟩
  iapply (load_at8 I c (1 : Fin 4) rfl) $$ Ha_1
  iintro Ha_1
  iapply (load_box c 0 768 1024 256 rfl (by decide)) $$ Hw2
  iintro Hw2
  iapply (load_p0 c (1 : Fin 4) (2 : Fin 3) rfl) $$ Hp_1_2
  iintro %v454 Hp_1_2
  iapply (store_p0 (PP I) c (1 : Fin 4) (2 : Fin 3) rfl (part2 I c (1 : Fin 4) _ rfl)) $$ Hp_1_2
  iintro Hp_1_2
  iapply (start_rs (PP I) K c (0 : Fin 3) (1 : Fin 4) (2 : Fin 3) (k0 := 0) (k1 := 1) rfl rfl (n := 5) (a := 0) (r := 0) rfl (by decide) (off3_384_256 c) rfl (dv9 c) rfl rfl) $$ [HM Hp_1_2]
  · isplitr; · iexact HC
    isplitl [HM]; · iexact HM
    iexact Hp_1_2
  iintro ⟨HM, Hp_1_2⟩
  iapply (le_wp_ret _)
  iapply HK
  isplitl [HM]; · iexact HM
  isplitl [Hp_1_1]; · iexact Hp_1_1
  isplitl [Ha_1]; · iexact Ha_1
  isplitl [Hw2]; · iexact Hw2
  iexact Hp_1_2

theorem part_14 {Q : (Σ' (v468 : Vec F S256x1024 .f32) (v469 : Vec F S256x256 .f32) (v470 : Vec F S256x256 .f32), FVec F S256x128 .f32) → sProp 𝕄}   :
    iprop(Ctx (PP I) K ∗ rb c qM 0 1024 (I c).q ∗ rb c kM 0 1024 (I c).k ∗ rb c vM 0 1024 (I c).v ∗ At I c 2 0)
      ⊢ iprop((∀ r, iprop(⌜r.1 = (box (I c).q (256 * (2 : Fin 4).val) 0 256 1024) ∧ r.2.1 = (box (I c).k (256 * (2 : Fin 4).val) 0 256 256) ∧ r.2.2.1 = (box (I c).v (256 * (2 : Fin 4).val) 0 256 256) ∧ r.2.2.2 = (k0_pay45 (box (I c).q (256 * (2 : Fin 4).val) 0 256 1024) (box (I c).k (256 * (2 : Fin 4).val) 0 256 256) (box (I c).v (256 * (2 : Fin 4).val) 0 256 256))⌝ ∗ rb c qM 0 1024 (I c).q ∗ rb c kM 0 1024 (I c).k ∗ rb c vM 0 1024 (I c).v ∗ At I c 2 1) -∗ Q r)
        -∗ wp frame (wpE (defs₀ (F := F)) 𝒱₀ (c : Thread nD τ) none) Set.univ (k0_part14 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 ) Q) := by
  rw [k0_part14_eq_skeleton]
  simp only [k0_part14_skel, Prog.lift, Prog.bind_op, Prog.bind_ret, Prog.pure_eq_ret]
  iintro ⟨#HC, Hq, Hkk, Hv, Ha_2⟩ HK
  iapply (load_box c (256 * (2 : Fin 4).val) 0 256 1024 (M := qM) rfl (by decide)) $$ Hq
  iintro Hq
  iapply (load_box c (256 * (2 : Fin 4).val) 0 256 256 (M := kM) rfl (by decide)) $$ Hkk
  iintro Hkk
  iapply (load_box c (256 * (2 : Fin 4).val) 0 256 256 (M := vM) rfl (by decide)) $$ Hv
  iintro Hv
  iapply (load_at I c (2 : Fin 4) (0 : Fin 8) rfl) $$ Ha_2
  iintro %v487 Ha_2
  iapply (store_at I c (2 : Fin 4) (0 : Fin 8) (h0 := 0) (h1 := 1) rfl rfl rfl rfl) $$ Ha_2
  iintro Ha_2
  iapply (load_at I c (2 : Fin 4) (1 : Fin 8) rfl) $$ Ha_2
  iintro %v506 Ha_2
  iapply (le_wp_ret _)
  iapply HK
  isplitr
  · ipureintro; first | (simp only [and_self]; done) | exact ⟨rfl, rfl, rfl, rfl⟩
  isplitl [Hq]; · iexact Hq
  isplitl [Hkk]; · iexact Hkk
  isplitl [Hv]; · iexact Hv
  iexact Ha_2

theorem part_15 {Q : (Σ' (v547 : FVec F S256x128 .f32) (v548 : FVec F S256x128 .f32) (v549 : FVec F S256x128 .f32), FVec F S256x256 .f32) → sProp 𝕄} (v468 : Vec F S256x1024 .f32) (v469 : Vec F S256x256 .f32) (v470 : Vec F S256x256 .f32) (v505 : FVec F S256x128 .f32) (h_v468 : v468 = (box (I c).q (256 * (2 : Fin 4).val) 0 256 1024)) (h_v469 : v469 = (box (I c).k (256 * (2 : Fin 4).val) 0 256 256)) (h_v470 : v470 = (box (I c).v (256 * (2 : Fin 4).val) 0 256 256)) (h_v505 : v505 = (k0_pay45 (box (I c).q (256 * (2 : Fin 4).val) 0 256 1024) (box (I c).k (256 * (2 : Fin 4).val) 0 256 256) (box (I c).v (256 * (2 : Fin 4).val) 0 256 256))) :
    iprop(Ctx (PP I) K ∗ At I c 2 1)
      ⊢ iprop((∀ r, iprop(⌜r.1 = (k0_pay49 (box (I c).q (256 * (2 : Fin 4).val) 0 256 1024)) ∧ r.2.1 = (k0_pay50 (box (I c).k (256 * (2 : Fin 4).val) 0 256 256)) ∧ r.2.2.1 = (k0_pay51 (box (I c).v (256 * (2 : Fin 4).val) 0 256 256)) ∧ r.2.2.2 = (constant (F := F) S256x256 .f32 0x00000000#32)⌝ ∗ At I c 2 4) -∗ Q r)
        -∗ wp frame (wpE (defs₀ (F := F)) 𝒱₀ (c : Thread nD τ) none) Set.univ (k0_part15 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v468 v469 v470 v505) Q) := by
  subst h_v468 h_v469 h_v470 h_v505
  rw [k0_part15_eq_skeleton]
  simp only [k0_part15_skel, Prog.lift, Prog.bind_op, Prog.bind_ret, Prog.pure_eq_ret]
  iintro ⟨#HC, Ha_2⟩ HK
  iapply (store_at I c (2 : Fin 4) (1 : Fin 8) (h0 := 1) (h1 := 2) rfl rfl rfl rfl) $$ Ha_2
  iintro Ha_2
  iapply (load_at I c (2 : Fin 4) (2 : Fin 8) rfl) $$ Ha_2
  iintro %v525 Ha_2
  iapply (store_at I c (2 : Fin 4) (2 : Fin 8) (h0 := 2) (h1 := 3) rfl rfl rfl rfl) $$ Ha_2
  iintro Ha_2
  iapply (load_at I c (2 : Fin 4) (3 : Fin 8) rfl) $$ Ha_2
  iintro %v544 Ha_2
  iapply (store_at I c (2 : Fin 4) (3 : Fin 8) (h0 := 3) (h1 := 4) rfl rfl rfl rfl) $$ Ha_2
  iintro Ha_2
  iapply (le_wp_ret _)
  iapply HK
  isplitr
  · ipureintro; first | (simp only [and_self]; done) | exact ⟨rfl, rfl, rfl, rfl⟩
  iexact Ha_2

theorem part_16 {Q : (Σ' (v587 : FVec F S256x128 .f32) (v590 : FVec F S256x256 .f32), FVec F S256 .f32) → sProp 𝕄} (v468 : Vec F S256x1024 .f32) (v469 : Vec F S256x256 .f32) (v470 : Vec F S256x256 .f32) (v547 : FVec F S256x128 .f32) (v548 : FVec F S256x128 .f32) (v549 : FVec F S256x128 .f32) (cst_286 : FVec F S256x256 .f32) (h_v468 : v468 = (box (I c).q (256 * (2 : Fin 4).val) 0 256 1024)) (h_v469 : v469 = (box (I c).k (256 * (2 : Fin 4).val) 0 256 256)) (h_v470 : v470 = (box (I c).v (256 * (2 : Fin 4).val) 0 256 256)) (h_v547 : v547 = (k0_pay49 (box (I c).q (256 * (2 : Fin 4).val) 0 256 1024))) (h_v548 : v548 = (k0_pay50 (box (I c).k (256 * (2 : Fin 4).val) 0 256 256))) (h_v549 : v549 = (k0_pay51 (box (I c).v (256 * (2 : Fin 4).val) 0 256 256))) (h_cst_286 : cst_286 = (constant (F := F) S256x256 .f32 0x00000000#32)) :
    iprop(Ctx (PP I) K ∗ At I c 2 4)
      ⊢ iprop((∀ r, iprop(⌜r.1 = (k0_pay54 (box (I c).v (256 * (2 : Fin 4).val) 0 256 256)) ∧ r.2.1 = (k0_pay55 (box (I c).q (256 * (2 : Fin 4).val) 0 256 1024) (box (I c).k (256 * (2 : Fin 4).val) 0 256 256)) ∧ r.2.2 = (k0_pay56 (box (I c).q (256 * (2 : Fin 4).val) 0 256 1024) (box (I c).k (256 * (2 : Fin 4).val) 0 256 256))⌝ ∗ At I c 2 6) -∗ Q r)
        -∗ wp frame (wpE (defs₀ (F := F)) 𝒱₀ (c : Thread nD τ) none) Set.univ (k0_part16 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v468 v469 v470 v547 v548 v549 cst_286) Q) := by
  subst h_v468 h_v469 h_v470 h_v547 h_v548 h_v549 h_cst_286
  rw [k0_part16_eq_skeleton]
  simp only [k0_part16_skel, Prog.lift, Prog.bind_op, Prog.bind_ret, Prog.pure_eq_ret]
  iintro ⟨#HC, Ha_2⟩ HK
  iapply (load_at I c (2 : Fin 4) (4 : Fin 8) rfl) $$ Ha_2
  iintro %v563 Ha_2
  iapply (store_at I c (2 : Fin 4) (4 : Fin 8) (h0 := 4) (h1 := 5) rfl rfl rfl rfl) $$ Ha_2
  iintro Ha_2
  iapply (load_at I c (2 : Fin 4) (5 : Fin 8) rfl) $$ Ha_2
  iintro %v582 Ha_2
  iapply (store_at I c (2 : Fin 4) (5 : Fin 8) (h0 := 5) (h1 := 6) rfl rfl rfl rfl) $$ Ha_2
  iintro Ha_2
  iapply (le_wp_ret _)
  iapply HK
  isplitr
  · ipureintro; first | (simp only [and_self]; done) | exact ⟨rfl, rfl, rfl⟩
  iexact Ha_2

end
end Cert.TreeProof
-- ==== Proof.Parts2.lean ====
module

public import proofs.«01_k».proof.Proof.Offs
public import Idealize.ShloMosaic.Lib.Pipeline.Value

/-! # The body, statement groups 17 to 33 -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 1600000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

theorem part_17 {Q : (PUnit) → sProp 𝕄} (v468 : Vec F S256x1024 .f32) (v469 : Vec F S256x256 .f32) (v470 : Vec F S256x256 .f32) (v587 : FVec F S256x128 .f32) (v590 : FVec F S256x256 .f32) (v591 : FVec F S256 .f32) (h_v468 : v468 = (box (I c).q (256 * (2 : Fin 4).val) 0 256 1024)) (h_v469 : v469 = (box (I c).k (256 * (2 : Fin 4).val) 0 256 256)) (h_v470 : v470 = (box (I c).v (256 * (2 : Fin 4).val) 0 256 256)) (h_v587 : v587 = (k0_pay54 (box (I c).v (256 * (2 : Fin 4).val) 0 256 256))) (h_v590 : v590 = (k0_pay55 (box (I c).q (256 * (2 : Fin 4).val) 0 256 1024) (box (I c).k (256 * (2 : Fin 4).val) 0 256 256))) (h_v591 : v591 = (k0_pay56 (box (I c).q (256 * (2 : Fin 4).val) 0 256 1024) (box (I c).k (256 * (2 : Fin 4).val) 0 256 256))) :
    iprop(Ctx (PP I) K ∗ At I c 2 6 ∗ rb c A2 0 1024 (I c).wo ∗ pJ c 2 0)
      ⊢ iprop((∀ r, iprop(At I c 2 8 ∗ rb c A2 0 1024 (I c).wo ∗ pK (PP I) c 2 0 0 0) -∗ Q r)
        -∗ wp frame (wpE (defs₀ (F := F)) 𝒱₀ (c : Thread nD τ) none) Set.univ (k0_part17 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v468 v469 v470 v587 v590 v591) Q) := by
  subst h_v468 h_v469 h_v470 h_v587 h_v590 h_v591
  rw [k0_part17_eq_skeleton]
  simp only [k0_part17_skel, Prog.lift, Prog.bind_op, Prog.bind_ret, Prog.pure_eq_ret]
  iintro ⟨#HC, Ha_2, Hw2, Hp_2_0⟩ HK
  iapply (load_at I c (2 : Fin 4) (6 : Fin 8) rfl) $$ Ha_2
  iintro %v601 Ha_2
  iapply (store_at I c (2 : Fin 4) (6 : Fin 8) (h0 := 6) (h1 := 7) rfl rfl rfl rfl) $$ Ha_2
  iintro Ha_2
  iapply (load_at I c (2 : Fin 4) (7 : Fin 8) rfl) $$ Ha_2
  iintro %v620 Ha_2
  iapply (store_at I c (2 : Fin 4) (7 : Fin 8) (h0 := 7) (h1 := 8) rfl rfl rfl rfl) $$ Ha_2
  iintro Ha_2
  iapply (load_at8 I c (2 : Fin 4) rfl) $$ Ha_2
  iintro Ha_2
  iapply (load_box c 0 0 1024 384 rfl (by decide)) $$ Hw2
  iintro Hw2
  iapply (load_p0 c (2 : Fin 4) (0 : Fin 3) rfl) $$ Hp_2_0
  iintro %v628 Hp_2_0
  iapply (store_p0 (PP I) c (2 : Fin 4) (0 : Fin 3) rfl (part0 I c (2 : Fin 4) _ rfl)) $$ Hp_2_0
  iintro Hp_2_0
  iapply (le_wp_ret _)
  iapply HK
  isplitl [Ha_2]; · iexact Ha_2
  isplitl [Hw2]; · iexact Hw2
  iexact Hp_2_0

theorem part_18 {Q : (Σ' (v641 : BitVec 32), BitVec 32) → sProp 𝕄} (v3 : BitVec 32) (v4 : BitVec 32) (v9 : BitVec 1) (v12 : BitVec 1)  :
    iprop(Ctx (PP I) K ∗ Comm c 6 0 0 ∗ pK (PP I) c 2 0 0 0 ∗ At I c 2 8 ∗ rb c A2 0 1024 (I c).wo ∗ pJ c 2 1)
      ⊢ iprop((∀ r, iprop(Comm c 8 0 0 ∗ pK (PP I) c 2 0 1 0 ∗ At I c 2 8 ∗ rb c A2 0 1024 (I c).wo ∗ pK (PP I) c 2 1 1 0) -∗ Q r)
        -∗ wp frame (wpE (defs₀ (F := F)) 𝒱₀ (c : Thread nD τ) none) Set.univ (k0_part18 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v9 v12) Q) := by
  rw [k0_part18_eq_skeleton]
  simp only [k0_part18_skel, Prog.lift, Prog.bind_op, Prog.bind_ret, Prog.pure_eq_ret]
  iintro ⟨#HC, HM, Hp_2_0, Ha_2, Hw2, Hp_2_1⟩ HK
  iapply (start_rs (PP I) K c (0 : Fin 3) (2 : Fin 4) (0 : Fin 3) (k0 := 0) (k1 := 1) rfl rfl (n := 6) (a := 0) (r := 0) rfl (by decide) (off1_640_512 c) rfl (dv10 c) rfl rfl) $$ [HM Hp_2_0]
  · isplitr; · iexact HC
    isplitl [HM]; · iexact HM
    iexact Hp_2_0
  iintro ⟨HM, Hp_2_0⟩
  iapply (load_at8 I c (2 : Fin 4) rfl) $$ Ha_2
  iintro Ha_2
  iapply (load_box c 0 384 1024 384 rfl (by decide)) $$ Hw2
  iintro Hw2
  iapply (load_p0 c (2 : Fin 4) (1 : Fin 3) rfl) $$ Hp_2_1
  iintro %v647 Hp_2_1
  iapply (store_p0 (PP I) c (2 : Fin 4) (1 : Fin 3) rfl (part1 I c (2 : Fin 4) _ rfl)) $$ Hp_2_1
  iintro Hp_2_1
  iapply (start_rs (PP I) K c (0 : Fin 3) (2 : Fin 4) (1 : Fin 3) (k0 := 0) (k1 := 1) rfl rfl (n := 7) (a := 0) (r := 0) rfl (by decide) (off2_640_512 c) rfl (dv11 c) rfl rfl) $$ [HM Hp_2_1]
  · isplitr; · iexact HC
    isplitl [HM]; · iexact HM
    iexact Hp_2_1
  iintro ⟨HM, Hp_2_1⟩
  iapply (le_wp_ret _)
  iapply HK
  isplitl [HM]; · iexact HM
  isplitl [Hp_2_0]; · iexact Hp_2_0
  isplitl [Ha_2]; · iexact Ha_2
  isplitl [Hw2]; · iexact Hw2
  iexact Hp_2_1

theorem part_19 {Q : (Σ' (v660 : BitVec 32) (v679 : BitVec 32) (v680 : Vec F S256x1024 .f32) (v681 : Vec F S256x256 .f32) (v682 : Vec F S256x256 .f32) (v685 : FVec F S256x128 .f32) (v688 : FVec F S256x256 .f32), FVec F S256 .f32) → sProp 𝕄} (v5 : BitVec 32) (v12 : BitVec 1) (v15 : BitVec 1) (c512_i32_343 : BitVec 32)  :
    iprop(Ctx (PP I) K ∗ At I c 2 8 ∗ rb c A2 0 1024 (I c).wo ∗ pJ c 2 2 ∗ Comm c 8 0 0 ∗ rb c qM 0 1024 (I c).q ∗ rb c kM 0 1024 (I c).k ∗ rb c vM 0 1024 (I c).v)
      ⊢ iprop((∀ r, iprop(⌜r.2.2.1 = (box (I c).q (256 * (3 : Fin 4).val) 0 256 1024) ∧ r.2.2.2.1 = (box (I c).k (256 * (3 : Fin 4).val) 0 256 256) ∧ r.2.2.2.2.1 = (box (I c).v (256 * (3 : Fin 4).val) 0 256 256) ∧ r.2.2.2.2.2.1 = (k0_pay62 (box (I c).v (256 * (3 : Fin 4).val) 0 256 256)) ∧ r.2.2.2.2.2.2.1 = (k0_pay63 (box (I c).q (256 * (3 : Fin 4).val) 0 256 1024) (box (I c).k (256 * (3 : Fin 4).val) 0 256 256)) ∧ r.2.2.2.2.2.2.2 = (k0_pay64 (box (I c).q (256 * (3 : Fin 4).val) 0 256 1024) (box (I c).k (256 * (3 : Fin 4).val) 0 256 256))⌝ ∗ At I c 2 8 ∗ rb c A2 0 1024 (I c).wo ∗ pK (PP I) c 2 2 1 0 ∗ Comm c 9 0 0 ∗ rb c qM 0 1024 (I c).q ∗ rb c kM 0 1024 (I c).k ∗ rb c vM 0 1024 (I c).v) -∗ Q r)
        -∗ wp frame (wpE (defs₀ (F := F)) 𝒱₀ (c : Thread nD τ) none) Set.univ (k0_part19 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v5 v12 v15 c512_i32_343) Q) := by
  rw [k0_part19_eq_skeleton]
  simp only [k0_part19_skel, Prog.lift, Prog.bind_op, Prog.bind_ret, Prog.pure_eq_ret]
  iintro ⟨#HC, Ha_2, Hw2, Hp_2_2, HM, Hq, Hkk, Hv⟩ HK
  iapply (load_at8 I c (2 : Fin 4) rfl) $$ Ha_2
  iintro Ha_2
  iapply (load_box c 0 768 1024 256 rfl (by decide)) $$ Hw2
  iintro Hw2
  iapply (load_p0 c (2 : Fin 4) (2 : Fin 3) rfl) $$ Hp_2_2
  iintro %v666 Hp_2_2
  iapply (store_p0 (PP I) c (2 : Fin 4) (2 : Fin 3) rfl (part2 I c (2 : Fin 4) _ rfl)) $$ Hp_2_2
  iintro Hp_2_2
  iapply (start_rs (PP I) K c (0 : Fin 3) (2 : Fin 4) (2 : Fin 3) (k0 := 0) (k1 := 1) rfl rfl (n := 8) (a := 0) (r := 0) rfl (by decide) (off3_640_512 c) rfl (dv12 c) rfl rfl) $$ [HM Hp_2_2]
  · isplitr; · iexact HC
    isplitl [HM]; · iexact HM
    iexact Hp_2_2
  iintro ⟨HM, Hp_2_2⟩
  iapply (load_box c (256 * (3 : Fin 4).val) 0 256 1024 (M := qM) rfl (by decide)) $$ Hq
  iintro Hq
  iapply (load_box c (256 * (3 : Fin 4).val) 0 256 256 (M := kM) rfl (by decide)) $$ Hkk
  iintro Hkk
  iapply (load_box c (256 * (3 : Fin 4).val) 0 256 256 (M := vM) rfl (by decide)) $$ Hv
  iintro Hv
  iapply (le_wp_ret _)
  iapply HK
  isplitr
  · ipureintro; first | (simp only [and_self]; done) | exact ⟨rfl, rfl, rfl, rfl, rfl, rfl⟩
  isplitl [Ha_2]; · iexact Ha_2
  isplitl [Hw2]; · iexact Hw2
  isplitl [Hp_2_2]; · iexact Hp_2_2
  isplitl [HM]; · iexact HM
  isplitl [Hq]; · iexact Hq
  isplitl [Hkk]; · iexact Hkk
  iexact Hv

theorem part_20 {Q : (Σ' (v723 : FVec F S256x128 .f32) (v731 : FVec F S256x256 .f32), FVec F S256 .f32) → sProp 𝕄} (v680 : Vec F S256x1024 .f32) (v681 : Vec F S256x256 .f32) (v682 : Vec F S256x256 .f32) (v685 : FVec F S256x128 .f32) (v688 : FVec F S256x256 .f32) (v689 : FVec F S256 .f32) (h_v680 : v680 = (box (I c).q (256 * (3 : Fin 4).val) 0 256 1024)) (h_v681 : v681 = (box (I c).k (256 * (3 : Fin 4).val) 0 256 256)) (h_v682 : v682 = (box (I c).v (256 * (3 : Fin 4).val) 0 256 256)) (h_v685 : v685 = (k0_pay62 (box (I c).v (256 * (3 : Fin 4).val) 0 256 256))) (h_v688 : v688 = (k0_pay63 (box (I c).q (256 * (3 : Fin 4).val) 0 256 1024) (box (I c).k (256 * (3 : Fin 4).val) 0 256 256))) (h_v689 : v689 = (k0_pay64 (box (I c).q (256 * (3 : Fin 4).val) 0 256 1024) (box (I c).k (256 * (3 : Fin 4).val) 0 256 256))) :
    iprop(Ctx (PP I) K ∗ At I c 3 0)
      ⊢ iprop((∀ r, iprop(⌜r.1 = (k0_pay67 (box (I c).v (256 * (3 : Fin 4).val) 0 256 256)) ∧ r.2.1 = (k0_pay68 (box (I c).q (256 * (3 : Fin 4).val) 0 256 1024) (box (I c).k (256 * (3 : Fin 4).val) 0 256 256)) ∧ r.2.2 = (k0_pay69 (box (I c).q (256 * (3 : Fin 4).val) 0 256 1024) (box (I c).k (256 * (3 : Fin 4).val) 0 256 256))⌝ ∗ At I c 3 2) -∗ Q r)
        -∗ wp frame (wpE (defs₀ (F := F)) 𝒱₀ (c : Thread nD τ) none) Set.univ (k0_part20 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v680 v681 v682 v685 v688 v689) Q) := by
  subst h_v680 h_v681 h_v682 h_v685 h_v688 h_v689
  rw [k0_part20_eq_skeleton]
  simp only [k0_part20_skel, Prog.lift, Prog.bind_op, Prog.bind_ret, Prog.pure_eq_ret]
  iintro ⟨#HC, Ha_3⟩ HK
  iapply (load_at I c (3 : Fin 4) (0 : Fin 8) rfl) $$ Ha_3
  iintro %v699 Ha_3
  iapply (store_at I c (3 : Fin 4) (0 : Fin 8) (h0 := 0) (h1 := 1) rfl rfl rfl rfl) $$ Ha_3
  iintro Ha_3
  iapply (load_at I c (3 : Fin 4) (1 : Fin 8) rfl) $$ Ha_3
  iintro %v718 Ha_3
  iapply (store_at I c (3 : Fin 4) (1 : Fin 8) (h0 := 1) (h1 := 2) rfl rfl rfl rfl) $$ Ha_3
  iintro Ha_3
  iapply (le_wp_ret _)
  iapply HK
  isplitr
  · ipureintro; first | (simp only [and_self]; done) | exact ⟨rfl, rfl, rfl⟩
  iexact Ha_3

theorem part_21 {Q : (FVec F S256x128 .f32) → sProp 𝕄} (v680 : Vec F S256x1024 .f32) (v681 : Vec F S256x256 .f32) (v682 : Vec F S256x256 .f32) (v723 : FVec F S256x128 .f32) (v731 : FVec F S256x256 .f32) (v732 : FVec F S256 .f32) (h_v680 : v680 = (box (I c).q (256 * (3 : Fin 4).val) 0 256 1024)) (h_v681 : v681 = (box (I c).k (256 * (3 : Fin 4).val) 0 256 256)) (h_v682 : v682 = (box (I c).v (256 * (3 : Fin 4).val) 0 256 256)) (h_v723 : v723 = (k0_pay67 (box (I c).v (256 * (3 : Fin 4).val) 0 256 256))) (h_v731 : v731 = (k0_pay68 (box (I c).q (256 * (3 : Fin 4).val) 0 256 1024) (box (I c).k (256 * (3 : Fin 4).val) 0 256 256))) (h_v732 : v732 = (k0_pay69 (box (I c).q (256 * (3 : Fin 4).val) 0 256 1024) (box (I c).k (256 * (3 : Fin 4).val) 0 256 256))) :
    iprop(Ctx (PP I) K ∗ At I c 3 2)
      ⊢ iprop((∀ r, iprop(⌜r = (k0_pay72 (box (I c).q (256 * (3 : Fin 4).val) 0 256 1024) (box (I c).k (256 * (3 : Fin 4).val) 0 256 256) (box (I c).v (256 * (3 : Fin 4).val) 0 256 256))⌝ ∗ At I c 3 4) -∗ Q r)
        -∗ wp frame (wpE (defs₀ (F := F)) 𝒱₀ (c : Thread nD τ) none) Set.univ (k0_part21 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v680 v681 v682 v723 v731 v732) Q) := by
  subst h_v680 h_v681 h_v682 h_v723 h_v731 h_v732
  rw [k0_part21_eq_skeleton]
  simp only [k0_part21_skel, Prog.lift, Prog.bind_op, Prog.bind_ret, Prog.pure_eq_ret]
  iintro ⟨#HC, Ha_3⟩ HK
  iapply (load_at I c (3 : Fin 4) (2 : Fin 8) rfl) $$ Ha_3
  iintro %v737 Ha_3
  iapply (store_at I c (3 : Fin 4) (2 : Fin 8) (h0 := 2) (h1 := 3) rfl rfl rfl rfl) $$ Ha_3
  iintro Ha_3
  iapply (load_at I c (3 : Fin 4) (3 : Fin 8) rfl) $$ Ha_3
  iintro %v756 Ha_3
  iapply (store_at I c (3 : Fin 4) (3 : Fin 8) (h0 := 3) (h1 := 4) rfl rfl rfl rfl) $$ Ha_3
  iintro Ha_3
  iapply (le_wp_ret _)
  iapply HK
  isplitr
  · ipureintro; first | (simp only [and_self]; done) | exact rfl
  iexact Ha_3

theorem part_22 {Q : (FVec F S256x128 .f32) → sProp 𝕄} (v680 : Vec F S256x1024 .f32) (v681 : Vec F S256x256 .f32) (v682 : Vec F S256x256 .f32) (v774 : FVec F S256x128 .f32) (h_v680 : v680 = (box (I c).q (256 * (3 : Fin 4).val) 0 256 1024)) (h_v681 : v681 = (box (I c).k (256 * (3 : Fin 4).val) 0 256 256)) (h_v682 : v682 = (box (I c).v (256 * (3 : Fin 4).val) 0 256 256)) (h_v774 : v774 = (k0_pay72 (box (I c).q (256 * (3 : Fin 4).val) 0 256 1024) (box (I c).k (256 * (3 : Fin 4).val) 0 256 256) (box (I c).v (256 * (3 : Fin 4).val) 0 256 256))) :
    iprop(Ctx (PP I) K ∗ At I c 3 4)
      ⊢ iprop((∀ r, iprop(⌜r = (k0_pay76 (box (I c).q (256 * (3 : Fin 4).val) 0 256 1024))⌝ ∗ At I c 3 7) -∗ Q r)
        -∗ wp frame (wpE (defs₀ (F := F)) 𝒱₀ (c : Thread nD τ) none) Set.univ (k0_part22 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v680 v681 v682 v774) Q) := by
  subst h_v680 h_v681 h_v682 h_v774
  rw [k0_part22_eq_skeleton]
  simp only [k0_part22_skel, Prog.lift, Prog.bind_op, Prog.bind_ret, Prog.pure_eq_ret]
  iintro ⟨#HC, Ha_3⟩ HK
  iapply (load_at I c (3 : Fin 4) (4 : Fin 8) rfl) $$ Ha_3
  iintro %v775 Ha_3
  iapply (store_at I c (3 : Fin 4) (4 : Fin 8) (h0 := 4) (h1 := 5) rfl rfl rfl rfl) $$ Ha_3
  iintro Ha_3
  iapply (load_at I c (3 : Fin 4) (5 : Fin 8) rfl) $$ Ha_3
  iintro %v794 Ha_3
  iapply (store_at I c (3 : Fin 4) (5 : Fin 8) (h0 := 5) (h1 := 6) rfl rfl rfl rfl) $$ Ha_3
  iintro Ha_3
  iapply (load_at I c (3 : Fin 4) (6 : Fin 8) rfl) $$ Ha_3
  iintro %v813 Ha_3
  iapply (store_at I c (3 : Fin 4) (6 : Fin 8) (h0 := 6) (h1 := 7) rfl rfl rfl rfl) $$ Ha_3
  iintro Ha_3
  iapply (le_wp_ret _)
  iapply HK
  isplitr
  · ipureintro; first | (simp only [and_self]; done) | exact rfl
  iexact Ha_3

theorem part_23 {Q : (PUnit) → sProp 𝕄} (v3 : BitVec 32) (v9 : BitVec 1) (v681 : Vec F S256x256 .f32) (v682 : Vec F S256x256 .f32) (v816 : FVec F S256x128 .f32) (h_v681 : v681 = (box (I c).k (256 * (3 : Fin 4).val) 0 256 256)) (h_v682 : v682 = (box (I c).v (256 * (3 : Fin 4).val) 0 256 256)) (h_v816 : v816 = (k0_pay76 (box (I c).q (256 * (3 : Fin 4).val) 0 256 1024))) :
    iprop(Ctx (PP I) K ∗ At I c 3 7 ∗ rb c A2 0 1024 (I c).wo ∗ pJ c 3 0)
      ⊢ iprop((∀ r, iprop(At I c 3 8 ∗ rb c A2 0 1024 (I c).wo ∗ pK (PP I) c 3 0 0 0) -∗ Q r)
        -∗ wp frame (wpE (defs₀ (F := F)) 𝒱₀ (c : Thread nD τ) none) Set.univ (k0_part23 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 v3 v9 v681 v682 v816) Q) := by
  subst h_v681 h_v682 h_v816
  rw [k0_part23_eq_skeleton]
  simp only [k0_part23_skel, Prog.lift, Prog.bind_op, Prog.bind_ret, Prog.pure_eq_ret]
  iintro ⟨#HC, Ha_3, Hw2, Hp_3_0⟩ HK
  iapply (load_at I c (3 : Fin 4) (7 : Fin 8) rfl) $$ Ha_3
  iintro %v832 Ha_3
  iapply (store_at I c (3 : Fin 4) (7 : Fin 8) (h0 := 7) (h1 := 8) rfl rfl rfl rfl) $$ Ha_3
  iintro Ha_3
  iapply (load_at8 I c (3 : Fin 4) rfl) $$ Ha_3
  iintro Ha_3
  iapply (load_box c 0 0 1024 384 rfl (by decide)) $$ Hw2
  iintro Hw2
  iapply (load_p0 c (3 : Fin 4) (0 : Fin 3) rfl) $$ Hp_3_0
  iintro %v840 Hp_3_0
  iapply (store_p0 (PP I) c (3 : Fin 4) (0 : Fin 3) rfl (part0 I c (3 : Fin 4) _ rfl)) $$ Hp_3_0
  iintro Hp_3_0
  iapply (le_wp_ret _)
  iapply HK
  isplitl [Ha_3]; · iexact Ha_3
  isplitl [Hw2]; · iexact Hw2
  iexact Hp_3_0

theorem part_24 {Q : (Σ' (v853 : BitVec 32), BitVec 32) → sProp 𝕄} (v4 : BitVec 32) (v9 : BitVec 1) (v12 : BitVec 1)  :
    iprop(Ctx (PP I) K ∗ Comm c 9 0 0 ∗ pK (PP I) c 3 0 0 0 ∗ At I c 3 8 ∗ rb c A2 0 1024 (I c).wo ∗ pJ c 3 1 ∗ pJ c 3 2)
      ⊢ iprop((∀ r, iprop(Comm c 11 0 0 ∗ pK (PP I) c 3 0 1 0 ∗ At I c 3 8 ∗ rb c A2 0 1024 (I c).wo ∗ pK (PP I) c 3 1 1 0 ∗ pK (PP I) c 3 2 0 0) -∗ Q r)
        -∗ wp frame (wpE (defs₀ (F := F)) 𝒱₀ (c : Thread nD τ) none) Set.univ (k0_part24 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v9 v12) Q) := by
  rw [k0_part24_eq_skeleton]
  simp only [k0_part24_skel, Prog.lift, Prog.bind_op, Prog.bind_ret, Prog.pure_eq_ret]
  iintro ⟨#HC, HM, Hp_3_0, Ha_3, Hw2, Hp_3_1, Hp_3_2⟩ HK
  iapply (start_rs (PP I) K c (0 : Fin 3) (3 : Fin 4) (0 : Fin 3) (k0 := 0) (k1 := 1) rfl rfl (n := 9) (a := 0) (r := 0) rfl (by decide) (off1_896_768 c) rfl (dv13 c) rfl rfl) $$ [HM Hp_3_0]
  · isplitr; · iexact HC
    isplitl [HM]; · iexact HM
    iexact Hp_3_0
  iintro ⟨HM, Hp_3_0⟩
  iapply (load_at8 I c (3 : Fin 4) rfl) $$ Ha_3
  iintro Ha_3
  iapply (load_box c 0 384 1024 384 rfl (by decide)) $$ Hw2
  iintro Hw2
  iapply (load_p0 c (3 : Fin 4) (1 : Fin 3) rfl) $$ Hp_3_1
  iintro %v859 Hp_3_1
  iapply (store_p0 (PP I) c (3 : Fin 4) (1 : Fin 3) rfl (part1 I c (3 : Fin 4) _ rfl)) $$ Hp_3_1
  iintro Hp_3_1
  iapply (start_rs (PP I) K c (0 : Fin 3) (3 : Fin 4) (1 : Fin 3) (k0 := 0) (k1 := 1) rfl rfl (n := 10) (a := 0) (r := 0) rfl (by decide) (off2_896_768 c) rfl (dv14 c) rfl rfl) $$ [HM Hp_3_1]
  · isplitr; · iexact HC
    isplitl [HM]; · iexact HM
    iexact Hp_3_1
  iintro ⟨HM, Hp_3_1⟩
  iapply (load_at8 I c (3 : Fin 4) rfl) $$ Ha_3
  iintro Ha_3
  iapply (load_box c 0 768 1024 256 rfl (by decide)) $$ Hw2
  iintro Hw2
  iapply (load_p0 c (3 : Fin 4) (2 : Fin 3) rfl) $$ Hp_3_2
  iintro %v878 Hp_3_2
  iapply (store_p0 (PP I) c (3 : Fin 4) (2 : Fin 3) rfl (part2 I c (3 : Fin 4) _ rfl)) $$ Hp_3_2
  iintro Hp_3_2
  iapply (le_wp_ret _)
  iapply HK
  isplitl [HM]; · iexact HM
  isplitl [Hp_3_0]; · iexact Hp_3_0
  isplitl [Ha_3]; · iexact Ha_3
  isplitl [Hw2]; · iexact Hw2
  isplitl [Hp_3_1]; · iexact Hp_3_1
  iexact Hp_3_2

theorem part_25 {Q : (Σ' (v891 : BitVec 32) (v906 : FVec F S128x384 .bf16), Vec F S128x384 .bf16) → sProp 𝕄} (v3 : BitVec 32) (v5 : BitVec 32) (v15 : BitVec 1) (v217 : BitVec 32)  :
    iprop(Ctx (PP I) K ∗ Comm c 11 0 0 ∗ pK (PP I) c 3 2 0 0 ∗ pK (PP I) c 0 0 1 0)
      ⊢ iprop((∀ r, iprop(⌜r.2.1 = (k0_pay81 (pV (PP I) c (0 : Fin 4) (0 : Fin 3) (0 : Fin 3) 0) (rV (PP I) c (0 : Fin 4) (0 : Fin 3) (0 : Fin 3))) ∧ r.2.2 = (pV (PP I) c (0 : Fin 4) (0 : Fin 3) (0 : Fin 3) 0)⌝ ∗ Comm c 12 1 1 ∗ pK (PP I) c 3 2 1 0 ∗ pK (PP I) c 0 0 1 0 ∗ rL (PP I) c 0 0 0 ∗ pS c 0 0 0) -∗ Q r)
        -∗ wp frame (wpE (defs₀ (F := F)) 𝒱₀ (c : Thread nD τ) none) Set.univ (k0_part25 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v15 v217) Q) := by
  rw [k0_part25_eq_skeleton]
  simp only [k0_part25_skel, Prog.lift, Prog.bind_op, Prog.bind_ret, Prog.pure_eq_ret]
  iintro ⟨#HC, HM, Hp_3_2, Hp_0_0⟩ HK
  iapply (start_rs (PP I) K c (0 : Fin 3) (3 : Fin 4) (2 : Fin 3) (k0 := 0) (k1 := 1) rfl rfl (n := 11) (a := 0) (r := 0) rfl (by decide) (off3_896_768 c) rfl (dv15 c) rfl rfl) $$ [HM Hp_3_2]
  · isplitr; · iexact HC
    isplitl [HM]; · iexact HM
    iexact Hp_3_2
  iintro ⟨HM, Hp_3_2⟩
  iapply (left_rs (PP I) K c (0 : Fin 3) (0 : Fin 4) (0 : Fin 3) (b := 12) (a := 0) (r := 0) rfl (by decide) rfl rfl) $$ [HM]
  · isplitr; · iexact HC
    iexact HM
  iintro ⟨HM, Hs_0_0_0⟩
  iapply (landed_rs (PP I) K c (0 : Fin 3) (0 : Fin 4) (0 : Fin 3) (b := 12) (a := 1) (r := 0) rfl (by decide) rfl rfl) $$ [HM]
  · isplitr; · iexact HC
    iexact HM
  iintro ⟨HM, Hl_0_0_0⟩
  iapply (load_p (PP I) c (0 : Fin 4) (0 : Fin 3) (0 : Fin 3) (k0 := 0) (k1 := 1) rfl rfl 0 (off4_0_128 c)) $$ Hp_0_0
  iintro Hp_0_0
  iapply (load_r (PP I) c (0 : Fin 4) (0 : Fin 3) (0 : Fin 3) rfl) $$ Hl_0_0_0
  iintro Hl_0_0_0
  iapply (load_p (PP I) c (0 : Fin 4) (0 : Fin 3) (0 : Fin 3) (k0 := 0) (k1 := 1) rfl rfl 0 (off4_0_128 c)) $$ Hp_0_0
  iintro Hp_0_0
  iapply (le_wp_ret _)
  iapply HK
  isplitr
  · ipureintro; first | (simp only [and_self]; done) | exact ⟨rfl, rfl⟩
  isplitl [HM]; · iexact HM
  isplitl [Hp_3_2]; · iexact Hp_3_2
  isplitl [Hp_0_0]; · iexact Hp_0_0
  isplitl [Hl_0_0_0]; · iexact Hl_0_0_0
  iexact Hs_0_0_0

theorem part_26 {Q : (PUnit) → sProp 𝕄} (v4 : BitVec 32) (v5 : BitVec 32) (v236 : BitVec 32) (v906 : FVec F S128x384 .bf16) (v909 : Vec F S128x384 .bf16) (h_v906 : v906 = (k0_pay81 (pV (PP I) c (0 : Fin 4) (0 : Fin 3) (0 : Fin 3) 0) (rV (PP I) c (0 : Fin 4) (0 : Fin 3) (0 : Fin 3)))) (h_v909 : v909 = (pV (PP I) c (0 : Fin 4) (0 : Fin 3) (0 : Fin 3) 0)) :
    iprop(Ctx (PP I) K ∗ pK (PP I) c 0 0 1 0 ∗ Comm c 12 1 1 ∗ pK (PP I) c 0 1 1 0)
      ⊢ iprop((∀ r, iprop(pK (PP I) c 0 0 1 1 ∗ Comm c 12 3 2 ∗ pK (PP I) c 0 1 1 1 ∗ rL (PP I) c 0 1 0 ∗ pS c 0 1 0 ∗ pS c 0 2 0) -∗ Q r)
        -∗ wp frame (wpE (defs₀ (F := F)) 𝒱₀ (c : Thread nD τ) none) Set.univ (k0_part26 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v236 v906 v909) Q) := by
  subst h_v906 h_v909
  rw [k0_part26_eq_skeleton]
  simp only [k0_part26_skel, Prog.lift, Prog.bind_op, Prog.bind_ret, Prog.pure_eq_ret]
  iintro ⟨#HC, Hp_0_0, HM, Hp_0_1⟩ HK
  iapply (store_p (PP I) c (0 : Fin 4) (0 : Fin 3) (0 : Fin 3) (k0 := 0) (k1 := 1) rfl rfl (off4_0_128 c) (shapeCast_self _ _)) $$ Hp_0_0
  iintro Hp_0_0
  iapply (left_rs (PP I) K c (0 : Fin 3) (0 : Fin 4) (1 : Fin 3) (b := 12) (a := 1) (r := 1) rfl (by decide) rfl rfl) $$ [HM]
  · isplitr; · iexact HC
    iexact HM
  iintro ⟨HM, Hs_0_1_0⟩
  iapply (landed_rs (PP I) K c (0 : Fin 3) (0 : Fin 4) (1 : Fin 3) (b := 12) (a := 2) (r := 1) rfl (by decide) rfl rfl) $$ [HM]
  · isplitr; · iexact HC
    iexact HM
  iintro ⟨HM, Hl_0_1_0⟩
  iapply (load_p (PP I) c (0 : Fin 4) (1 : Fin 3) (0 : Fin 3) (k0 := 0) (k1 := 1) rfl rfl 0 (off5_0_128 c)) $$ Hp_0_1
  iintro Hp_0_1
  iapply (load_r (PP I) c (0 : Fin 4) (1 : Fin 3) (0 : Fin 3) rfl) $$ Hl_0_1_0
  iintro Hl_0_1_0
  iapply (load_p (PP I) c (0 : Fin 4) (1 : Fin 3) (0 : Fin 3) (k0 := 0) (k1 := 1) rfl rfl 0 (off5_0_128 c)) $$ Hp_0_1
  iintro Hp_0_1
  iapply (store_p (PP I) c (0 : Fin 4) (1 : Fin 3) (0 : Fin 3) (k0 := 0) (k1 := 1) rfl rfl (off5_0_128 c) (shapeCast_self _ _)) $$ Hp_0_1
  iintro Hp_0_1
  iapply (left_rs (PP I) K c (0 : Fin 3) (0 : Fin 4) (2 : Fin 3) (b := 12) (a := 2) (r := 2) rfl (by decide) rfl rfl) $$ [HM]
  · isplitr; · iexact HC
    iexact HM
  iintro ⟨HM, Hs_0_2_0⟩
  iapply (le_wp_ret _)
  iapply HK
  isplitl [Hp_0_0]; · iexact Hp_0_0
  isplitl [HM]; · iexact HM
  isplitl [Hp_0_1]; · iexact Hp_0_1
  isplitl [Hl_0_1_0]; · iexact Hl_0_1_0
  isplitl [Hs_0_1_0]; · iexact Hs_0_1_0
  iexact Hs_0_2_0

theorem part_27 {Q : (BitVec 32) → sProp 𝕄} (v4 : BitVec 32) (v5 : BitVec 32) (v12 : BitVec 1) (v15 : BitVec 1) (v217 : BitVec 32) (v236 : BitVec 32) (v255 : BitVec 32)  :
    iprop(Ctx (PP I) K ∗ Comm c 12 3 2 ∗ pK (PP I) c 0 2 1 0 ∗ pK (PP I) c 0 0 1 1)
      ⊢ iprop((∀ r, iprop(Comm c 13 3 3 ∗ pK (PP I) c 0 2 1 1 ∗ rL (PP I) c 0 2 0 ∗ pK (PP I) c 0 0 2 1) -∗ Q r)
        -∗ wp frame (wpE (defs₀ (F := F)) 𝒱₀ (c : Thread nD τ) none) Set.univ (k0_part27 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v15 v217 v236 v255) Q) := by
  rw [k0_part27_eq_skeleton]
  simp only [k0_part27_skel, Prog.lift, Prog.bind_op, Prog.bind_ret, Prog.pure_eq_ret]
  iintro ⟨#HC, HM, Hp_0_2, Hp_0_0⟩ HK
  iapply (landed_rs (PP I) K c (0 : Fin 3) (0 : Fin 4) (2 : Fin 3) (b := 12) (a := 3) (r := 2) rfl (by decide) rfl rfl) $$ [HM]
  · isplitr; · iexact HC
    iexact HM
  iintro ⟨HM, Hl_0_2_0⟩
  iapply (load_p (PP I) c (0 : Fin 4) (2 : Fin 3) (0 : Fin 3) (k0 := 0) (k1 := 1) rfl rfl 0 (off6_0_128 c)) $$ Hp_0_2
  iintro Hp_0_2
  iapply (load_r (PP I) c (0 : Fin 4) (2 : Fin 3) (0 : Fin 3) rfl) $$ Hl_0_2_0
  iintro Hl_0_2_0
  iapply (load_p (PP I) c (0 : Fin 4) (2 : Fin 3) (0 : Fin 3) (k0 := 0) (k1 := 1) rfl rfl 0 (off6_0_128 c)) $$ Hp_0_2
  iintro Hp_0_2
  iapply (store_p (PP I) c (0 : Fin 4) (2 : Fin 3) (0 : Fin 3) (k0 := 0) (k1 := 1) rfl rfl (off6_0_128 c) (shapeCast_self _ _)) $$ Hp_0_2
  iintro Hp_0_2
  iapply (start_rs (PP I) K c (1 : Fin 3) (0 : Fin 4) (0 : Fin 3) (k0 := 1) (k1 := 2) rfl rfl (n := 12) (a := 3) (r := 3) rfl (by decide) (off7_0_128 c) rfl (dv16 c) rfl rfl) $$ [HM Hp_0_0]
  · isplitr; · iexact HC
    isplitl [HM]; · iexact HM
    iexact Hp_0_0
  iintro ⟨HM, Hp_0_0⟩
  iapply (le_wp_ret _)
  iapply HK
  isplitl [HM]; · iexact HM
  isplitl [Hp_0_2]; · iexact Hp_0_2
  isplitl [Hl_0_2_0]; · iexact Hl_0_2_0
  iexact Hp_0_0

theorem part_28 {Q : (Σ' (v977 : BitVec 32), BitVec 32) → sProp 𝕄} (v3 : BitVec 32) (v9 : BitVec 1) (v15 : BitVec 1) (v236 : BitVec 32) (v255 : BitVec 32) (v429 : BitVec 32)  :
    iprop(Ctx (PP I) K ∗ Comm c 13 3 3 ∗ pK (PP I) c 0 1 1 1 ∗ pK (PP I) c 0 2 1 1)
      ⊢ iprop((∀ r, iprop(Comm c 15 4 4 ∗ pK (PP I) c 0 1 2 1 ∗ pK (PP I) c 0 2 2 1 ∗ rL (PP I) c 1 0 0 ∗ pS c 1 0 0) -∗ Q r)
        -∗ wp frame (wpE (defs₀ (F := F)) 𝒱₀ (c : Thread nD τ) none) Set.univ (k0_part28 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v9 v15 v236 v255 v429) Q) := by
  rw [k0_part28_eq_skeleton]
  simp only [k0_part28_skel, Prog.lift, Prog.bind_op, Prog.bind_ret, Prog.pure_eq_ret]
  iintro ⟨#HC, HM, Hp_0_1, Hp_0_2⟩ HK
  iapply (start_rs (PP I) K c (1 : Fin 3) (0 : Fin 4) (1 : Fin 3) (k0 := 1) (k1 := 2) rfl rfl (n := 13) (a := 3) (r := 3) rfl (by decide) (off8_0_128 c) rfl (dv17 c) rfl rfl) $$ [HM Hp_0_1]
  · isplitr; · iexact HC
    isplitl [HM]; · iexact HM
    iexact Hp_0_1
  iintro ⟨HM, Hp_0_1⟩
  iapply (start_rs (PP I) K c (1 : Fin 3) (0 : Fin 4) (2 : Fin 3) (k0 := 1) (k1 := 2) rfl rfl (n := 14) (a := 3) (r := 3) rfl (by decide) (off9_0_128 c) rfl (dv18 c) rfl rfl) $$ [HM Hp_0_2]
  · isplitr; · iexact HC
    isplitl [HM]; · iexact HM
    iexact Hp_0_2
  iintro ⟨HM, Hp_0_2⟩
  iapply (left_rs (PP I) K c (0 : Fin 3) (1 : Fin 4) (0 : Fin 3) (b := 15) (a := 3) (r := 3) rfl (by decide) rfl rfl) $$ [HM]
  · isplitr; · iexact HC
    iexact HM
  iintro ⟨HM, Hs_1_0_0⟩
  iapply (landed_rs (PP I) K c (0 : Fin 3) (1 : Fin 4) (0 : Fin 3) (b := 15) (a := 4) (r := 3) rfl (by decide) rfl rfl) $$ [HM]
  · isplitr; · iexact HC
    iexact HM
  iintro ⟨HM, Hl_1_0_0⟩
  iapply (le_wp_ret _)
  iapply HK
  isplitl [HM]; · iexact HM
  isplitl [Hp_0_1]; · iexact Hp_0_1
  isplitl [Hp_0_2]; · iexact Hp_0_2
  isplitl [Hl_1_0_0]; · iexact Hl_1_0_0
  iexact Hs_1_0_0

theorem part_29 {Q : (PUnit) → sProp 𝕄} (v4 : BitVec 32) (v429 : BitVec 32) (v448 : BitVec 32)  :
    iprop(Ctx (PP I) K ∗ pK (PP I) c 1 0 1 0 ∗ rL (PP I) c 1 0 0 ∗ Comm c 15 4 4 ∗ pK (PP I) c 1 1 1 0)
      ⊢ iprop((∀ r, iprop(pK (PP I) c 1 0 1 1 ∗ rL (PP I) c 1 0 0 ∗ Comm c 15 5 5 ∗ pK (PP I) c 1 1 1 1 ∗ rL (PP I) c 1 1 0 ∗ pS c 1 1 0) -∗ Q r)
        -∗ wp frame (wpE (defs₀ (F := F)) 𝒱₀ (c : Thread nD τ) none) Set.univ (k0_part29 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v429 v448) Q) := by
  rw [k0_part29_eq_skeleton]
  simp only [k0_part29_skel, Prog.lift, Prog.bind_op, Prog.bind_ret, Prog.pure_eq_ret]
  iintro ⟨#HC, Hp_1_0, Hl_1_0_0, HM, Hp_1_1⟩ HK
  iapply (load_p (PP I) c (1 : Fin 4) (0 : Fin 3) (0 : Fin 3) (k0 := 0) (k1 := 1) rfl rfl 0 (off4_256_384 c)) $$ Hp_1_0
  iintro Hp_1_0
  iapply (load_r (PP I) c (1 : Fin 4) (0 : Fin 3) (0 : Fin 3) rfl) $$ Hl_1_0_0
  iintro Hl_1_0_0
  iapply (load_p (PP I) c (1 : Fin 4) (0 : Fin 3) (0 : Fin 3) (k0 := 0) (k1 := 1) rfl rfl 0 (off4_256_384 c)) $$ Hp_1_0
  iintro Hp_1_0
  iapply (store_p (PP I) c (1 : Fin 4) (0 : Fin 3) (0 : Fin 3) (k0 := 0) (k1 := 1) rfl rfl (off4_256_384 c) (shapeCast_self _ _)) $$ Hp_1_0
  iintro Hp_1_0
  iapply (left_rs (PP I) K c (0 : Fin 3) (1 : Fin 4) (1 : Fin 3) (b := 15) (a := 4) (r := 4) rfl (by decide) rfl rfl) $$ [HM]
  · isplitr; · iexact HC
    iexact HM
  iintro ⟨HM, Hs_1_1_0⟩
  iapply (landed_rs (PP I) K c (0 : Fin 3) (1 : Fin 4) (1 : Fin 3) (b := 15) (a := 5) (r := 4) rfl (by decide) rfl rfl) $$ [HM]
  · isplitr; · iexact HC
    iexact HM
  iintro ⟨HM, Hl_1_1_0⟩
  iapply (load_p (PP I) c (1 : Fin 4) (1 : Fin 3) (0 : Fin 3) (k0 := 0) (k1 := 1) rfl rfl 0 (off5_256_384 c)) $$ Hp_1_1
  iintro Hp_1_1
  iapply (load_r (PP I) c (1 : Fin 4) (1 : Fin 3) (0 : Fin 3) rfl) $$ Hl_1_1_0
  iintro Hl_1_1_0
  iapply (load_p (PP I) c (1 : Fin 4) (1 : Fin 3) (0 : Fin 3) (k0 := 0) (k1 := 1) rfl rfl 0 (off5_256_384 c)) $$ Hp_1_1
  iintro Hp_1_1
  iapply (store_p (PP I) c (1 : Fin 4) (1 : Fin 3) (0 : Fin 3) (k0 := 0) (k1 := 1) rfl rfl (off5_256_384 c) (shapeCast_self _ _)) $$ Hp_1_1
  iintro Hp_1_1
  iapply (le_wp_ret _)
  iapply HK
  isplitl [Hp_1_0]; · iexact Hp_1_0
  isplitl [Hl_1_0_0]; · iexact Hl_1_0_0
  isplitl [HM]; · iexact HM
  isplitl [Hp_1_1]; · iexact Hp_1_1
  isplitl [Hl_1_1_0]; · iexact Hl_1_1_0
  iexact Hs_1_1_0

theorem part_30 {Q : (BitVec 32) → sProp 𝕄} (v4 : BitVec 32) (v5 : BitVec 32) (v12 : BitVec 1) (v15 : BitVec 1) (v429 : BitVec 32) (v448 : BitVec 32) (v467 : BitVec 32)  :
    iprop(Ctx (PP I) K ∗ Comm c 15 5 5 ∗ pK (PP I) c 1 2 1 0 ∗ pK (PP I) c 1 0 1 1)
      ⊢ iprop((∀ r, iprop(Comm c 16 6 6 ∗ pK (PP I) c 1 2 1 1 ∗ rL (PP I) c 1 2 0 ∗ pK (PP I) c 1 0 2 1 ∗ pS c 1 2 0) -∗ Q r)
        -∗ wp frame (wpE (defs₀ (F := F)) 𝒱₀ (c : Thread nD τ) none) Set.univ (k0_part30 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v15 v429 v448 v467) Q) := by
  rw [k0_part30_eq_skeleton]
  simp only [k0_part30_skel, Prog.lift, Prog.bind_op, Prog.bind_ret, Prog.pure_eq_ret]
  iintro ⟨#HC, HM, Hp_1_2, Hp_1_0⟩ HK
  iapply (left_rs (PP I) K c (0 : Fin 3) (1 : Fin 4) (2 : Fin 3) (b := 15) (a := 5) (r := 5) rfl (by decide) rfl rfl) $$ [HM]
  · isplitr; · iexact HC
    iexact HM
  iintro ⟨HM, Hs_1_2_0⟩
  iapply (landed_rs (PP I) K c (0 : Fin 3) (1 : Fin 4) (2 : Fin 3) (b := 15) (a := 6) (r := 5) rfl (by decide) rfl rfl) $$ [HM]
  · isplitr; · iexact HC
    iexact HM
  iintro ⟨HM, Hl_1_2_0⟩
  iapply (load_p (PP I) c (1 : Fin 4) (2 : Fin 3) (0 : Fin 3) (k0 := 0) (k1 := 1) rfl rfl 0 (off6_256_384 c)) $$ Hp_1_2
  iintro Hp_1_2
  iapply (load_r (PP I) c (1 : Fin 4) (2 : Fin 3) (0 : Fin 3) rfl) $$ Hl_1_2_0
  iintro Hl_1_2_0
  iapply (load_p (PP I) c (1 : Fin 4) (2 : Fin 3) (0 : Fin 3) (k0 := 0) (k1 := 1) rfl rfl 0 (off6_256_384 c)) $$ Hp_1_2
  iintro Hp_1_2
  iapply (store_p (PP I) c (1 : Fin 4) (2 : Fin 3) (0 : Fin 3) (k0 := 0) (k1 := 1) rfl rfl (off6_256_384 c) (shapeCast_self _ _)) $$ Hp_1_2
  iintro Hp_1_2
  iapply (start_rs (PP I) K c (1 : Fin 3) (1 : Fin 4) (0 : Fin 3) (k0 := 1) (k1 := 2) rfl rfl (n := 15) (a := 6) (r := 6) rfl (by decide) (off7_256_384 c) rfl (dv19 c) rfl rfl) $$ [HM Hp_1_0]
  · isplitr; · iexact HC
    isplitl [HM]; · iexact HM
    iexact Hp_1_0
  iintro ⟨HM, Hp_1_0⟩
  iapply (le_wp_ret _)
  iapply HK
  isplitl [HM]; · iexact HM
  isplitl [Hp_1_2]; · iexact Hp_1_2
  isplitl [Hl_1_2_0]; · iexact Hl_1_2_0
  isplitl [Hp_1_0]; · iexact Hp_1_0
  iexact Hs_1_2_0

theorem part_31 {Q : (Σ' (v1076 : BitVec 32), BitVec 32) → sProp 𝕄} (v3 : BitVec 32) (v5 : BitVec 32) (v9 : BitVec 1) (v15 : BitVec 1) (v448 : BitVec 32) (v467 : BitVec 32)  :
    iprop(Ctx (PP I) K ∗ Comm c 16 6 6 ∗ pK (PP I) c 1 1 1 1 ∗ pK (PP I) c 1 2 1 1)
      ⊢ iprop((∀ r, iprop(Comm c 18 7 6 ∗ pK (PP I) c 1 1 2 1 ∗ pK (PP I) c 1 2 2 1 ∗ pS c 2 0 0) -∗ Q r)
        -∗ wp frame (wpE (defs₀ (F := F)) 𝒱₀ (c : Thread nD τ) none) Set.univ (k0_part31 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v9 v15 v448 v467) Q) := by
  rw [k0_part31_eq_skeleton]
  simp only [k0_part31_skel, Prog.lift, Prog.bind_op, Prog.bind_ret, Prog.pure_eq_ret]
  iintro ⟨#HC, HM, Hp_1_1, Hp_1_2⟩ HK
  iapply (start_rs (PP I) K c (1 : Fin 3) (1 : Fin 4) (1 : Fin 3) (k0 := 1) (k1 := 2) rfl rfl (n := 16) (a := 6) (r := 6) rfl (by decide) (off8_256_384 c) rfl (dv20 c) rfl rfl) $$ [HM Hp_1_1]
  · isplitr; · iexact HC
    isplitl [HM]; · iexact HM
    iexact Hp_1_1
  iintro ⟨HM, Hp_1_1⟩
  iapply (start_rs (PP I) K c (1 : Fin 3) (1 : Fin 4) (2 : Fin 3) (k0 := 1) (k1 := 2) rfl rfl (n := 17) (a := 6) (r := 6) rfl (by decide) (off9_256_384 c) rfl (dv21 c) rfl rfl) $$ [HM Hp_1_2]
  · isplitr; · iexact HC
    isplitl [HM]; · iexact HM
    iexact Hp_1_2
  iintro ⟨HM, Hp_1_2⟩
  iapply (left_rs (PP I) K c (0 : Fin 3) (2 : Fin 4) (0 : Fin 3) (b := 18) (a := 6) (r := 6) rfl (by decide) rfl rfl) $$ [HM]
  · isplitr; · iexact HC
    iexact HM
  iintro ⟨HM, Hs_2_0_0⟩
  iapply (le_wp_ret _)
  iapply HK
  isplitl [HM]; · iexact HM
  isplitl [Hp_1_1]; · iexact Hp_1_1
  isplitl [Hp_1_2]; · iexact Hp_1_2
  iexact Hs_2_0_0

theorem part_32 {Q : (FVec F S128x384 .bf16) → sProp 𝕄} (v4 : BitVec 32) (v641 : BitVec 32) (v660 : BitVec 32)  :
    iprop(Ctx (PP I) K ∗ Comm c 18 7 6 ∗ pK (PP I) c 2 0 1 0 ∗ pK (PP I) c 2 1 1 0)
      ⊢ iprop((∀ r, iprop(⌜r = (k0_pay89 (pV (PP I) c (2 : Fin 4) (1 : Fin 3) (0 : Fin 3) 0) (rV (PP I) c (2 : Fin 4) (1 : Fin 3) (0 : Fin 3)))⌝ ∗ Comm c 18 8 8 ∗ pK (PP I) c 2 0 1 1 ∗ rL (PP I) c 2 0 0 ∗ pK (PP I) c 2 1 1 0 ∗ rL (PP I) c 2 1 0 ∗ pS c 2 1 0) -∗ Q r)
        -∗ wp frame (wpE (defs₀ (F := F)) 𝒱₀ (c : Thread nD τ) none) Set.univ (k0_part32 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v641 v660) Q) := by
  rw [k0_part32_eq_skeleton]
  simp only [k0_part32_skel, Prog.lift, Prog.bind_op, Prog.bind_ret, Prog.pure_eq_ret]
  iintro ⟨#HC, HM, Hp_2_0, Hp_2_1⟩ HK
  iapply (landed_rs (PP I) K c (0 : Fin 3) (2 : Fin 4) (0 : Fin 3) (b := 18) (a := 7) (r := 6) rfl (by decide) rfl rfl) $$ [HM]
  · isplitr; · iexact HC
    iexact HM
  iintro ⟨HM, Hl_2_0_0⟩
  iapply (load_p (PP I) c (2 : Fin 4) (0 : Fin 3) (0 : Fin 3) (k0 := 0) (k1 := 1) rfl rfl 0 (off4_512_640 c)) $$ Hp_2_0
  iintro Hp_2_0
  iapply (load_r (PP I) c (2 : Fin 4) (0 : Fin 3) (0 : Fin 3) rfl) $$ Hl_2_0_0
  iintro Hl_2_0_0
  iapply (load_p (PP I) c (2 : Fin 4) (0 : Fin 3) (0 : Fin 3) (k0 := 0) (k1 := 1) rfl rfl 0 (off4_512_640 c)) $$ Hp_2_0
  iintro Hp_2_0
  iapply (store_p (PP I) c (2 : Fin 4) (0 : Fin 3) (0 : Fin 3) (k0 := 0) (k1 := 1) rfl rfl (off4_512_640 c) (shapeCast_self _ _)) $$ Hp_2_0
  iintro Hp_2_0
  iapply (left_rs (PP I) K c (0 : Fin 3) (2 : Fin 4) (1 : Fin 3) (b := 18) (a := 7) (r := 7) rfl (by decide) rfl rfl) $$ [HM]
  · isplitr; · iexact HC
    iexact HM
  iintro ⟨HM, Hs_2_1_0⟩
  iapply (landed_rs (PP I) K c (0 : Fin 3) (2 : Fin 4) (1 : Fin 3) (b := 18) (a := 8) (r := 7) rfl (by decide) rfl rfl) $$ [HM]
  · isplitr; · iexact HC
    iexact HM
  iintro ⟨HM, Hl_2_1_0⟩
  iapply (load_p (PP I) c (2 : Fin 4) (1 : Fin 3) (0 : Fin 3) (k0 := 0) (k1 := 1) rfl rfl 0 (off5_512_640 c)) $$ Hp_2_1
  iintro Hp_2_1
  iapply (load_r (PP I) c (2 : Fin 4) (1 : Fin 3) (0 : Fin 3) rfl) $$ Hl_2_1_0
  iintro Hl_2_1_0
  iapply (load_p (PP I) c (2 : Fin 4) (1 : Fin 3) (0 : Fin 3) (k0 := 0) (k1 := 1) rfl rfl 0 (off5_512_640 c)) $$ Hp_2_1
  iintro Hp_2_1
  iapply (le_wp_ret _)
  iapply HK
  isplitr
  · ipureintro; first | (simp only [and_self]; done) | exact rfl
  isplitl [HM]; · iexact HM
  isplitl [Hp_2_0]; · iexact Hp_2_0
  isplitl [Hl_2_0_0]; · iexact Hl_2_0_0
  isplitl [Hp_2_1]; · iexact Hp_2_1
  isplitl [Hl_2_1_0]; · iexact Hl_2_1_0
  iexact Hs_2_1_0

theorem part_33 {Q : (PUnit) → sProp 𝕄} (v4 : BitVec 32) (v5 : BitVec 32) (v12 : BitVec 1) (v641 : BitVec 32) (v679 : BitVec 32) (v1129 : FVec F S128x384 .bf16) (h_v1129 : v1129 = (k0_pay89 (pV (PP I) c (2 : Fin 4) (1 : Fin 3) (0 : Fin 3) 0) (rV (PP I) c (2 : Fin 4) (1 : Fin 3) (0 : Fin 3)))) :
    iprop(Ctx (PP I) K ∗ pK (PP I) c 2 1 1 0 ∗ Comm c 18 8 8 ∗ pK (PP I) c 2 2 1 0)
      ⊢ iprop((∀ r, iprop(pK (PP I) c 2 1 1 1 ∗ Comm c 18 9 9 ∗ pK (PP I) c 2 2 1 1 ∗ rL (PP I) c 2 2 0 ∗ pS c 2 2 0) -∗ Q r)
        -∗ wp frame (wpE (defs₀ (F := F)) 𝒱₀ (c : Thread nD τ) none) Set.univ (k0_part33 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v641 v679 v1129) Q) := by
  subst h_v1129
  rw [k0_part33_eq_skeleton]
  simp only [k0_part33_skel, Prog.lift, Prog.bind_op, Prog.bind_ret, Prog.pure_eq_ret]
  iintro ⟨#HC, Hp_2_1, HM, Hp_2_2⟩ HK
  iapply (store_p (PP I) c (2 : Fin 4) (1 : Fin 3) (0 : Fin 3) (k0 := 0) (k1 := 1) rfl rfl (off5_512_640 c) (shapeCast_self _ _)) $$ Hp_2_1
  iintro Hp_2_1
  iapply (left_rs (PP I) K c (0 : Fin 3) (2 : Fin 4) (2 : Fin 3) (b := 18) (a := 8) (r := 8) rfl (by decide) rfl rfl) $$ [HM]
  · isplitr; · iexact HC
    iexact HM
  iintro ⟨HM, Hs_2_2_0⟩
  iapply (landed_rs (PP I) K c (0 : Fin 3) (2 : Fin 4) (2 : Fin 3) (b := 18) (a := 9) (r := 8) rfl (by decide) rfl rfl) $$ [HM]
  · isplitr; · iexact HC
    iexact HM
  iintro ⟨HM, Hl_2_2_0⟩
  iapply (load_p (PP I) c (2 : Fin 4) (2 : Fin 3) (0 : Fin 3) (k0 := 0) (k1 := 1) rfl rfl 0 (off6_512_640 c)) $$ Hp_2_2
  iintro Hp_2_2
  iapply (load_r (PP I) c (2 : Fin 4) (2 : Fin 3) (0 : Fin 3) rfl) $$ Hl_2_2_0
  iintro Hl_2_2_0
  iapply (load_p (PP I) c (2 : Fin 4) (2 : Fin 3) (0 : Fin 3) (k0 := 0) (k1 := 1) rfl rfl 0 (off6_512_640 c)) $$ Hp_2_2
  iintro Hp_2_2
  iapply (store_p (PP I) c (2 : Fin 4) (2 : Fin 3) (0 : Fin 3) (k0 := 0) (k1 := 1) rfl rfl (off6_512_640 c) (shapeCast_self _ _)) $$ Hp_2_2
  iintro Hp_2_2
  iapply (le_wp_ret _)
  iapply HK
  isplitl [Hp_2_1]; · iexact Hp_2_1
  isplitl [HM]; · iexact HM
  isplitl [Hp_2_2]; · iexact Hp_2_2
  isplitl [Hl_2_2_0]; · iexact Hl_2_2_0
  iexact Hs_2_2_0

end
end Cert.TreeProof
-- ==== Proof.Parts3.lean ====
module

public import proofs.«01_k».proof.Proof.Offs
public import Idealize.ShloMosaic.Lib.Pipeline.Value

/-! # The body, statement groups 34 to 50 -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 1600000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

theorem part_34 {Q : (Σ' (v1162 : BitVec 32) (v1175 : BitVec 32), BitVec 32) → sProp 𝕄} (v3 : BitVec 32) (v5 : BitVec 32) (v9 : BitVec 1) (v12 : BitVec 1) (v15 : BitVec 1) (v641 : BitVec 32) (v660 : BitVec 32) (v679 : BitVec 32)  :
    iprop(Ctx (PP I) K ∗ Comm c 18 9 9 ∗ pK (PP I) c 2 0 1 1 ∗ pK (PP I) c 2 1 1 1 ∗ pK (PP I) c 2 2 1 1)
      ⊢ iprop((∀ r, iprop(Comm c 21 9 9 ∗ pK (PP I) c 2 0 2 1 ∗ pK (PP I) c 2 1 2 1 ∗ pK (PP I) c 2 2 2 1) -∗ Q r)
        -∗ wp frame (wpE (defs₀ (F := F)) 𝒱₀ (c : Thread nD τ) none) Set.univ (k0_part34 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v9 v12 v15 v641 v660 v679) Q) := by
  rw [k0_part34_eq_skeleton]
  simp only [k0_part34_skel, Prog.lift, Prog.bind_op, Prog.bind_ret, Prog.pure_eq_ret]
  iintro ⟨#HC, HM, Hp_2_0, Hp_2_1, Hp_2_2⟩ HK
  iapply (start_rs (PP I) K c (1 : Fin 3) (2 : Fin 4) (0 : Fin 3) (k0 := 1) (k1 := 2) rfl rfl (n := 18) (a := 9) (r := 9) rfl (by decide) (off7_512_640 c) rfl (dv22 c) rfl rfl) $$ [HM Hp_2_0]
  · isplitr; · iexact HC
    isplitl [HM]; · iexact HM
    iexact Hp_2_0
  iintro ⟨HM, Hp_2_0⟩
  iapply (start_rs (PP I) K c (1 : Fin 3) (2 : Fin 4) (1 : Fin 3) (k0 := 1) (k1 := 2) rfl rfl (n := 19) (a := 9) (r := 9) rfl (by decide) (off8_512_640 c) rfl (dv23 c) rfl rfl) $$ [HM Hp_2_1]
  · isplitr; · iexact HC
    isplitl [HM]; · iexact HM
    iexact Hp_2_1
  iintro ⟨HM, Hp_2_1⟩
  iapply (start_rs (PP I) K c (1 : Fin 3) (2 : Fin 4) (2 : Fin 3) (k0 := 1) (k1 := 2) rfl rfl (n := 20) (a := 9) (r := 9) rfl (by decide) (off9_512_640 c) rfl (dv24 c) rfl rfl) $$ [HM Hp_2_2]
  · isplitr; · iexact HC
    isplitl [HM]; · iexact HM
    iexact Hp_2_2
  iintro ⟨HM, Hp_2_2⟩
  iapply (le_wp_ret _)
  iapply HK
  isplitl [HM]; · iexact HM
  isplitl [Hp_2_0]; · iexact Hp_2_0
  isplitl [Hp_2_1]; · iexact Hp_2_1
  iexact Hp_2_2

theorem part_35 {Q : (Vec F S128x384 .bf16) → sProp 𝕄} (v3 : BitVec 32) (v4 : BitVec 32) (v853 : BitVec 32) (v872 : BitVec 32)  :
    iprop(Ctx (PP I) K ∗ Comm c 21 9 9 ∗ pK (PP I) c 3 0 1 0 ∗ pK (PP I) c 3 1 1 0)
      ⊢ iprop((∀ r, iprop(⌜r = (pV (PP I) c (3 : Fin 4) (1 : Fin 3) (0 : Fin 3) 0)⌝ ∗ Comm c 21 11 11 ∗ pK (PP I) c 3 0 1 1 ∗ rL (PP I) c 3 0 0 ∗ pK (PP I) c 3 1 1 0 ∗ rL (PP I) c 3 1 0 ∗ pS c 3 0 0 ∗ pS c 3 1 0) -∗ Q r)
        -∗ wp frame (wpE (defs₀ (F := F)) 𝒱₀ (c : Thread nD τ) none) Set.univ (k0_part35 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v853 v872) Q) := by
  rw [k0_part35_eq_skeleton]
  simp only [k0_part35_skel, Prog.lift, Prog.bind_op, Prog.bind_ret, Prog.pure_eq_ret]
  iintro ⟨#HC, HM, Hp_3_0, Hp_3_1⟩ HK
  iapply (left_rs (PP I) K c (0 : Fin 3) (3 : Fin 4) (0 : Fin 3) (b := 21) (a := 9) (r := 9) rfl (by decide) rfl rfl) $$ [HM]
  · isplitr; · iexact HC
    iexact HM
  iintro ⟨HM, Hs_3_0_0⟩
  iapply (landed_rs (PP I) K c (0 : Fin 3) (3 : Fin 4) (0 : Fin 3) (b := 21) (a := 10) (r := 9) rfl (by decide) rfl rfl) $$ [HM]
  · isplitr; · iexact HC
    iexact HM
  iintro ⟨HM, Hl_3_0_0⟩
  iapply (load_p (PP I) c (3 : Fin 4) (0 : Fin 3) (0 : Fin 3) (k0 := 0) (k1 := 1) rfl rfl 0 (off4_768_896 c)) $$ Hp_3_0
  iintro Hp_3_0
  iapply (load_r (PP I) c (3 : Fin 4) (0 : Fin 3) (0 : Fin 3) rfl) $$ Hl_3_0_0
  iintro Hl_3_0_0
  iapply (load_p (PP I) c (3 : Fin 4) (0 : Fin 3) (0 : Fin 3) (k0 := 0) (k1 := 1) rfl rfl 0 (off4_768_896 c)) $$ Hp_3_0
  iintro Hp_3_0
  iapply (store_p (PP I) c (3 : Fin 4) (0 : Fin 3) (0 : Fin 3) (k0 := 0) (k1 := 1) rfl rfl (off4_768_896 c) (shapeCast_self _ _)) $$ Hp_3_0
  iintro Hp_3_0
  iapply (left_rs (PP I) K c (0 : Fin 3) (3 : Fin 4) (1 : Fin 3) (b := 21) (a := 10) (r := 10) rfl (by decide) rfl rfl) $$ [HM]
  · isplitr; · iexact HC
    iexact HM
  iintro ⟨HM, Hs_3_1_0⟩
  iapply (landed_rs (PP I) K c (0 : Fin 3) (3 : Fin 4) (1 : Fin 3) (b := 21) (a := 11) (r := 10) rfl (by decide) rfl rfl) $$ [HM]
  · isplitr; · iexact HC
    iexact HM
  iintro ⟨HM, Hl_3_1_0⟩
  iapply (load_p (PP I) c (3 : Fin 4) (1 : Fin 3) (0 : Fin 3) (k0 := 0) (k1 := 1) rfl rfl 0 (off5_768_896 c)) $$ Hp_3_1
  iintro Hp_3_1
  iapply (le_wp_ret _)
  iapply HK
  isplitr
  · ipureintro; first | (simp only [and_self]; done) | exact rfl
  isplitl [HM]; · iexact HM
  isplitl [Hp_3_0]; · iexact Hp_3_0
  isplitl [Hl_3_0_0]; · iexact Hl_3_0_0
  isplitl [Hp_3_1]; · iexact Hp_3_1
  isplitl [Hl_3_1_0]; · iexact Hl_3_1_0
  isplitl [Hs_3_0_0]; · iexact Hs_3_0_0
  iexact Hs_3_1_0

theorem part_36 {Q : (PUnit) → sProp 𝕄} (v4 : BitVec 32) (v5 : BitVec 32) (v12 : BitVec 1) (v853 : BitVec 32) (v872 : BitVec 32) (v891 : BitVec 32) (v1221 : Vec F S128x384 .bf16) (h_v1221 : v1221 = (pV (PP I) c (3 : Fin 4) (1 : Fin 3) (0 : Fin 3) 0)) :
    iprop(Ctx (PP I) K ∗ rL (PP I) c 3 1 0 ∗ pK (PP I) c 3 1 1 0 ∗ Comm c 21 11 11 ∗ pK (PP I) c 3 2 1 0)
      ⊢ iprop((∀ r, iprop(rL (PP I) c 3 1 0 ∗ pK (PP I) c 3 1 1 1 ∗ Comm c 21 12 12 ∗ pK (PP I) c 3 2 1 1 ∗ rL (PP I) c 3 2 0 ∗ pS c 3 2 0) -∗ Q r)
        -∗ wp frame (wpE (defs₀ (F := F)) 𝒱₀ (c : Thread nD τ) none) Set.univ (k0_part36 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v853 v872 v891 v1221) Q) := by
  subst h_v1221
  rw [k0_part36_eq_skeleton]
  simp only [k0_part36_skel, Prog.lift, Prog.bind_op, Prog.bind_ret, Prog.pure_eq_ret]
  iintro ⟨#HC, Hl_3_1_0, Hp_3_1, HM, Hp_3_2⟩ HK
  iapply (load_r (PP I) c (3 : Fin 4) (1 : Fin 3) (0 : Fin 3) rfl) $$ Hl_3_1_0
  iintro Hl_3_1_0
  iapply (load_p (PP I) c (3 : Fin 4) (1 : Fin 3) (0 : Fin 3) (k0 := 0) (k1 := 1) rfl rfl 0 (off5_768_896 c)) $$ Hp_3_1
  iintro Hp_3_1
  iapply (store_p (PP I) c (3 : Fin 4) (1 : Fin 3) (0 : Fin 3) (k0 := 0) (k1 := 1) rfl rfl (off5_768_896 c) (shapeCast_self _ _)) $$ Hp_3_1
  iintro Hp_3_1
  iapply (left_rs (PP I) K c (0 : Fin 3) (3 : Fin 4) (2 : Fin 3) (b := 21) (a := 11) (r := 11) rfl (by decide) rfl rfl) $$ [HM]
  · isplitr; · iexact HC
    iexact HM
  iintro ⟨HM, Hs_3_2_0⟩
  iapply (landed_rs (PP I) K c (0 : Fin 3) (3 : Fin 4) (2 : Fin 3) (b := 21) (a := 12) (r := 11) rfl (by decide) rfl rfl) $$ [HM]
  · isplitr; · iexact HC
    iexact HM
  iintro ⟨HM, Hl_3_2_0⟩
  iapply (load_p (PP I) c (3 : Fin 4) (2 : Fin 3) (0 : Fin 3) (k0 := 0) (k1 := 1) rfl rfl 0 (off6_768_896 c)) $$ Hp_3_2
  iintro Hp_3_2
  iapply (load_r (PP I) c (3 : Fin 4) (2 : Fin 3) (0 : Fin 3) rfl) $$ Hl_3_2_0
  iintro Hl_3_2_0
  iapply (load_p (PP I) c (3 : Fin 4) (2 : Fin 3) (0 : Fin 3) (k0 := 0) (k1 := 1) rfl rfl 0 (off6_768_896 c)) $$ Hp_3_2
  iintro Hp_3_2
  iapply (store_p (PP I) c (3 : Fin 4) (2 : Fin 3) (0 : Fin 3) (k0 := 0) (k1 := 1) rfl rfl (off6_768_896 c) (shapeCast_self _ _)) $$ Hp_3_2
  iintro Hp_3_2
  iapply (le_wp_ret _)
  iapply HK
  isplitl [Hl_3_1_0]; · iexact Hl_3_1_0
  isplitl [Hp_3_1]; · iexact Hp_3_1
  isplitl [HM]; · iexact HM
  isplitl [Hp_3_2]; · iexact Hp_3_2
  isplitl [Hl_3_2_0]; · iexact Hl_3_2_0
  iexact Hs_3_2_0

theorem part_37 {Q : (Σ' (v1261 : BitVec 32) (v1274 : BitVec 32), BitVec 32) → sProp 𝕄} (v3 : BitVec 32) (v5 : BitVec 32) (v9 : BitVec 1) (v12 : BitVec 1) (v15 : BitVec 1) (v853 : BitVec 32) (v872 : BitVec 32) (v891 : BitVec 32)  :
    iprop(Ctx (PP I) K ∗ Comm c 21 12 12 ∗ pK (PP I) c 3 0 1 1 ∗ pK (PP I) c 3 1 1 1 ∗ pK (PP I) c 3 2 1 1)
      ⊢ iprop((∀ r, iprop(Comm c 24 12 12 ∗ pK (PP I) c 3 0 2 1 ∗ pK (PP I) c 3 1 2 1 ∗ pK (PP I) c 3 2 2 1) -∗ Q r)
        -∗ wp frame (wpE (defs₀ (F := F)) 𝒱₀ (c : Thread nD τ) none) Set.univ (k0_part37 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v9 v12 v15 v853 v872 v891) Q) := by
  rw [k0_part37_eq_skeleton]
  simp only [k0_part37_skel, Prog.lift, Prog.bind_op, Prog.bind_ret, Prog.pure_eq_ret]
  iintro ⟨#HC, HM, Hp_3_0, Hp_3_1, Hp_3_2⟩ HK
  iapply (start_rs (PP I) K c (1 : Fin 3) (3 : Fin 4) (0 : Fin 3) (k0 := 1) (k1 := 2) rfl rfl (n := 21) (a := 12) (r := 12) rfl (by decide) (off7_768_896 c) rfl (dv25 c) rfl rfl) $$ [HM Hp_3_0]
  · isplitr; · iexact HC
    isplitl [HM]; · iexact HM
    iexact Hp_3_0
  iintro ⟨HM, Hp_3_0⟩
  iapply (start_rs (PP I) K c (1 : Fin 3) (3 : Fin 4) (1 : Fin 3) (k0 := 1) (k1 := 2) rfl rfl (n := 22) (a := 12) (r := 12) rfl (by decide) (off8_768_896 c) rfl (dv26 c) rfl rfl) $$ [HM Hp_3_1]
  · isplitr; · iexact HC
    isplitl [HM]; · iexact HM
    iexact Hp_3_1
  iintro ⟨HM, Hp_3_1⟩
  iapply (start_rs (PP I) K c (1 : Fin 3) (3 : Fin 4) (2 : Fin 3) (k0 := 1) (k1 := 2) rfl rfl (n := 23) (a := 12) (r := 12) rfl (by decide) (off9_768_896 c) rfl (dv27 c) rfl rfl) $$ [HM Hp_3_2]
  · isplitr; · iexact HC
    isplitl [HM]; · iexact HM
    iexact Hp_3_2
  iintro ⟨HM, Hp_3_2⟩
  iapply (le_wp_ret _)
  iapply HK
  isplitl [HM]; · iexact HM
  isplitl [Hp_3_0]; · iexact Hp_3_0
  isplitl [Hp_3_1]; · iexact Hp_3_1
  iexact Hp_3_2

theorem part_38 {Q : (PUnit) → sProp 𝕄} (v4 : BitVec 32) (v5 : BitVec 32) (v964 : BitVec 32)  :
    iprop(Ctx (PP I) K ∗ Comm c 24 12 12 ∗ pK (PP I) c 0 0 2 1)
      ⊢ iprop((∀ r, iprop(Comm c 24 14 13 ∗ pK (PP I) c 0 0 2 2 ∗ rL (PP I) c 0 0 1 ∗ pS c 0 0 1 ∗ pS c 0 1 1) -∗ Q r)
        -∗ wp frame (wpE (defs₀ (F := F)) 𝒱₀ (c : Thread nD τ) none) Set.univ (k0_part38 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v964) Q) := by
  rw [k0_part38_eq_skeleton]
  simp only [k0_part38_skel, Prog.lift, Prog.bind_op, Prog.bind_ret, Prog.pure_eq_ret]
  iintro ⟨#HC, HM, Hp_0_0⟩ HK
  iapply (left_rs (PP I) K c (1 : Fin 3) (0 : Fin 4) (0 : Fin 3) (b := 24) (a := 12) (r := 12) rfl (by decide) rfl rfl) $$ [HM]
  · isplitr; · iexact HC
    iexact HM
  iintro ⟨HM, Hs_0_0_1⟩
  iapply (landed_rs (PP I) K c (1 : Fin 3) (0 : Fin 4) (0 : Fin 3) (b := 24) (a := 13) (r := 12) rfl (by decide) rfl rfl) $$ [HM]
  · isplitr; · iexact HC
    iexact HM
  iintro ⟨HM, Hl_0_0_1⟩
  iapply (load_p (PP I) c (0 : Fin 4) (0 : Fin 3) (1 : Fin 3) (k0 := 1) (k1 := 2) rfl rfl 1 (off10_0_128 c)) $$ Hp_0_0
  iintro Hp_0_0
  iapply (load_r (PP I) c (0 : Fin 4) (0 : Fin 3) (1 : Fin 3) rfl) $$ Hl_0_0_1
  iintro Hl_0_0_1
  iapply (load_p (PP I) c (0 : Fin 4) (0 : Fin 3) (1 : Fin 3) (k0 := 1) (k1 := 2) rfl rfl 1 (off10_0_128 c)) $$ Hp_0_0
  iintro Hp_0_0
  iapply (store_p (PP I) c (0 : Fin 4) (0 : Fin 3) (1 : Fin 3) (k0 := 1) (k1 := 2) rfl rfl (off10_0_128 c) (shapeCast_self _ _)) $$ Hp_0_0
  iintro Hp_0_0
  iapply (left_rs (PP I) K c (1 : Fin 3) (0 : Fin 4) (1 : Fin 3) (b := 24) (a := 13) (r := 13) rfl (by decide) rfl rfl) $$ [HM]
  · isplitr; · iexact HC
    iexact HM
  iintro ⟨HM, Hs_0_1_1⟩
  iapply (le_wp_ret _)
  iapply HK
  isplitl [HM]; · iexact HM
  isplitl [Hp_0_0]; · iexact Hp_0_0
  isplitl [Hl_0_0_1]; · iexact Hl_0_0_1
  isplitl [Hs_0_0_1]; · iexact Hs_0_0_1
  iexact Hs_0_1_1

theorem part_39 {Q : (BitVec 32) → sProp 𝕄} (v3 : BitVec 32) (v977 : BitVec 32) (v990 : BitVec 32)  :
    iprop(Ctx (PP I) K ∗ Comm c 24 14 13 ∗ pK (PP I) c 0 1 2 1 ∗ pK (PP I) c 0 2 2 1)
      ⊢ iprop((∀ r, iprop(Comm c 24 15 15 ∗ pK (PP I) c 0 1 2 2 ∗ rL (PP I) c 0 1 1 ∗ pK (PP I) c 0 2 2 2 ∗ rL (PP I) c 0 2 1 ∗ pS c 0 2 1) -∗ Q r)
        -∗ wp frame (wpE (defs₀ (F := F)) 𝒱₀ (c : Thread nD τ) none) Set.univ (k0_part39 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v977 v990) Q) := by
  rw [k0_part39_eq_skeleton]
  simp only [k0_part39_skel, Prog.lift, Prog.bind_op, Prog.bind_ret, Prog.pure_eq_ret]
  iintro ⟨#HC, HM, Hp_0_1, Hp_0_2⟩ HK
  iapply (landed_rs (PP I) K c (1 : Fin 3) (0 : Fin 4) (1 : Fin 3) (b := 24) (a := 14) (r := 13) rfl (by decide) rfl rfl) $$ [HM]
  · isplitr; · iexact HC
    iexact HM
  iintro ⟨HM, Hl_0_1_1⟩
  iapply (load_p (PP I) c (0 : Fin 4) (1 : Fin 3) (1 : Fin 3) (k0 := 1) (k1 := 2) rfl rfl 1 (off11_0_128 c)) $$ Hp_0_1
  iintro Hp_0_1
  iapply (load_r (PP I) c (0 : Fin 4) (1 : Fin 3) (1 : Fin 3) rfl) $$ Hl_0_1_1
  iintro Hl_0_1_1
  iapply (load_p (PP I) c (0 : Fin 4) (1 : Fin 3) (1 : Fin 3) (k0 := 1) (k1 := 2) rfl rfl 1 (off11_0_128 c)) $$ Hp_0_1
  iintro Hp_0_1
  iapply (store_p (PP I) c (0 : Fin 4) (1 : Fin 3) (1 : Fin 3) (k0 := 1) (k1 := 2) rfl rfl (off11_0_128 c) (shapeCast_self _ _)) $$ Hp_0_1
  iintro Hp_0_1
  iapply (left_rs (PP I) K c (1 : Fin 3) (0 : Fin 4) (2 : Fin 3) (b := 24) (a := 14) (r := 14) rfl (by decide) rfl rfl) $$ [HM]
  · isplitr; · iexact HC
    iexact HM
  iintro ⟨HM, Hs_0_2_1⟩
  iapply (landed_rs (PP I) K c (1 : Fin 3) (0 : Fin 4) (2 : Fin 3) (b := 24) (a := 15) (r := 14) rfl (by decide) rfl rfl) $$ [HM]
  · isplitr; · iexact HC
    iexact HM
  iintro ⟨HM, Hl_0_2_1⟩
  iapply (load_p (PP I) c (0 : Fin 4) (2 : Fin 3) (1 : Fin 3) (k0 := 1) (k1 := 2) rfl rfl 1 (off12_0_128 c)) $$ Hp_0_2
  iintro Hp_0_2
  iapply (load_r (PP I) c (0 : Fin 4) (2 : Fin 3) (1 : Fin 3) rfl) $$ Hl_0_2_1
  iintro Hl_0_2_1
  iapply (load_p (PP I) c (0 : Fin 4) (2 : Fin 3) (1 : Fin 3) (k0 := 1) (k1 := 2) rfl rfl 1 (off12_0_128 c)) $$ Hp_0_2
  iintro Hp_0_2
  iapply (store_p (PP I) c (0 : Fin 4) (2 : Fin 3) (1 : Fin 3) (k0 := 1) (k1 := 2) rfl rfl (off12_0_128 c) (shapeCast_self _ _)) $$ Hp_0_2
  iintro Hp_0_2
  iapply (le_wp_ret _)
  iapply HK
  isplitl [HM]; · iexact HM
  isplitl [Hp_0_1]; · iexact Hp_0_1
  isplitl [Hl_0_1_1]; · iexact Hl_0_1_1
  isplitl [Hp_0_2]; · iexact Hp_0_2
  isplitl [Hl_0_2_1]; · iexact Hl_0_2_1
  iexact Hs_0_2_1

theorem part_40 {Q : (Σ' (v1360 : BitVec 32), BitVec 32) → sProp 𝕄} (v3 : BitVec 32) (v4 : BitVec 32) (v5 : BitVec 32) (v9 : BitVec 1) (v12 : BitVec 1) (v15 : BitVec 1) (v964 : BitVec 32) (v977 : BitVec 32) (v990 : BitVec 32) (c32_i32 : BitVec 32)  :
    iprop(Ctx (PP I) K ∗ Comm c 24 15 15 ∗ pK (PP I) c 0 0 2 2 ∗ pK (PP I) c 0 1 2 2)
      ⊢ iprop((∀ r, iprop(Comm c 26 15 15 ∗ pK (PP I) c 0 0 3 2 ∗ pK (PP I) c 0 1 3 2) -∗ Q r)
        -∗ wp frame (wpE (defs₀ (F := F)) 𝒱₀ (c : Thread nD τ) none) Set.univ (k0_part40 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v9 v12 v15 v964 v977 v990 c32_i32) Q) := by
  rw [k0_part40_eq_skeleton]
  simp only [k0_part40_skel, Prog.lift, Prog.bind_op, Prog.bind_ret, Prog.pure_eq_ret]
  iintro ⟨#HC, HM, Hp_0_0, Hp_0_1⟩ HK
  iapply (start_rs (PP I) K c (2 : Fin 3) (0 : Fin 4) (0 : Fin 3) (k0 := 2) (k1 := 3) rfl rfl (n := 24) (a := 15) (r := 15) rfl (by decide) (off13_0_128 c) rfl (dv28 c) rfl rfl) $$ [HM Hp_0_0]
  · isplitr; · iexact HC
    isplitl [HM]; · iexact HM
    iexact Hp_0_0
  iintro ⟨HM, Hp_0_0⟩
  iapply (start_rs (PP I) K c (2 : Fin 3) (0 : Fin 4) (1 : Fin 3) (k0 := 2) (k1 := 3) rfl rfl (n := 25) (a := 15) (r := 15) rfl (by decide) (off14_0_128 c) rfl (dv29 c) rfl rfl) $$ [HM Hp_0_1]
  · isplitr; · iexact HC
    isplitl [HM]; · iexact HM
    iexact Hp_0_1
  iintro ⟨HM, Hp_0_1⟩
  iapply (le_wp_ret _)
  iapply HK
  isplitl [HM]; · iexact HM
  isplitl [Hp_0_0]; · iexact Hp_0_0
  iexact Hp_0_1

theorem part_41 {Q : (BitVec 32) → sProp 𝕄} (v4 : BitVec 32) (v12 : BitVec 1) (v990 : BitVec 32) (v1063 : BitVec 32)  :
    iprop(Ctx (PP I) K ∗ Comm c 26 15 15 ∗ pK (PP I) c 0 2 2 2 ∗ pK (PP I) c 1 0 2 1)
      ⊢ iprop((∀ r, iprop(Comm c 27 17 16 ∗ pK (PP I) c 0 2 3 2 ∗ pK (PP I) c 1 0 2 2 ∗ rL (PP I) c 1 0 1 ∗ pS c 1 0 1 ∗ pS c 1 1 1) -∗ Q r)
        -∗ wp frame (wpE (defs₀ (F := F)) 𝒱₀ (c : Thread nD τ) none) Set.univ (k0_part41 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v12 v990 v1063) Q) := by
  rw [k0_part41_eq_skeleton]
  simp only [k0_part41_skel, Prog.lift, Prog.bind_op, Prog.bind_ret, Prog.pure_eq_ret]
  iintro ⟨#HC, HM, Hp_0_2, Hp_1_0⟩ HK
  iapply (start_rs (PP I) K c (2 : Fin 3) (0 : Fin 4) (2 : Fin 3) (k0 := 2) (k1 := 3) rfl rfl (n := 26) (a := 15) (r := 15) rfl (by decide) (off15_0_128 c) rfl (dv30 c) rfl rfl) $$ [HM Hp_0_2]
  · isplitr; · iexact HC
    isplitl [HM]; · iexact HM
    iexact Hp_0_2
  iintro ⟨HM, Hp_0_2⟩
  iapply (left_rs (PP I) K c (1 : Fin 3) (1 : Fin 4) (0 : Fin 3) (b := 27) (a := 15) (r := 15) rfl (by decide) rfl rfl) $$ [HM]
  · isplitr; · iexact HC
    iexact HM
  iintro ⟨HM, Hs_1_0_1⟩
  iapply (landed_rs (PP I) K c (1 : Fin 3) (1 : Fin 4) (0 : Fin 3) (b := 27) (a := 16) (r := 15) rfl (by decide) rfl rfl) $$ [HM]
  · isplitr; · iexact HC
    iexact HM
  iintro ⟨HM, Hl_1_0_1⟩
  iapply (load_p (PP I) c (1 : Fin 4) (0 : Fin 3) (1 : Fin 3) (k0 := 1) (k1 := 2) rfl rfl 1 (off10_256_384 c)) $$ Hp_1_0
  iintro Hp_1_0
  iapply (load_r (PP I) c (1 : Fin 4) (0 : Fin 3) (1 : Fin 3) rfl) $$ Hl_1_0_1
  iintro Hl_1_0_1
  iapply (load_p (PP I) c (1 : Fin 4) (0 : Fin 3) (1 : Fin 3) (k0 := 1) (k1 := 2) rfl rfl 1 (off10_256_384 c)) $$ Hp_1_0
  iintro Hp_1_0
  iapply (store_p (PP I) c (1 : Fin 4) (0 : Fin 3) (1 : Fin 3) (k0 := 1) (k1 := 2) rfl rfl (off10_256_384 c) (shapeCast_self _ _)) $$ Hp_1_0
  iintro Hp_1_0
  iapply (left_rs (PP I) K c (1 : Fin 3) (1 : Fin 4) (1 : Fin 3) (b := 27) (a := 16) (r := 16) rfl (by decide) rfl rfl) $$ [HM]
  · isplitr; · iexact HC
    iexact HM
  iintro ⟨HM, Hs_1_1_1⟩
  iapply (le_wp_ret _)
  iapply HK
  isplitl [HM]; · iexact HM
  isplitl [Hp_0_2]; · iexact Hp_0_2
  isplitl [Hp_1_0]; · iexact Hp_1_0
  isplitl [Hl_1_0_1]; · iexact Hl_1_0_1
  isplitl [Hs_1_0_1]; · iexact Hs_1_0_1
  iexact Hs_1_1_1

theorem part_42 {Q : (Σ' (v1439 : Vec F S64x256 .bf16), Vec F S64x256 .bf16) → sProp 𝕄} (v3 : BitVec 32) (v5 : BitVec 32) (v1076 : BitVec 32) (v1089 : BitVec 32)  :
    iprop(Ctx (PP I) K ∗ Comm c 27 17 16 ∗ pK (PP I) c 1 1 2 1 ∗ pK (PP I) c 1 2 2 1)
      ⊢ iprop((∀ r, iprop(⌜r.1 = (pV (PP I) c (1 : Fin 4) (2 : Fin 3) (1 : Fin 3) 1) ∧ r.2 = (rV (PP I) c (1 : Fin 4) (2 : Fin 3) (1 : Fin 3))⌝ ∗ Comm c 27 18 18 ∗ pK (PP I) c 1 1 2 2 ∗ rL (PP I) c 1 1 1 ∗ pK (PP I) c 1 2 2 1 ∗ rL (PP I) c 1 2 1 ∗ pS c 1 2 1) -∗ Q r)
        -∗ wp frame (wpE (defs₀ (F := F)) 𝒱₀ (c : Thread nD τ) none) Set.univ (k0_part42 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v1076 v1089) Q) := by
  rw [k0_part42_eq_skeleton]
  simp only [k0_part42_skel, Prog.lift, Prog.bind_op, Prog.bind_ret, Prog.pure_eq_ret]
  iintro ⟨#HC, HM, Hp_1_1, Hp_1_2⟩ HK
  iapply (landed_rs (PP I) K c (1 : Fin 3) (1 : Fin 4) (1 : Fin 3) (b := 27) (a := 17) (r := 16) rfl (by decide) rfl rfl) $$ [HM]
  · isplitr; · iexact HC
    iexact HM
  iintro ⟨HM, Hl_1_1_1⟩
  iapply (load_p (PP I) c (1 : Fin 4) (1 : Fin 3) (1 : Fin 3) (k0 := 1) (k1 := 2) rfl rfl 1 (off11_256_384 c)) $$ Hp_1_1
  iintro Hp_1_1
  iapply (load_r (PP I) c (1 : Fin 4) (1 : Fin 3) (1 : Fin 3) rfl) $$ Hl_1_1_1
  iintro Hl_1_1_1
  iapply (load_p (PP I) c (1 : Fin 4) (1 : Fin 3) (1 : Fin 3) (k0 := 1) (k1 := 2) rfl rfl 1 (off11_256_384 c)) $$ Hp_1_1
  iintro Hp_1_1
  iapply (store_p (PP I) c (1 : Fin 4) (1 : Fin 3) (1 : Fin 3) (k0 := 1) (k1 := 2) rfl rfl (off11_256_384 c) (shapeCast_self _ _)) $$ Hp_1_1
  iintro Hp_1_1
  iapply (left_rs (PP I) K c (1 : Fin 3) (1 : Fin 4) (2 : Fin 3) (b := 27) (a := 17) (r := 17) rfl (by decide) rfl rfl) $$ [HM]
  · isplitr; · iexact HC
    iexact HM
  iintro ⟨HM, Hs_1_2_1⟩
  iapply (landed_rs (PP I) K c (1 : Fin 3) (1 : Fin 4) (2 : Fin 3) (b := 27) (a := 18) (r := 17) rfl (by decide) rfl rfl) $$ [HM]
  · isplitr; · iexact HC
    iexact HM
  iintro ⟨HM, Hl_1_2_1⟩
  iapply (load_p (PP I) c (1 : Fin 4) (2 : Fin 3) (1 : Fin 3) (k0 := 1) (k1 := 2) rfl rfl 1 (off12_256_384 c)) $$ Hp_1_2
  iintro Hp_1_2
  iapply (load_r (PP I) c (1 : Fin 4) (2 : Fin 3) (1 : Fin 3) rfl) $$ Hl_1_2_1
  iintro Hl_1_2_1
  iapply (le_wp_ret _)
  iapply HK
  isplitr
  · ipureintro; first | (simp only [and_self]; done) | exact ⟨rfl, rfl⟩
  isplitl [HM]; · iexact HM
  isplitl [Hp_1_1]; · iexact Hp_1_1
  isplitl [Hl_1_1_1]; · iexact Hl_1_1_1
  isplitl [Hp_1_2]; · iexact Hp_1_2
  isplitl [Hl_1_2_1]; · iexact Hl_1_2_1
  iexact Hs_1_2_1

theorem part_43 {Q : (Σ' (v1459 : BitVec 32), BitVec 32) → sProp 𝕄} (v3 : BitVec 32) (v5 : BitVec 32) (v9 : BitVec 1) (v12 : BitVec 1) (v15 : BitVec 1) (v1063 : BitVec 32) (v1076 : BitVec 32) (v1089 : BitVec 32) (v1439 : Vec F S64x256 .bf16) (v1440 : Vec F S64x256 .bf16) (h_v1439 : v1439 = (pV (PP I) c (1 : Fin 4) (2 : Fin 3) (1 : Fin 3) 1)) (h_v1440 : v1440 = (rV (PP I) c (1 : Fin 4) (2 : Fin 3) (1 : Fin 3))) :
    iprop(Ctx (PP I) K ∗ pK (PP I) c 1 2 2 1 ∗ Comm c 27 18 18 ∗ pK (PP I) c 1 0 2 2 ∗ pK (PP I) c 1 1 2 2)
      ⊢ iprop((∀ r, iprop(pK (PP I) c 1 2 2 2 ∗ Comm c 29 18 18 ∗ pK (PP I) c 1 0 3 2 ∗ pK (PP I) c 1 1 3 2) -∗ Q r)
        -∗ wp frame (wpE (defs₀ (F := F)) 𝒱₀ (c : Thread nD τ) none) Set.univ (k0_part43 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v9 v12 v15 v1063 v1076 v1089 v1439 v1440) Q) := by
  subst h_v1439 h_v1440
  rw [k0_part43_eq_skeleton]
  simp only [k0_part43_skel, Prog.lift, Prog.bind_op, Prog.bind_ret, Prog.pure_eq_ret]
  iintro ⟨#HC, Hp_1_2, HM, Hp_1_0, Hp_1_1⟩ HK
  iapply (load_p (PP I) c (1 : Fin 4) (2 : Fin 3) (1 : Fin 3) (k0 := 1) (k1 := 2) rfl rfl 1 (off12_256_384 c)) $$ Hp_1_2
  iintro Hp_1_2
  iapply (store_p (PP I) c (1 : Fin 4) (2 : Fin 3) (1 : Fin 3) (k0 := 1) (k1 := 2) rfl rfl (off12_256_384 c) (shapeCast_self _ _)) $$ Hp_1_2
  iintro Hp_1_2
  iapply (start_rs (PP I) K c (2 : Fin 3) (1 : Fin 4) (0 : Fin 3) (k0 := 2) (k1 := 3) rfl rfl (n := 27) (a := 18) (r := 18) rfl (by decide) (off13_256_384 c) rfl (dv31 c) rfl rfl) $$ [HM Hp_1_0]
  · isplitr; · iexact HC
    isplitl [HM]; · iexact HM
    iexact Hp_1_0
  iintro ⟨HM, Hp_1_0⟩
  iapply (start_rs (PP I) K c (2 : Fin 3) (1 : Fin 4) (1 : Fin 3) (k0 := 2) (k1 := 3) rfl rfl (n := 28) (a := 18) (r := 18) rfl (by decide) (off14_256_384 c) rfl (dv32 c) rfl rfl) $$ [HM Hp_1_1]
  · isplitr; · iexact HC
    isplitl [HM]; · iexact HM
    iexact Hp_1_1
  iintro ⟨HM, Hp_1_1⟩
  iapply (le_wp_ret _)
  iapply HK
  isplitl [Hp_1_2]; · iexact Hp_1_2
  isplitl [HM]; · iexact HM
  isplitl [Hp_1_0]; · iexact Hp_1_0
  iexact Hp_1_1

theorem part_44 {Q : (BitVec 32) → sProp 𝕄} (v4 : BitVec 32) (v12 : BitVec 1) (v1089 : BitVec 32) (v1162 : BitVec 32)  :
    iprop(Ctx (PP I) K ∗ Comm c 29 18 18 ∗ pK (PP I) c 1 2 2 2 ∗ pK (PP I) c 2 0 2 1)
      ⊢ iprop((∀ r, iprop(Comm c 30 19 19 ∗ pK (PP I) c 1 2 3 2 ∗ pK (PP I) c 2 0 2 2 ∗ rL (PP I) c 2 0 1 ∗ pS c 2 0 1) -∗ Q r)
        -∗ wp frame (wpE (defs₀ (F := F)) 𝒱₀ (c : Thread nD τ) none) Set.univ (k0_part44 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v12 v1089 v1162) Q) := by
  rw [k0_part44_eq_skeleton]
  simp only [k0_part44_skel, Prog.lift, Prog.bind_op, Prog.bind_ret, Prog.pure_eq_ret]
  iintro ⟨#HC, HM, Hp_1_2, Hp_2_0⟩ HK
  iapply (start_rs (PP I) K c (2 : Fin 3) (1 : Fin 4) (2 : Fin 3) (k0 := 2) (k1 := 3) rfl rfl (n := 29) (a := 18) (r := 18) rfl (by decide) (off15_256_384 c) rfl (dv33 c) rfl rfl) $$ [HM Hp_1_2]
  · isplitr; · iexact HC
    isplitl [HM]; · iexact HM
    iexact Hp_1_2
  iintro ⟨HM, Hp_1_2⟩
  iapply (left_rs (PP I) K c (1 : Fin 3) (2 : Fin 4) (0 : Fin 3) (b := 30) (a := 18) (r := 18) rfl (by decide) rfl rfl) $$ [HM]
  · isplitr; · iexact HC
    iexact HM
  iintro ⟨HM, Hs_2_0_1⟩
  iapply (landed_rs (PP I) K c (1 : Fin 3) (2 : Fin 4) (0 : Fin 3) (b := 30) (a := 19) (r := 18) rfl (by decide) rfl rfl) $$ [HM]
  · isplitr; · iexact HC
    iexact HM
  iintro ⟨HM, Hl_2_0_1⟩
  iapply (load_p (PP I) c (2 : Fin 4) (0 : Fin 3) (1 : Fin 3) (k0 := 1) (k1 := 2) rfl rfl 1 (off10_512_640 c)) $$ Hp_2_0
  iintro Hp_2_0
  iapply (load_r (PP I) c (2 : Fin 4) (0 : Fin 3) (1 : Fin 3) rfl) $$ Hl_2_0_1
  iintro Hl_2_0_1
  iapply (load_p (PP I) c (2 : Fin 4) (0 : Fin 3) (1 : Fin 3) (k0 := 1) (k1 := 2) rfl rfl 1 (off10_512_640 c)) $$ Hp_2_0
  iintro Hp_2_0
  iapply (store_p (PP I) c (2 : Fin 4) (0 : Fin 3) (1 : Fin 3) (k0 := 1) (k1 := 2) rfl rfl (off10_512_640 c) (shapeCast_self _ _)) $$ Hp_2_0
  iintro Hp_2_0
  iapply (le_wp_ret _)
  iapply HK
  isplitl [HM]; · iexact HM
  isplitl [Hp_1_2]; · iexact Hp_1_2
  isplitl [Hp_2_0]; · iexact Hp_2_0
  isplitl [Hl_2_0_1]; · iexact Hl_2_0_1
  iexact Hs_2_0_1

theorem part_45 {Q : (PUnit) → sProp 𝕄} (v3 : BitVec 32) (v5 : BitVec 32) (v1175 : BitVec 32)  :
    iprop(Ctx (PP I) K ∗ Comm c 30 19 19 ∗ pK (PP I) c 2 1 2 1)
      ⊢ iprop((∀ r, iprop(Comm c 30 21 20 ∗ pK (PP I) c 2 1 2 2 ∗ rL (PP I) c 2 1 1 ∗ pS c 2 1 1 ∗ pS c 2 2 1) -∗ Q r)
        -∗ wp frame (wpE (defs₀ (F := F)) 𝒱₀ (c : Thread nD τ) none) Set.univ (k0_part45 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v1175) Q) := by
  rw [k0_part45_eq_skeleton]
  simp only [k0_part45_skel, Prog.lift, Prog.bind_op, Prog.bind_ret, Prog.pure_eq_ret]
  iintro ⟨#HC, HM, Hp_2_1⟩ HK
  iapply (left_rs (PP I) K c (1 : Fin 3) (2 : Fin 4) (1 : Fin 3) (b := 30) (a := 19) (r := 19) rfl (by decide) rfl rfl) $$ [HM]
  · isplitr; · iexact HC
    iexact HM
  iintro ⟨HM, Hs_2_1_1⟩
  iapply (landed_rs (PP I) K c (1 : Fin 3) (2 : Fin 4) (1 : Fin 3) (b := 30) (a := 20) (r := 19) rfl (by decide) rfl rfl) $$ [HM]
  · isplitr; · iexact HC
    iexact HM
  iintro ⟨HM, Hl_2_1_1⟩
  iapply (load_p (PP I) c (2 : Fin 4) (1 : Fin 3) (1 : Fin 3) (k0 := 1) (k1 := 2) rfl rfl 1 (off11_512_640 c)) $$ Hp_2_1
  iintro Hp_2_1
  iapply (load_r (PP I) c (2 : Fin 4) (1 : Fin 3) (1 : Fin 3) rfl) $$ Hl_2_1_1
  iintro Hl_2_1_1
  iapply (load_p (PP I) c (2 : Fin 4) (1 : Fin 3) (1 : Fin 3) (k0 := 1) (k1 := 2) rfl rfl 1 (off11_512_640 c)) $$ Hp_2_1
  iintro Hp_2_1
  iapply (store_p (PP I) c (2 : Fin 4) (1 : Fin 3) (1 : Fin 3) (k0 := 1) (k1 := 2) rfl rfl (off11_512_640 c) (shapeCast_self _ _)) $$ Hp_2_1
  iintro Hp_2_1
  iapply (left_rs (PP I) K c (1 : Fin 3) (2 : Fin 4) (2 : Fin 3) (b := 30) (a := 20) (r := 20) rfl (by decide) rfl rfl) $$ [HM]
  · isplitr; · iexact HC
    iexact HM
  iintro ⟨HM, Hs_2_2_1⟩
  iapply (le_wp_ret _)
  iapply HK
  isplitl [HM]; · iexact HM
  isplitl [Hp_2_1]; · iexact Hp_2_1
  isplitl [Hl_2_1_1]; · iexact Hl_2_1_1
  isplitl [Hs_2_1_1]; · iexact Hs_2_1_1
  iexact Hs_2_2_1

theorem part_46 {Q : (BitVec 32) → sProp 𝕄} (v3 : BitVec 32) (v5 : BitVec 32) (v9 : BitVec 1) (v15 : BitVec 1) (v1162 : BitVec 32) (v1175 : BitVec 32) (v1188 : BitVec 32)  :
    iprop(Ctx (PP I) K ∗ Comm c 30 21 20 ∗ pK (PP I) c 2 2 2 1 ∗ pK (PP I) c 2 0 2 2 ∗ pK (PP I) c 2 1 2 2)
      ⊢ iprop((∀ r, iprop(Comm c 32 21 21 ∗ pK (PP I) c 2 2 2 2 ∗ rL (PP I) c 2 2 1 ∗ pK (PP I) c 2 0 3 2 ∗ pK (PP I) c 2 1 3 2) -∗ Q r)
        -∗ wp frame (wpE (defs₀ (F := F)) 𝒱₀ (c : Thread nD τ) none) Set.univ (k0_part46 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v9 v15 v1162 v1175 v1188) Q) := by
  rw [k0_part46_eq_skeleton]
  simp only [k0_part46_skel, Prog.lift, Prog.bind_op, Prog.bind_ret, Prog.pure_eq_ret]
  iintro ⟨#HC, HM, Hp_2_2, Hp_2_0, Hp_2_1⟩ HK
  iapply (landed_rs (PP I) K c (1 : Fin 3) (2 : Fin 4) (2 : Fin 3) (b := 30) (a := 21) (r := 20) rfl (by decide) rfl rfl) $$ [HM]
  · isplitr; · iexact HC
    iexact HM
  iintro ⟨HM, Hl_2_2_1⟩
  iapply (load_p (PP I) c (2 : Fin 4) (2 : Fin 3) (1 : Fin 3) (k0 := 1) (k1 := 2) rfl rfl 1 (off12_512_640 c)) $$ Hp_2_2
  iintro Hp_2_2
  iapply (load_r (PP I) c (2 : Fin 4) (2 : Fin 3) (1 : Fin 3) rfl) $$ Hl_2_2_1
  iintro Hl_2_2_1
  iapply (load_p (PP I) c (2 : Fin 4) (2 : Fin 3) (1 : Fin 3) (k0 := 1) (k1 := 2) rfl rfl 1 (off12_512_640 c)) $$ Hp_2_2
  iintro Hp_2_2
  iapply (store_p (PP I) c (2 : Fin 4) (2 : Fin 3) (1 : Fin 3) (k0 := 1) (k1 := 2) rfl rfl (off12_512_640 c) (shapeCast_self _ _)) $$ Hp_2_2
  iintro Hp_2_2
  iapply (start_rs (PP I) K c (2 : Fin 3) (2 : Fin 4) (0 : Fin 3) (k0 := 2) (k1 := 3) rfl rfl (n := 30) (a := 21) (r := 21) rfl (by decide) (off13_512_640 c) rfl (dv34 c) rfl rfl) $$ [HM Hp_2_0]
  · isplitr; · iexact HC
    isplitl [HM]; · iexact HM
    iexact Hp_2_0
  iintro ⟨HM, Hp_2_0⟩
  iapply (start_rs (PP I) K c (2 : Fin 3) (2 : Fin 4) (1 : Fin 3) (k0 := 2) (k1 := 3) rfl rfl (n := 31) (a := 21) (r := 21) rfl (by decide) (off14_512_640 c) rfl (dv35 c) rfl rfl) $$ [HM Hp_2_1]
  · isplitr; · iexact HC
    isplitl [HM]; · iexact HM
    iexact Hp_2_1
  iintro ⟨HM, Hp_2_1⟩
  iapply (le_wp_ret _)
  iapply HK
  isplitl [HM]; · iexact HM
  isplitl [Hp_2_2]; · iexact Hp_2_2
  isplitl [Hl_2_2_1]; · iexact Hl_2_2_1
  isplitl [Hp_2_0]; · iexact Hp_2_0
  iexact Hp_2_1

theorem part_47 {Q : (Σ' (v1571 : BitVec 32) (v1584 : BitVec 32) (v1599 : FVec F S64x384 .bf16), BitVec 32) → sProp 𝕄} (v4 : BitVec 32) (v9 : BitVec 1) (v12 : BitVec 1) (v1175 : BitVec 32) (v1188 : BitVec 32) (v1261 : BitVec 32)  :
    iprop(Ctx (PP I) K ∗ Comm c 32 21 21 ∗ pK (PP I) c 2 2 2 2 ∗ pK (PP I) c 3 0 2 1)
      ⊢ iprop((∀ r, iprop(⌜r.2.2.1 = (k0_pay103 (pV (PP I) c (3 : Fin 4) (0 : Fin 3) (1 : Fin 3) 1) (rV (PP I) c (3 : Fin 4) (0 : Fin 3) (1 : Fin 3)))⌝ ∗ Comm c 33 22 22 ∗ pK (PP I) c 2 2 3 2 ∗ pK (PP I) c 3 0 2 1 ∗ rL (PP I) c 3 0 1 ∗ pS c 3 0 1) -∗ Q r)
        -∗ wp frame (wpE (defs₀ (F := F)) 𝒱₀ (c : Thread nD τ) none) Set.univ (k0_part47 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v9 v12 v1175 v1188 v1261) Q) := by
  rw [k0_part47_eq_skeleton]
  simp only [k0_part47_skel, Prog.lift, Prog.bind_op, Prog.bind_ret, Prog.pure_eq_ret]
  iintro ⟨#HC, HM, Hp_2_2, Hp_3_0⟩ HK
  iapply (start_rs (PP I) K c (2 : Fin 3) (2 : Fin 4) (2 : Fin 3) (k0 := 2) (k1 := 3) rfl rfl (n := 32) (a := 21) (r := 21) rfl (by decide) (off15_512_640 c) rfl (dv36 c) rfl rfl) $$ [HM Hp_2_2]
  · isplitr; · iexact HC
    isplitl [HM]; · iexact HM
    iexact Hp_2_2
  iintro ⟨HM, Hp_2_2⟩
  iapply (left_rs (PP I) K c (1 : Fin 3) (3 : Fin 4) (0 : Fin 3) (b := 33) (a := 21) (r := 21) rfl (by decide) rfl rfl) $$ [HM]
  · isplitr; · iexact HC
    iexact HM
  iintro ⟨HM, Hs_3_0_1⟩
  iapply (landed_rs (PP I) K c (1 : Fin 3) (3 : Fin 4) (0 : Fin 3) (b := 33) (a := 22) (r := 21) rfl (by decide) rfl rfl) $$ [HM]
  · isplitr; · iexact HC
    iexact HM
  iintro ⟨HM, Hl_3_0_1⟩
  iapply (load_p (PP I) c (3 : Fin 4) (0 : Fin 3) (1 : Fin 3) (k0 := 1) (k1 := 2) rfl rfl 1 (off10_768_896 c)) $$ Hp_3_0
  iintro Hp_3_0
  iapply (load_r (PP I) c (3 : Fin 4) (0 : Fin 3) (1 : Fin 3) rfl) $$ Hl_3_0_1
  iintro Hl_3_0_1
  iapply (le_wp_ret _)
  iapply HK
  isplitr
  · ipureintro; first | (simp only [and_self]; done) | exact rfl
  isplitl [HM]; · iexact HM
  isplitl [Hp_2_2]; · iexact Hp_2_2
  isplitl [Hp_3_0]; · iexact Hp_3_0
  isplitl [Hl_3_0_1]; · iexact Hl_3_0_1
  iexact Hs_3_0_1

theorem part_48 {Q : (BitVec 32) → sProp 𝕄} (v5 : BitVec 32) (v1274 : BitVec 32) (v1599 : FVec F S64x384 .bf16) (v1600 : BitVec 32) (h_v1599 : v1599 = (k0_pay103 (pV (PP I) c (3 : Fin 4) (0 : Fin 3) (1 : Fin 3) 1) (rV (PP I) c (3 : Fin 4) (0 : Fin 3) (1 : Fin 3)))) :
    iprop(Ctx (PP I) K ∗ pK (PP I) c 3 0 2 1 ∗ Comm c 33 22 22 ∗ pK (PP I) c 3 1 2 1)
      ⊢ iprop((∀ r, iprop(pK (PP I) c 3 0 2 2 ∗ Comm c 33 24 23 ∗ pK (PP I) c 3 1 2 2 ∗ rL (PP I) c 3 1 1 ∗ pS c 3 1 1 ∗ pS c 3 2 1) -∗ Q r)
        -∗ wp frame (wpE (defs₀ (F := F)) 𝒱₀ (c : Thread nD τ) none) Set.univ (k0_part48 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v5 v1274 v1599 v1600) Q) := by
  subst h_v1599
  rw [k0_part48_eq_skeleton]
  simp only [k0_part48_skel, Prog.lift, Prog.bind_op, Prog.bind_ret, Prog.pure_eq_ret]
  iintro ⟨#HC, Hp_3_0, HM, Hp_3_1⟩ HK
  iapply (load_p (PP I) c (3 : Fin 4) (0 : Fin 3) (1 : Fin 3) (k0 := 1) (k1 := 2) rfl rfl 1 (off10_768_896 c)) $$ Hp_3_0
  iintro Hp_3_0
  iapply (store_p (PP I) c (3 : Fin 4) (0 : Fin 3) (1 : Fin 3) (k0 := 1) (k1 := 2) rfl rfl (off10_768_896 c) (shapeCast_self _ _)) $$ Hp_3_0
  iintro Hp_3_0
  iapply (left_rs (PP I) K c (1 : Fin 3) (3 : Fin 4) (1 : Fin 3) (b := 33) (a := 22) (r := 22) rfl (by decide) rfl rfl) $$ [HM]
  · isplitr; · iexact HC
    iexact HM
  iintro ⟨HM, Hs_3_1_1⟩
  iapply (landed_rs (PP I) K c (1 : Fin 3) (3 : Fin 4) (1 : Fin 3) (b := 33) (a := 23) (r := 22) rfl (by decide) rfl rfl) $$ [HM]
  · isplitr; · iexact HC
    iexact HM
  iintro ⟨HM, Hl_3_1_1⟩
  iapply (load_p (PP I) c (3 : Fin 4) (1 : Fin 3) (1 : Fin 3) (k0 := 1) (k1 := 2) rfl rfl 1 (off11_768_896 c)) $$ Hp_3_1
  iintro Hp_3_1
  iapply (load_r (PP I) c (3 : Fin 4) (1 : Fin 3) (1 : Fin 3) rfl) $$ Hl_3_1_1
  iintro Hl_3_1_1
  iapply (load_p (PP I) c (3 : Fin 4) (1 : Fin 3) (1 : Fin 3) (k0 := 1) (k1 := 2) rfl rfl 1 (off11_768_896 c)) $$ Hp_3_1
  iintro Hp_3_1
  iapply (store_p (PP I) c (3 : Fin 4) (1 : Fin 3) (1 : Fin 3) (k0 := 1) (k1 := 2) rfl rfl (off11_768_896 c) (shapeCast_self _ _)) $$ Hp_3_1
  iintro Hp_3_1
  iapply (left_rs (PP I) K c (1 : Fin 3) (3 : Fin 4) (2 : Fin 3) (b := 33) (a := 23) (r := 23) rfl (by decide) rfl rfl) $$ [HM]
  · isplitr; · iexact HC
    iexact HM
  iintro ⟨HM, Hs_3_2_1⟩
  iapply (le_wp_ret _)
  iapply HK
  isplitl [Hp_3_0]; · iexact Hp_3_0
  isplitl [HM]; · iexact HM
  isplitl [Hp_3_1]; · iexact Hp_3_1
  isplitl [Hl_3_1_1]; · iexact Hl_3_1_1
  isplitl [Hs_3_1_1]; · iexact Hs_3_1_1
  iexact Hs_3_2_1

theorem part_49 {Q : (BitVec 32) → sProp 𝕄} (v3 : BitVec 32) (v5 : BitVec 32) (v9 : BitVec 1) (v15 : BitVec 1) (v1261 : BitVec 32) (v1274 : BitVec 32) (v1287 : BitVec 32) (c1_i32_1029 : BitVec 32)  :
    iprop(Ctx (PP I) K ∗ Comm c 33 24 23 ∗ pK (PP I) c 3 2 2 1 ∗ pK (PP I) c 3 0 2 2)
      ⊢ iprop((∀ r, iprop(Comm c 34 24 24 ∗ pK (PP I) c 3 2 2 2 ∗ rL (PP I) c 3 2 1 ∗ pK (PP I) c 3 0 3 2) -∗ Q r)
        -∗ wp frame (wpE (defs₀ (F := F)) 𝒱₀ (c : Thread nD τ) none) Set.univ (k0_part49 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v9 v15 v1261 v1274 v1287 c1_i32_1029) Q) := by
  rw [k0_part49_eq_skeleton]
  simp only [k0_part49_skel, Prog.lift, Prog.bind_op, Prog.bind_ret, Prog.pure_eq_ret]
  iintro ⟨#HC, HM, Hp_3_2, Hp_3_0⟩ HK
  iapply (landed_rs (PP I) K c (1 : Fin 3) (3 : Fin 4) (2 : Fin 3) (b := 33) (a := 24) (r := 23) rfl (by decide) rfl rfl) $$ [HM]
  · isplitr; · iexact HC
    iexact HM
  iintro ⟨HM, Hl_3_2_1⟩
  iapply (load_p (PP I) c (3 : Fin 4) (2 : Fin 3) (1 : Fin 3) (k0 := 1) (k1 := 2) rfl rfl 1 (off12_768_896 c)) $$ Hp_3_2
  iintro Hp_3_2
  iapply (load_r (PP I) c (3 : Fin 4) (2 : Fin 3) (1 : Fin 3) rfl) $$ Hl_3_2_1
  iintro Hl_3_2_1
  iapply (load_p (PP I) c (3 : Fin 4) (2 : Fin 3) (1 : Fin 3) (k0 := 1) (k1 := 2) rfl rfl 1 (off12_768_896 c)) $$ Hp_3_2
  iintro Hp_3_2
  iapply (store_p (PP I) c (3 : Fin 4) (2 : Fin 3) (1 : Fin 3) (k0 := 1) (k1 := 2) rfl rfl (off12_768_896 c) (shapeCast_self _ _)) $$ Hp_3_2
  iintro Hp_3_2
  iapply (start_rs (PP I) K c (2 : Fin 3) (3 : Fin 4) (0 : Fin 3) (k0 := 2) (k1 := 3) rfl rfl (n := 33) (a := 24) (r := 24) rfl (by decide) (off13_768_896 c) rfl (dv37 c) rfl rfl) $$ [HM Hp_3_0]
  · isplitr; · iexact HC
    isplitl [HM]; · iexact HM
    iexact Hp_3_0
  iintro ⟨HM, Hp_3_0⟩
  iapply (le_wp_ret _)
  iapply HK
  isplitl [HM]; · iexact HM
  isplitl [Hp_3_2]; · iexact Hp_3_2
  isplitl [Hl_3_2_1]; · iexact Hl_3_2_1
  iexact Hp_3_0

theorem part_50 {Q : (Σ' (v1670 : BitVec 32), BitVec 32) → sProp 𝕄} (v4 : BitVec 32) (v5 : BitVec 32) (v9 : BitVec 1) (v12 : BitVec 1) (v1274 : BitVec 32) (v1287 : BitVec 32)  :
    iprop(Ctx (PP I) K ∗ Comm c 34 24 24 ∗ pK (PP I) c 3 1 2 2 ∗ pK (PP I) c 3 2 2 2)
      ⊢ iprop((∀ r, iprop(Comm c 36 25 25 ∗ pK (PP I) c 3 1 3 2 ∗ pK (PP I) c 3 2 3 2 ∗ rL (PP I) c 0 0 2 ∗ pS c 0 0 2) -∗ Q r)
        -∗ wp frame (wpE (defs₀ (F := F)) 𝒱₀ (c : Thread nD τ) none) Set.univ (k0_part50 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v9 v12 v1274 v1287) Q) := by
  rw [k0_part50_eq_skeleton]
  simp only [k0_part50_skel, Prog.lift, Prog.bind_op, Prog.bind_ret, Prog.pure_eq_ret]
  iintro ⟨#HC, HM, Hp_3_1, Hp_3_2⟩ HK
  iapply (start_rs (PP I) K c (2 : Fin 3) (3 : Fin 4) (1 : Fin 3) (k0 := 2) (k1 := 3) rfl rfl (n := 34) (a := 24) (r := 24) rfl (by decide) (off14_768_896 c) rfl (dv38 c) rfl rfl) $$ [HM Hp_3_1]
  · isplitr; · iexact HC
    isplitl [HM]; · iexact HM
    iexact Hp_3_1
  iintro ⟨HM, Hp_3_1⟩
  iapply (start_rs (PP I) K c (2 : Fin 3) (3 : Fin 4) (2 : Fin 3) (k0 := 2) (k1 := 3) rfl rfl (n := 35) (a := 24) (r := 24) rfl (by decide) (off15_768_896 c) rfl (dv39 c) rfl rfl) $$ [HM Hp_3_2]
  · isplitr; · iexact HC
    isplitl [HM]; · iexact HM
    iexact Hp_3_2
  iintro ⟨HM, Hp_3_2⟩
  iapply (left_rs (PP I) K c (2 : Fin 3) (0 : Fin 4) (0 : Fin 3) (b := 36) (a := 24) (r := 24) rfl (by decide) rfl rfl) $$ [HM]
  · isplitr; · iexact HC
    iexact HM
  iintro ⟨HM, Hs_0_0_2⟩
  iapply (landed_rs (PP I) K c (2 : Fin 3) (0 : Fin 4) (0 : Fin 3) (b := 36) (a := 25) (r := 24) rfl (by decide) rfl rfl) $$ [HM]
  · isplitr; · iexact HC
    iexact HM
  iintro ⟨HM, Hl_0_0_2⟩
  iapply (le_wp_ret _)
  iapply HK
  isplitl [HM]; · iexact HM
  isplitl [Hp_3_1]; · iexact Hp_3_1
  isplitl [Hp_3_2]; · iexact Hp_3_2
  isplitl [Hl_0_0_2]; · iexact Hl_0_0_2
  iexact Hs_0_0_2

end
end Cert.TreeProof
-- ==== Proof.Parts4.lean ====
module

public import proofs.«01_k».proof.Proof.Offs
public import Idealize.ShloMosaic.Lib.Pipeline.Value

/-! # The body, statement groups 51 to 68 -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 1600000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

theorem part_51 {Q : (PUnit) → sProp 𝕄} (v3 : BitVec 32) (v1360 : BitVec 32) (v1373 : BitVec 32)  :
    iprop(Ctx (PP I) K ∗ pK (PP I) c 0 0 3 2 ∗ rL (PP I) c 0 0 2 ∗ Comm c 36 25 25 ∗ pK (PP I) c 0 1 3 2)
      ⊢ iprop((∀ r, iprop(pK (PP I) c 0 0 3 3 ∗ rL (PP I) c 0 0 2 ∗ Comm c 36 26 26 ∗ pK (PP I) c 0 1 3 3 ∗ rL (PP I) c 0 1 2 ∗ pS c 0 1 2) -∗ Q r)
        -∗ wp frame (wpE (defs₀ (F := F)) 𝒱₀ (c : Thread nD τ) none) Set.univ (k0_part51 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v1360 v1373) Q) := by
  rw [k0_part51_eq_skeleton]
  simp only [k0_part51_skel, Prog.lift, Prog.bind_op, Prog.bind_ret, Prog.pure_eq_ret]
  iintro ⟨#HC, Hp_0_0, Hl_0_0_2, HM, Hp_0_1⟩ HK
  iapply (load_p (PP I) c (0 : Fin 4) (0 : Fin 3) (2 : Fin 3) (k0 := 2) (k1 := 3) rfl rfl 2 (off16_0_128 c)) $$ Hp_0_0
  iintro Hp_0_0
  iapply (load_r (PP I) c (0 : Fin 4) (0 : Fin 3) (2 : Fin 3) rfl) $$ Hl_0_0_2
  iintro Hl_0_0_2
  iapply (load_p (PP I) c (0 : Fin 4) (0 : Fin 3) (2 : Fin 3) (k0 := 2) (k1 := 3) rfl rfl 2 (off16_0_128 c)) $$ Hp_0_0
  iintro Hp_0_0
  iapply (store_p (PP I) c (0 : Fin 4) (0 : Fin 3) (2 : Fin 3) (k0 := 2) (k1 := 3) rfl rfl (off16_0_128 c) (shapeCast_self _ _)) $$ Hp_0_0
  iintro Hp_0_0
  iapply (left_rs (PP I) K c (2 : Fin 3) (0 : Fin 4) (1 : Fin 3) (b := 36) (a := 25) (r := 25) rfl (by decide) rfl rfl) $$ [HM]
  · isplitr; · iexact HC
    iexact HM
  iintro ⟨HM, Hs_0_1_2⟩
  iapply (landed_rs (PP I) K c (2 : Fin 3) (0 : Fin 4) (1 : Fin 3) (b := 36) (a := 26) (r := 25) rfl (by decide) rfl rfl) $$ [HM]
  · isplitr; · iexact HC
    iexact HM
  iintro ⟨HM, Hl_0_1_2⟩
  iapply (load_p (PP I) c (0 : Fin 4) (1 : Fin 3) (2 : Fin 3) (k0 := 2) (k1 := 3) rfl rfl 2 (off17_0_128 c)) $$ Hp_0_1
  iintro Hp_0_1
  iapply (load_r (PP I) c (0 : Fin 4) (1 : Fin 3) (2 : Fin 3) rfl) $$ Hl_0_1_2
  iintro Hl_0_1_2
  iapply (load_p (PP I) c (0 : Fin 4) (1 : Fin 3) (2 : Fin 3) (k0 := 2) (k1 := 3) rfl rfl 2 (off17_0_128 c)) $$ Hp_0_1
  iintro Hp_0_1
  iapply (store_p (PP I) c (0 : Fin 4) (1 : Fin 3) (2 : Fin 3) (k0 := 2) (k1 := 3) rfl rfl (off17_0_128 c) (shapeCast_self _ _)) $$ Hp_0_1
  iintro Hp_0_1
  iapply (le_wp_ret _)
  iapply HK
  isplitl [Hp_0_0]; · iexact Hp_0_0
  isplitl [Hl_0_0_2]; · iexact Hl_0_0_2
  isplitl [HM]; · iexact HM
  isplitl [Hp_0_1]; · iexact Hp_0_1
  isplitl [Hl_0_1_2]; · iexact Hl_0_1_2
  iexact Hs_0_1_2

theorem part_52 {Q : (PUnit) → sProp 𝕄} (v4 : BitVec 32) (v5 : BitVec 32) (v1360 : BitVec 32) (v1386 : BitVec 32)  :
    iprop(Ctx (PP I) K ∗ Comm c 36 26 26 ∗ pK (PP I) c 0 2 3 2 ∗ pK (PP I) c 0 0 3 3 ∗ gJ c 0 0)
      ⊢ iprop((∀ r, iprop(Comm c 36 27 27 ∗ pK (PP I) c 0 2 3 3 ∗ rL (PP I) c 0 2 2 ∗ pK (PP I) c 0 0 3 3 ∗ gK (PP I) c 0 0 3 ∗ pS c 0 2 2) -∗ Q r)
        -∗ wp frame (wpE (defs₀ (F := F)) 𝒱₀ (c : Thread nD τ) none) Set.univ (k0_part52 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v1360 v1386) Q) := by
  rw [k0_part52_eq_skeleton]
  simp only [k0_part52_skel, Prog.lift, Prog.bind_op, Prog.bind_ret, Prog.pure_eq_ret]
  iintro ⟨#HC, HM, Hp_0_2, Hp_0_0, Hg_0_0⟩ HK
  iapply (left_rs (PP I) K c (2 : Fin 3) (0 : Fin 4) (2 : Fin 3) (b := 36) (a := 26) (r := 26) rfl (by decide) rfl rfl) $$ [HM]
  · isplitr; · iexact HC
    iexact HM
  iintro ⟨HM, Hs_0_2_2⟩
  iapply (landed_rs (PP I) K c (2 : Fin 3) (0 : Fin 4) (2 : Fin 3) (b := 36) (a := 27) (r := 26) rfl (by decide) rfl rfl) $$ [HM]
  · isplitr; · iexact HC
    iexact HM
  iintro ⟨HM, Hl_0_2_2⟩
  iapply (load_p (PP I) c (0 : Fin 4) (2 : Fin 3) (2 : Fin 3) (k0 := 2) (k1 := 3) rfl rfl 2 (off18_0_128 c)) $$ Hp_0_2
  iintro Hp_0_2
  iapply (load_r (PP I) c (0 : Fin 4) (2 : Fin 3) (2 : Fin 3) rfl) $$ Hl_0_2_2
  iintro Hl_0_2_2
  iapply (load_p (PP I) c (0 : Fin 4) (2 : Fin 3) (2 : Fin 3) (k0 := 2) (k1 := 3) rfl rfl 2 (off18_0_128 c)) $$ Hp_0_2
  iintro Hp_0_2
  iapply (store_p (PP I) c (0 : Fin 4) (2 : Fin 3) (2 : Fin 3) (k0 := 2) (k1 := 3) rfl rfl (off18_0_128 c) (shapeCast_self _ _)) $$ Hp_0_2
  iintro Hp_0_2
  iapply (load_p (PP I) c (0 : Fin 4) (0 : Fin 3) (2 : Fin 3) (k0 := 2) (k1 := 3) rfl rfl 3 (off16_0_128 c)) $$ Hp_0_0
  iintro Hp_0_0
  iapply (load_g c (0 : Fin 4) (0 : Fin 3) (off16_0_128 c)) $$ Hg_0_0
  iintro %v1749 Hg_0_0
  iapply (store_g (PP I) c (0 : Fin 4) (0 : Fin 3) (off16_0_128 c) (shapeCast_self _ _)) $$ Hg_0_0
  iintro Hg_0_0
  iapply (le_wp_ret _)
  iapply HK
  isplitl [HM]; · iexact HM
  isplitl [Hp_0_2]; · iexact Hp_0_2
  isplitl [Hl_0_2_2]; · iexact Hl_0_2_2
  isplitl [Hp_0_0]; · iexact Hp_0_0
  isplitl [Hg_0_0]; · iexact Hg_0_0
  iexact Hs_0_2_2

theorem part_53 {Q : (PUnit) → sProp 𝕄} (v3 : BitVec 32) (v4 : BitVec 32) (v1373 : BitVec 32) (v1386 : BitVec 32)  :
    iprop(Ctx (PP I) K ∗ Comm c 36 27 27 ∗ gK (PP I) c 0 0 3 ∗ pK (PP I) c 0 1 3 3 ∗ gJ c 0 1 ∗ pK (PP I) c 0 2 3 3 ∗ gJ c 0 2)
      ⊢ iprop((∀ r, iprop(Comm c 39 27 27 ∗ pK (PP I) c 0 1 3 3 ∗ pK (PP I) c 0 2 3 3) -∗ Q r)
        -∗ wp frame (wpE (defs₀ (F := F)) 𝒱₀ (c : Thread nD τ) none) Set.univ (k0_part53 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v1373 v1386) Q) := by
  rw [k0_part53_eq_skeleton]
  simp only [k0_part53_skel, Prog.lift, Prog.bind_op, Prog.bind_ret, Prog.pure_eq_ret]
  iintro ⟨#HC, HM, Hg_0_0, Hp_0_1, Hg_0_1, Hp_0_2, Hg_0_2⟩ HK
  iapply (start_ag (PP I) K c (2 : Fin 3) (0 : Fin 4) (0 : Fin 3) (k0 := 2) (k1 := 3) rfl rfl (n := 36) (a := 27) (r := 27) rfl (by decide) (off19_0_128 c) (off19_0_128 c) (dv40 c) rfl rfl) $$ [HM Hg_0_0]
  · isplitr; · iexact HC
    isplitl [HM]; · iexact HM
    iexact Hg_0_0
  iintro HM
  iapply (load_p (PP I) c (0 : Fin 4) (1 : Fin 3) (2 : Fin 3) (k0 := 2) (k1 := 3) rfl rfl 3 (off17_0_128 c)) $$ Hp_0_1
  iintro Hp_0_1
  iapply (load_g c (0 : Fin 4) (1 : Fin 3) (off17_0_128 c)) $$ Hg_0_1
  iintro %v1767 Hg_0_1
  iapply (store_g (PP I) c (0 : Fin 4) (1 : Fin 3) (off17_0_128 c) (shapeCast_self _ _)) $$ Hg_0_1
  iintro Hg_0_1
  iapply (start_ag (PP I) K c (2 : Fin 3) (0 : Fin 4) (1 : Fin 3) (k0 := 2) (k1 := 3) rfl rfl (n := 37) (a := 27) (r := 27) rfl (by decide) (off20_0_128 c) (off20_0_128 c) (dv41 c) rfl rfl) $$ [HM Hg_0_1]
  · isplitr; · iexact HC
    isplitl [HM]; · iexact HM
    iexact Hg_0_1
  iintro HM
  iapply (load_p (PP I) c (0 : Fin 4) (2 : Fin 3) (2 : Fin 3) (k0 := 2) (k1 := 3) rfl rfl 3 (off18_0_128 c)) $$ Hp_0_2
  iintro Hp_0_2
  iapply (load_g c (0 : Fin 4) (2 : Fin 3) (off18_0_128 c)) $$ Hg_0_2
  iintro %v1785 Hg_0_2
  iapply (store_g (PP I) c (0 : Fin 4) (2 : Fin 3) (off18_0_128 c) (shapeCast_self _ _)) $$ Hg_0_2
  iintro Hg_0_2
  iapply (start_ag (PP I) K c (2 : Fin 3) (0 : Fin 4) (2 : Fin 3) (k0 := 2) (k1 := 3) rfl rfl (n := 38) (a := 27) (r := 27) rfl (by decide) (off21_0_128 c) (off21_0_128 c) (dv42 c) rfl rfl) $$ [HM Hg_0_2]
  · isplitr; · iexact HC
    isplitl [HM]; · iexact HM
    iexact Hg_0_2
  iintro HM
  iapply (le_wp_ret _)
  iapply HK
  isplitl [HM]; · iexact HM
  isplitl [Hp_0_1]; · iexact Hp_0_1
  iexact Hp_0_2

theorem part_54 {Q : (PUnit) → sProp 𝕄} (v3 : BitVec 32) (v5 : BitVec 32) (v1459 : BitVec 32)  :
    iprop(Ctx (PP I) K ∗ Comm c 39 27 27 ∗ pK (PP I) c 1 0 3 2)
      ⊢ iprop((∀ r, iprop(Comm c 39 29 28 ∗ pK (PP I) c 1 0 3 3 ∗ rL (PP I) c 1 0 2 ∗ pS c 1 0 2 ∗ pS c 1 1 2) -∗ Q r)
        -∗ wp frame (wpE (defs₀ (F := F)) 𝒱₀ (c : Thread nD τ) none) Set.univ (k0_part54 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v1459) Q) := by
  rw [k0_part54_eq_skeleton]
  simp only [k0_part54_skel, Prog.lift, Prog.bind_op, Prog.bind_ret, Prog.pure_eq_ret]
  iintro ⟨#HC, HM, Hp_1_0⟩ HK
  iapply (left_rs (PP I) K c (2 : Fin 3) (1 : Fin 4) (0 : Fin 3) (b := 39) (a := 27) (r := 27) rfl (by decide) rfl rfl) $$ [HM]
  · isplitr; · iexact HC
    iexact HM
  iintro ⟨HM, Hs_1_0_2⟩
  iapply (landed_rs (PP I) K c (2 : Fin 3) (1 : Fin 4) (0 : Fin 3) (b := 39) (a := 28) (r := 27) rfl (by decide) rfl rfl) $$ [HM]
  · isplitr; · iexact HC
    iexact HM
  iintro ⟨HM, Hl_1_0_2⟩
  iapply (load_p (PP I) c (1 : Fin 4) (0 : Fin 3) (2 : Fin 3) (k0 := 2) (k1 := 3) rfl rfl 2 (off16_256_384 c)) $$ Hp_1_0
  iintro Hp_1_0
  iapply (load_r (PP I) c (1 : Fin 4) (0 : Fin 3) (2 : Fin 3) rfl) $$ Hl_1_0_2
  iintro Hl_1_0_2
  iapply (load_p (PP I) c (1 : Fin 4) (0 : Fin 3) (2 : Fin 3) (k0 := 2) (k1 := 3) rfl rfl 2 (off16_256_384 c)) $$ Hp_1_0
  iintro Hp_1_0
  iapply (store_p (PP I) c (1 : Fin 4) (0 : Fin 3) (2 : Fin 3) (k0 := 2) (k1 := 3) rfl rfl (off16_256_384 c) (shapeCast_self _ _)) $$ Hp_1_0
  iintro Hp_1_0
  iapply (left_rs (PP I) K c (2 : Fin 3) (1 : Fin 4) (1 : Fin 3) (b := 39) (a := 28) (r := 28) rfl (by decide) rfl rfl) $$ [HM]
  · isplitr; · iexact HC
    iexact HM
  iintro ⟨HM, Hs_1_1_2⟩
  iapply (le_wp_ret _)
  iapply HK
  isplitl [HM]; · iexact HM
  isplitl [Hp_1_0]; · iexact Hp_1_0
  isplitl [Hl_1_0_2]; · iexact Hl_1_0_2
  isplitl [Hs_1_0_2]; · iexact Hs_1_0_2
  iexact Hs_1_1_2

theorem part_55 {Q : (BitVec 32) → sProp 𝕄} (v4 : BitVec 32) (v1459 : BitVec 32) (v1472 : BitVec 32) (v1485 : BitVec 32)  :
    iprop(Ctx (PP I) K ∗ Comm c 39 29 28 ∗ pK (PP I) c 1 1 3 2 ∗ pK (PP I) c 1 2 3 2)
      ⊢ iprop((∀ r, iprop(Comm c 39 30 30 ∗ pK (PP I) c 1 1 3 3 ∗ rL (PP I) c 1 1 2 ∗ pK (PP I) c 1 2 3 3 ∗ rL (PP I) c 1 2 2 ∗ pS c 1 2 2) -∗ Q r)
        -∗ wp frame (wpE (defs₀ (F := F)) 𝒱₀ (c : Thread nD τ) none) Set.univ (k0_part55 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v1459 v1472 v1485) Q) := by
  rw [k0_part55_eq_skeleton]
  simp only [k0_part55_skel, Prog.lift, Prog.bind_op, Prog.bind_ret, Prog.pure_eq_ret]
  iintro ⟨#HC, HM, Hp_1_1, Hp_1_2⟩ HK
  iapply (landed_rs (PP I) K c (2 : Fin 3) (1 : Fin 4) (1 : Fin 3) (b := 39) (a := 29) (r := 28) rfl (by decide) rfl rfl) $$ [HM]
  · isplitr; · iexact HC
    iexact HM
  iintro ⟨HM, Hl_1_1_2⟩
  iapply (load_p (PP I) c (1 : Fin 4) (1 : Fin 3) (2 : Fin 3) (k0 := 2) (k1 := 3) rfl rfl 2 (off17_256_384 c)) $$ Hp_1_1
  iintro Hp_1_1
  iapply (load_r (PP I) c (1 : Fin 4) (1 : Fin 3) (2 : Fin 3) rfl) $$ Hl_1_1_2
  iintro Hl_1_1_2
  iapply (load_p (PP I) c (1 : Fin 4) (1 : Fin 3) (2 : Fin 3) (k0 := 2) (k1 := 3) rfl rfl 2 (off17_256_384 c)) $$ Hp_1_1
  iintro Hp_1_1
  iapply (store_p (PP I) c (1 : Fin 4) (1 : Fin 3) (2 : Fin 3) (k0 := 2) (k1 := 3) rfl rfl (off17_256_384 c) (shapeCast_self _ _)) $$ Hp_1_1
  iintro Hp_1_1
  iapply (left_rs (PP I) K c (2 : Fin 3) (1 : Fin 4) (2 : Fin 3) (b := 39) (a := 29) (r := 29) rfl (by decide) rfl rfl) $$ [HM]
  · isplitr; · iexact HC
    iexact HM
  iintro ⟨HM, Hs_1_2_2⟩
  iapply (landed_rs (PP I) K c (2 : Fin 3) (1 : Fin 4) (2 : Fin 3) (b := 39) (a := 30) (r := 29) rfl (by decide) rfl rfl) $$ [HM]
  · isplitr; · iexact HC
    iexact HM
  iintro ⟨HM, Hl_1_2_2⟩
  iapply (load_p (PP I) c (1 : Fin 4) (2 : Fin 3) (2 : Fin 3) (k0 := 2) (k1 := 3) rfl rfl 2 (off18_256_384 c)) $$ Hp_1_2
  iintro Hp_1_2
  iapply (load_r (PP I) c (1 : Fin 4) (2 : Fin 3) (2 : Fin 3) rfl) $$ Hl_1_2_2
  iintro Hl_1_2_2
  iapply (load_p (PP I) c (1 : Fin 4) (2 : Fin 3) (2 : Fin 3) (k0 := 2) (k1 := 3) rfl rfl 2 (off18_256_384 c)) $$ Hp_1_2
  iintro Hp_1_2
  iapply (store_p (PP I) c (1 : Fin 4) (2 : Fin 3) (2 : Fin 3) (k0 := 2) (k1 := 3) rfl rfl (off18_256_384 c) (shapeCast_self _ _)) $$ Hp_1_2
  iintro Hp_1_2
  iapply (le_wp_ret _)
  iapply HK
  isplitl [HM]; · iexact HM
  isplitl [Hp_1_1]; · iexact Hp_1_1
  isplitl [Hl_1_1_2]; · iexact Hl_1_1_2
  isplitl [Hp_1_2]; · iexact Hp_1_2
  isplitl [Hl_1_2_2]; · iexact Hl_1_2_2
  iexact Hs_1_2_2

theorem part_56 {Q : (Σ' (v1896 : Vec F S32x256 .bf16), BitVec 32) → sProp 𝕄} (v3 : BitVec 32) (v5 : BitVec 32) (v1459 : BitVec 32) (v1472 : BitVec 32) (v1485 : BitVec 32) (v1858 : BitVec 32)  :
    iprop(Ctx (PP I) K ∗ pK (PP I) c 1 0 3 3 ∗ gJ c 1 0 ∗ Comm c 39 30 30 ∗ pK (PP I) c 1 1 3 3 ∗ gJ c 1 1 ∗ pK (PP I) c 1 2 3 3)
      ⊢ iprop((∀ r, iprop(⌜r.1 = (pV (PP I) c (1 : Fin 4) (2 : Fin 3) (2 : Fin 3) 3)⌝ ∗ pK (PP I) c 1 0 3 3 ∗ Comm c 41 30 30 ∗ pK (PP I) c 1 1 3 3 ∗ pK (PP I) c 1 2 3 3) -∗ Q r)
        -∗ wp frame (wpE (defs₀ (F := F)) 𝒱₀ (c : Thread nD τ) none) Set.univ (k0_part56 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v1459 v1472 v1485 v1858) Q) := by
  rw [k0_part56_eq_skeleton]
  simp only [k0_part56_skel, Prog.lift, Prog.bind_op, Prog.bind_ret, Prog.pure_eq_ret]
  iintro ⟨#HC, Hp_1_0, Hg_1_0, HM, Hp_1_1, Hg_1_1, Hp_1_2⟩ HK
  iapply (load_p (PP I) c (1 : Fin 4) (0 : Fin 3) (2 : Fin 3) (k0 := 2) (k1 := 3) rfl rfl 3 (off16_256_384 c)) $$ Hp_1_0
  iintro Hp_1_0
  iapply (load_g c (1 : Fin 4) (0 : Fin 3) (off16_256_384 c)) $$ Hg_1_0
  iintro %v1863 Hg_1_0
  iapply (store_g (PP I) c (1 : Fin 4) (0 : Fin 3) (off16_256_384 c) (shapeCast_self _ _)) $$ Hg_1_0
  iintro Hg_1_0
  iapply (start_ag (PP I) K c (2 : Fin 3) (1 : Fin 4) (0 : Fin 3) (k0 := 2) (k1 := 3) rfl rfl (n := 39) (a := 30) (r := 30) rfl (by decide) (off19_256_384 c) (off19_256_384 c) (dv43 c) rfl rfl) $$ [HM Hg_1_0]
  · isplitr; · iexact HC
    isplitl [HM]; · iexact HM
    iexact Hg_1_0
  iintro HM
  iapply (load_p (PP I) c (1 : Fin 4) (1 : Fin 3) (2 : Fin 3) (k0 := 2) (k1 := 3) rfl rfl 3 (off17_256_384 c)) $$ Hp_1_1
  iintro Hp_1_1
  iapply (load_g c (1 : Fin 4) (1 : Fin 3) (off17_256_384 c)) $$ Hg_1_1
  iintro %v1881 Hg_1_1
  iapply (store_g (PP I) c (1 : Fin 4) (1 : Fin 3) (off17_256_384 c) (shapeCast_self _ _)) $$ Hg_1_1
  iintro Hg_1_1
  iapply (start_ag (PP I) K c (2 : Fin 3) (1 : Fin 4) (1 : Fin 3) (k0 := 2) (k1 := 3) rfl rfl (n := 40) (a := 30) (r := 30) rfl (by decide) (off20_256_384 c) (off20_256_384 c) (dv44 c) rfl rfl) $$ [HM Hg_1_1]
  · isplitr; · iexact HC
    isplitl [HM]; · iexact HM
    iexact Hg_1_1
  iintro HM
  iapply (load_p (PP I) c (1 : Fin 4) (2 : Fin 3) (2 : Fin 3) (k0 := 2) (k1 := 3) rfl rfl 3 (off18_256_384 c)) $$ Hp_1_2
  iintro Hp_1_2
  iapply (le_wp_ret _)
  iapply HK
  isplitr
  · ipureintro; first | (simp only [and_self]; done) | exact rfl
  isplitl [Hp_1_0]; · iexact Hp_1_0
  isplitl [HM]; · iexact HM
  isplitl [Hp_1_1]; · iexact Hp_1_1
  iexact Hp_1_2

theorem part_57 {Q : (Σ' (v1926 : FVec F S32x384 .bf16), Vec F S32x384 .bf16) → sProp 𝕄} (v4 : BitVec 32) (v5 : BitVec 32) (v1485 : BitVec 32) (v1558 : BitVec 32) (v1896 : Vec F S32x256 .bf16) (v1897 : BitVec 32) (h_v1896 : v1896 = (pV (PP I) c (1 : Fin 4) (2 : Fin 3) (2 : Fin 3) 3)) :
    iprop(Ctx (PP I) K ∗ gJ c 1 2 ∗ Comm c 41 30 30 ∗ pK (PP I) c 2 0 3 2)
      ⊢ iprop((∀ r, iprop(⌜r.1 = (k0_pay119 (pV (PP I) c (2 : Fin 4) (0 : Fin 3) (2 : Fin 3) 2) (rV (PP I) c (2 : Fin 4) (0 : Fin 3) (2 : Fin 3))) ∧ r.2 = (pV (PP I) c (2 : Fin 4) (0 : Fin 3) (2 : Fin 3) 2)⌝ ∗ Comm c 42 31 31 ∗ pK (PP I) c 2 0 3 2 ∗ rL (PP I) c 2 0 2 ∗ pS c 2 0 2) -∗ Q r)
        -∗ wp frame (wpE (defs₀ (F := F)) 𝒱₀ (c : Thread nD τ) none) Set.univ (k0_part57 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v1485 v1558 v1896 v1897) Q) := by
  subst h_v1896
  rw [k0_part57_eq_skeleton]
  simp only [k0_part57_skel, Prog.lift, Prog.bind_op, Prog.bind_ret, Prog.pure_eq_ret]
  iintro ⟨#HC, Hg_1_2, HM, Hp_2_0⟩ HK
  iapply (load_g c (1 : Fin 4) (2 : Fin 3) (off18_256_384 c)) $$ Hg_1_2
  iintro %v1899 Hg_1_2
  iapply (store_g (PP I) c (1 : Fin 4) (2 : Fin 3) (off18_256_384 c) (shapeCast_self _ _)) $$ Hg_1_2
  iintro Hg_1_2
  iapply (start_ag (PP I) K c (2 : Fin 3) (1 : Fin 4) (2 : Fin 3) (k0 := 2) (k1 := 3) rfl rfl (n := 41) (a := 30) (r := 30) rfl (by decide) (off21_256_384 c) (off21_256_384 c) (dv45 c) rfl rfl) $$ [HM Hg_1_2]
  · isplitr; · iexact HC
    isplitl [HM]; · iexact HM
    iexact Hg_1_2
  iintro HM
  iapply (left_rs (PP I) K c (2 : Fin 3) (2 : Fin 4) (0 : Fin 3) (b := 42) (a := 30) (r := 30) rfl (by decide) rfl rfl) $$ [HM]
  · isplitr; · iexact HC
    iexact HM
  iintro ⟨HM, Hs_2_0_2⟩
  iapply (landed_rs (PP I) K c (2 : Fin 3) (2 : Fin 4) (0 : Fin 3) (b := 42) (a := 31) (r := 30) rfl (by decide) rfl rfl) $$ [HM]
  · isplitr; · iexact HC
    iexact HM
  iintro ⟨HM, Hl_2_0_2⟩
  iapply (load_p (PP I) c (2 : Fin 4) (0 : Fin 3) (2 : Fin 3) (k0 := 2) (k1 := 3) rfl rfl 2 (off16_512_640 c)) $$ Hp_2_0
  iintro Hp_2_0
  iapply (load_r (PP I) c (2 : Fin 4) (0 : Fin 3) (2 : Fin 3) rfl) $$ Hl_2_0_2
  iintro Hl_2_0_2
  iapply (load_p (PP I) c (2 : Fin 4) (0 : Fin 3) (2 : Fin 3) (k0 := 2) (k1 := 3) rfl rfl 2 (off16_512_640 c)) $$ Hp_2_0
  iintro Hp_2_0
  iapply (le_wp_ret _)
  iapply HK
  isplitr
  · ipureintro; first | (simp only [and_self]; done) | exact ⟨rfl, rfl⟩
  isplitl [HM]; · iexact HM
  isplitl [Hp_2_0]; · iexact Hp_2_0
  isplitl [Hl_2_0_2]; · iexact Hl_2_0_2
  iexact Hs_2_0_2

theorem part_58 {Q : (PUnit) → sProp 𝕄} (v3 : BitVec 32) (v4 : BitVec 32) (v1571 : BitVec 32) (v1926 : FVec F S32x384 .bf16) (v1929 : Vec F S32x384 .bf16) (h_v1926 : v1926 = (k0_pay119 (pV (PP I) c (2 : Fin 4) (0 : Fin 3) (2 : Fin 3) 2) (rV (PP I) c (2 : Fin 4) (0 : Fin 3) (2 : Fin 3)))) (h_v1929 : v1929 = (pV (PP I) c (2 : Fin 4) (0 : Fin 3) (2 : Fin 3) 2)) :
    iprop(Ctx (PP I) K ∗ pK (PP I) c 2 0 3 2 ∗ Comm c 42 31 31 ∗ pK (PP I) c 2 1 3 2)
      ⊢ iprop((∀ r, iprop(pK (PP I) c 2 0 3 3 ∗ Comm c 42 33 32 ∗ pK (PP I) c 2 1 3 3 ∗ rL (PP I) c 2 1 2 ∗ pS c 2 1 2 ∗ pS c 2 2 2) -∗ Q r)
        -∗ wp frame (wpE (defs₀ (F := F)) 𝒱₀ (c : Thread nD τ) none) Set.univ (k0_part58 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v1571 v1926 v1929) Q) := by
  subst h_v1926 h_v1929
  rw [k0_part58_eq_skeleton]
  simp only [k0_part58_skel, Prog.lift, Prog.bind_op, Prog.bind_ret, Prog.pure_eq_ret]
  iintro ⟨#HC, Hp_2_0, HM, Hp_2_1⟩ HK
  iapply (store_p (PP I) c (2 : Fin 4) (0 : Fin 3) (2 : Fin 3) (k0 := 2) (k1 := 3) rfl rfl (off16_512_640 c) (shapeCast_self _ _)) $$ Hp_2_0
  iintro Hp_2_0
  iapply (left_rs (PP I) K c (2 : Fin 3) (2 : Fin 4) (1 : Fin 3) (b := 42) (a := 31) (r := 31) rfl (by decide) rfl rfl) $$ [HM]
  · isplitr; · iexact HC
    iexact HM
  iintro ⟨HM, Hs_2_1_2⟩
  iapply (landed_rs (PP I) K c (2 : Fin 3) (2 : Fin 4) (1 : Fin 3) (b := 42) (a := 32) (r := 31) rfl (by decide) rfl rfl) $$ [HM]
  · isplitr; · iexact HC
    iexact HM
  iintro ⟨HM, Hl_2_1_2⟩
  iapply (load_p (PP I) c (2 : Fin 4) (1 : Fin 3) (2 : Fin 3) (k0 := 2) (k1 := 3) rfl rfl 2 (off17_512_640 c)) $$ Hp_2_1
  iintro Hp_2_1
  iapply (load_r (PP I) c (2 : Fin 4) (1 : Fin 3) (2 : Fin 3) rfl) $$ Hl_2_1_2
  iintro Hl_2_1_2
  iapply (load_p (PP I) c (2 : Fin 4) (1 : Fin 3) (2 : Fin 3) (k0 := 2) (k1 := 3) rfl rfl 2 (off17_512_640 c)) $$ Hp_2_1
  iintro Hp_2_1
  iapply (store_p (PP I) c (2 : Fin 4) (1 : Fin 3) (2 : Fin 3) (k0 := 2) (k1 := 3) rfl rfl (off17_512_640 c) (shapeCast_self _ _)) $$ Hp_2_1
  iintro Hp_2_1
  iapply (left_rs (PP I) K c (2 : Fin 3) (2 : Fin 4) (2 : Fin 3) (b := 42) (a := 32) (r := 32) rfl (by decide) rfl rfl) $$ [HM]
  · isplitr; · iexact HC
    iexact HM
  iintro ⟨HM, Hs_2_2_2⟩
  iapply (le_wp_ret _)
  iapply HK
  isplitl [Hp_2_0]; · iexact Hp_2_0
  isplitl [HM]; · iexact HM
  isplitl [Hp_2_1]; · iexact Hp_2_1
  isplitl [Hl_2_1_2]; · iexact Hl_2_1_2
  isplitl [Hs_2_1_2]; · iexact Hs_2_1_2
  iexact Hs_2_2_2

theorem part_59 {Q : (Vec F S32x384 .bf16) → sProp 𝕄} (v5 : BitVec 32) (v1558 : BitVec 32) (v1571 : BitVec 32) (v1584 : BitVec 32)  :
    iprop(Ctx (PP I) K ∗ Comm c 42 33 32 ∗ pK (PP I) c 2 2 3 2 ∗ pK (PP I) c 2 0 3 3 ∗ gJ c 2 0 ∗ pK (PP I) c 2 1 3 3 ∗ gJ c 2 1)
      ⊢ iprop((∀ r, iprop(⌜r = (pV (PP I) c (2 : Fin 4) (1 : Fin 3) (2 : Fin 3) 3)⌝ ∗ Comm c 43 33 33 ∗ pK (PP I) c 2 2 3 3 ∗ rL (PP I) c 2 2 2 ∗ pK (PP I) c 2 0 3 3 ∗ pK (PP I) c 2 1 3 3 ∗ gJ c 2 1) -∗ Q r)
        -∗ wp frame (wpE (defs₀ (F := F)) 𝒱₀ (c : Thread nD τ) none) Set.univ (k0_part59 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v5 v1558 v1571 v1584) Q) := by
  rw [k0_part59_eq_skeleton]
  simp only [k0_part59_skel, Prog.lift, Prog.bind_op, Prog.bind_ret, Prog.pure_eq_ret]
  iintro ⟨#HC, HM, Hp_2_2, Hp_2_0, Hg_2_0, Hp_2_1, Hg_2_1⟩ HK
  iapply (landed_rs (PP I) K c (2 : Fin 3) (2 : Fin 4) (2 : Fin 3) (b := 42) (a := 33) (r := 32) rfl (by decide) rfl rfl) $$ [HM]
  · isplitr; · iexact HC
    iexact HM
  iintro ⟨HM, Hl_2_2_2⟩
  iapply (load_p (PP I) c (2 : Fin 4) (2 : Fin 3) (2 : Fin 3) (k0 := 2) (k1 := 3) rfl rfl 2 (off18_512_640 c)) $$ Hp_2_2
  iintro Hp_2_2
  iapply (load_r (PP I) c (2 : Fin 4) (2 : Fin 3) (2 : Fin 3) rfl) $$ Hl_2_2_2
  iintro Hl_2_2_2
  iapply (load_p (PP I) c (2 : Fin 4) (2 : Fin 3) (2 : Fin 3) (k0 := 2) (k1 := 3) rfl rfl 2 (off18_512_640 c)) $$ Hp_2_2
  iintro Hp_2_2
  iapply (store_p (PP I) c (2 : Fin 4) (2 : Fin 3) (2 : Fin 3) (k0 := 2) (k1 := 3) rfl rfl (off18_512_640 c) (shapeCast_self _ _)) $$ Hp_2_2
  iintro Hp_2_2
  iapply (load_p (PP I) c (2 : Fin 4) (0 : Fin 3) (2 : Fin 3) (k0 := 2) (k1 := 3) rfl rfl 3 (off16_512_640 c)) $$ Hp_2_0
  iintro Hp_2_0
  iapply (load_g c (2 : Fin 4) (0 : Fin 3) (off16_512_640 c)) $$ Hg_2_0
  iintro %v1977 Hg_2_0
  iapply (store_g (PP I) c (2 : Fin 4) (0 : Fin 3) (off16_512_640 c) (shapeCast_self _ _)) $$ Hg_2_0
  iintro Hg_2_0
  iapply (start_ag (PP I) K c (2 : Fin 3) (2 : Fin 4) (0 : Fin 3) (k0 := 2) (k1 := 3) rfl rfl (n := 42) (a := 33) (r := 33) rfl (by decide) (off19_512_640 c) (off19_512_640 c) (dv46 c) rfl rfl) $$ [HM Hg_2_0]
  · isplitr; · iexact HC
    isplitl [HM]; · iexact HM
    iexact Hg_2_0
  iintro HM
  iapply (load_p (PP I) c (2 : Fin 4) (1 : Fin 3) (2 : Fin 3) (k0 := 2) (k1 := 3) rfl rfl 3 (off17_512_640 c)) $$ Hp_2_1
  iintro Hp_2_1
  iapply (load_g c (2 : Fin 4) (1 : Fin 3) (off17_512_640 c)) $$ Hg_2_1
  iintro %v1995 Hg_2_1
  iapply (le_wp_ret _)
  iapply HK
  isplitr
  · ipureintro; first | (simp only [and_self]; done) | exact rfl
  isplitl [HM]; · iexact HM
  isplitl [Hp_2_2]; · iexact Hp_2_2
  isplitl [Hl_2_2_2]; · iexact Hl_2_2_2
  isplitl [Hp_2_0]; · iexact Hp_2_0
  isplitl [Hp_2_1]; · iexact Hp_2_1
  iexact Hg_2_1

theorem part_60 {Q : (PUnit) → sProp 𝕄} (v3 : BitVec 32) (v4 : BitVec 32) (v1571 : BitVec 32) (v1584 : BitVec 32) (v1992 : Vec F S32x384 .bf16) (h_v1992 : v1992 = (pV (PP I) c (2 : Fin 4) (1 : Fin 3) (2 : Fin 3) 3)) :
    iprop(Ctx (PP I) K ∗ gJ c 2 1 ∗ Comm c 43 33 33 ∗ pK (PP I) c 2 2 3 3 ∗ gJ c 2 2)
      ⊢ iprop((∀ r, iprop(Comm c 45 34 33 ∗ pK (PP I) c 2 2 3 3 ∗ pS c 3 0 2) -∗ Q r)
        -∗ wp frame (wpE (defs₀ (F := F)) 𝒱₀ (c : Thread nD τ) none) Set.univ (k0_part60 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v1571 v1584 v1992) Q) := by
  subst h_v1992
  rw [k0_part60_eq_skeleton]
  simp only [k0_part60_skel, Prog.lift, Prog.bind_op, Prog.bind_ret, Prog.pure_eq_ret]
  iintro ⟨#HC, Hg_2_1, HM, Hp_2_2, Hg_2_2⟩ HK
  iapply (store_g (PP I) c (2 : Fin 4) (1 : Fin 3) (off17_512_640 c) (shapeCast_self _ _)) $$ Hg_2_1
  iintro Hg_2_1
  iapply (start_ag (PP I) K c (2 : Fin 3) (2 : Fin 4) (1 : Fin 3) (k0 := 2) (k1 := 3) rfl rfl (n := 43) (a := 33) (r := 33) rfl (by decide) (off20_512_640 c) (off20_512_640 c) (dv47 c) rfl rfl) $$ [HM Hg_2_1]
  · isplitr; · iexact HC
    isplitl [HM]; · iexact HM
    iexact Hg_2_1
  iintro HM
  iapply (load_p (PP I) c (2 : Fin 4) (2 : Fin 3) (2 : Fin 3) (k0 := 2) (k1 := 3) rfl rfl 3 (off18_512_640 c)) $$ Hp_2_2
  iintro Hp_2_2
  iapply (load_g c (2 : Fin 4) (2 : Fin 3) (off18_512_640 c)) $$ Hg_2_2
  iintro %v2013 Hg_2_2
  iapply (store_g (PP I) c (2 : Fin 4) (2 : Fin 3) (off18_512_640 c) (shapeCast_self _ _)) $$ Hg_2_2
  iintro Hg_2_2
  iapply (start_ag (PP I) K c (2 : Fin 3) (2 : Fin 4) (2 : Fin 3) (k0 := 2) (k1 := 3) rfl rfl (n := 44) (a := 33) (r := 33) rfl (by decide) (off21_512_640 c) (off21_512_640 c) (dv48 c) rfl rfl) $$ [HM Hg_2_2]
  · isplitr; · iexact HC
    isplitl [HM]; · iexact HM
    iexact Hg_2_2
  iintro HM
  iapply (left_rs (PP I) K c (2 : Fin 3) (3 : Fin 4) (0 : Fin 3) (b := 45) (a := 33) (r := 33) rfl (by decide) rfl rfl) $$ [HM]
  · isplitr; · iexact HC
    iexact HM
  iintro ⟨HM, Hs_3_0_2⟩
  iapply (le_wp_ret _)
  iapply HK
  isplitl [HM]; · iexact HM
  isplitl [Hp_2_2]; · iexact Hp_2_2
  iexact Hs_3_0_2

theorem part_61 {Q : (FVec F S32x384 .bf16) → sProp 𝕄} (v3 : BitVec 32) (v5 : BitVec 32) (v1657 : BitVec 32) (v1670 : BitVec 32)  :
    iprop(Ctx (PP I) K ∗ Comm c 45 34 33 ∗ pK (PP I) c 3 0 3 2 ∗ pK (PP I) c 3 1 3 2)
      ⊢ iprop((∀ r, iprop(⌜r = (k0_pay127 (pV (PP I) c (3 : Fin 4) (1 : Fin 3) (2 : Fin 3) 2) (rV (PP I) c (3 : Fin 4) (1 : Fin 3) (2 : Fin 3)))⌝ ∗ Comm c 45 35 35 ∗ pK (PP I) c 3 0 3 3 ∗ rL (PP I) c 3 0 2 ∗ pK (PP I) c 3 1 3 2 ∗ rL (PP I) c 3 1 2 ∗ pS c 3 1 2) -∗ Q r)
        -∗ wp frame (wpE (defs₀ (F := F)) 𝒱₀ (c : Thread nD τ) none) Set.univ (k0_part61 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v1657 v1670) Q) := by
  rw [k0_part61_eq_skeleton]
  simp only [k0_part61_skel, Prog.lift, Prog.bind_op, Prog.bind_ret, Prog.pure_eq_ret]
  iintro ⟨#HC, HM, Hp_3_0, Hp_3_1⟩ HK
  iapply (landed_rs (PP I) K c (2 : Fin 3) (3 : Fin 4) (0 : Fin 3) (b := 45) (a := 34) (r := 33) rfl (by decide) rfl rfl) $$ [HM]
  · isplitr; · iexact HC
    iexact HM
  iintro ⟨HM, Hl_3_0_2⟩
  iapply (load_p (PP I) c (3 : Fin 4) (0 : Fin 3) (2 : Fin 3) (k0 := 2) (k1 := 3) rfl rfl 2 (off16_768_896 c)) $$ Hp_3_0
  iintro Hp_3_0
  iapply (load_r (PP I) c (3 : Fin 4) (0 : Fin 3) (2 : Fin 3) rfl) $$ Hl_3_0_2
  iintro Hl_3_0_2
  iapply (load_p (PP I) c (3 : Fin 4) (0 : Fin 3) (2 : Fin 3) (k0 := 2) (k1 := 3) rfl rfl 2 (off16_768_896 c)) $$ Hp_3_0
  iintro Hp_3_0
  iapply (store_p (PP I) c (3 : Fin 4) (0 : Fin 3) (2 : Fin 3) (k0 := 2) (k1 := 3) rfl rfl (off16_768_896 c) (shapeCast_self _ _)) $$ Hp_3_0
  iintro Hp_3_0
  iapply (left_rs (PP I) K c (2 : Fin 3) (3 : Fin 4) (1 : Fin 3) (b := 45) (a := 34) (r := 34) rfl (by decide) rfl rfl) $$ [HM]
  · isplitr; · iexact HC
    iexact HM
  iintro ⟨HM, Hs_3_1_2⟩
  iapply (landed_rs (PP I) K c (2 : Fin 3) (3 : Fin 4) (1 : Fin 3) (b := 45) (a := 35) (r := 34) rfl (by decide) rfl rfl) $$ [HM]
  · isplitr; · iexact HC
    iexact HM
  iintro ⟨HM, Hl_3_1_2⟩
  iapply (load_p (PP I) c (3 : Fin 4) (1 : Fin 3) (2 : Fin 3) (k0 := 2) (k1 := 3) rfl rfl 2 (off17_768_896 c)) $$ Hp_3_1
  iintro Hp_3_1
  iapply (load_r (PP I) c (3 : Fin 4) (1 : Fin 3) (2 : Fin 3) rfl) $$ Hl_3_1_2
  iintro Hl_3_1_2
  iapply (le_wp_ret _)
  iapply HK
  isplitr
  · ipureintro; first | (simp only [and_self]; done) | exact rfl
  isplitl [HM]; · iexact HM
  isplitl [Hp_3_0]; · iexact Hp_3_0
  isplitl [Hl_3_0_2]; · iexact Hl_3_0_2
  isplitl [Hp_3_1]; · iexact Hp_3_1
  isplitl [Hl_3_1_2]; · iexact Hl_3_1_2
  iexact Hs_3_1_2

theorem part_62 {Q : (PUnit) → sProp 𝕄} (v4 : BitVec 32) (v1657 : BitVec 32) (v1670 : BitVec 32) (v1683 : BitVec 32) (v2060 : FVec F S32x384 .bf16) (h_v2060 : v2060 = (k0_pay127 (pV (PP I) c (3 : Fin 4) (1 : Fin 3) (2 : Fin 3) 2) (rV (PP I) c (3 : Fin 4) (1 : Fin 3) (2 : Fin 3)))) :
    iprop(Ctx (PP I) K ∗ pK (PP I) c 3 1 3 2 ∗ Comm c 45 35 35 ∗ pK (PP I) c 3 2 3 2 ∗ pK (PP I) c 3 0 3 3 ∗ gJ c 3 0)
      ⊢ iprop((∀ r, iprop(pK (PP I) c 3 1 3 3 ∗ Comm c 45 36 36 ∗ pK (PP I) c 3 2 3 3 ∗ rL (PP I) c 3 2 2 ∗ pK (PP I) c 3 0 3 3 ∗ gK (PP I) c 3 0 3 ∗ pS c 3 2 2) -∗ Q r)
        -∗ wp frame (wpE (defs₀ (F := F)) 𝒱₀ (c : Thread nD τ) none) Set.univ (k0_part62 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v1657 v1670 v1683 v2060) Q) := by
  subst h_v2060
  rw [k0_part62_eq_skeleton]
  simp only [k0_part62_skel, Prog.lift, Prog.bind_op, Prog.bind_ret, Prog.pure_eq_ret]
  iintro ⟨#HC, Hp_3_1, HM, Hp_3_2, Hp_3_0, Hg_3_0⟩ HK
  iapply (load_p (PP I) c (3 : Fin 4) (1 : Fin 3) (2 : Fin 3) (k0 := 2) (k1 := 3) rfl rfl 2 (off17_768_896 c)) $$ Hp_3_1
  iintro Hp_3_1
  iapply (store_p (PP I) c (3 : Fin 4) (1 : Fin 3) (2 : Fin 3) (k0 := 2) (k1 := 3) rfl rfl (off17_768_896 c) (shapeCast_self _ _)) $$ Hp_3_1
  iintro Hp_3_1
  iapply (left_rs (PP I) K c (2 : Fin 3) (3 : Fin 4) (2 : Fin 3) (b := 45) (a := 35) (r := 35) rfl (by decide) rfl rfl) $$ [HM]
  · isplitr; · iexact HC
    iexact HM
  iintro ⟨HM, Hs_3_2_2⟩
  iapply (landed_rs (PP I) K c (2 : Fin 3) (3 : Fin 4) (2 : Fin 3) (b := 45) (a := 36) (r := 35) rfl (by decide) rfl rfl) $$ [HM]
  · isplitr; · iexact HC
    iexact HM
  iintro ⟨HM, Hl_3_2_2⟩
  iapply (load_p (PP I) c (3 : Fin 4) (2 : Fin 3) (2 : Fin 3) (k0 := 2) (k1 := 3) rfl rfl 2 (off18_768_896 c)) $$ Hp_3_2
  iintro Hp_3_2
  iapply (load_r (PP I) c (3 : Fin 4) (2 : Fin 3) (2 : Fin 3) rfl) $$ Hl_3_2_2
  iintro Hl_3_2_2
  iapply (load_p (PP I) c (3 : Fin 4) (2 : Fin 3) (2 : Fin 3) (k0 := 2) (k1 := 3) rfl rfl 2 (off18_768_896 c)) $$ Hp_3_2
  iintro Hp_3_2
  iapply (store_p (PP I) c (3 : Fin 4) (2 : Fin 3) (2 : Fin 3) (k0 := 2) (k1 := 3) rfl rfl (off18_768_896 c) (shapeCast_self _ _)) $$ Hp_3_2
  iintro Hp_3_2
  iapply (load_p (PP I) c (3 : Fin 4) (0 : Fin 3) (2 : Fin 3) (k0 := 2) (k1 := 3) rfl rfl 3 (off16_768_896 c)) $$ Hp_3_0
  iintro Hp_3_0
  iapply (load_g c (3 : Fin 4) (0 : Fin 3) (off16_768_896 c)) $$ Hg_3_0
  iintro %v2091 Hg_3_0
  iapply (store_g (PP I) c (3 : Fin 4) (0 : Fin 3) (off16_768_896 c) (shapeCast_self _ _)) $$ Hg_3_0
  iintro Hg_3_0
  iapply (le_wp_ret _)
  iapply HK
  isplitl [Hp_3_1]; · iexact Hp_3_1
  isplitl [HM]; · iexact HM
  isplitl [Hp_3_2]; · iexact Hp_3_2
  isplitl [Hl_3_2_2]; · iexact Hl_3_2_2
  isplitl [Hp_3_0]; · iexact Hp_3_0
  isplitl [Hg_3_0]; · iexact Hg_3_0
  iexact Hs_3_2_2

theorem part_63 {Q : (BitVec 32) → sProp 𝕄} (v3 : BitVec 32) (v4 : BitVec 32) (v5 : BitVec 32) (v1670 : BitVec 32) (v1683 : BitVec 32)  :
    iprop(Ctx (PP I) K ∗ Comm c 45 36 36 ∗ gK (PP I) c 3 0 3 ∗ pK (PP I) c 3 1 3 3 ∗ gJ c 3 1 ∗ pK (PP I) c 3 2 3 3 ∗ gJ c 3 2)
      ⊢ iprop((∀ r, iprop(Comm c 47 36 36 ∗ pK (PP I) c 3 1 3 3 ∗ pK (PP I) c 3 2 3 3 ∗ gK (PP I) c 3 2 3) -∗ Q r)
        -∗ wp frame (wpE (defs₀ (F := F)) 𝒱₀ (c : Thread nD τ) none) Set.univ (k0_part63 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v1670 v1683) Q) := by
  rw [k0_part63_eq_skeleton]
  simp only [k0_part63_skel, Prog.lift, Prog.bind_op, Prog.bind_ret, Prog.pure_eq_ret]
  iintro ⟨#HC, HM, Hg_3_0, Hp_3_1, Hg_3_1, Hp_3_2, Hg_3_2⟩ HK
  iapply (start_ag (PP I) K c (2 : Fin 3) (3 : Fin 4) (0 : Fin 3) (k0 := 2) (k1 := 3) rfl rfl (n := 45) (a := 36) (r := 36) rfl (by decide) (off19_768_896 c) (off19_768_896 c) (dv49 c) rfl rfl) $$ [HM Hg_3_0]
  · isplitr; · iexact HC
    isplitl [HM]; · iexact HM
    iexact Hg_3_0
  iintro HM
  iapply (load_p (PP I) c (3 : Fin 4) (1 : Fin 3) (2 : Fin 3) (k0 := 2) (k1 := 3) rfl rfl 3 (off17_768_896 c)) $$ Hp_3_1
  iintro Hp_3_1
  iapply (load_g c (3 : Fin 4) (1 : Fin 3) (off17_768_896 c)) $$ Hg_3_1
  iintro %v2109 Hg_3_1
  iapply (store_g (PP I) c (3 : Fin 4) (1 : Fin 3) (off17_768_896 c) (shapeCast_self _ _)) $$ Hg_3_1
  iintro Hg_3_1
  iapply (start_ag (PP I) K c (2 : Fin 3) (3 : Fin 4) (1 : Fin 3) (k0 := 2) (k1 := 3) rfl rfl (n := 46) (a := 36) (r := 36) rfl (by decide) (off20_768_896 c) (off20_768_896 c) (dv50 c) rfl rfl) $$ [HM Hg_3_1]
  · isplitr; · iexact HC
    isplitl [HM]; · iexact HM
    iexact Hg_3_1
  iintro HM
  iapply (load_p (PP I) c (3 : Fin 4) (2 : Fin 3) (2 : Fin 3) (k0 := 2) (k1 := 3) rfl rfl 3 (off18_768_896 c)) $$ Hp_3_2
  iintro Hp_3_2
  iapply (load_g c (3 : Fin 4) (2 : Fin 3) (off18_768_896 c)) $$ Hg_3_2
  iintro %v2127 Hg_3_2
  iapply (store_g (PP I) c (3 : Fin 4) (2 : Fin 3) (off18_768_896 c) (shapeCast_self _ _)) $$ Hg_3_2
  iintro Hg_3_2
  iapply (le_wp_ret _)
  iapply HK
  isplitl [HM]; · iexact HM
  isplitl [Hp_3_1]; · iexact Hp_3_1
  isplitl [Hp_3_2]; · iexact Hp_3_2
  iexact Hg_3_2

theorem part_64 {Q : (BitVec 32) → sProp 𝕄} (v3 : BitVec 32) (v5 : BitVec 32) (v15 : BitVec 1) (v1360 : BitVec 32) (v2132 : BitVec 32)  :
    iprop(Ctx (PP I) K ∗ Comm c 47 36 36 ∗ gK (PP I) c 3 2 3)
      ⊢ iprop((∀ r, iprop(Comm c 48 38 38 ∗ gK (PP I) c 0 0 2 ∗ gK (PP I) c 0 1 2) -∗ Q r)
        -∗ wp frame (wpE (defs₀ (F := F)) 𝒱₀ (c : Thread nD τ) none) Set.univ (k0_part64 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v15 v1360 v2132) Q) := by
  rw [k0_part64_eq_skeleton]
  simp only [k0_part64_skel, Prog.lift, Prog.bind_op, Prog.bind_ret, Prog.pure_eq_ret]
  iintro ⟨#HC, HM, Hg_3_2⟩ HK
  iapply (start_ag (PP I) K c (2 : Fin 3) (3 : Fin 4) (2 : Fin 3) (k0 := 2) (k1 := 3) rfl rfl (n := 47) (a := 36) (r := 36) rfl (by decide) (off21_768_896 c) (off21_768_896 c) (dv51 c) rfl rfl) $$ [HM Hg_3_2]
  · isplitr; · iexact HC
    isplitl [HM]; · iexact HM
    iexact Hg_3_2
  iintro HM
  iapply (left_ag (PP I) K c (2 : Fin 3) (0 : Fin 4) (0 : Fin 3) (k0 := 2) (k1 := 3) rfl rfl (b := 48) (a := 36) (r := 36) rfl (by decide) rfl rfl) $$ [HM]
  · isplitr; · iexact HC
    iexact HM
  iintro ⟨HM, Hg_0_0⟩
  iapply (landed_ag (PP I) K c (2 : Fin 3) (0 : Fin 4) (0 : Fin 3) (k0 := 2) (k1 := 3) rfl rfl (b := 48) (a := 37) (r := 36) rfl (by decide) rfl rfl) $$ [HM Hg_0_0]
  · isplitr; · iexact HC
    isplitl [HM]; · iexact HM
    iexact Hg_0_0
  iintro ⟨HM, Hg_0_0⟩
  iapply (left_ag (PP I) K c (2 : Fin 3) (0 : Fin 4) (1 : Fin 3) (k0 := 2) (k1 := 3) rfl rfl (b := 48) (a := 37) (r := 37) rfl (by decide) rfl rfl) $$ [HM]
  · isplitr; · iexact HC
    iexact HM
  iintro ⟨HM, Hg_0_1⟩
  iapply (landed_ag (PP I) K c (2 : Fin 3) (0 : Fin 4) (1 : Fin 3) (k0 := 2) (k1 := 3) rfl rfl (b := 48) (a := 38) (r := 37) rfl (by decide) rfl rfl) $$ [HM Hg_0_1]
  · isplitr; · iexact HC
    isplitl [HM]; · iexact HM
    iexact Hg_0_1
  iintro ⟨HM, Hg_0_1⟩
  iapply (le_wp_ret _)
  iapply HK
  isplitl [HM]; · iexact HM
  isplitl [Hg_0_0]; · iexact Hg_0_0
  iexact Hg_0_1

theorem part_65 {Q : (Σ' (v2163 : BitVec 32), BitVec 32) → sProp 𝕄} (v4 : BitVec 32) (v5 : BitVec 32) (v9 : BitVec 1) (v12 : BitVec 1) (v1373 : BitVec 32) (v1386 : BitVec 32) (v2151 : BitVec 32)  :
    iprop(Ctx (PP I) K ∗ Comm c 48 38 38 ∗ gK (PP I) c 0 0 2)
      ⊢ iprop((∀ r, iprop(Comm c 49 39 39 ∗ gK (PP I) c 0 2 2) -∗ Q r)
        -∗ wp frame (wpE (defs₀ (F := F)) 𝒱₀ (c : Thread nD τ) none) Set.univ (k0_part65 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v9 v12 v1373 v1386 v2151) Q) := by
  rw [k0_part65_eq_skeleton]
  simp only [k0_part65_skel, Prog.lift, Prog.bind_op, Prog.bind_ret, Prog.pure_eq_ret]
  iintro ⟨#HC, HM, Hg_0_0⟩ HK
  iapply (left_ag (PP I) K c (2 : Fin 3) (0 : Fin 4) (2 : Fin 3) (k0 := 2) (k1 := 3) rfl rfl (b := 48) (a := 38) (r := 38) rfl (by decide) rfl rfl) $$ [HM]
  · isplitr; · iexact HC
    iexact HM
  iintro ⟨HM, Hg_0_2⟩
  iapply (landed_ag (PP I) K c (2 : Fin 3) (0 : Fin 4) (2 : Fin 3) (k0 := 2) (k1 := 3) rfl rfl (b := 48) (a := 39) (r := 38) rfl (by decide) rfl rfl) $$ [HM Hg_0_2]
  · isplitr; · iexact HC
    isplitl [HM]; · iexact HM
    iexact Hg_0_2
  iintro ⟨HM, Hg_0_2⟩
  iapply (start_ag (PP I) K c (1 : Fin 3) (0 : Fin 4) (0 : Fin 3) (k0 := 1) (k1 := 2) rfl rfl (n := 48) (a := 39) (r := 39) rfl (by decide) (off22_0_128 c) (off22_0_128 c) (dv52 c) rfl rfl) $$ [HM Hg_0_0]
  · isplitr; · iexact HC
    isplitl [HM]; · iexact HM
    iexact Hg_0_0
  iintro HM
  iapply (le_wp_ret _)
  iapply HK
  isplitl [HM]; · iexact HM
  iexact Hg_0_2

theorem part_66 {Q : (Σ' (v2217 : BitVec 32), BitVec 32) → sProp 𝕄} (v3 : BitVec 32) (v5 : BitVec 32) (v15 : BitVec 1) (v1459 : BitVec 32) (v2175 : BitVec 32)  :
    iprop(Ctx (PP I) K ∗ Comm c 49 39 39 ∗ gK (PP I) c 0 1 2 ∗ gK (PP I) c 0 2 2)
      ⊢ iprop((∀ r, iprop(Comm c 51 41 40 ∗ gK (PP I) c 1 0 2 ∗ gK (PP I) c 1 1 3) -∗ Q r)
        -∗ wp frame (wpE (defs₀ (F := F)) 𝒱₀ (c : Thread nD τ) none) Set.univ (k0_part66 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v15 v1459 v2175) Q) := by
  rw [k0_part66_eq_skeleton]
  simp only [k0_part66_skel, Prog.lift, Prog.bind_op, Prog.bind_ret, Prog.pure_eq_ret]
  iintro ⟨#HC, HM, Hg_0_1, Hg_0_2⟩ HK
  iapply (start_ag (PP I) K c (1 : Fin 3) (0 : Fin 4) (1 : Fin 3) (k0 := 1) (k1 := 2) rfl rfl (n := 49) (a := 39) (r := 39) rfl (by decide) (off23_0_128 c) (off23_0_128 c) (dv53 c) rfl rfl) $$ [HM Hg_0_1]
  · isplitr; · iexact HC
    isplitl [HM]; · iexact HM
    iexact Hg_0_1
  iintro HM
  iapply (start_ag (PP I) K c (1 : Fin 3) (0 : Fin 4) (2 : Fin 3) (k0 := 1) (k1 := 2) rfl rfl (n := 50) (a := 39) (r := 39) rfl (by decide) (off24_0_128 c) (off24_0_128 c) (dv54 c) rfl rfl) $$ [HM Hg_0_2]
  · isplitr; · iexact HC
    isplitl [HM]; · iexact HM
    iexact Hg_0_2
  iintro HM
  iapply (left_ag (PP I) K c (2 : Fin 3) (1 : Fin 4) (0 : Fin 3) (k0 := 2) (k1 := 3) rfl rfl (b := 51) (a := 39) (r := 39) rfl (by decide) rfl rfl) $$ [HM]
  · isplitr; · iexact HC
    iexact HM
  iintro ⟨HM, Hg_1_0⟩
  iapply (landed_ag (PP I) K c (2 : Fin 3) (1 : Fin 4) (0 : Fin 3) (k0 := 2) (k1 := 3) rfl rfl (b := 51) (a := 40) (r := 39) rfl (by decide) rfl rfl) $$ [HM Hg_1_0]
  · isplitr; · iexact HC
    isplitl [HM]; · iexact HM
    iexact Hg_1_0
  iintro ⟨HM, Hg_1_0⟩
  iapply (left_ag (PP I) K c (2 : Fin 3) (1 : Fin 4) (1 : Fin 3) (k0 := 2) (k1 := 3) rfl rfl (b := 51) (a := 40) (r := 40) rfl (by decide) rfl rfl) $$ [HM]
  · isplitr; · iexact HC
    iexact HM
  iintro ⟨HM, Hg_1_1⟩
  iapply (le_wp_ret _)
  iapply HK
  isplitl [HM]; · iexact HM
  isplitl [Hg_1_0]; · iexact Hg_1_0
  iexact Hg_1_1

theorem part_67 {Q : (Σ' (v2229 : BitVec 32) (v2241 : BitVec 32), BitVec 32) → sProp 𝕄} (v4 : BitVec 32) (v9 : BitVec 1) (v12 : BitVec 1) (v1472 : BitVec 32) (v1485 : BitVec 32) (v2217 : BitVec 32) (v2222 : BitVec 32)  :
    iprop(Ctx (PP I) K ∗ Comm c 51 41 40 ∗ gK (PP I) c 1 1 3 ∗ gK (PP I) c 1 0 2)
      ⊢ iprop((∀ r, iprop(Comm c 52 42 42 ∗ gK (PP I) c 1 1 2 ∗ gK (PP I) c 1 2 2) -∗ Q r)
        -∗ wp frame (wpE (defs₀ (F := F)) 𝒱₀ (c : Thread nD τ) none) Set.univ (k0_part67 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v9 v12 v1472 v1485 v2217 v2222) Q) := by
  rw [k0_part67_eq_skeleton]
  simp only [k0_part67_skel, Prog.lift, Prog.bind_op, Prog.bind_ret, Prog.pure_eq_ret]
  iintro ⟨#HC, HM, Hg_1_1, Hg_1_0⟩ HK
  iapply (landed_ag (PP I) K c (2 : Fin 3) (1 : Fin 4) (1 : Fin 3) (k0 := 2) (k1 := 3) rfl rfl (b := 51) (a := 41) (r := 40) rfl (by decide) rfl rfl) $$ [HM Hg_1_1]
  · isplitr; · iexact HC
    isplitl [HM]; · iexact HM
    iexact Hg_1_1
  iintro ⟨HM, Hg_1_1⟩
  iapply (left_ag (PP I) K c (2 : Fin 3) (1 : Fin 4) (2 : Fin 3) (k0 := 2) (k1 := 3) rfl rfl (b := 51) (a := 41) (r := 41) rfl (by decide) rfl rfl) $$ [HM]
  · isplitr; · iexact HC
    iexact HM
  iintro ⟨HM, Hg_1_2⟩
  iapply (landed_ag (PP I) K c (2 : Fin 3) (1 : Fin 4) (2 : Fin 3) (k0 := 2) (k1 := 3) rfl rfl (b := 51) (a := 42) (r := 41) rfl (by decide) rfl rfl) $$ [HM Hg_1_2]
  · isplitr; · iexact HC
    isplitl [HM]; · iexact HM
    iexact Hg_1_2
  iintro ⟨HM, Hg_1_2⟩
  iapply (start_ag (PP I) K c (1 : Fin 3) (1 : Fin 4) (0 : Fin 3) (k0 := 1) (k1 := 2) rfl rfl (n := 51) (a := 42) (r := 42) rfl (by decide) (off22_256_384 c) (off22_256_384 c) (dv55 c) rfl rfl) $$ [HM Hg_1_0]
  · isplitr; · iexact HC
    isplitl [HM]; · iexact HM
    iexact Hg_1_0
  iintro HM
  iapply (le_wp_ret _)
  iapply HK
  isplitl [HM]; · iexact HM
  isplitl [Hg_1_1]; · iexact Hg_1_1
  iexact Hg_1_2

theorem part_68 {Q : (BitVec 32) → sProp 𝕄} (v3 : BitVec 32) (v5 : BitVec 32) (v15 : BitVec 1) (v1558 : BitVec 32) (v2241 : BitVec 32) (c1_i32_1440 : BitVec 32)  :
    iprop(Ctx (PP I) K ∗ Comm c 52 42 42 ∗ gK (PP I) c 1 1 2 ∗ gK (PP I) c 1 2 2)
      ⊢ iprop((∀ r, iprop(Comm c 54 43 43 ∗ gK (PP I) c 2 0 2) -∗ Q r)
        -∗ wp frame (wpE (defs₀ (F := F)) 𝒱₀ (c : Thread nD τ) none) Set.univ (k0_part68 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v15 v1558 v2241 c1_i32_1440) Q) := by
  rw [k0_part68_eq_skeleton]
  simp only [k0_part68_skel, Prog.lift, Prog.bind_op, Prog.bind_ret, Prog.pure_eq_ret]
  iintro ⟨#HC, HM, Hg_1_1, Hg_1_2⟩ HK
  iapply (start_ag (PP I) K c (1 : Fin 3) (1 : Fin 4) (1 : Fin 3) (k0 := 1) (k1 := 2) rfl rfl (n := 52) (a := 42) (r := 42) rfl (by decide) (off23_256_384 c) (off23_256_384 c) (dv56 c) rfl rfl) $$ [HM Hg_1_1]
  · isplitr; · iexact HC
    isplitl [HM]; · iexact HM
    iexact Hg_1_1
  iintro HM
  iapply (start_ag (PP I) K c (1 : Fin 3) (1 : Fin 4) (2 : Fin 3) (k0 := 1) (k1 := 2) rfl rfl (n := 53) (a := 42) (r := 42) rfl (by decide) (off24_256_384 c) (off24_256_384 c) (dv57 c) rfl rfl) $$ [HM Hg_1_2]
  · isplitr; · iexact HC
    isplitl [HM]; · iexact HM
    iexact Hg_1_2
  iintro HM
  iapply (left_ag (PP I) K c (2 : Fin 3) (2 : Fin 4) (0 : Fin 3) (k0 := 2) (k1 := 3) rfl rfl (b := 54) (a := 42) (r := 42) rfl (by decide) rfl rfl) $$ [HM]
  · isplitr; · iexact HC
    iexact HM
  iintro ⟨HM, Hg_2_0⟩
  iapply (landed_ag (PP I) K c (2 : Fin 3) (2 : Fin 4) (0 : Fin 3) (k0 := 2) (k1 := 3) rfl rfl (b := 54) (a := 43) (r := 42) rfl (by decide) rfl rfl) $$ [HM Hg_2_0]
  · isplitr; · iexact HC
    isplitl [HM]; · iexact HM
    iexact Hg_2_0
  iintro ⟨HM, Hg_2_0⟩
  iapply (le_wp_ret _)
  iapply HK
  isplitl [HM]; · iexact HM
  iexact Hg_2_0

end
end Cert.TreeProof
-- ==== Proof.Parts5.lean ====
module

public import proofs.«01_k».proof.Proof.Offs
public import Idealize.ShloMosaic.Lib.Pipeline.Value

/-! # The body, statement groups 69 to 86 -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

set_option maxHeartbeats 1600000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

theorem part_69 {Q : (Σ' (v2295 : BitVec 32), BitVec 32) → sProp 𝕄} (v3 : BitVec 32) (v4 : BitVec 32) (v9 : BitVec 1) (v12 : BitVec 1) (v1571 : BitVec 32) (v1584 : BitVec 32) (v2283 : BitVec 32)  :
    iprop(Ctx (PP I) K ∗ Comm c 54 43 43)
      ⊢ iprop((∀ r, iprop(Comm c 54 45 45 ∗ gK (PP I) c 2 1 2 ∗ gK (PP I) c 2 2 2) -∗ Q r)
        -∗ wp frame (wpE (defs₀ (F := F)) 𝒱₀ (c : Thread nD τ) none) Set.univ (k0_part69 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v9 v12 v1571 v1584 v2283) Q) := by
  rw [k0_part69_eq_skeleton]
  simp only [k0_part69_skel, Prog.lift, Prog.bind_op, Prog.bind_ret, Prog.pure_eq_ret]
  iintro ⟨#HC, HM⟩ HK
  iapply (left_ag (PP I) K c (2 : Fin 3) (2 : Fin 4) (1 : Fin 3) (k0 := 2) (k1 := 3) rfl rfl (b := 54) (a := 43) (r := 43) rfl (by decide) rfl rfl) $$ [HM]
  · isplitr; · iexact HC
    iexact HM
  iintro ⟨HM, Hg_2_1⟩
  iapply (landed_ag (PP I) K c (2 : Fin 3) (2 : Fin 4) (1 : Fin 3) (k0 := 2) (k1 := 3) rfl rfl (b := 54) (a := 44) (r := 43) rfl (by decide) rfl rfl) $$ [HM Hg_2_1]
  · isplitr; · iexact HC
    isplitl [HM]; · iexact HM
    iexact Hg_2_1
  iintro ⟨HM, Hg_2_1⟩
  iapply (left_ag (PP I) K c (2 : Fin 3) (2 : Fin 4) (2 : Fin 3) (k0 := 2) (k1 := 3) rfl rfl (b := 54) (a := 44) (r := 44) rfl (by decide) rfl rfl) $$ [HM]
  · isplitr; · iexact HC
    iexact HM
  iintro ⟨HM, Hg_2_2⟩
  iapply (landed_ag (PP I) K c (2 : Fin 3) (2 : Fin 4) (2 : Fin 3) (k0 := 2) (k1 := 3) rfl rfl (b := 54) (a := 45) (r := 44) rfl (by decide) rfl rfl) $$ [HM Hg_2_2]
  · isplitr; · iexact HC
    isplitl [HM]; · iexact HM
    iexact Hg_2_2
  iintro ⟨HM, Hg_2_2⟩
  iapply (le_wp_ret _)
  iapply HK
  isplitl [HM]; · iexact HM
  isplitl [Hg_2_1]; · iexact Hg_2_1
  iexact Hg_2_2

theorem part_70 {Q : (PUnit) → sProp 𝕄} (v3 : BitVec 32) (v5 : BitVec 32) (v2295 : BitVec 32) (v2307 : BitVec 32)  :
    iprop(Ctx (PP I) K ∗ Comm c 54 45 45 ∗ gK (PP I) c 2 0 2 ∗ gK (PP I) c 2 1 2 ∗ gK (PP I) c 2 2 2)
      ⊢ iprop((∀ r, iprop(Comm c 57 46 45 ∗ gK (PP I) c 3 0 3) -∗ Q r)
        -∗ wp frame (wpE (defs₀ (F := F)) 𝒱₀ (c : Thread nD τ) none) Set.univ (k0_part70 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v5 v2295 v2307) Q) := by
  rw [k0_part70_eq_skeleton]
  simp only [k0_part70_skel, Prog.lift, Prog.bind_op, Prog.bind_ret, Prog.pure_eq_ret]
  iintro ⟨#HC, HM, Hg_2_0, Hg_2_1, Hg_2_2⟩ HK
  iapply (start_ag (PP I) K c (1 : Fin 3) (2 : Fin 4) (0 : Fin 3) (k0 := 1) (k1 := 2) rfl rfl (n := 54) (a := 45) (r := 45) rfl (by decide) (off22_512_640 c) (off22_512_640 c) (dv58 c) rfl rfl) $$ [HM Hg_2_0]
  · isplitr; · iexact HC
    isplitl [HM]; · iexact HM
    iexact Hg_2_0
  iintro HM
  iapply (start_ag (PP I) K c (1 : Fin 3) (2 : Fin 4) (1 : Fin 3) (k0 := 1) (k1 := 2) rfl rfl (n := 55) (a := 45) (r := 45) rfl (by decide) (off23_512_640 c) (off23_512_640 c) (dv59 c) rfl rfl) $$ [HM Hg_2_1]
  · isplitr; · iexact HC
    isplitl [HM]; · iexact HM
    iexact Hg_2_1
  iintro HM
  iapply (start_ag (PP I) K c (1 : Fin 3) (2 : Fin 4) (2 : Fin 3) (k0 := 1) (k1 := 2) rfl rfl (n := 56) (a := 45) (r := 45) rfl (by decide) (off24_512_640 c) (off24_512_640 c) (dv60 c) rfl rfl) $$ [HM Hg_2_2]
  · isplitr; · iexact HC
    isplitl [HM]; · iexact HM
    iexact Hg_2_2
  iintro HM
  iapply (left_ag (PP I) K c (2 : Fin 3) (3 : Fin 4) (0 : Fin 3) (k0 := 2) (k1 := 3) rfl rfl (b := 57) (a := 45) (r := 45) rfl (by decide) rfl rfl) $$ [HM]
  · isplitr; · iexact HC
    iexact HM
  iintro ⟨HM, Hg_3_0⟩
  iapply (le_wp_ret _)
  iapply HK
  isplitl [HM]; · iexact HM
  iexact Hg_3_0

theorem part_71 {Q : (Σ' (v2349 : BitVec 32) (v2361 : BitVec 32), BitVec 32) → sProp 𝕄} (v3 : BitVec 32) (v4 : BitVec 32) (v9 : BitVec 1) (v12 : BitVec 1) (v15 : BitVec 1) (v1657 : BitVec 32) (v1670 : BitVec 32) (v1683 : BitVec 32)  :
    iprop(Ctx (PP I) K ∗ Comm c 57 46 45 ∗ gK (PP I) c 3 0 3)
      ⊢ iprop((∀ r, iprop(Comm c 57 48 48 ∗ gK (PP I) c 3 0 2 ∗ gK (PP I) c 3 1 2 ∗ gK (PP I) c 3 2 2) -∗ Q r)
        -∗ wp frame (wpE (defs₀ (F := F)) 𝒱₀ (c : Thread nD τ) none) Set.univ (k0_part71 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v9 v12 v15 v1657 v1670 v1683) Q) := by
  rw [k0_part71_eq_skeleton]
  simp only [k0_part71_skel, Prog.lift, Prog.bind_op, Prog.bind_ret, Prog.pure_eq_ret]
  iintro ⟨#HC, HM, Hg_3_0⟩ HK
  iapply (landed_ag (PP I) K c (2 : Fin 3) (3 : Fin 4) (0 : Fin 3) (k0 := 2) (k1 := 3) rfl rfl (b := 57) (a := 46) (r := 45) rfl (by decide) rfl rfl) $$ [HM Hg_3_0]
  · isplitr; · iexact HC
    isplitl [HM]; · iexact HM
    iexact Hg_3_0
  iintro ⟨HM, Hg_3_0⟩
  iapply (left_ag (PP I) K c (2 : Fin 3) (3 : Fin 4) (1 : Fin 3) (k0 := 2) (k1 := 3) rfl rfl (b := 57) (a := 46) (r := 46) rfl (by decide) rfl rfl) $$ [HM]
  · isplitr; · iexact HC
    iexact HM
  iintro ⟨HM, Hg_3_1⟩
  iapply (landed_ag (PP I) K c (2 : Fin 3) (3 : Fin 4) (1 : Fin 3) (k0 := 2) (k1 := 3) rfl rfl (b := 57) (a := 47) (r := 46) rfl (by decide) rfl rfl) $$ [HM Hg_3_1]
  · isplitr; · iexact HC
    isplitl [HM]; · iexact HM
    iexact Hg_3_1
  iintro ⟨HM, Hg_3_1⟩
  iapply (left_ag (PP I) K c (2 : Fin 3) (3 : Fin 4) (2 : Fin 3) (k0 := 2) (k1 := 3) rfl rfl (b := 57) (a := 47) (r := 47) rfl (by decide) rfl rfl) $$ [HM]
  · isplitr; · iexact HC
    iexact HM
  iintro ⟨HM, Hg_3_2⟩
  iapply (landed_ag (PP I) K c (2 : Fin 3) (3 : Fin 4) (2 : Fin 3) (k0 := 2) (k1 := 3) rfl rfl (b := 57) (a := 48) (r := 47) rfl (by decide) rfl rfl) $$ [HM Hg_3_2]
  · isplitr; · iexact HC
    isplitl [HM]; · iexact HM
    iexact Hg_3_2
  iintro ⟨HM, Hg_3_2⟩
  iapply (le_wp_ret _)
  iapply HK
  isplitl [HM]; · iexact HM
  isplitl [Hg_3_0]; · iexact Hg_3_0
  isplitl [Hg_3_1]; · iexact Hg_3_1
  iexact Hg_3_2

theorem part_72 {Q : (BitVec 32) → sProp 𝕄} (v3 : BitVec 32) (v4 : BitVec 32) (v5 : BitVec 32) (v2361 : BitVec 32) (v2373 : BitVec 32)  :
    iprop(Ctx (PP I) K ∗ Comm c 57 48 48 ∗ gK (PP I) c 3 0 2 ∗ gK (PP I) c 3 1 2 ∗ gK (PP I) c 3 2 2)
      ⊢ iprop((∀ r, iprop(Comm c 60 49 48 ∗ gK (PP I) c 0 0 2) -∗ Q r)
        -∗ wp frame (wpE (defs₀ (F := F)) 𝒱₀ (c : Thread nD τ) none) Set.univ (k0_part72 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v2361 v2373) Q) := by
  rw [k0_part72_eq_skeleton]
  simp only [k0_part72_skel, Prog.lift, Prog.bind_op, Prog.bind_ret, Prog.pure_eq_ret]
  iintro ⟨#HC, HM, Hg_3_0, Hg_3_1, Hg_3_2⟩ HK
  iapply (start_ag (PP I) K c (1 : Fin 3) (3 : Fin 4) (0 : Fin 3) (k0 := 1) (k1 := 2) rfl rfl (n := 57) (a := 48) (r := 48) rfl (by decide) (off22_768_896 c) (off22_768_896 c) (dv61 c) rfl rfl) $$ [HM Hg_3_0]
  · isplitr; · iexact HC
    isplitl [HM]; · iexact HM
    iexact Hg_3_0
  iintro HM
  iapply (start_ag (PP I) K c (1 : Fin 3) (3 : Fin 4) (1 : Fin 3) (k0 := 1) (k1 := 2) rfl rfl (n := 58) (a := 48) (r := 48) rfl (by decide) (off23_768_896 c) (off23_768_896 c) (dv62 c) rfl rfl) $$ [HM Hg_3_1]
  · isplitr; · iexact HC
    isplitl [HM]; · iexact HM
    iexact Hg_3_1
  iintro HM
  iapply (start_ag (PP I) K c (1 : Fin 3) (3 : Fin 4) (2 : Fin 3) (k0 := 1) (k1 := 2) rfl rfl (n := 59) (a := 48) (r := 48) rfl (by decide) (off24_768_896 c) (off24_768_896 c) (dv63 c) rfl rfl) $$ [HM Hg_3_2]
  · isplitr; · iexact HC
    isplitl [HM]; · iexact HM
    iexact Hg_3_2
  iintro HM
  iapply (left_ag (PP I) K c (1 : Fin 3) (0 : Fin 4) (0 : Fin 3) (k0 := 1) (k1 := 2) rfl rfl (b := 60) (a := 48) (r := 48) rfl (by decide) rfl rfl) $$ [HM]
  · isplitr; · iexact HC
    iexact HM
  iintro ⟨HM, Hg_0_0⟩
  iapply (le_wp_ret _)
  iapply HK
  isplitl [HM]; · iexact HM
  iexact Hg_0_0

theorem part_73 {Q : (Σ' (v2415 : BitVec 32), BitVec 32) → sProp 𝕄} (v3 : BitVec 32) (v4 : BitVec 32) (v5 : BitVec 32) (v12 : BitVec 1) (v15 : BitVec 1) (v2151 : BitVec 32) (v2163 : BitVec 32) (c1_i32_1559 : BitVec 32)  :
    iprop(Ctx (PP I) K ∗ Comm c 60 49 48 ∗ gK (PP I) c 0 0 2)
      ⊢ iprop((∀ r, iprop(Comm c 60 51 50 ∗ gK (PP I) c 0 0 1 ∗ gK (PP I) c 0 1 1 ∗ gK (PP I) c 0 2 2) -∗ Q r)
        -∗ wp frame (wpE (defs₀ (F := F)) 𝒱₀ (c : Thread nD τ) none) Set.univ (k0_part73 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v12 v15 v2151 v2163 c1_i32_1559) Q) := by
  rw [k0_part73_eq_skeleton]
  simp only [k0_part73_skel, Prog.lift, Prog.bind_op, Prog.bind_ret, Prog.pure_eq_ret]
  iintro ⟨#HC, HM, Hg_0_0⟩ HK
  iapply (landed_ag (PP I) K c (1 : Fin 3) (0 : Fin 4) (0 : Fin 3) (k0 := 1) (k1 := 2) rfl rfl (b := 60) (a := 49) (r := 48) rfl (by decide) rfl rfl) $$ [HM Hg_0_0]
  · isplitr; · iexact HC
    isplitl [HM]; · iexact HM
    iexact Hg_0_0
  iintro ⟨HM, Hg_0_0⟩
  iapply (left_ag (PP I) K c (1 : Fin 3) (0 : Fin 4) (1 : Fin 3) (k0 := 1) (k1 := 2) rfl rfl (b := 60) (a := 49) (r := 49) rfl (by decide) rfl rfl) $$ [HM]
  · isplitr; · iexact HC
    iexact HM
  iintro ⟨HM, Hg_0_1⟩
  iapply (landed_ag (PP I) K c (1 : Fin 3) (0 : Fin 4) (1 : Fin 3) (k0 := 1) (k1 := 2) rfl rfl (b := 60) (a := 50) (r := 49) rfl (by decide) rfl rfl) $$ [HM Hg_0_1]
  · isplitr; · iexact HC
    isplitl [HM]; · iexact HM
    iexact Hg_0_1
  iintro ⟨HM, Hg_0_1⟩
  iapply (left_ag (PP I) K c (1 : Fin 3) (0 : Fin 4) (2 : Fin 3) (k0 := 1) (k1 := 2) rfl rfl (b := 60) (a := 50) (r := 50) rfl (by decide) rfl rfl) $$ [HM]
  · isplitr; · iexact HC
    iexact HM
  iintro ⟨HM, Hg_0_2⟩
  iapply (le_wp_ret _)
  iapply HK
  isplitl [HM]; · iexact HM
  isplitl [Hg_0_0]; · iexact Hg_0_0
  isplitl [Hg_0_1]; · iexact Hg_0_1
  iexact Hg_0_2

theorem part_74 {Q : (PUnit) → sProp 𝕄} (v3 : BitVec 32) (v4 : BitVec 32) (v5 : BitVec 32) (v9 : BitVec 1) (v2175 : BitVec 32) (v2415 : BitVec 32) (v2427 : BitVec 32)  :
    iprop(Ctx (PP I) K ∗ Comm c 60 51 50 ∗ gK (PP I) c 0 2 2 ∗ gK (PP I) c 0 0 1 ∗ gK (PP I) c 0 1 1)
      ⊢ iprop((∀ r, iprop(Comm c 63 51 51) -∗ Q r)
        -∗ wp frame (wpE (defs₀ (F := F)) 𝒱₀ (c : Thread nD τ) none) Set.univ (k0_part74 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v9 v2175 v2415 v2427) Q) := by
  rw [k0_part74_eq_skeleton]
  simp only [k0_part74_skel, Prog.lift, Prog.bind_op, Prog.bind_ret, Prog.pure_eq_ret]
  iintro ⟨#HC, HM, Hg_0_2, Hg_0_0, Hg_0_1⟩ HK
  iapply (landed_ag (PP I) K c (1 : Fin 3) (0 : Fin 4) (2 : Fin 3) (k0 := 1) (k1 := 2) rfl rfl (b := 60) (a := 51) (r := 50) rfl (by decide) rfl rfl) $$ [HM Hg_0_2]
  · isplitr; · iexact HC
    isplitl [HM]; · iexact HM
    iexact Hg_0_2
  iintro ⟨HM, Hg_0_2⟩
  iapply (start_ag (PP I) K c (0 : Fin 3) (0 : Fin 4) (0 : Fin 3) (k0 := 0) (k1 := 1) rfl rfl (n := 60) (a := 51) (r := 51) rfl (by decide) (off25_0_128 c) (off25_0_128 c) (dv64 c) rfl rfl) $$ [HM Hg_0_0]
  · isplitr; · iexact HC
    isplitl [HM]; · iexact HM
    iexact Hg_0_0
  iintro HM
  iapply (start_ag (PP I) K c (0 : Fin 3) (0 : Fin 4) (1 : Fin 3) (k0 := 0) (k1 := 1) rfl rfl (n := 61) (a := 51) (r := 51) rfl (by decide) (off26_0_128 c) (off26_0_128 c) (dv65 c) rfl rfl) $$ [HM Hg_0_1]
  · isplitr; · iexact HC
    isplitl [HM]; · iexact HM
    iexact Hg_0_1
  iintro HM
  iapply (start_ag (PP I) K c (0 : Fin 3) (0 : Fin 4) (2 : Fin 3) (k0 := 0) (k1 := 1) rfl rfl (n := 62) (a := 51) (r := 51) rfl (by decide) (off27_0_128 c) (off27_0_128 c) (dv66 c) rfl rfl) $$ [HM Hg_0_2]
  · isplitr; · iexact HC
    isplitl [HM]; · iexact HM
    iexact Hg_0_2
  iintro HM
  iapply (le_wp_ret _)
  iapply HK
  iexact HM

theorem part_75 {Q : (Σ' (v2481 : BitVec 32), BitVec 32) → sProp 𝕄} (v4 : BitVec 32) (v5 : BitVec 32) (v12 : BitVec 1) (v15 : BitVec 1) (v2217 : BitVec 32) (v2229 : BitVec 32)  :
    iprop(Ctx (PP I) K ∗ Comm c 63 51 51)
      ⊢ iprop((∀ r, iprop(Comm c 63 54 53 ∗ gK (PP I) c 1 0 1 ∗ gK (PP I) c 1 1 1 ∗ gK (PP I) c 1 2 2) -∗ Q r)
        -∗ wp frame (wpE (defs₀ (F := F)) 𝒱₀ (c : Thread nD τ) none) Set.univ (k0_part75 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v15 v2217 v2229) Q) := by
  rw [k0_part75_eq_skeleton]
  simp only [k0_part75_skel, Prog.lift, Prog.bind_op, Prog.bind_ret, Prog.pure_eq_ret]
  iintro ⟨#HC, HM⟩ HK
  iapply (left_ag (PP I) K c (1 : Fin 3) (1 : Fin 4) (0 : Fin 3) (k0 := 1) (k1 := 2) rfl rfl (b := 63) (a := 51) (r := 51) rfl (by decide) rfl rfl) $$ [HM]
  · isplitr; · iexact HC
    iexact HM
  iintro ⟨HM, Hg_1_0⟩
  iapply (landed_ag (PP I) K c (1 : Fin 3) (1 : Fin 4) (0 : Fin 3) (k0 := 1) (k1 := 2) rfl rfl (b := 63) (a := 52) (r := 51) rfl (by decide) rfl rfl) $$ [HM Hg_1_0]
  · isplitr; · iexact HC
    isplitl [HM]; · iexact HM
    iexact Hg_1_0
  iintro ⟨HM, Hg_1_0⟩
  iapply (left_ag (PP I) K c (1 : Fin 3) (1 : Fin 4) (1 : Fin 3) (k0 := 1) (k1 := 2) rfl rfl (b := 63) (a := 52) (r := 52) rfl (by decide) rfl rfl) $$ [HM]
  · isplitr; · iexact HC
    iexact HM
  iintro ⟨HM, Hg_1_1⟩
  iapply (landed_ag (PP I) K c (1 : Fin 3) (1 : Fin 4) (1 : Fin 3) (k0 := 1) (k1 := 2) rfl rfl (b := 63) (a := 53) (r := 52) rfl (by decide) rfl rfl) $$ [HM Hg_1_1]
  · isplitr; · iexact HC
    isplitl [HM]; · iexact HM
    iexact Hg_1_1
  iintro ⟨HM, Hg_1_1⟩
  iapply (left_ag (PP I) K c (1 : Fin 3) (1 : Fin 4) (2 : Fin 3) (k0 := 1) (k1 := 2) rfl rfl (b := 63) (a := 53) (r := 53) rfl (by decide) rfl rfl) $$ [HM]
  · isplitr; · iexact HC
    iexact HM
  iintro ⟨HM, Hg_1_2⟩
  iapply (le_wp_ret _)
  iapply HK
  isplitl [HM]; · iexact HM
  isplitl [Hg_1_0]; · iexact Hg_1_0
  isplitl [Hg_1_1]; · iexact Hg_1_1
  iexact Hg_1_2

theorem part_76 {Q : (PUnit) → sProp 𝕄} (v3 : BitVec 32) (v4 : BitVec 32) (v5 : BitVec 32) (v9 : BitVec 1) (v2241 : BitVec 32) (v2481 : BitVec 32) (v2493 : BitVec 32)  :
    iprop(Ctx (PP I) K ∗ Comm c 63 54 53 ∗ gK (PP I) c 1 2 2 ∗ gK (PP I) c 1 0 1 ∗ gK (PP I) c 1 1 1)
      ⊢ iprop((∀ r, iprop(Comm c 65 54 54 ∗ gK (PP I) c 1 2 1) -∗ Q r)
        -∗ wp frame (wpE (defs₀ (F := F)) 𝒱₀ (c : Thread nD τ) none) Set.univ (k0_part76 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v9 v2241 v2481 v2493) Q) := by
  rw [k0_part76_eq_skeleton]
  simp only [k0_part76_skel, Prog.lift, Prog.bind_op, Prog.bind_ret, Prog.pure_eq_ret]
  iintro ⟨#HC, HM, Hg_1_2, Hg_1_0, Hg_1_1⟩ HK
  iapply (landed_ag (PP I) K c (1 : Fin 3) (1 : Fin 4) (2 : Fin 3) (k0 := 1) (k1 := 2) rfl rfl (b := 63) (a := 54) (r := 53) rfl (by decide) rfl rfl) $$ [HM Hg_1_2]
  · isplitr; · iexact HC
    isplitl [HM]; · iexact HM
    iexact Hg_1_2
  iintro ⟨HM, Hg_1_2⟩
  iapply (start_ag (PP I) K c (0 : Fin 3) (1 : Fin 4) (0 : Fin 3) (k0 := 0) (k1 := 1) rfl rfl (n := 63) (a := 54) (r := 54) rfl (by decide) (off25_256_384 c) (off25_256_384 c) (dv67 c) rfl rfl) $$ [HM Hg_1_0]
  · isplitr; · iexact HC
    isplitl [HM]; · iexact HM
    iexact Hg_1_0
  iintro HM
  iapply (start_ag (PP I) K c (0 : Fin 3) (1 : Fin 4) (1 : Fin 3) (k0 := 0) (k1 := 1) rfl rfl (n := 64) (a := 54) (r := 54) rfl (by decide) (off26_256_384 c) (off26_256_384 c) (dv68 c) rfl rfl) $$ [HM Hg_1_1]
  · isplitr; · iexact HC
    isplitl [HM]; · iexact HM
    iexact Hg_1_1
  iintro HM
  iapply (le_wp_ret _)
  iapply HK
  isplitl [HM]; · iexact HM
  iexact Hg_1_2

theorem part_77 {Q : (Σ' (v2547 : BitVec 32), BitVec 32) → sProp 𝕄} (v4 : BitVec 32) (v5 : BitVec 32) (v12 : BitVec 1) (v15 : BitVec 1) (v2283 : BitVec 32) (v2295 : BitVec 32)  :
    iprop(Ctx (PP I) K ∗ Comm c 65 54 54 ∗ gK (PP I) c 1 2 1)
      ⊢ iprop((∀ r, iprop(Comm c 66 56 56 ∗ gK (PP I) c 2 0 1 ∗ gK (PP I) c 2 1 1) -∗ Q r)
        -∗ wp frame (wpE (defs₀ (F := F)) 𝒱₀ (c : Thread nD τ) none) Set.univ (k0_part77 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v15 v2283 v2295) Q) := by
  rw [k0_part77_eq_skeleton]
  simp only [k0_part77_skel, Prog.lift, Prog.bind_op, Prog.bind_ret, Prog.pure_eq_ret]
  iintro ⟨#HC, HM, Hg_1_2⟩ HK
  iapply (start_ag (PP I) K c (0 : Fin 3) (1 : Fin 4) (2 : Fin 3) (k0 := 0) (k1 := 1) rfl rfl (n := 65) (a := 54) (r := 54) rfl (by decide) (off27_256_384 c) (off27_256_384 c) (dv69 c) rfl rfl) $$ [HM Hg_1_2]
  · isplitr; · iexact HC
    isplitl [HM]; · iexact HM
    iexact Hg_1_2
  iintro HM
  iapply (left_ag (PP I) K c (1 : Fin 3) (2 : Fin 4) (0 : Fin 3) (k0 := 1) (k1 := 2) rfl rfl (b := 66) (a := 54) (r := 54) rfl (by decide) rfl rfl) $$ [HM]
  · isplitr; · iexact HC
    iexact HM
  iintro ⟨HM, Hg_2_0⟩
  iapply (landed_ag (PP I) K c (1 : Fin 3) (2 : Fin 4) (0 : Fin 3) (k0 := 1) (k1 := 2) rfl rfl (b := 66) (a := 55) (r := 54) rfl (by decide) rfl rfl) $$ [HM Hg_2_0]
  · isplitr; · iexact HC
    isplitl [HM]; · iexact HM
    iexact Hg_2_0
  iintro ⟨HM, Hg_2_0⟩
  iapply (left_ag (PP I) K c (1 : Fin 3) (2 : Fin 4) (1 : Fin 3) (k0 := 1) (k1 := 2) rfl rfl (b := 66) (a := 55) (r := 55) rfl (by decide) rfl rfl) $$ [HM]
  · isplitr; · iexact HC
    iexact HM
  iintro ⟨HM, Hg_2_1⟩
  iapply (landed_ag (PP I) K c (1 : Fin 3) (2 : Fin 4) (1 : Fin 3) (k0 := 1) (k1 := 2) rfl rfl (b := 66) (a := 56) (r := 55) rfl (by decide) rfl rfl) $$ [HM Hg_2_1]
  · isplitr; · iexact HC
    isplitl [HM]; · iexact HM
    iexact Hg_2_1
  iintro ⟨HM, Hg_2_1⟩
  iapply (le_wp_ret _)
  iapply HK
  isplitl [HM]; · iexact HM
  isplitl [Hg_2_0]; · iexact Hg_2_0
  iexact Hg_2_1

theorem part_78 {Q : (PUnit) → sProp 𝕄} (v3 : BitVec 32) (v4 : BitVec 32) (v9 : BitVec 1) (v2307 : BitVec 32) (v2547 : BitVec 32) (v2559 : BitVec 32)  :
    iprop(Ctx (PP I) K ∗ Comm c 66 56 56 ∗ gK (PP I) c 2 0 1 ∗ gK (PP I) c 2 1 1)
      ⊢ iprop((∀ r, iprop(Comm c 68 57 57 ∗ gK (PP I) c 2 2 1) -∗ Q r)
        -∗ wp frame (wpE (defs₀ (F := F)) 𝒱₀ (c : Thread nD τ) none) Set.univ (k0_part78 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v9 v2307 v2547 v2559) Q) := by
  rw [k0_part78_eq_skeleton]
  simp only [k0_part78_skel, Prog.lift, Prog.bind_op, Prog.bind_ret, Prog.pure_eq_ret]
  iintro ⟨#HC, HM, Hg_2_0, Hg_2_1⟩ HK
  iapply (left_ag (PP I) K c (1 : Fin 3) (2 : Fin 4) (2 : Fin 3) (k0 := 1) (k1 := 2) rfl rfl (b := 66) (a := 56) (r := 56) rfl (by decide) rfl rfl) $$ [HM]
  · isplitr; · iexact HC
    iexact HM
  iintro ⟨HM, Hg_2_2⟩
  iapply (landed_ag (PP I) K c (1 : Fin 3) (2 : Fin 4) (2 : Fin 3) (k0 := 1) (k1 := 2) rfl rfl (b := 66) (a := 57) (r := 56) rfl (by decide) rfl rfl) $$ [HM Hg_2_2]
  · isplitr; · iexact HC
    isplitl [HM]; · iexact HM
    iexact Hg_2_2
  iintro ⟨HM, Hg_2_2⟩
  iapply (start_ag (PP I) K c (0 : Fin 3) (2 : Fin 4) (0 : Fin 3) (k0 := 0) (k1 := 1) rfl rfl (n := 66) (a := 57) (r := 57) rfl (by decide) (off25_512_640 c) (off25_512_640 c) (dv70 c) rfl rfl) $$ [HM Hg_2_0]
  · isplitr; · iexact HC
    isplitl [HM]; · iexact HM
    iexact Hg_2_0
  iintro HM
  iapply (start_ag (PP I) K c (0 : Fin 3) (2 : Fin 4) (1 : Fin 3) (k0 := 0) (k1 := 1) rfl rfl (n := 67) (a := 57) (r := 57) rfl (by decide) (off26_512_640 c) (off26_512_640 c) (dv71 c) rfl rfl) $$ [HM Hg_2_1]
  · isplitr; · iexact HC
    isplitl [HM]; · iexact HM
    iexact Hg_2_1
  iintro HM
  iapply (le_wp_ret _)
  iapply HK
  isplitl [HM]; · iexact HM
  iexact Hg_2_2

theorem part_79 {Q : (BitVec 32) → sProp 𝕄} (v4 : BitVec 32) (v5 : BitVec 32) (v12 : BitVec 1) (v2349 : BitVec 32)  :
    iprop(Ctx (PP I) K ∗ Comm c 68 57 57 ∗ gK (PP I) c 2 2 1)
      ⊢ iprop((∀ r, iprop(Comm c 69 59 58 ∗ gK (PP I) c 3 0 1 ∗ gK (PP I) c 3 1 2) -∗ Q r)
        -∗ wp frame (wpE (defs₀ (F := F)) 𝒱₀ (c : Thread nD τ) none) Set.univ (k0_part79 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5 v12 v2349) Q) := by
  rw [k0_part79_eq_skeleton]
  simp only [k0_part79_skel, Prog.lift, Prog.bind_op, Prog.bind_ret, Prog.pure_eq_ret]
  iintro ⟨#HC, HM, Hg_2_2⟩ HK
  iapply (start_ag (PP I) K c (0 : Fin 3) (2 : Fin 4) (2 : Fin 3) (k0 := 0) (k1 := 1) rfl rfl (n := 68) (a := 57) (r := 57) rfl (by decide) (off27_512_640 c) (off27_512_640 c) (dv72 c) rfl rfl) $$ [HM Hg_2_2]
  · isplitr; · iexact HC
    isplitl [HM]; · iexact HM
    iexact Hg_2_2
  iintro HM
  iapply (left_ag (PP I) K c (1 : Fin 3) (3 : Fin 4) (0 : Fin 3) (k0 := 1) (k1 := 2) rfl rfl (b := 69) (a := 57) (r := 57) rfl (by decide) rfl rfl) $$ [HM]
  · isplitr; · iexact HC
    iexact HM
  iintro ⟨HM, Hg_3_0⟩
  iapply (landed_ag (PP I) K c (1 : Fin 3) (3 : Fin 4) (0 : Fin 3) (k0 := 1) (k1 := 2) rfl rfl (b := 69) (a := 58) (r := 57) rfl (by decide) rfl rfl) $$ [HM Hg_3_0]
  · isplitr; · iexact HC
    isplitl [HM]; · iexact HM
    iexact Hg_3_0
  iintro ⟨HM, Hg_3_0⟩
  iapply (left_ag (PP I) K c (1 : Fin 3) (3 : Fin 4) (1 : Fin 3) (k0 := 1) (k1 := 2) rfl rfl (b := 69) (a := 58) (r := 58) rfl (by decide) rfl rfl) $$ [HM]
  · isplitr; · iexact HC
    iexact HM
  iintro ⟨HM, Hg_3_1⟩
  iapply (le_wp_ret _)
  iapply HK
  isplitl [HM]; · iexact HM
  isplitl [Hg_3_0]; · iexact Hg_3_0
  iexact Hg_3_1

theorem part_80 {Q : (BitVec 32) → sProp 𝕄} (v3 : BitVec 32) (v4 : BitVec 32) (v9 : BitVec 1) (v15 : BitVec 1) (v2361 : BitVec 32) (v2373 : BitVec 32) (v2613 : BitVec 32)  :
    iprop(Ctx (PP I) K ∗ Comm c 69 59 58 ∗ gK (PP I) c 3 1 2 ∗ gK (PP I) c 3 0 1)
      ⊢ iprop((∀ r, iprop(Comm c 70 60 60 ∗ gK (PP I) c 3 1 1 ∗ gK (PP I) c 3 2 1) -∗ Q r)
        -∗ wp frame (wpE (defs₀ (F := F)) 𝒱₀ (c : Thread nD τ) none) Set.univ (k0_part80 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v9 v15 v2361 v2373 v2613) Q) := by
  rw [k0_part80_eq_skeleton]
  simp only [k0_part80_skel, Prog.lift, Prog.bind_op, Prog.bind_ret, Prog.pure_eq_ret]
  iintro ⟨#HC, HM, Hg_3_1, Hg_3_0⟩ HK
  iapply (landed_ag (PP I) K c (1 : Fin 3) (3 : Fin 4) (1 : Fin 3) (k0 := 1) (k1 := 2) rfl rfl (b := 69) (a := 59) (r := 58) rfl (by decide) rfl rfl) $$ [HM Hg_3_1]
  · isplitr; · iexact HC
    isplitl [HM]; · iexact HM
    iexact Hg_3_1
  iintro ⟨HM, Hg_3_1⟩
  iapply (left_ag (PP I) K c (1 : Fin 3) (3 : Fin 4) (2 : Fin 3) (k0 := 1) (k1 := 2) rfl rfl (b := 69) (a := 59) (r := 59) rfl (by decide) rfl rfl) $$ [HM]
  · isplitr; · iexact HC
    iexact HM
  iintro ⟨HM, Hg_3_2⟩
  iapply (landed_ag (PP I) K c (1 : Fin 3) (3 : Fin 4) (2 : Fin 3) (k0 := 1) (k1 := 2) rfl rfl (b := 69) (a := 60) (r := 59) rfl (by decide) rfl rfl) $$ [HM Hg_3_2]
  · isplitr; · iexact HC
    isplitl [HM]; · iexact HM
    iexact Hg_3_2
  iintro ⟨HM, Hg_3_2⟩
  iapply (start_ag (PP I) K c (0 : Fin 3) (3 : Fin 4) (0 : Fin 3) (k0 := 0) (k1 := 1) rfl rfl (n := 69) (a := 60) (r := 60) rfl (by decide) (off25_768_896 c) (off25_768_896 c) (dv73 c) rfl rfl) $$ [HM Hg_3_0]
  · isplitr; · iexact HC
    isplitl [HM]; · iexact HM
    iexact Hg_3_0
  iintro HM
  iapply (le_wp_ret _)
  iapply HK
  isplitl [HM]; · iexact HM
  isplitl [Hg_3_1]; · iexact Hg_3_1
  iexact Hg_3_2

theorem part_81 {Q : (BitVec 32) → sProp 𝕄} (v3 : BitVec 32) (v4 : BitVec 32) (v5 : BitVec 32) (v2637 : BitVec 32)  :
    iprop(Ctx (PP I) K ∗ Comm c 70 60 60 ∗ gK (PP I) c 3 1 1 ∗ gK (PP I) c 3 2 1)
      ⊢ iprop((∀ r, iprop(Comm c 72 62 61 ∗ gK (PP I) c 0 0 0 ∗ gK (PP I) c 0 1 1) -∗ Q r)
        -∗ wp frame (wpE (defs₀ (F := F)) 𝒱₀ (c : Thread nD τ) none) Set.univ (k0_part81 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v2637) Q) := by
  rw [k0_part81_eq_skeleton]
  simp only [k0_part81_skel, Prog.lift, Prog.bind_op, Prog.bind_ret, Prog.pure_eq_ret]
  iintro ⟨#HC, HM, Hg_3_1, Hg_3_2⟩ HK
  iapply (start_ag (PP I) K c (0 : Fin 3) (3 : Fin 4) (1 : Fin 3) (k0 := 0) (k1 := 1) rfl rfl (n := 70) (a := 60) (r := 60) rfl (by decide) (off26_768_896 c) (off26_768_896 c) (dv74 c) rfl rfl) $$ [HM Hg_3_1]
  · isplitr; · iexact HC
    isplitl [HM]; · iexact HM
    iexact Hg_3_1
  iintro HM
  iapply (start_ag (PP I) K c (0 : Fin 3) (3 : Fin 4) (2 : Fin 3) (k0 := 0) (k1 := 1) rfl rfl (n := 71) (a := 60) (r := 60) rfl (by decide) (off27_768_896 c) (off27_768_896 c) (dv75 c) rfl rfl) $$ [HM Hg_3_2]
  · isplitr; · iexact HC
    isplitl [HM]; · iexact HM
    iexact Hg_3_2
  iintro HM
  iapply (left_ag (PP I) K c (0 : Fin 3) (0 : Fin 4) (0 : Fin 3) (k0 := 0) (k1 := 1) rfl rfl (b := 72) (a := 60) (r := 60) rfl (by decide) rfl rfl) $$ [HM]
  · isplitr; · iexact HC
    iexact HM
  iintro ⟨HM, Hg_0_0⟩
  iapply (landed_ag (PP I) K c (0 : Fin 3) (0 : Fin 4) (0 : Fin 3) (k0 := 0) (k1 := 1) rfl rfl (b := 72) (a := 61) (r := 60) rfl (by decide) rfl rfl) $$ [HM Hg_0_0]
  · isplitr; · iexact HC
    isplitl [HM]; · iexact HM
    iexact Hg_0_0
  iintro ⟨HM, Hg_0_0⟩
  iapply (left_ag (PP I) K c (0 : Fin 3) (0 : Fin 4) (1 : Fin 3) (k0 := 0) (k1 := 1) rfl rfl (b := 72) (a := 61) (r := 61) rfl (by decide) rfl rfl) $$ [HM]
  · isplitr; · iexact HC
    iexact HM
  iintro ⟨HM, Hg_0_1⟩
  iapply (le_wp_ret _)
  iapply HK
  isplitl [HM]; · iexact HM
  isplitl [Hg_0_0]; · iexact Hg_0_0
  iexact Hg_0_1

theorem part_82 {Q : (PUnit) → sProp 𝕄} (v5 : BitVec 32) (v2682 : BitVec 32)  :
    iprop(Ctx (PP I) K ∗ Comm c 72 62 61 ∗ gK (PP I) c 0 1 1 ∗ gK (PP I) c 0 0 0 ∗ Ot I c A5 0)
      ⊢ iprop((∀ r, iprop(Comm c 72 63 63 ∗ gK (PP I) c 0 1 0 ∗ gK (PP I) c 0 2 0 ∗ gK (PP I) c 0 0 0 ∗ Ot I c A5 3) -∗ Q r)
        -∗ wp frame (wpE (defs₀ (F := F)) 𝒱₀ (c : Thread nD τ) none) Set.univ (k0_part82 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v5 v2682) Q) := by
  rw [k0_part82_eq_skeleton]
  simp only [k0_part82_skel, Prog.lift, Prog.bind_op, Prog.bind_ret, Prog.pure_eq_ret]
  iintro ⟨#HC, HM, Hg_0_1, Hg_0_0, Ho⟩ HK
  iapply (landed_ag (PP I) K c (0 : Fin 3) (0 : Fin 4) (1 : Fin 3) (k0 := 0) (k1 := 1) rfl rfl (b := 72) (a := 62) (r := 61) rfl (by decide) rfl rfl) $$ [HM Hg_0_1]
  · isplitr; · iexact HC
    isplitl [HM]; · iexact HM
    iexact Hg_0_1
  iintro ⟨HM, Hg_0_1⟩
  iapply (left_ag (PP I) K c (0 : Fin 3) (0 : Fin 4) (2 : Fin 3) (k0 := 0) (k1 := 1) rfl rfl (b := 72) (a := 62) (r := 62) rfl (by decide) rfl rfl) $$ [HM]
  · isplitr; · iexact HC
    iexact HM
  iintro ⟨HM, Hg_0_2⟩
  iapply (landed_ag (PP I) K c (0 : Fin 3) (0 : Fin 4) (2 : Fin 3) (k0 := 0) (k1 := 1) rfl rfl (b := 72) (a := 63) (r := 62) rfl (by decide) rfl rfl) $$ [HM Hg_0_2]
  · isplitr; · iexact HC
    isplitl [HM]; · iexact HM
    iexact Hg_0_2
  iintro ⟨HM, Hg_0_2⟩
  iapply (load_gK (PP I) c (0 : Fin 4) (0 : Fin 3) rfl) $$ Hg_0_0
  iintro Hg_0_0
  iapply (load_o I c (0 : Fin 4) (0 : Fin 3) (M := A5) rfl) $$ Ho
  iintro %v2700 Ho
  iapply (store_o I c (0 : Fin 4) (0 : Fin 3) (M := A5) (n := 0) (n1 := 1) rfl rfl rfl rfl) $$ Ho
  iintro Ho
  iapply (load_gK (PP I) c (0 : Fin 4) (1 : Fin 3) rfl) $$ Hg_0_1
  iintro Hg_0_1
  iapply (load_o I c (0 : Fin 4) (1 : Fin 3) (M := A5) rfl) $$ Ho
  iintro %v2703 Ho
  iapply (store_o I c (0 : Fin 4) (1 : Fin 3) (M := A5) (n := 1) (n1 := 2) rfl rfl rfl rfl) $$ Ho
  iintro Ho
  iapply (load_gK (PP I) c (0 : Fin 4) (2 : Fin 3) rfl) $$ Hg_0_2
  iintro Hg_0_2
  iapply (load_o I c (0 : Fin 4) (2 : Fin 3) (M := A5) rfl) $$ Ho
  iintro %v2706 Ho
  iapply (store_o I c (0 : Fin 4) (2 : Fin 3) (M := A5) (n := 2) (n1 := 3) rfl rfl rfl rfl) $$ Ho
  iintro Ho
  iapply (le_wp_ret _)
  iapply HK
  isplitl [HM]; · iexact HM
  isplitl [Hg_0_1]; · iexact Hg_0_1
  isplitl [Hg_0_2]; · iexact Hg_0_2
  isplitl [Hg_0_0]; · iexact Hg_0_0
  iexact Ho

theorem part_83 {Q : (PUnit) → sProp 𝕄} (v3 : BitVec 32) (v4 : BitVec 32) (v5 : BitVec 32)  :
    iprop(Ctx (PP I) K ∗ Comm c 72 63 63)
      ⊢ iprop((∀ r, iprop(Comm c 72 66 65 ∗ gK (PP I) c 1 0 0 ∗ gK (PP I) c 1 1 0 ∗ gK (PP I) c 1 2 1) -∗ Q r)
        -∗ wp frame (wpE (defs₀ (F := F)) 𝒱₀ (c : Thread nD τ) none) Set.univ (k0_part83 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5) Q) := by
  rw [k0_part83_eq_skeleton]
  simp only [k0_part83_skel, Prog.lift, Prog.bind_op, Prog.bind_ret, Prog.pure_eq_ret]
  iintro ⟨#HC, HM⟩ HK
  iapply (left_ag (PP I) K c (0 : Fin 3) (1 : Fin 4) (0 : Fin 3) (k0 := 0) (k1 := 1) rfl rfl (b := 72) (a := 63) (r := 63) rfl (by decide) rfl rfl) $$ [HM]
  · isplitr; · iexact HC
    iexact HM
  iintro ⟨HM, Hg_1_0⟩
  iapply (landed_ag (PP I) K c (0 : Fin 3) (1 : Fin 4) (0 : Fin 3) (k0 := 0) (k1 := 1) rfl rfl (b := 72) (a := 64) (r := 63) rfl (by decide) rfl rfl) $$ [HM Hg_1_0]
  · isplitr; · iexact HC
    isplitl [HM]; · iexact HM
    iexact Hg_1_0
  iintro ⟨HM, Hg_1_0⟩
  iapply (left_ag (PP I) K c (0 : Fin 3) (1 : Fin 4) (1 : Fin 3) (k0 := 0) (k1 := 1) rfl rfl (b := 72) (a := 64) (r := 64) rfl (by decide) rfl rfl) $$ [HM]
  · isplitr; · iexact HC
    iexact HM
  iintro ⟨HM, Hg_1_1⟩
  iapply (landed_ag (PP I) K c (0 : Fin 3) (1 : Fin 4) (1 : Fin 3) (k0 := 0) (k1 := 1) rfl rfl (b := 72) (a := 65) (r := 64) rfl (by decide) rfl rfl) $$ [HM Hg_1_1]
  · isplitr; · iexact HC
    isplitl [HM]; · iexact HM
    iexact Hg_1_1
  iintro ⟨HM, Hg_1_1⟩
  iapply (left_ag (PP I) K c (0 : Fin 3) (1 : Fin 4) (2 : Fin 3) (k0 := 0) (k1 := 1) rfl rfl (b := 72) (a := 65) (r := 65) rfl (by decide) rfl rfl) $$ [HM]
  · isplitr; · iexact HC
    iexact HM
  iintro ⟨HM, Hg_1_2⟩
  iapply (le_wp_ret _)
  iapply HK
  isplitl [HM]; · iexact HM
  isplitl [Hg_1_0]; · iexact Hg_1_0
  isplitl [Hg_1_1]; · iexact Hg_1_1
  iexact Hg_1_2

theorem part_84 {Q : (PUnit) → sProp 𝕄} (v3 : BitVec 32)  :
    iprop(Ctx (PP I) K ∗ Comm c 72 66 65 ∗ gK (PP I) c 1 2 1 ∗ gK (PP I) c 1 0 0 ∗ Ot I c A5 3 ∗ gK (PP I) c 1 1 0)
      ⊢ iprop((∀ r, iprop(Comm c 72 67 67 ∗ gK (PP I) c 1 2 0 ∗ gK (PP I) c 1 0 0 ∗ Ot I c A5 6 ∗ gK (PP I) c 1 1 0 ∗ gK (PP I) c 2 0 0) -∗ Q r)
        -∗ wp frame (wpE (defs₀ (F := F)) 𝒱₀ (c : Thread nD τ) none) Set.univ (k0_part84 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3) Q) := by
  rw [k0_part84_eq_skeleton]
  simp only [k0_part84_skel, Prog.lift, Prog.bind_op, Prog.bind_ret, Prog.pure_eq_ret]
  iintro ⟨#HC, HM, Hg_1_2, Hg_1_0, Ho, Hg_1_1⟩ HK
  iapply (landed_ag (PP I) K c (0 : Fin 3) (1 : Fin 4) (2 : Fin 3) (k0 := 0) (k1 := 1) rfl rfl (b := 72) (a := 66) (r := 65) rfl (by decide) rfl rfl) $$ [HM Hg_1_2]
  · isplitr; · iexact HC
    isplitl [HM]; · iexact HM
    iexact Hg_1_2
  iintro ⟨HM, Hg_1_2⟩
  iapply (load_gK (PP I) c (1 : Fin 4) (0 : Fin 3) rfl) $$ Hg_1_0
  iintro Hg_1_0
  iapply (load_o I c (1 : Fin 4) (0 : Fin 3) (M := A5) rfl) $$ Ho
  iintro %v2739 Ho
  iapply (store_o I c (1 : Fin 4) (0 : Fin 3) (M := A5) (n := 3) (n1 := 4) rfl rfl rfl rfl) $$ Ho
  iintro Ho
  iapply (load_gK (PP I) c (1 : Fin 4) (1 : Fin 3) rfl) $$ Hg_1_1
  iintro Hg_1_1
  iapply (load_o I c (1 : Fin 4) (1 : Fin 3) (M := A5) rfl) $$ Ho
  iintro %v2742 Ho
  iapply (store_o I c (1 : Fin 4) (1 : Fin 3) (M := A5) (n := 4) (n1 := 5) rfl rfl rfl rfl) $$ Ho
  iintro Ho
  iapply (load_gK (PP I) c (1 : Fin 4) (2 : Fin 3) rfl) $$ Hg_1_2
  iintro Hg_1_2
  iapply (load_o I c (1 : Fin 4) (2 : Fin 3) (M := A5) rfl) $$ Ho
  iintro %v2745 Ho
  iapply (store_o I c (1 : Fin 4) (2 : Fin 3) (M := A5) (n := 5) (n1 := 6) rfl rfl rfl rfl) $$ Ho
  iintro Ho
  iapply (left_ag (PP I) K c (0 : Fin 3) (2 : Fin 4) (0 : Fin 3) (k0 := 0) (k1 := 1) rfl rfl (b := 72) (a := 66) (r := 66) rfl (by decide) rfl rfl) $$ [HM]
  · isplitr; · iexact HC
    iexact HM
  iintro ⟨HM, Hg_2_0⟩
  iapply (landed_ag (PP I) K c (0 : Fin 3) (2 : Fin 4) (0 : Fin 3) (k0 := 0) (k1 := 1) rfl rfl (b := 72) (a := 67) (r := 66) rfl (by decide) rfl rfl) $$ [HM Hg_2_0]
  · isplitr; · iexact HC
    isplitl [HM]; · iexact HM
    iexact Hg_2_0
  iintro ⟨HM, Hg_2_0⟩
  iapply (le_wp_ret _)
  iapply HK
  isplitl [HM]; · iexact HM
  isplitl [Hg_1_2]; · iexact Hg_1_2
  isplitl [Hg_1_0]; · iexact Hg_1_0
  isplitl [Ho]; · iexact Ho
  isplitl [Hg_1_1]; · iexact Hg_1_1
  iexact Hg_2_0

theorem part_85 {Q : (FVec F S256x256 .f32) → sProp 𝕄} (v4 : BitVec 32) (v5 : BitVec 32)  :
    iprop(Ctx (PP I) K ∗ Comm c 72 67 67 ∗ gK (PP I) c 2 0 0 ∗ Ot I c A5 6)
      ⊢ iprop((∀ r, iprop(⌜r = (k0_pay141 (gV (PP I) (2 : Fin 4) (2 : Fin 3)))⌝ ∗ Comm c 72 69 69 ∗ gK (PP I) c 2 1 0 ∗ gK (PP I) c 2 2 0 ∗ gK (PP I) c 2 0 0 ∗ Ot I c A5 8) -∗ Q r)
        -∗ wp frame (wpE (defs₀ (F := F)) 𝒱₀ (c : Thread nD τ) none) Set.univ (k0_part85 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v4 v5) Q) := by
  rw [k0_part85_eq_skeleton]
  simp only [k0_part85_skel, Prog.lift, Prog.bind_op, Prog.bind_ret, Prog.pure_eq_ret]
  iintro ⟨#HC, HM, Hg_2_0, Ho⟩ HK
  iapply (left_ag (PP I) K c (0 : Fin 3) (2 : Fin 4) (1 : Fin 3) (k0 := 0) (k1 := 1) rfl rfl (b := 72) (a := 67) (r := 67) rfl (by decide) rfl rfl) $$ [HM]
  · isplitr; · iexact HC
    iexact HM
  iintro ⟨HM, Hg_2_1⟩
  iapply (landed_ag (PP I) K c (0 : Fin 3) (2 : Fin 4) (1 : Fin 3) (k0 := 0) (k1 := 1) rfl rfl (b := 72) (a := 68) (r := 67) rfl (by decide) rfl rfl) $$ [HM Hg_2_1]
  · isplitr; · iexact HC
    isplitl [HM]; · iexact HM
    iexact Hg_2_1
  iintro ⟨HM, Hg_2_1⟩
  iapply (left_ag (PP I) K c (0 : Fin 3) (2 : Fin 4) (2 : Fin 3) (k0 := 0) (k1 := 1) rfl rfl (b := 72) (a := 68) (r := 68) rfl (by decide) rfl rfl) $$ [HM]
  · isplitr; · iexact HC
    iexact HM
  iintro ⟨HM, Hg_2_2⟩
  iapply (landed_ag (PP I) K c (0 : Fin 3) (2 : Fin 4) (2 : Fin 3) (k0 := 0) (k1 := 1) rfl rfl (b := 72) (a := 69) (r := 68) rfl (by decide) rfl rfl) $$ [HM Hg_2_2]
  · isplitr; · iexact HC
    isplitl [HM]; · iexact HM
    iexact Hg_2_2
  iintro ⟨HM, Hg_2_2⟩
  iapply (load_gK (PP I) c (2 : Fin 4) (0 : Fin 3) rfl) $$ Hg_2_0
  iintro Hg_2_0
  iapply (load_o I c (2 : Fin 4) (0 : Fin 3) (M := A5) rfl) $$ Ho
  iintro %v2778 Ho
  iapply (store_o I c (2 : Fin 4) (0 : Fin 3) (M := A5) (n := 6) (n1 := 7) rfl rfl rfl rfl) $$ Ho
  iintro Ho
  iapply (load_gK (PP I) c (2 : Fin 4) (1 : Fin 3) rfl) $$ Hg_2_1
  iintro Hg_2_1
  iapply (load_o I c (2 : Fin 4) (1 : Fin 3) (M := A5) rfl) $$ Ho
  iintro %v2781 Ho
  iapply (store_o I c (2 : Fin 4) (1 : Fin 3) (M := A5) (n := 7) (n1 := 8) rfl rfl rfl rfl) $$ Ho
  iintro Ho
  iapply (load_gK (PP I) c (2 : Fin 4) (2 : Fin 3) rfl) $$ Hg_2_2
  iintro Hg_2_2
  iapply (le_wp_ret _)
  iapply HK
  isplitr
  · ipureintro; first | (simp only [and_self]; done) | exact rfl
  isplitl [HM]; · iexact HM
  isplitl [Hg_2_1]; · iexact Hg_2_1
  isplitl [Hg_2_2]; · iexact Hg_2_2
  isplitl [Hg_2_0]; · iexact Hg_2_0
  iexact Ho

theorem part_86 {Q : (PUnit) → sProp 𝕄} (v3 : BitVec 32) (v4 : BitVec 32) (v2783 : FVec F S256x256 .f32) (h_v2783 : v2783 = (k0_pay141 (gV (PP I) (2 : Fin 4) (2 : Fin 3)))) :
    iprop(Ctx (PP I) K ∗ Ot I c A5 8 ∗ Comm c 72 69 69)
      ⊢ iprop((∀ r, iprop(Ot I c A5 9 ∗ Comm c 72 72 71 ∗ gK (PP I) c 3 0 0 ∗ gK (PP I) c 3 1 0 ∗ gK (PP I) c 3 2 1) -∗ Q r)
        -∗ wp frame (wpE (defs₀ (F := F)) 𝒱₀ (c : Thread nD τ) none) Set.univ (k0_part86 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v2783) Q) := by
  subst h_v2783
  rw [k0_part86_eq_skeleton]
  simp only [k0_part86_skel, Prog.lift, Prog.bind_op, Prog.bind_ret, Prog.pure_eq_ret]
  iintro ⟨#HC, Ho, HM⟩ HK
  iapply (load_o I c (2 : Fin 4) (2 : Fin 3) (M := A5) rfl) $$ Ho
  iintro %v2784 Ho
  iapply (store_o I c (2 : Fin 4) (2 : Fin 3) (M := A5) (n := 8) (n1 := 9) rfl rfl rfl rfl) $$ Ho
  iintro Ho
  iapply (left_ag (PP I) K c (0 : Fin 3) (3 : Fin 4) (0 : Fin 3) (k0 := 0) (k1 := 1) rfl rfl (b := 72) (a := 69) (r := 69) rfl (by decide) rfl rfl) $$ [HM]
  · isplitr; · iexact HC
    iexact HM
  iintro ⟨HM, Hg_3_0⟩
  iapply (landed_ag (PP I) K c (0 : Fin 3) (3 : Fin 4) (0 : Fin 3) (k0 := 0) (k1 := 1) rfl rfl (b := 72) (a := 70) (r := 69) rfl (by decide) rfl rfl) $$ [HM Hg_3_0]
  · isplitr; · iexact HC
    isplitl [HM]; · iexact HM
    iexact Hg_3_0
  iintro ⟨HM, Hg_3_0⟩
  iapply (left_ag (PP I) K c (0 : Fin 3) (3 : Fin 4) (1 : Fin 3) (k0 := 0) (k1 := 1) rfl rfl (b := 72) (a := 70) (r := 70) rfl (by decide) rfl rfl) $$ [HM]
  · isplitr; · iexact HC
    iexact HM
  iintro ⟨HM, Hg_3_1⟩
  iapply (landed_ag (PP I) K c (0 : Fin 3) (3 : Fin 4) (1 : Fin 3) (k0 := 0) (k1 := 1) rfl rfl (b := 72) (a := 71) (r := 70) rfl (by decide) rfl rfl) $$ [HM Hg_3_1]
  · isplitr; · iexact HC
    isplitl [HM]; · iexact HM
    iexact Hg_3_1
  iintro ⟨HM, Hg_3_1⟩
  iapply (left_ag (PP I) K c (0 : Fin 3) (3 : Fin 4) (2 : Fin 3) (k0 := 0) (k1 := 1) rfl rfl (b := 72) (a := 71) (r := 71) rfl (by decide) rfl rfl) $$ [HM]
  · isplitr; · iexact HC
    iexact HM
  iintro ⟨HM, Hg_3_2⟩
  iapply (le_wp_ret _)
  iapply HK
  isplitl [Ho]; · iexact Ho
  isplitl [HM]; · iexact HM
  isplitl [Hg_3_0]; · iexact Hg_3_0
  isplitl [Hg_3_1]; · iexact Hg_3_1
  iexact Hg_3_2

end
end Cert.TreeProof
-- ==== Proof.Start.lean ====
module

public import proofs.«01_k».proof.Proof.Parts1
public import proofs.«01_k».proof.Proof.Parts2
public import proofs.«01_k».proof.Proof.Parts3
public import proofs.«01_k».proof.Proof.Parts4
public import proofs.«01_k».proof.Proof.Parts5

/-! # The ready signals, and the state they leave -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Gathering per-copy resources -/

omit [FloatOps F] in
theorem by_place (Φ : Tri → sProp 𝕄) : bigSep (Finset.Ico 0 72) (fun i => Φ (tri i)) = bigSep Finset.univ Φ := by
  have hi : Finset.Ico 0 72 = (Finset.univ : Finset Tri).image place := by decide +kernel
  rw [hi, bigSep_image_of_injOn (fun a _ b _ h => by rw [← tri_place a, ← tri_place b, h])]
  exact bigSep_congr fun t _ => by rw [tri_place]

omit [FloatOps F] in
theorem by_dir (Φ : Tri → sProp 𝕄) : bigSep Finset.univ Φ = bigSep Finset.univ fun d : Fin 3 => bigSep (Finset.univ.filter fun t : Tri => dir t = d) Φ := by
  simp only [bigSep_filter]
  rw [bigSep_univ_comm]
  refine bigSep_congr fun t _ => ?_
  rw [← bigSep_filter Finset.univ (fun d : Fin 3 => dir t = d) (fun _ => Φ t),
    show (Finset.univ.filter fun d : Fin 3 => dir t = d) = {dir t} from by ext d; simp [eq_comm], bigSep_singleton]

omit [FloatOps F] in
theorem univ3 (Φ : Fin 3 → sProp 𝕄) : bigSep Finset.univ Φ = iprop(Φ 0 ∗ Φ 1 ∗ Φ 2) := by
  rw [show (Finset.univ : Finset (Fin 3)) = insert 0 (insert 1 {2}) from by decide, bigSep_insert (by decide), bigSep_insert (by decide), bigSep_singleton]
  rfl

/-! ## What a device starts with -/

/-- Its landing regions, and that their cells are at their first round. -/
def lands (c : Dev nD) : sProp 𝕄 := bigSep Finset.univ fun t : Tri => iprop(land c t ∗ reached ER (rcvCell c t) 0)
/-- The duties of its copies. -/
def duts (c : Dev nD) : sProp 𝕄 :=
  bigSep Finset.univ fun t : Tri => iprop(dutyTok ER (sndCell c t) 0 (0 : Fin 3) ∗ reached ER (sndCell c t) 0 ∗ dutyTok ER (rcvCell (mateT c t) t) 0 (0 : Fin 3))
/-- The duty of its ready signal across coordinate `d`. -/
def rdy (c : Dev nD) (d : Fin 3) : sProp 𝕄 := iprop(dutyTok ER (barCell (peer c d)) 0 d ∗ reached ER (barCell (peer c d)) 0)
def Init (c : Dev nD) : sProp 𝕄 :=
  iprop((∃ W, owes (c : Thread nD τ) (O₀ c) W) ∗ lands c ∗ duts c ∗ (rdy c 0 ∗ rdy c 1 ∗ rdy c 2)
    ∗ (cred (tallyAt (barCell c) () 3) ∗ atPos ER (barCell c) 0 (∅ : Finset (Fin 3)) 0)
    ∗ (bigSep Finset.univ fun t : Tri => sPos c t) ∗ (bigSep Finset.univ fun t : Tri => rPos c t))
def bEnd (c : Dev nD) : sProp 𝕄 := atPos ER (barCell c) (0 + 1) (∅ : Finset (Fin 3)) 0

omit [FloatOps F] in
theorem lands_split (c : Dev nD) : (lands c : sProp 𝕄) = iprop(bpay (peer c 0) 0 ∗ bpay (peer c 1) 1 ∗ bpay (peer c 2) 2) := by
  unfold lands bpay
  rw [by_dir, univ3]
  simp only [peer_peer]

omit [FloatOps F] in
theorem bpays_join (c : Dev nD) : (bigSep Finset.univ (fun d => bpay (F := F) c d) : sProp 𝕄)
    = bigSep Finset.univ fun t : Tri => iprop(land (mateT c t) t ∗ reached ER (rcvCell (mateT c t) t) 0) := by
  rw [by_dir]
  refine bigSep_congr fun d _ => bigSep_congr fun t ht => ?_
  rw [← (Finset.mem_filter.mp ht).2]

omit [FloatOps F] in
theorem toks_join (c : Dev nD) : (iprop((bigSep Finset.univ fun t : Tri => iprop(land (mateT c t) t ∗ reached ER (rcvCell (mateT c t) t) 0)) ∗ duts c) : sProp 𝕄)
    = bigSep (Finset.Ico 0 72) fun i => tok c (tri i) := by
  rw [by_place (fun t => tok c t)]
  unfold duts
  rw [← bigSep_sep']
  refine bigSep_congr fun t _ => ?_
  unfold tok
  exact equiv_iff.mp ⟨Idealize.SL.BI.sep_assoc, Idealize.SL.BI.sep_assoc'⟩

theorem dv1 (c : Dev nD) : (⟨k0_dev1 c, k0_dev1_lt c⟩ : Dev nD) = peer c 0 := by revert c; decide +kernel
theorem dv2 (c : Dev nD) : (⟨k0_dev2 c, k0_dev2_lt c⟩ : Dev nD) = peer c 1 := by revert c; decide +kernel
theorem dv3 (c : Dev nD) : (⟨k0_dev3 c, k0_dev3_lt c⟩ : Dev nD) = peer c 2 := by revert c; decide +kernel

set_option maxHeartbeats 1600000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

/-- One ready signal. -/
theorem wp_ready {α : Type} {Q : α → sProp 𝕄} (d : Fin 3) {c' : Dev nD} (hc : c' = peer c d) {Oa Ob : CellTallies nD τ sig Unit} (hO : Oa = Ob + tallyAt (barCell (peer c d)) () 1)
    {k : PUnit → Prog (TpuEff nD τ sig (Elt F) Λ₀ .tc) α} :
    iprop(Ctx (PP I) K ∗ (∃ W, owes (c : Thread nD τ) Oa W) ∗ rdy c d ∗ bpay (peer c d) d)
      ⊢ iprop(((∃ W, owes (c : Thread nD τ) Ob W) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c' : Thread nD τ) barS 1) k) Q) := by
  subst hc
  unfold rdy
  iintro ⟨#HC, ⟨%W, HO⟩, ⟨Hd, Hr⟩, Hb⟩ Hk
  ihave #HI := (ctx_bar (PP I) K (peer c d)) $$ HC
  iapply (Rounds.wp_signal 𝒱₀ ER (sched (PP I)) (c : Thread nD τ) none (dst := (peer c d : Thread nD τ)) (κ := K (peer c d, none)) (r := 0) (d := d)
    (by rw [duties_bar]; exact Finset.mem_univ _) rfl () Ob hO) $$ [HO Hd Hb Hr]
  · isplitr; · iexact HI
    isplitl [HO]; · iexact HO
    isplitl [Hd]; · iexact Hd
    isplitl [Hb]; · rw [payload_bar]; iexact Hb
    iexact Hr
  iintro HO
  iapply Hk
  iexists W
  iexact HO

theorem part_1 {Q : (Σ' (d0 : Dev nD) (v3 : BitVec 32) (v4 : BitVec 32) (v5 : BitVec 32) (v9 : BitVec 1) (v12 : BitVec 1) (v15 : BitVec 1), FVec F S1024x1024 .f32) → sProp 𝕄} :
    iprop(Ctx (PP I) K ∗ Init c ∗ blk c A0 Finset.univ (I c).x)
      ⊢ iprop((∀ r, iprop(⌜r.1 = c ∧ r.2.2.2.2.2.2.2 = (k0_pay1 (I c).x)⌝ ∗ blk c A0 Finset.univ (I c).x ∗ Comm c 0 0 0 ∗ bEnd c) -∗ Q r)
        -∗ wp frame (wpE (defs₀ (F := F)) 𝒱₀ (c : Thread nD τ) none) Set.univ (k0_part1 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14) Q) := by
  rw [k0_part1_eq_skeleton]
  simp only [k0_part1_skel, semSignalWord, semWaitWord, Prog.lift, Prog.bind_op, Prog.bind_ret, Prog.pure_eq_ret, wp_deviceId]
  unfold Init
  iintro ⟨#HC, ⟨HO, Hl, Hd, ⟨Hr0, Hr1, Hr2⟩, ⟨Hcr, Hp⟩, Hs, Hr⟩, Hx⟩ HK
  ihave Hl := (Entails.of_eq (lands_split c)) $$ Hl
  icases Hl with ⟨Hb0, Hb1, Hb2⟩
  iapply (wp_ready I K c 0 (dv1 c) (Oa := O₀ c) (Ob := O2 c) rfl) $$ [HO Hr0 Hb0]
  · isplitr; · iexact HC
    isplitl [HO]; · iexact HO
    isplitl [Hr0]; · iexact Hr0
    iexact Hb0
  iintro HO
  iapply (wp_ready I K c 1 (dv2 c) (Oa := O2 c) (Ob := O1 c) rfl) $$ [HO Hr1 Hb1]
  · isplitr; · iexact HC
    isplitl [HO]; · iexact HO
    isplitl [Hr1]; · iexact Hr1
    iexact Hb1
  iintro HO
  iapply (wp_ready I K c 2 (dv3 c) (Oa := O1 c) (Ob := OC c 0) rfl) $$ [HO Hr2 Hb2]
  · isplitr; · iexact HC
    isplitl [HO]; · iexact HO
    isplitl [Hr2]; · iexact Hr2
    iexact Hb2
  iintro ⟨%W, HO⟩
  ihave #HI := (ctx_bar (PP I) K c) $$ HC
  ihave #HL := (ctx_lev (PP I) K) $$ HC
  iapply (Rounds.wp_wait_rest_token 𝒱₀ ER (sched (PP I)) (c : Thread nD τ) none (κ := K (c, none))
    (wpE_semWait_eq 𝒱₀ (c : Thread nD τ) none Set.univ) (Set.mem_univ _) () (O := OC c 0) (W := W) (R := 0) (m := 0) (T := ∅)
    (by rw [expect_bar]; rfl)) $$ [Hcr HO Hp]
  · isplitr; · iexact HI
    isplitl [Hcr]; · iexact Hcr
    isplitl [HO]; · iexact HO
    isplitr; · iapply (mayWait_bar c); iexact HL
    iexact Hp
  iintro ⟨HO, Hp, -, Hpay⟩
  ihave Hpay := (Entails.of_eq ((rest_bar (PP I) c).trans (bpays_join c))) $$ Hpay
  iapply (load_x c (by funext q; fin_cases q <;> rfl)) $$ Hx
  iintro Hx
  iapply (le_wp_ret _)
  iapply HK
  isplitr
  · ipureintro; exact ⟨rfl, rfl⟩
  isplitl [Hx]; · iexact Hx
  isplitr [Hp]
  · unfold Comm
    isplitl [HO]; · iexists _; iexact HO
    isplitl [Hpay Hd]
    · iapply (Entails.of_eq (toks_join c))
      isplitl [Hpay]; · iexact Hpay
      iexact Hd
    simp only [Finset.Ico_self, bigSep_empty]
    isplitr; · iempintro
    isplitl [Hs]
    · iapply (Entails.of_eq (by_place (fun t => sPos c t)).symm); iexact Hs
    isplitl [Hr]
    · iapply (Entails.of_eq (by_place (fun t => rPos c t)).symm); iexact Hr
    isplitr; · iempintro
    iempintro
  · unfold bEnd; iexact Hp
end
end Cert.TreeProof
-- ==== Proof.Cells.lean ====
module

public import proofs.«01_k».proof.Proof.Start
public import Idealize.ShloMosaic.Lib.Rounds.Family
public import Idealize.ShloMosaic.Lib.Pipeline.Launch

/-! # What the launch deals each device -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

omit [FloatOps F] in
theorem at_one (Φ : sProp 𝕄) : iprop(Φ ∗ BI.emp) = Φ := equiv_iff.mp sep_emp

/-! ## The cells and the duties, named -/

theorem kcell_inj : Function.Injective kcell := by
  rintro ⟨c, k⟩ ⟨c', k'⟩ h
  have hd (ck : Dev nD × Key) : (kcell ck).1.1 = ck.1 := by rcases ck with ⟨a, _ | ⟨_ | _, t⟩⟩ <;> rfl
  have h1 : c = c' := by have := congrArg (fun g : GSem nD τ sig => g.1.1) h; rwa [hd, hd] at this
  subst h1
  have h2 : (kcell (c, k)).2 = (kcell (c, k')).2 := congrArg Prod.snd h
  have key (t t' : Tri) (e : enc t = enc t') : t = t' := by rw [← dec_enc t, ← dec_enc t', e]
  rcases k with _ | ⟨_ | _, t⟩ <;> rcases k' with _ | ⟨_ | _, t'⟩
  · rfl
  · exact nomatch (show SemLoc.reg barS = SemLoc.dma (sndS t') from h2)
  · exact nomatch (show SemLoc.reg barS = SemLoc.dma (rcvS t') from h2)
  · exact nomatch (show SemLoc.dma (sndS t) = SemLoc.reg barS from h2)
  · have h3 : 6 + enc t = 6 + enc t' := congrArg Fin.val (SemLoc.dma.inj h2)
    rw [key t t' (Nat.add_left_cancel h3)]
  · have h3 : 6 + enc t = 78 + enc t' := congrArg Fin.val (SemLoc.dma.inj h2)
    have := enc_lt t; omega
  · exact nomatch (show SemLoc.dma (rcvS t) = SemLoc.reg barS from h2)
  · have h3 : 78 + enc t = 6 + enc t' := congrArg Fin.val (SemLoc.dma.inj h2)
    have := enc_lt t'; omega
  · have h3 : 78 + enc t = 78 + enc t' := congrArg Fin.val (SemLoc.dma.inj h2)
    rw [key t t' (Nat.add_left_cancel h3)]

theorem kcell_eq {a b : Dev nD} {k l : Key} (h : kcell (a, k) = kcell (b, l)) : a = b ∧ k = l := Prod.ext_iff.mp (kcell_inj h)
def barEmb : Dev nD ↪ GSem nD τ sig := ⟨fun c => kcell (c, none), fun a b h => (kcell_eq h).1⟩
def ownEmb : Dev nD × (Bool × Tri) ↪ GSem nD τ sig :=
  ⟨fun x => kcell (x.1, some x.2), fun a b h => Prod.ext (kcell_eq h).1 (Option.some.inj (kcell_eq h).2)⟩
def barCells : Finset (GSem nD τ sig) := Finset.univ.map barEmb
def ownCells : Finset (GSem nD τ sig) := Finset.univ.map ownEmb
theorem cells_apart : Disjoint barCells ownCells := by
  refine Finset.disjoint_left.mpr fun g h1 h2 => ?_
  obtain ⟨c, -, rfl⟩ := Finset.mem_map.mp h1
  obtain ⟨x, -, h⟩ := Finset.mem_map.mp h2
  exact nomatch (kcell_eq (show kcell (x.1, some x.2) = kcell (c, none) from h)).2
theorem kcell_mem (ck : Dev nD × Key) : kcell ck ∈ barCells ∪ ownCells := by
  rcases ck with ⟨c, _ | x⟩
  · exact Finset.mem_union_left _ (Finset.mem_map_of_mem barEmb (Finset.mem_univ c))
  · exact Finset.mem_union_right _ (Finset.mem_map_of_mem ownEmb (Finset.mem_univ (c, x)))

def dutyEmb : (Dev nD × Fin 3) ⊕ (Dev nD × (Bool × Tri)) ↪ GSem nD τ sig × ℕ × Fin 3 :=
  ⟨fun | .inl (c, d) => (kcell (c, none), 0, d) | .inr (c, x) => (kcell (c, some x), 0, 0), by
    rintro (⟨c, d⟩ | ⟨c, x⟩) (⟨c', d'⟩ | ⟨c', x'⟩) h
    · have h2 : d = d' := congrArg (fun y : GSem nD τ sig × ℕ × Fin 3 => y.2.2) h
      have h1 := kcell_eq (show kcell (c, none) = kcell (c', none) from congrArg Prod.fst h)
      rw [h1.1, h2]
    · exact nomatch (kcell_eq (show kcell (c, none) = kcell (c', some x') from congrArg Prod.fst h)).2
    · exact nomatch (kcell_eq (show kcell (c, some x) = kcell (c', none) from congrArg Prod.fst h)).2
    · have h1 := kcell_eq (show kcell (c, some x) = kcell (c', some x') from congrArg Prod.fst h)
      rw [h1.1, Option.some.inj h1.2]⟩
def duties : Finset (GSem nD τ sig × ℕ × Fin 3) := Finset.univ.map dutyEmb

/-! ## Each device's share -/

/-- Every ready cell is at its first round. -/
def marks : sProp 𝕄 := bigSep Finset.univ fun c : Dev nD => reached ER (barCell c) 0
instance marks_persistent : BI.Persistent (marks (F := F)) := by unfold marks; infer_instance
def opens (c : Dev nD) : sProp 𝕄 := bigSep Finset.univ fun x : Bool × Tri => openTok ER (kcell (c, some x))
def dtoks (c : Dev nD) : sProp 𝕄 :=
  bigSep Finset.univ fun t : Tri => iprop(dutyTok ER (sndCell c t) 0 (0 : Fin 3) ∗ dutyTok ER (rcvCell (mateT c t) t) 0 (0 : Fin 3))
def btoks (c : Dev nD) : sProp 𝕄 := bigSep Finset.univ fun d : Fin 3 => dutyTok ER (barCell (peer c d)) 0 d
def share (c : Dev nD) : sProp 𝕄 :=
  iprop(opens c ∗ dtoks c ∗ btoks c ∗ atPos ER (barCell c) 0 (∅ : Finset (Fin 3)) 0)

def around (d : Fin 3) : Dev nD ≃ Dev nD := ⟨fun c => peer c d, fun c => peer c d, fun c => peer_peer c d, fun c => peer_peer c d⟩

omit [FloatOps F] in
theorem duties_deal :
    (bigSep duties (fun x => dutyTok ER x.1 x.2.1 x.2.2) : sProp 𝕄)
      = iprop((bigSep Finset.univ fun c : Dev nD => btoks c) ∗ bigSep Finset.univ fun c : Dev nD => dtoks c) := by
  unfold duties
  rw [bigSep_map, bigSep_univ_sum]
  refine congrArg₂ _ ?_ ?_
  · rw [bigSep_univ_prod]
    unfold btoks
    rw [bigSep_univ_comm, bigSep_univ_comm (fun (c : Dev nD) (d : Fin 3) => (dutyTok ER (barCell (peer c d)) 0 d : sProp 𝕄))]
    refine bigSep_congr fun d _ => ?_
    exact bigSep_univ_equiv (around d) (fun c : Dev nD => (dutyTok ER (barCell c) 0 d : sProp 𝕄))
  · rw [bigSep_univ_prod]
    unfold dtoks
    simp only [bigSep_sep']
    rw [bigSep_univ_comm (fun (c : Dev nD) (t : Tri) => (dutyTok ER (rcvCell (mateT c t) t) 0 (0 : Fin 3) : sProp 𝕄))]
    rw [bigSep_congr (s := (Finset.univ : Finset Tri)) (Φ := fun t => bigSep Finset.univ fun c : Dev nD => (dutyTok ER (rcvCell (mateT c t) t) 0 (0 : Fin 3) : sProp 𝕄))
      (Ψ := fun t => bigSep Finset.univ fun c : Dev nD => (dutyTok ER (rcvCell c t) 0 (0 : Fin 3) : sProp 𝕄))
      fun t _ => (bigSep_univ_equiv (around (dir t)) (fun c : Dev nD => (dutyTok ER (rcvCell c t) 0 (0 : Fin 3) : sProp 𝕄))).symm]
    rw [bigSep_univ_comm (fun (t : Tri) (c : Dev nD) => (dutyTok ER (rcvCell c t) 0 (0 : Fin 3) : sProp 𝕄)), ← bigSep_sep']
    refine bigSep_congr fun c _ => ?_
    rw [bigSep_univ_prod, show (Finset.univ : Finset Bool) = insert false {true} from by decide, bigSep_insert (by decide), bigSep_singleton]
    rfl

section
variable (P0 : Dev nD → Fin 3 → ℕ → ℕ → Elt F .bf16)

/-- What is known to every device, and device `c`'s share. -/
def dealt (c : Dev nD) : sProp 𝕄 := iprop(∃ K : Dev nD × Key → ℕ, (Ctx P0 K ∗ marks) ∗ share c)

theorem inv_of (κ : GSem nD τ sig → ℕ) (ck : Dev nD × Key) :
    (bigSep (barCells ∪ ownCells) fun g => cellInv ER (sched P0) (κ g) g : sProp 𝕄) ⊢ cellInv ER (sched P0) (κ (kcell ck)) (kcell ck) :=
  bigSep_elim (kcell_mem ck)
theorem invs_of (κ : GSem nD τ sig → ℕ) :
    (bigSep (barCells ∪ ownCells) fun g => cellInv ER (sched P0) (κ g) g : sProp 𝕄)
      ⊢ bigSep Finset.univ fun ck : Dev nD × Key => cellInv ER (sched P0) (κ (kcell ck)) (kcell ck) :=
  BI.bigSep_intro_persistent fun ck _ => inv_of P0 κ ck

theorem with_known {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem dealt_intro (K : Dev nD × Key → ℕ) (c : Dev nD) : iprop((Ctx P0 K ∗ marks) ∗ share c) ⊢ dealt P0 c := by
  unfold dealt
  iintro H
  iexists K
  iexact H

theorem deal :
    iprop((bigSep Finset.univ fun c : Dev nD => semVal (barCell c) 0) ∗ BI.own (ER (launchOf barCells ownCells duties)) ∗ levAts L lv)
      ⊢ (|={Set.univ}=> bigSep Finset.univ fun c : Dev nD => dealt P0 c : sProp 𝕄) := by
  have hS (Φ : GSem nD τ sig → sProp 𝕄) : bigSep barCells Φ = bigSep Finset.univ fun c : Dev nD => Φ (barCell c) := by
    unfold barCells; rw [bigSep_map]; rfl
  have hD (Φ : GSem nD τ sig → sProp 𝕄) : bigSep ownCells Φ = bigSep Finset.univ fun c : Dev nD => bigSep Finset.univ fun x : Bool × Tri => Φ (kcell (c, some x)) := by
    unfold ownCells; rw [bigSep_map, bigSep_univ_prod]; rfl
  iintro ⟨Hv, Hu, #HL⟩
  ihave Hv := (Entails.of_eq (hS fun g => semVal g 0).symm) $$ Hv
  imod (fund_launch ER (sched P0) cells_apart (fun g _ h => h) duties) $$ [Hv Hu] with ⟨%κ, -, Hinv, Hr, Hat, Hop, Htok⟩
  · isplitl [Hv] <;> iassumption
  imodintro
  ihave #HI := (invs_of P0 κ) $$ Hinv
  ihave #Hr := (Entails.of_eq (hS fun g => reached ER g 0)) $$ Hr
  ihave Hat := (Entails.of_eq (hS fun g => atPos ER g 0 ∅ 0)) $$ Hat
  ihave Hop := (Entails.of_eq (hD fun g => openTok ER g)) $$ Hop
  ihave Htok := (Entails.of_eq duties_deal) $$ Htok
  icases Htok with ⟨Hb, Hd⟩
  iapply (with_known (R := iprop(Ctx P0 (κ ∘ kcell) ∗ marks)) (Φ := share) (dealt_intro P0 (κ ∘ kcell)))
  isplitr
  · unfold Ctx marks
    isplitr
    · isplitr
      · iexact HI
      · iexact HL
    · iexact Hr
  · unfold share
    simp only [bigSep_sep']
    isplitl [Hop]; · iexact Hop
    isplitl [Hd]; · iexact Hd
    isplitl [Hb]; · iexact Hb
    iexact Hat
end

/-! ## The credit of what each device is owed -/

theorem tallyAt_add' (g : GSem nD τ sig) (m n : ℕ) : (tallyAt g () m + tallyAt g () n : CellTallies nD τ sig Unit) = tallyAt g () (m + n) := by
  unfold tallyAt
  rw [Finsupp.single_add, tallyOn_add]

omit [FloatOps F] in
theorem cred_dealt (c : Dev nD) :
    (Pipeline.launchCred O₀ c : sProp 𝕄)
      ⊢ iprop(cred (tallyAt (barCell c) () 3) ∗ bigSep Finset.univ fun t : Tri => cred (tallyAt (rcvCell c t) () (amt t))) := by
  have hO : O₀ = fun d => (((∑ i ∈ Finset.Ico 0 72, tallyAt (rcvCell (mateT d (tri i)) (tri i)) () (amt (tri i))) + tallyAt (barCell (peer d 2)) () 1)
      + tallyAt (barCell (peer d 1)) () 1) + tallyAt (barCell (peer d 0)) () 1 := rfl
  have h3 : (iprop((cred (tallyAt (barCell c) () 1) ∗ cred (tallyAt (barCell c) () 1)) ∗ cred (tallyAt (barCell c) () 1)) : sProp 𝕄) = cred (tallyAt (barCell c) () 3) := by
    rw [← BI.Entails.antisymm (cred_add _ _).1 (cred_add _ _).2, ← BI.Entails.antisymm (cred_add _ _).1 (cred_add _ _).2, tallyAt_add', tallyAt_add']
  have hb (d : Fin 3) : (Pipeline.launchCred (fun e => tallyAt (barCell (peer e d)) () 1) c : sProp 𝕄) ⊢ cred (tallyAt (barCell c) () 1) :=
    Pipeline.launchCred_tallyAt (.reg barS) (fun e => peer e d) (fun e => peer e d) (fun e => peer_peer e d) (fun e => peer_peer e d) () 1 c
  have hr : (bigSep (Finset.Ico 0 72) (fun i => Pipeline.launchCred (fun e => tallyAt (rcvCell (mateT e (tri i)) (tri i)) () (amt (tri i))) c) : sProp 𝕄)
      ⊢ bigSep (Finset.Ico 0 72) fun i => cred (tallyAt (rcvCell c (tri i)) () (amt (tri i))) :=
    bigSep_mono fun i _ => Pipeline.launchCred_tallyAt (.dma (rcvS (tri i))) (fun e => mateT e (tri i)) (fun e => mateT e (tri i))
      (fun e => peer_peer e _) (fun e => peer_peer e _) () (amt (tri i)) c
  rw [hO, Pipeline.launchCred_add, Pipeline.launchCred_add, Pipeline.launchCred_add, Pipeline.launchCred_sum]
  iintro ⟨⟨⟨Hr, H2⟩, H1⟩, H0⟩
  ihave H2 := (hb 2) $$ H2
  ihave H1 := (hb 1) $$ H1
  ihave H0 := (hb 0) $$ H0
  isplitl [H2 H1 H0]
  · rw [← h3]
    isplitl [H2 H1]
    · isplitl [H2] <;> iassumption
    · iexact H0
  · rw [← by_place (fun t => cred (tallyAt (rcvCell c t) () (amt t)))]
    iapply hr
    iexact Hr

/-! ## The cells opened and closed -/

/-- A device before its regions are in hand. -/
def Held (c : Dev nD) : sProp 𝕄 :=
  iprop((bigSep Finset.univ fun t : Tri => reached ER (rcvCell c t) 0) ∗ duts c ∗ (rdy c 0 ∗ rdy c 1 ∗ rdy c 2)
    ∗ (cred (tallyAt (barCell c) () 3) ∗ atPos ER (barCell c) 0 (∅ : Finset (Fin 3)) 0)
    ∗ (bigSep Finset.univ fun t : Tri => sPos c t) ∗ (bigSep Finset.univ fun t : Tri => rPos c t))

omit [FloatOps F] in
theorem init_intro (c : Dev nD) :
    iprop((∃ W, owes (c : Thread nD τ) (O₀ c) W) ∗ Held c ∗ bigSep Finset.univ fun t : Tri => land (F := F) c t) ⊢ Init c := by
  unfold Held Init lands
  simp only [bigSep_sep']
  iintro ⟨HO, ⟨Hr, Hrest⟩, Hl⟩
  isplitl [HO]; · iexact HO
  isplitl [Hl Hr]
  · isplitl [Hl] <;> iassumption
  iexact Hrest

omit [FloatOps F] in
theorem two_kinds (Φ : Bool × Tri → sProp 𝕄) : bigSep Finset.univ Φ = iprop((bigSep Finset.univ fun t : Tri => Φ (false, t)) ∗ bigSep Finset.univ fun t : Tri => Φ (true, t)) := by
  rw [bigSep_univ_prod, show (Finset.univ : Finset Bool) = insert false {true} from by decide, bigSep_insert (by decide), bigSep_singleton]
  rfl

section
variable (P0 : Dev nD → Fin 3 → ℕ → ℕ → Elt F .bf16)
variable (K : Dev nD × Key → ℕ)

theorem inv_own (c : Dev nD) (x : Bool × Tri) : (Ctx P0 K : sProp 𝕄) ⊢ cellInv ER (sched P0) (K (c, some x)) (kcell (c, some x)) := ctx_inv P0 K (c, some x)
theorem invs_own (c : Dev nD) : (Ctx P0 K : sProp 𝕄) ⊢ bigSep Finset.univ fun x : Bool × Tri => cellInv ER (sched P0) (K (c, some x)) (kcell (c, some x)) :=
  BI.bigSep_intro_persistent fun x _ => inv_own P0 K c x
theorem mark_at (c : Dev nD) : (marks : sProp 𝕄) ⊢ reached ER (barCell c) 0 := bigSep_elim (Finset.mem_univ c)

theorem open_own (c : Dev nD) :
    iprop(Ctx P0 K ∗ opens c ∗ bigSep Finset.univ fun x : Bool × Tri => semVal (kcell (c, some x)) 0)
      ⊢ (|={Set.univ}=> bigSep Finset.univ fun x : Bool × Tri => iprop(atPos ER (kcell (c, some x)) 0 (∅ : Finset (Fin 3)) 0 ∗ reached ER (kcell (c, some x)) 0) : sProp 𝕄) := by
  unfold opens
  iintro ⟨#HC, Ho, Hv⟩
  ihave HI := (invs_own P0 K c) $$ HC
  iapply (cells_open ER (sched P0) Finset.univ (fun x => kcell (c, some x)) (fun x => K (c, some x)) (fun _ _ => Set.mem_univ _))
  isplitl [HI Ho]
  · rw [bigSep_sep']
    isplitl [HI] <;> iassumption
  · iexact Hv

theorem close_own (c : Dev nD) :
    iprop(Ctx P0 K ∗ (bigSep (Finset.Ico 0 72) fun i => sEnd c (tri i)) ∗ bigSep (Finset.Ico 0 72) fun i => rEnd c (tri i))
      ⊢ (|={Set.univ}=> bigSep Finset.univ fun x : Bool × Tri => semVal (kcell (c, some x)) 0 : sProp 𝕄) := by
  iintro ⟨#HC, Hs, Hr⟩
  ihave HI := (invs_own P0 K c) $$ HC
  ihave Hs := (Entails.of_eq (by_place fun t => sEnd c t)) $$ Hs
  ihave Hr := (Entails.of_eq (by_place fun t => rEnd c t)) $$ Hr
  iapply (cells_close ER (sched P0) Finset.univ (fun x => kcell (c, some x)) (fun x => K (c, some x)) (fun _ _ => Set.mem_univ _) (fun _ _ h => h)
    (fun _ => 1) (fun k _ r hr => duties_later P0 _ r hr))
  rw [bigSep_sep', two_kinds (fun x => atPos ER (kcell (c, some x)) 1 (∅ : Finset (Fin 3)) 0)]
  isplitl [HI]; · iexact HI
  isplitl [Hs]; · iexact Hs
  iexact Hr

theorem close_bar (c : Dev nD) : iprop(Ctx P0 K ∗ bEnd c) ⊢ (|={Set.univ}=> semVal (barCell c) 0 : sProp 𝕄) := by
  unfold bEnd
  iintro ⟨#HC, Hb⟩
  ihave HI := (ctx_bar P0 K c) $$ HC
  iapply (cell_close ER (sched P0) (κ := K (c, none)) (g := barCell c) (R := 1) (Set.mem_univ _) (fun h => h) (fun r hr => duties_later P0 _ r hr))
  isplitl [HI] <;> iassumption

/-- A device enters the kernel: its cells opened. -/
theorem enter (c : Dev nD) :
    iprop((Ctx P0 K ∗ marks) ∗ share c ∗ (cred (tallyAt (barCell c) () 3) ∗ bigSep Finset.univ fun t : Tri => cred (tallyAt (rcvCell c t) () (amt t)))
        ∗ bigSep Finset.univ fun x : Bool × Tri => semVal (kcell (c, some x)) 0)
      ⊢ (|={Set.univ}=> Held c : sProp 𝕄) := by
  unfold share
  iintro ⟨⟨#HC, #HM⟩, ⟨Ho, Hd, Hb, Hat⟩, ⟨Hc3, Hcr⟩, Hv⟩
  imod (open_own P0 K c) $$ [Ho Hv] with Hx
  · isplitr; · iexact HC
    isplitl [Ho] <;> iassumption
  imodintro
  ihave Hx := (Entails.of_eq (two_kinds _)) $$ Hx
  icases Hx with ⟨Hs, Hr⟩
  ihave Hs := (Entails.of_eq (bigSep_sep' ..)) $$ Hs
  ihave Hr := (Entails.of_eq (bigSep_sep' ..)) $$ Hr
  icases Hs with ⟨Hsa, Hsr⟩
  icases Hr with ⟨Hra, Hrr⟩
  unfold Held
  isplitl [Hrr]; · iexact Hrr
  isplitl [Hd Hsr]
  · unfold dtoks duts
    simp only [bigSep_sep']
    icases Hd with ⟨Hd1, Hd2⟩
    isplitl [Hd1]; · iexact Hd1
    isplitl [Hsr]; · iexact Hsr
    iexact Hd2
  isplitl [Hb]
  · unfold btoks rdy
    ihave Hb := (Entails.of_eq (univ3 _)) $$ Hb
    icases Hb with ⟨H0, H1, H2⟩
    isplitl [H0]
    · isplitl [H0]; · iexact H0
      iapply (mark_at (peer c 0)); iexact HM
    isplitl [H1]
    · isplitl [H1]; · iexact H1
      iapply (mark_at (peer c 1)); iexact HM
    isplitl [H2]; · iexact H2
    iapply (mark_at (peer c 2)); iexact HM
  isplitl [Hc3 Hat]
  · isplitl [Hc3] <;> iassumption
  isplitl [Hsa]; · iexact Hsa
  unfold rPos
  rw [bigSep_sep']
  isplitl [Hcr]; · iexact Hcr
  iexact Hra
end
end Cert.TreeProof
-- ==== Proof.Compose.lean ====
module

public import proofs.«01_k».proof.Proof.Start

/-! # The body, its statement groups in order -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem le_bind {α β : Type} (p : Prog (TpuEff nD τ sig (Elt F) Λ₀ .tc) α) (k : α → Prog (TpuEff nD τ sig (Elt F) Λ₀ .tc) β) {c : Dev nD} (Q : β → sProp 𝕄) :
    (wp frame (wpE (defs₀ (F := F)) 𝒱₀ (c : Thread nD τ) none) Set.univ p (fun a => wp frame (wpE (defs₀ (F := F)) 𝒱₀ (c : Thread nD τ) none) Set.univ (k a) Q))
      ⊢ wp frame (wpE (defs₀ (F := F)) 𝒱₀ (c : Thread nD τ) none) Set.univ (p >>= k) Q := Entails.of_eq (Idealize.SL.Sem.wp_bind _ _ _ p k Q).symm

set_option maxHeartbeats 16000000
section
variable (I : Dev nD → Ins F) (K : Dev nD × Key → ℕ) (c : Dev nD)
  (A0 : Memref sig .tc .vmem S4x256x1024 .f32) (hA0 : A0.IsWhole) (A1 : Memref sig .tc .vmem S1024x1024 .f32) (hA1 : A1.IsWhole)
  (A2 : Memref sig .tc .vmem S1024x1024 .f32) (hA2 : A2.IsWhole) (A3 : Memref sig .tc .vmem S1024x256 .f32) (hA3 : A3.IsWhole)
  (A4 : Memref sig .tc .vmem S1024x256 .f32) (hA4 : A4.IsWhole) (A5 : Memref sig .tc .vmem S1024x1024 .f32) (hA5 : A5.IsWhole)

/-- What a device holds when its body starts. -/
def Body0 : sProp 𝕄 :=
  iprop(Init c ∗ rbx c kM 0 1024 ∗ Ot I c A5 0 ∗ rbx c qM 0 1024 ∗ rbx c vM 0 1024 ∗ rb c A1 0 1024 (I c).wq ∗ rb c A2 0 1024 (I c).wo ∗ rb c A3 0 1024 (I c).wk ∗ rb c A4 0 1024 (I c).wv ∗ blk c A0 Finset.univ (I c).x ∗ At I c 0 0 ∗ At I c 1 0 ∗ At I c 2 0 ∗ At I c 3 0 ∗ gJ c 0 0 ∗ gJ c 0 1 ∗ gJ c 0 2 ∗ gJ c 1 0 ∗ gJ c 1 1 ∗ gJ c 1 2 ∗ gJ c 2 0 ∗ gJ c 2 1 ∗ gJ c 2 2 ∗ gJ c 3 0 ∗ gJ c 3 1 ∗ gJ c 3 2 ∗ pJ c 0 0 ∗ pJ c 0 1 ∗ pJ c 0 2 ∗ pJ c 1 0 ∗ pJ c 1 1 ∗ pJ c 1 2 ∗ pJ c 2 0 ∗ pJ c 2 1 ∗ pJ c 2 2 ∗ pJ c 3 0 ∗ pJ c 3 1 ∗ pJ c 3 2)
/-- Half way. -/
def Body1 : sProp 𝕄 :=
  iprop(Comm c 45 34 33 ∗ bEnd c ∗ rb c kM 0 1024 (I c).k ∗ Ot I c A5 0 ∗ rb c qM 0 1024 (I c).q ∗ rb c vM 0 1024 (I c).v ∗ rb c A1 0 1024 (I c).wq ∗ rb c A2 0 1024 (I c).wo ∗ rb c A3 0 1024 (I c).wk ∗ rb c A4 0 1024 (I c).wv ∗ blk c A0 Finset.univ (I c).x ∗ At I c 0 8 ∗ At I c 1 8 ∗ At I c 2 8 ∗ At I c 3 8 ∗ gJ c 3 0 ∗ gJ c 3 1 ∗ gJ c 3 2 ∗ rL (PP I) c 0 0 0 ∗ rL (PP I) c 0 0 1 ∗ rL (PP I) c 0 0 2 ∗ rL (PP I) c 0 1 0 ∗ rL (PP I) c 0 1 1 ∗ rL (PP I) c 0 1 2 ∗ rL (PP I) c 0 2 0 ∗ rL (PP I) c 0 2 1 ∗ rL (PP I) c 0 2 2 ∗ rL (PP I) c 1 0 0 ∗ rL (PP I) c 1 0 1 ∗ rL (PP I) c 1 0 2 ∗ rL (PP I) c 1 1 0 ∗ rL (PP I) c 1 1 1 ∗ rL (PP I) c 1 1 2 ∗ rL (PP I) c 1 2 0 ∗ rL (PP I) c 1 2 1 ∗ rL (PP I) c 1 2 2 ∗ rL (PP I) c 2 0 0 ∗ rL (PP I) c 2 0 1 ∗ rL (PP I) c 2 0 2 ∗ rL (PP I) c 2 1 0 ∗ rL (PP I) c 2 1 1 ∗ rL (PP I) c 2 1 2 ∗ rL (PP I) c 2 2 0 ∗ rL (PP I) c 2 2 1 ∗ rL (PP I) c 2 2 2 ∗ rL (PP I) c 3 0 0 ∗ rL (PP I) c 3 0 1 ∗ rL (PP I) c 3 1 0 ∗ rL (PP I) c 3 1 1 ∗ rL (PP I) c 3 2 0 ∗ rL (PP I) c 3 2 1 ∗ pK (PP I) c 0 0 3 3 ∗ pK (PP I) c 0 1 3 3 ∗ pK (PP I) c 0 2 3 3 ∗ pK (PP I) c 1 0 3 3 ∗ pK (PP I) c 1 1 3 3 ∗ pK (PP I) c 1 2 3 3 ∗ pK (PP I) c 2 0 3 3 ∗ pK (PP I) c 2 1 3 3 ∗ pK (PP I) c 2 2 3 3 ∗ pK (PP I) c 3 0 3 2 ∗ pK (PP I) c 3 1 3 2 ∗ pK (PP I) c 3 2 3 2 ∗ pS c 0 0 0 ∗ pS c 0 0 1 ∗ pS c 0 0 2 ∗ pS c 0 1 0 ∗ pS c 0 1 1 ∗ pS c 0 1 2 ∗ pS c 0 2 0 ∗ pS c 0 2 1 ∗ pS c 0 2 2 ∗ pS c 1 0 0 ∗ pS c 1 0 1 ∗ pS c 1 0 2 ∗ pS c 1 1 0 ∗ pS c 1 1 1 ∗ pS c 1 1 2 ∗ pS c 1 2 0 ∗ pS c 1 2 1 ∗ pS c 1 2 2 ∗ pS c 2 0 0 ∗ pS c 2 0 1 ∗ pS c 2 0 2 ∗ pS c 2 1 0 ∗ pS c 2 1 1 ∗ pS c 2 1 2 ∗ pS c 2 2 0 ∗ pS c 2 2 1 ∗ pS c 2 2 2 ∗ pS c 3 0 0 ∗ pS c 3 0 1 ∗ pS c 3 0 2 ∗ pS c 3 1 0 ∗ pS c 3 1 1 ∗ pS c 3 2 0 ∗ pS c 3 2 1)

theorem part_87 {Q : (Σ' (d0 : Dev nD) (v3 : BitVec 32) (v4 : BitVec 32) (v5 : BitVec 32) (v9 : BitVec 1) (v12 : BitVec 1) (v15 : BitVec 1) (v1360 : BitVec 32) (v1373 : BitVec 32) (v1386 : BitVec 32) (v1459 : BitVec 32) (v1472 : BitVec 32) (v1485 : BitVec 32) (v1558 : BitVec 32) (v1571 : BitVec 32) (v1584 : BitVec 32) (v1657 : BitVec 32) (v1670 : BitVec 32), BitVec 32) → sProp 𝕄} :
    iprop(Ctx (PP I) K ∗ Body0 I c A0 A1 A2 A3 A4 A5)
      ⊢ iprop((∀ r, iprop(⌜r.1 = c⌝ ∗ Body1 I c A0 A1 A2 A3 A4 A5) -∗ Q r)
        -∗ wp frame (wpE (defs₀ (F := F)) 𝒱₀ (c : Thread nD τ) none) Set.univ (k0_part87 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14) Q) := by
  rw [k0_part87_eq_skeleton]
  unfold k0_part87_skel Body0
  iintro ⟨#HC, HI, Hkk, Ho, Hq, Hv, Hw1, Hw2, Hw3, Hw4, Hx, Ha_0, Ha_1, Ha_2, Ha_3, Hg_0_0, Hg_0_1, Hg_0_2, Hg_1_0, Hg_1_1, Hg_1_2, Hg_2_0, Hg_2_1, Hg_2_2, Hg_3_0, Hg_3_1, Hg_3_2, Hp_0_0, Hp_0_1, Hp_0_2, Hp_1_0, Hp_1_1, Hp_1_2, Hp_2_0, Hp_2_1, Hp_2_2, Hp_3_0, Hp_3_1, Hp_3_2⟩ HK
  iapply (le_bind _ _ _)
  iapply (part_1 I K c A0 hA0 A1 hA1 A2 hA2 A3 hA3 A4 hA4 A5 hA5  ) $$ [HI Hx]
  · isplitr; · iexact HC
    isplitl [HI]; · iexact HI
    iexact Hx
  iintro %r ⟨%hr, Hx, HM, HB⟩
  obtain ⟨d0, v3, v4, v5, v9, v12, v15, v25⟩ := r
  obtain ⟨q_d0, q_v25⟩ := hr
  replace q_d0 : d0 = c := q_d0
  subst d0
  iapply (le_bind _ _ _)
  iapply (part_2 I K c A0 hA0 A1 hA1 A2 hA2 A3 hA3 A4 hA4 A5 hA5 _ q_v25) $$ [Hw1 Hq Hw3 Hkk Hw4 Hv]
  · isplitr; · iexact HC
    isplitl [Hw1]; · iexact Hw1
    isplitl [Hq]; · iexact Hq
    isplitl [Hw3]; · iexact Hw3
    isplitl [Hkk]; · iexact Hkk
    isplitl [Hw4]; · iexact Hw4
    iexact Hv
  iintro %r ⟨%hr, Hw1, Hq, Hw3, Hkk, Hw4, Hv⟩
  obtain ⟨v44, v45, v46, v49, v57, v58⟩ := r
  obtain ⟨q_v44, q_v45, q_v46, q_v49, q_v57, q_v58⟩ := hr
  iapply (le_bind _ _ _)
  iapply (part_3 I K c A0 hA0 A1 hA1 A2 hA2 A3 hA3 A4 hA4 A5 hA5 _ _ _ _ _ _ q_v44 q_v45 q_v46 q_v49 q_v57 q_v58) $$ [Ha_0]
  · isplitr; · iexact HC
    iexact Ha_0
  iintro %v100 ⟨%hr, Ha_0⟩
  have q_v100 := hr
  iapply (le_bind _ _ _)
  iapply (part_4 I K c A0 hA0 A1 hA1 A2 hA2 A3 hA3 A4 hA4 A5 hA5 _ _ _ _ q_v44 q_v45 q_v46 q_v100) $$ [Ha_0]
  · isplitr; · iexact HC
    iexact Ha_0
  iintro %v142 ⟨%hr, Ha_0⟩
  have q_v142 := hr
  iapply (le_bind _ _ _)
  iapply (part_5 I K c A0 hA0 A1 hA1 A2 hA2 A3 hA3 A4 hA4 A5 hA5 _ _ _ _ q_v44 q_v45 q_v46 q_v142) $$ [Ha_0]
  · isplitr; · iexact HC
    iexact Ha_0
  iintro %r ⟨%hr, Ha_0⟩
  obtain ⟨v182, v183, v184⟩ := r
  obtain ⟨q_v182, q_v183, q_v184⟩ := hr
  iapply (le_bind _ _ _)
  iapply (part_6 I K c A0 hA0 A1 hA1 A2 hA2 A3 hA3 A4 hA4 A5 hA5 _ _ _ _ _ q_v182 q_v183 q_v184) $$ [Ha_0 Hw2 Hp_0_0 HM]
  · isplitr; · iexact HC
    isplitl [Ha_0]; · iexact Ha_0
    isplitl [Hw2]; · iexact Hw2
    isplitl [Hp_0_0]; · iexact Hp_0_0
    iexact HM
  iintro %v217 ⟨Ha_0, Hw2, Hp_0_0, HM⟩
  iapply (le_bind _ _ _)
  iapply (part_7 I K c A0 hA0 A1 hA1 A2 hA2 A3 hA3 A4 hA4 A5 hA5 _ _ _ ) $$ [Ha_0 Hw2 Hp_0_1 HM Hp_0_2]
  · isplitr; · iexact HC
    isplitl [Ha_0]; · iexact Ha_0
    isplitl [Hw2]; · iexact Hw2
    isplitl [Hp_0_1]; · iexact Hp_0_1
    isplitl [HM]; · iexact HM
    iexact Hp_0_2
  iintro %v236 ⟨Ha_0, Hw2, Hp_0_1, HM, Hp_0_2⟩
  iapply (le_bind _ _ _)
  iapply (part_8 I K c A0 hA0 A1 hA1 A2 hA2 A3 hA3 A4 hA4 A5 hA5 _ _ ) $$ [HM Hp_0_2 Hq Hkk Hv Ha_1]
  · isplitr; · iexact HC
    isplitl [HM]; · iexact HM
    isplitl [Hp_0_2]; · iexact Hp_0_2
    isplitl [Hq]; · iexact Hq
    isplitl [Hkk]; · iexact Hkk
    isplitl [Hv]; · iexact Hv
    iexact Ha_1
  iintro %r ⟨%hr, HM, Hp_0_2, Hq, Hkk, Hv, Ha_1⟩
  obtain ⟨v255, v256, v257, v258, v280, v281, v282⟩ := r
  obtain ⟨q_v256, q_v257, q_v258, q_v280, q_v281, q_v282⟩ := hr
  iapply (le_bind _ _ _)
  iapply (part_9 I K c A0 hA0 A1 hA1 A2 hA2 A3 hA3 A4 hA4 A5 hA5 _ _ _ _ _ _ q_v256 q_v257 q_v258 q_v280 q_v281 q_v282) $$ [Ha_1]
  · isplitr; · iexact HC
    iexact Ha_1
  iintro %r ⟨%hr, Ha_1⟩
  obtain ⟨v318, v325⟩ := r
  obtain ⟨q_v318, q_v325⟩ := hr
  iapply (le_bind _ _ _)
  iapply (part_10 I K c A0 hA0 A1 hA1 A2 hA2 A3 hA3 A4 hA4 A5 hA5 _ _ _ _ _ q_v256 q_v257 q_v258 q_v318 q_v325) $$ [Ha_1]
  · isplitr; · iexact HC
    iexact Ha_1
  iintro %r ⟨%hr, Ha_1⟩
  obtain ⟨v366, v367⟩ := r
  obtain ⟨q_v366, q_v367⟩ := hr
  iapply (le_bind _ _ _)
  iapply (part_11 I K c A0 hA0 A1 hA1 A2 hA2 A3 hA3 A4 hA4 A5 hA5 _ _ _ _ _ q_v256 q_v257 q_v258 q_v366 q_v367) $$ [Ha_1]
  · isplitr; · iexact HC
    iexact Ha_1
  iintro %v407 ⟨%hr, Ha_1⟩
  have q_v407 := hr
  iapply (le_bind _ _ _)
  iapply (part_12 I K c A0 hA0 A1 hA1 A2 hA2 A3 hA3 A4 hA4 A5 hA5 _ _ _ _ q_v407) $$ [Ha_1 Hw2 Hp_1_0 HM Hp_1_1]
  · isplitr; · iexact HC
    isplitl [Ha_1]; · iexact Ha_1
    isplitl [Hw2]; · iexact Hw2
    isplitl [Hp_1_0]; · iexact Hp_1_0
    isplitl [HM]; · iexact HM
    iexact Hp_1_1
  iintro %r ⟨Ha_1, Hw2, Hp_1_0, HM, Hp_1_1⟩
  obtain ⟨v429, v438⟩ := r
  iapply (le_bind _ _ _)
  iapply (part_13 I K c A0 hA0 A1 hA1 A2 hA2 A3 hA3 A4 hA4 A5 hA5 _ _ _ _ _ ) $$ [HM Hp_1_1 Ha_1 Hw2 Hp_1_2]
  · isplitr; · iexact HC
    isplitl [HM]; · iexact HM
    isplitl [Hp_1_1]; · iexact Hp_1_1
    isplitl [Ha_1]; · iexact Ha_1
    isplitl [Hw2]; · iexact Hw2
    iexact Hp_1_2
  iintro %r ⟨HM, Hp_1_1, Ha_1, Hw2, Hp_1_2⟩
  obtain ⟨v448, v467⟩ := r
  iapply (le_bind _ _ _)
  iapply (part_14 I K c A0 hA0 A1 hA1 A2 hA2 A3 hA3 A4 hA4 A5 hA5  ) $$ [Hq Hkk Hv Ha_2]
  · isplitr; · iexact HC
    isplitl [Hq]; · iexact Hq
    isplitl [Hkk]; · iexact Hkk
    isplitl [Hv]; · iexact Hv
    iexact Ha_2
  iintro %r ⟨%hr, Hq, Hkk, Hv, Ha_2⟩
  obtain ⟨v468, v469, v470, v505⟩ := r
  obtain ⟨q_v468, q_v469, q_v470, q_v505⟩ := hr
  iapply (le_bind _ _ _)
  iapply (part_15 I K c A0 hA0 A1 hA1 A2 hA2 A3 hA3 A4 hA4 A5 hA5 _ _ _ _ q_v468 q_v469 q_v470 q_v505) $$ [Ha_2]
  · isplitr; · iexact HC
    iexact Ha_2
  iintro %r ⟨%hr, Ha_2⟩
  obtain ⟨v547, v548, v549, cst_286⟩ := r
  obtain ⟨q_v547, q_v548, q_v549, q_cst_286⟩ := hr
  iapply (le_bind _ _ _)
  iapply (part_16 I K c A0 hA0 A1 hA1 A2 hA2 A3 hA3 A4 hA4 A5 hA5 _ _ _ _ _ _ _ q_v468 q_v469 q_v470 q_v547 q_v548 q_v549 q_cst_286) $$ [Ha_2]
  · isplitr; · iexact HC
    iexact Ha_2
  iintro %r ⟨%hr, Ha_2⟩
  obtain ⟨v587, v590, v591⟩ := r
  obtain ⟨q_v587, q_v590, q_v591⟩ := hr
  iapply (le_bind _ _ _)
  iapply (part_17 I K c A0 hA0 A1 hA1 A2 hA2 A3 hA3 A4 hA4 A5 hA5 _ _ _ _ _ _ q_v468 q_v469 q_v470 q_v587 q_v590 q_v591) $$ [Ha_2 Hw2 Hp_2_0]
  · isplitr; · iexact HC
    isplitl [Ha_2]; · iexact Ha_2
    isplitl [Hw2]; · iexact Hw2
    iexact Hp_2_0
  iintro %r ⟨Ha_2, Hw2, Hp_2_0⟩
  iapply (le_bind _ _ _)
  iapply (part_18 I K c A0 hA0 A1 hA1 A2 hA2 A3 hA3 A4 hA4 A5 hA5 _ _ _ _ ) $$ [HM Hp_2_0 Ha_2 Hw2 Hp_2_1]
  · isplitr; · iexact HC
    isplitl [HM]; · iexact HM
    isplitl [Hp_2_0]; · iexact Hp_2_0
    isplitl [Ha_2]; · iexact Ha_2
    isplitl [Hw2]; · iexact Hw2
    iexact Hp_2_1
  iintro %r ⟨HM, Hp_2_0, Ha_2, Hw2, Hp_2_1⟩
  obtain ⟨v641, c512_i32_343⟩ := r
  iapply (le_bind _ _ _)
  iapply (part_19 I K c A0 hA0 A1 hA1 A2 hA2 A3 hA3 A4 hA4 A5 hA5 _ _ _ _ ) $$ [Ha_2 Hw2 Hp_2_2 HM Hq Hkk Hv]
  · isplitr; · iexact HC
    isplitl [Ha_2]; · iexact Ha_2
    isplitl [Hw2]; · iexact Hw2
    isplitl [Hp_2_2]; · iexact Hp_2_2
    isplitl [HM]; · iexact HM
    isplitl [Hq]; · iexact Hq
    isplitl [Hkk]; · iexact Hkk
    iexact Hv
  iintro %r ⟨%hr, Ha_2, Hw2, Hp_2_2, HM, Hq, Hkk, Hv⟩
  obtain ⟨v660, v679, v680, v681, v682, v685, v688, v689⟩ := r
  obtain ⟨q_v680, q_v681, q_v682, q_v685, q_v688, q_v689⟩ := hr
  iapply (le_bind _ _ _)
  iapply (part_20 I K c A0 hA0 A1 hA1 A2 hA2 A3 hA3 A4 hA4 A5 hA5 _ _ _ _ _ _ q_v680 q_v681 q_v682 q_v685 q_v688 q_v689) $$ [Ha_3]
  · isplitr; · iexact HC
    iexact Ha_3
  iintro %r ⟨%hr, Ha_3⟩
  obtain ⟨v723, v731, v732⟩ := r
  obtain ⟨q_v723, q_v731, q_v732⟩ := hr
  iapply (le_bind _ _ _)
  iapply (part_21 I K c A0 hA0 A1 hA1 A2 hA2 A3 hA3 A4 hA4 A5 hA5 _ _ _ _ _ _ q_v680 q_v681 q_v682 q_v723 q_v731 q_v732) $$ [Ha_3]
  · isplitr; · iexact HC
    iexact Ha_3
  iintro %v774 ⟨%hr, Ha_3⟩
  have q_v774 := hr
  iapply (le_bind _ _ _)
  iapply (part_22 I K c A0 hA0 A1 hA1 A2 hA2 A3 hA3 A4 hA4 A5 hA5 _ _ _ _ q_v680 q_v681 q_v682 q_v774) $$ [Ha_3]
  · isplitr; · iexact HC
    iexact Ha_3
  iintro %v816 ⟨%hr, Ha_3⟩
  have q_v816 := hr
  iapply (le_bind _ _ _)
  iapply (part_23 I K c A0 hA0 A1 hA1 A2 hA2 A3 hA3 A4 hA4 A5 hA5 _ _ _ _ _ q_v681 q_v682 q_v816) $$ [Ha_3 Hw2 Hp_3_0]
  · isplitr; · iexact HC
    isplitl [Ha_3]; · iexact Ha_3
    isplitl [Hw2]; · iexact Hw2
    iexact Hp_3_0
  iintro %r ⟨Ha_3, Hw2, Hp_3_0⟩
  iapply (le_bind _ _ _)
  iapply (part_24 I K c A0 hA0 A1 hA1 A2 hA2 A3 hA3 A4 hA4 A5 hA5 _ _ _ ) $$ [HM Hp_3_0 Ha_3 Hw2 Hp_3_1 Hp_3_2]
  · isplitr; · iexact HC
    isplitl [HM]; · iexact HM
    isplitl [Hp_3_0]; · iexact Hp_3_0
    isplitl [Ha_3]; · iexact Ha_3
    isplitl [Hw2]; · iexact Hw2
    isplitl [Hp_3_1]; · iexact Hp_3_1
    iexact Hp_3_2
  iintro %r ⟨HM, Hp_3_0, Ha_3, Hw2, Hp_3_1, Hp_3_2⟩
  obtain ⟨v853, v872⟩ := r
  iapply (le_bind _ _ _)
  iapply (part_25 I K c A0 hA0 A1 hA1 A2 hA2 A3 hA3 A4 hA4 A5 hA5 _ _ _ _ ) $$ [HM Hp_3_2 Hp_0_0]
  · isplitr; · iexact HC
    isplitl [HM]; · iexact HM
    isplitl [Hp_3_2]; · iexact Hp_3_2
    iexact Hp_0_0
  iintro %r ⟨%hr, HM, Hp_3_2, Hp_0_0, Hl_0_0_0, Hs_0_0_0⟩
  obtain ⟨v891, v906, v909⟩ := r
  obtain ⟨q_v906, q_v909⟩ := hr
  iapply (le_bind _ _ _)
  iapply (part_26 I K c A0 hA0 A1 hA1 A2 hA2 A3 hA3 A4 hA4 A5 hA5 _ _ _ _ _ q_v906 q_v909) $$ [Hp_0_0 HM Hp_0_1]
  · isplitr; · iexact HC
    isplitl [Hp_0_0]; · iexact Hp_0_0
    isplitl [HM]; · iexact HM
    iexact Hp_0_1
  iintro %r ⟨Hp_0_0, HM, Hp_0_1, Hl_0_1_0, Hs_0_1_0, Hs_0_2_0⟩
  iapply (le_bind _ _ _)
  iapply (part_27 I K c A0 hA0 A1 hA1 A2 hA2 A3 hA3 A4 hA4 A5 hA5 _ _ _ _ _ _ _ ) $$ [HM Hp_0_2 Hp_0_0]
  · isplitr; · iexact HC
    isplitl [HM]; · iexact HM
    isplitl [Hp_0_2]; · iexact Hp_0_2
    iexact Hp_0_0
  iintro %v964 ⟨HM, Hp_0_2, Hl_0_2_0, Hp_0_0⟩
  iapply (le_bind _ _ _)
  iapply (part_28 I K c A0 hA0 A1 hA1 A2 hA2 A3 hA3 A4 hA4 A5 hA5 _ _ _ _ _ _ ) $$ [HM Hp_0_1 Hp_0_2]
  · isplitr; · iexact HC
    isplitl [HM]; · iexact HM
    isplitl [Hp_0_1]; · iexact Hp_0_1
    iexact Hp_0_2
  iintro %r ⟨HM, Hp_0_1, Hp_0_2, Hl_1_0_0, Hs_1_0_0⟩
  obtain ⟨v977, v990⟩ := r
  iapply (le_bind _ _ _)
  iapply (part_29 I K c A0 hA0 A1 hA1 A2 hA2 A3 hA3 A4 hA4 A5 hA5 _ _ _ ) $$ [Hp_1_0 Hl_1_0_0 HM Hp_1_1]
  · isplitr; · iexact HC
    isplitl [Hp_1_0]; · iexact Hp_1_0
    isplitl [Hl_1_0_0]; · iexact Hl_1_0_0
    isplitl [HM]; · iexact HM
    iexact Hp_1_1
  iintro %r ⟨Hp_1_0, Hl_1_0_0, HM, Hp_1_1, Hl_1_1_0, Hs_1_1_0⟩
  iapply (le_bind _ _ _)
  iapply (part_30 I K c A0 hA0 A1 hA1 A2 hA2 A3 hA3 A4 hA4 A5 hA5 _ _ _ _ _ _ _ ) $$ [HM Hp_1_2 Hp_1_0]
  · isplitr; · iexact HC
    isplitl [HM]; · iexact HM
    isplitl [Hp_1_2]; · iexact Hp_1_2
    iexact Hp_1_0
  iintro %v1063 ⟨HM, Hp_1_2, Hl_1_2_0, Hp_1_0, Hs_1_2_0⟩
  iapply (le_bind _ _ _)
  iapply (part_31 I K c A0 hA0 A1 hA1 A2 hA2 A3 hA3 A4 hA4 A5 hA5 _ _ _ _ _ _ ) $$ [HM Hp_1_1 Hp_1_2]
  · isplitr; · iexact HC
    isplitl [HM]; · iexact HM
    isplitl [Hp_1_1]; · iexact Hp_1_1
    iexact Hp_1_2
  iintro %r ⟨HM, Hp_1_1, Hp_1_2, Hs_2_0_0⟩
  obtain ⟨v1076, v1089⟩ := r
  iapply (le_bind _ _ _)
  iapply (part_32 I K c A0 hA0 A1 hA1 A2 hA2 A3 hA3 A4 hA4 A5 hA5 _ _ _ ) $$ [HM Hp_2_0 Hp_2_1]
  · isplitr; · iexact HC
    isplitl [HM]; · iexact HM
    isplitl [Hp_2_0]; · iexact Hp_2_0
    iexact Hp_2_1
  iintro %v1129 ⟨%hr, HM, Hp_2_0, Hl_2_0_0, Hp_2_1, Hl_2_1_0, Hs_2_1_0⟩
  have q_v1129 := hr
  iapply (le_bind _ _ _)
  iapply (part_33 I K c A0 hA0 A1 hA1 A2 hA2 A3 hA3 A4 hA4 A5 hA5 _ _ _ _ _ _ q_v1129) $$ [Hp_2_1 HM Hp_2_2]
  · isplitr; · iexact HC
    isplitl [Hp_2_1]; · iexact Hp_2_1
    isplitl [HM]; · iexact HM
    iexact Hp_2_2
  iintro %r ⟨Hp_2_1, HM, Hp_2_2, Hl_2_2_0, Hs_2_2_0⟩
  iapply (le_bind _ _ _)
  iapply (part_34 I K c A0 hA0 A1 hA1 A2 hA2 A3 hA3 A4 hA4 A5 hA5 _ _ _ _ _ _ _ _ ) $$ [HM Hp_2_0 Hp_2_1 Hp_2_2]
  · isplitr; · iexact HC
    isplitl [HM]; · iexact HM
    isplitl [Hp_2_0]; · iexact Hp_2_0
    isplitl [Hp_2_1]; · iexact Hp_2_1
    iexact Hp_2_2
  iintro %r ⟨HM, Hp_2_0, Hp_2_1, Hp_2_2⟩
  obtain ⟨v1162, v1175, v1188⟩ := r
  iapply (le_bind _ _ _)
  iapply (part_35 I K c A0 hA0 A1 hA1 A2 hA2 A3 hA3 A4 hA4 A5 hA5 _ _ _ _ ) $$ [HM Hp_3_0 Hp_3_1]
  · isplitr; · iexact HC
    isplitl [HM]; · iexact HM
    isplitl [Hp_3_0]; · iexact Hp_3_0
    iexact Hp_3_1
  iintro %v1221 ⟨%hr, HM, Hp_3_0, Hl_3_0_0, Hp_3_1, Hl_3_1_0, Hs_3_0_0, Hs_3_1_0⟩
  have q_v1221 := hr
  iapply (le_bind _ _ _)
  iapply (part_36 I K c A0 hA0 A1 hA1 A2 hA2 A3 hA3 A4 hA4 A5 hA5 _ _ _ _ _ _ _ q_v1221) $$ [Hl_3_1_0 Hp_3_1 HM Hp_3_2]
  · isplitr; · iexact HC
    isplitl [Hl_3_1_0]; · iexact Hl_3_1_0
    isplitl [Hp_3_1]; · iexact Hp_3_1
    isplitl [HM]; · iexact HM
    iexact Hp_3_2
  iintro %r ⟨Hl_3_1_0, Hp_3_1, HM, Hp_3_2, Hl_3_2_0, Hs_3_2_0⟩
  iapply (le_bind _ _ _)
  iapply (part_37 I K c A0 hA0 A1 hA1 A2 hA2 A3 hA3 A4 hA4 A5 hA5 _ _ _ _ _ _ _ _ ) $$ [HM Hp_3_0 Hp_3_1 Hp_3_2]
  · isplitr; · iexact HC
    isplitl [HM]; · iexact HM
    isplitl [Hp_3_0]; · iexact Hp_3_0
    isplitl [Hp_3_1]; · iexact Hp_3_1
    iexact Hp_3_2
  iintro %r ⟨HM, Hp_3_0, Hp_3_1, Hp_3_2⟩
  obtain ⟨v1261, v1274, v1287⟩ := r
  iapply (le_bind _ _ _)
  iapply (part_38 I K c A0 hA0 A1 hA1 A2 hA2 A3 hA3 A4 hA4 A5 hA5 _ _ _ ) $$ [HM Hp_0_0]
  · isplitr; · iexact HC
    isplitl [HM]; · iexact HM
    iexact Hp_0_0
  iintro %r ⟨HM, Hp_0_0, Hl_0_0_1, Hs_0_0_1, Hs_0_1_1⟩
  iapply (le_bind _ _ _)
  iapply (part_39 I K c A0 hA0 A1 hA1 A2 hA2 A3 hA3 A4 hA4 A5 hA5 _ _ _ ) $$ [HM Hp_0_1 Hp_0_2]
  · isplitr; · iexact HC
    isplitl [HM]; · iexact HM
    isplitl [Hp_0_1]; · iexact Hp_0_1
    iexact Hp_0_2
  iintro %c32_i32 ⟨HM, Hp_0_1, Hl_0_1_1, Hp_0_2, Hl_0_2_1, Hs_0_2_1⟩
  iapply (le_bind _ _ _)
  iapply (part_40 I K c A0 hA0 A1 hA1 A2 hA2 A3 hA3 A4 hA4 A5 hA5 _ _ _ _ _ _ _ _ _ _ ) $$ [HM Hp_0_0 Hp_0_1]
  · isplitr; · iexact HC
    isplitl [HM]; · iexact HM
    isplitl [Hp_0_0]; · iexact Hp_0_0
    iexact Hp_0_1
  iintro %r ⟨HM, Hp_0_0, Hp_0_1⟩
  obtain ⟨v1360, v1373⟩ := r
  iapply (le_bind _ _ _)
  iapply (part_41 I K c A0 hA0 A1 hA1 A2 hA2 A3 hA3 A4 hA4 A5 hA5 _ _ _ _ ) $$ [HM Hp_0_2 Hp_1_0]
  · isplitr; · iexact HC
    isplitl [HM]; · iexact HM
    isplitl [Hp_0_2]; · iexact Hp_0_2
    iexact Hp_1_0
  iintro %v1386 ⟨HM, Hp_0_2, Hp_1_0, Hl_1_0_1, Hs_1_0_1, Hs_1_1_1⟩
  iapply (le_bind _ _ _)
  iapply (part_42 I K c A0 hA0 A1 hA1 A2 hA2 A3 hA3 A4 hA4 A5 hA5 _ _ _ _ ) $$ [HM Hp_1_1 Hp_1_2]
  · isplitr; · iexact HC
    isplitl [HM]; · iexact HM
    isplitl [Hp_1_1]; · iexact Hp_1_1
    iexact Hp_1_2
  iintro %r ⟨%hr, HM, Hp_1_1, Hl_1_1_1, Hp_1_2, Hl_1_2_1, Hs_1_2_1⟩
  obtain ⟨v1439, v1440⟩ := r
  obtain ⟨q_v1439, q_v1440⟩ := hr
  iapply (le_bind _ _ _)
  iapply (part_43 I K c A0 hA0 A1 hA1 A2 hA2 A3 hA3 A4 hA4 A5 hA5 _ _ _ _ _ _ _ _ _ _ q_v1439 q_v1440) $$ [Hp_1_2 HM Hp_1_0 Hp_1_1]
  · isplitr; · iexact HC
    isplitl [Hp_1_2]; · iexact Hp_1_2
    isplitl [HM]; · iexact HM
    isplitl [Hp_1_0]; · iexact Hp_1_0
    iexact Hp_1_1
  iintro %r ⟨Hp_1_2, HM, Hp_1_0, Hp_1_1⟩
  obtain ⟨v1459, v1472⟩ := r
  iapply (le_bind _ _ _)
  iapply (part_44 I K c A0 hA0 A1 hA1 A2 hA2 A3 hA3 A4 hA4 A5 hA5 _ _ _ _ ) $$ [HM Hp_1_2 Hp_2_0]
  · isplitr; · iexact HC
    isplitl [HM]; · iexact HM
    isplitl [Hp_1_2]; · iexact Hp_1_2
    iexact Hp_2_0
  iintro %v1485 ⟨HM, Hp_1_2, Hp_2_0, Hl_2_0_1, Hs_2_0_1⟩
  iapply (le_bind _ _ _)
  iapply (part_45 I K c A0 hA0 A1 hA1 A2 hA2 A3 hA3 A4 hA4 A5 hA5 _ _ _ ) $$ [HM Hp_2_1]
  · isplitr; · iexact HC
    isplitl [HM]; · iexact HM
    iexact Hp_2_1
  iintro %r ⟨HM, Hp_2_1, Hl_2_1_1, Hs_2_1_1, Hs_2_2_1⟩
  iapply (le_bind _ _ _)
  iapply (part_46 I K c A0 hA0 A1 hA1 A2 hA2 A3 hA3 A4 hA4 A5 hA5 _ _ _ _ _ _ _ ) $$ [HM Hp_2_2 Hp_2_0 Hp_2_1]
  · isplitr; · iexact HC
    isplitl [HM]; · iexact HM
    isplitl [Hp_2_2]; · iexact Hp_2_2
    isplitl [Hp_2_0]; · iexact Hp_2_0
    iexact Hp_2_1
  iintro %v1558 ⟨HM, Hp_2_2, Hl_2_2_1, Hp_2_0, Hp_2_1⟩
  iapply (le_bind _ _ _)
  iapply (part_47 I K c A0 hA0 A1 hA1 A2 hA2 A3 hA3 A4 hA4 A5 hA5 _ _ _ _ _ _ ) $$ [HM Hp_2_2 Hp_3_0]
  · isplitr; · iexact HC
    isplitl [HM]; · iexact HM
    isplitl [Hp_2_2]; · iexact Hp_2_2
    iexact Hp_3_0
  iintro %r ⟨%hr, HM, Hp_2_2, Hp_3_0, Hl_3_0_1, Hs_3_0_1⟩
  obtain ⟨v1571, v1584, v1599, v1600⟩ := r
  have q_v1599 := hr
  iapply (le_bind _ _ _)
  iapply (part_48 I K c A0 hA0 A1 hA1 A2 hA2 A3 hA3 A4 hA4 A5 hA5 _ _ _ _ q_v1599) $$ [Hp_3_0 HM Hp_3_1]
  · isplitr; · iexact HC
    isplitl [Hp_3_0]; · iexact Hp_3_0
    isplitl [HM]; · iexact HM
    iexact Hp_3_1
  iintro %c1_i32_1029 ⟨Hp_3_0, HM, Hp_3_1, Hl_3_1_1, Hs_3_1_1, Hs_3_2_1⟩
  iapply (le_bind _ _ _)
  iapply (part_49 I K c A0 hA0 A1 hA1 A2 hA2 A3 hA3 A4 hA4 A5 hA5 _ _ _ _ _ _ _ _ ) $$ [HM Hp_3_2 Hp_3_0]
  · isplitr; · iexact HC
    isplitl [HM]; · iexact HM
    isplitl [Hp_3_2]; · iexact Hp_3_2
    iexact Hp_3_0
  iintro %v1657 ⟨HM, Hp_3_2, Hl_3_2_1, Hp_3_0⟩
  iapply (le_bind _ _ _)
  iapply (part_50 I K c A0 hA0 A1 hA1 A2 hA2 A3 hA3 A4 hA4 A5 hA5 _ _ _ _ _ _ ) $$ [HM Hp_3_1 Hp_3_2]
  · isplitr; · iexact HC
    isplitl [HM]; · iexact HM
    isplitl [Hp_3_1]; · iexact Hp_3_1
    iexact Hp_3_2
  iintro %r ⟨HM, Hp_3_1, Hp_3_2, Hl_0_0_2, Hs_0_0_2⟩
  obtain ⟨v1670, v1683⟩ := r
  iapply (le_bind _ _ _)
  iapply (part_51 I K c A0 hA0 A1 hA1 A2 hA2 A3 hA3 A4 hA4 A5 hA5 _ _ _ ) $$ [Hp_0_0 Hl_0_0_2 HM Hp_0_1]
  · isplitr; · iexact HC
    isplitl [Hp_0_0]; · iexact Hp_0_0
    isplitl [Hl_0_0_2]; · iexact Hl_0_0_2
    isplitl [HM]; · iexact HM
    iexact Hp_0_1
  iintro %r ⟨Hp_0_0, Hl_0_0_2, HM, Hp_0_1, Hl_0_1_2, Hs_0_1_2⟩
  iapply (le_bind _ _ _)
  iapply (part_52 I K c A0 hA0 A1 hA1 A2 hA2 A3 hA3 A4 hA4 A5 hA5 _ _ _ _ ) $$ [HM Hp_0_2 Hp_0_0 Hg_0_0]
  · isplitr; · iexact HC
    isplitl [HM]; · iexact HM
    isplitl [Hp_0_2]; · iexact Hp_0_2
    isplitl [Hp_0_0]; · iexact Hp_0_0
    iexact Hg_0_0
  iintro %r ⟨HM, Hp_0_2, Hl_0_2_2, Hp_0_0, Hg_0_0, Hs_0_2_2⟩
  iapply (le_bind _ _ _)
  iapply (part_53 I K c A0 hA0 A1 hA1 A2 hA2 A3 hA3 A4 hA4 A5 hA5 _ _ _ _ ) $$ [HM Hg_0_0 Hp_0_1 Hg_0_1 Hp_0_2 Hg_0_2]
  · isplitr; · iexact HC
    isplitl [HM]; · iexact HM
    isplitl [Hg_0_0]; · iexact Hg_0_0
    isplitl [Hp_0_1]; · iexact Hp_0_1
    isplitl [Hg_0_1]; · iexact Hg_0_1
    isplitl [Hp_0_2]; · iexact Hp_0_2
    iexact Hg_0_2
  iintro %r ⟨HM, Hp_0_1, Hp_0_2⟩
  iapply (le_bind _ _ _)
  iapply (part_54 I K c A0 hA0 A1 hA1 A2 hA2 A3 hA3 A4 hA4 A5 hA5 _ _ _ ) $$ [HM Hp_1_0]
  · isplitr; · iexact HC
    isplitl [HM]; · iexact HM
    iexact Hp_1_0
  iintro %r ⟨HM, Hp_1_0, Hl_1_0_2, Hs_1_0_2, Hs_1_1_2⟩
  iapply (le_bind _ _ _)
  iapply (part_55 I K c A0 hA0 A1 hA1 A2 hA2 A3 hA3 A4 hA4 A5 hA5 _ _ _ _ ) $$ [HM Hp_1_1 Hp_1_2]
  · isplitr; · iexact HC
    isplitl [HM]; · iexact HM
    isplitl [Hp_1_1]; · iexact Hp_1_1
    iexact Hp_1_2
  iintro %v1858 ⟨HM, Hp_1_1, Hl_1_1_2, Hp_1_2, Hl_1_2_2, Hs_1_2_2⟩
  iapply (le_bind _ _ _)
  iapply (part_56 I K c A0 hA0 A1 hA1 A2 hA2 A3 hA3 A4 hA4 A5 hA5 _ _ _ _ _ _ ) $$ [Hp_1_0 Hg_1_0 HM Hp_1_1 Hg_1_1 Hp_1_2]
  · isplitr; · iexact HC
    isplitl [Hp_1_0]; · iexact Hp_1_0
    isplitl [Hg_1_0]; · iexact Hg_1_0
    isplitl [HM]; · iexact HM
    isplitl [Hp_1_1]; · iexact Hp_1_1
    isplitl [Hg_1_1]; · iexact Hg_1_1
    iexact Hp_1_2
  iintro %r ⟨%hr, Hp_1_0, HM, Hp_1_1, Hp_1_2⟩
  obtain ⟨v1896, v1897⟩ := r
  have q_v1896 := hr
  iapply (le_bind _ _ _)
  iapply (part_57 I K c A0 hA0 A1 hA1 A2 hA2 A3 hA3 A4 hA4 A5 hA5 _ _ _ _ _ _ q_v1896) $$ [Hg_1_2 HM Hp_2_0]
  · isplitr; · iexact HC
    isplitl [Hg_1_2]; · iexact Hg_1_2
    isplitl [HM]; · iexact HM
    iexact Hp_2_0
  iintro %r ⟨%hr, HM, Hp_2_0, Hl_2_0_2, Hs_2_0_2⟩
  obtain ⟨v1926, v1929⟩ := r
  obtain ⟨q_v1926, q_v1929⟩ := hr
  iapply (le_bind _ _ _)
  iapply (part_58 I K c A0 hA0 A1 hA1 A2 hA2 A3 hA3 A4 hA4 A5 hA5 _ _ _ _ _ q_v1926 q_v1929) $$ [Hp_2_0 HM Hp_2_1]
  · isplitr; · iexact HC
    isplitl [Hp_2_0]; · iexact Hp_2_0
    isplitl [HM]; · iexact HM
    iexact Hp_2_1
  iintro %r ⟨Hp_2_0, HM, Hp_2_1, Hl_2_1_2, Hs_2_1_2, Hs_2_2_2⟩
  iapply (le_bind _ _ _)
  iapply (part_59 I K c A0 hA0 A1 hA1 A2 hA2 A3 hA3 A4 hA4 A5 hA5 _ _ _ _ ) $$ [HM Hp_2_2 Hp_2_0 Hg_2_0 Hp_2_1 Hg_2_1]
  · isplitr; · iexact HC
    isplitl [HM]; · iexact HM
    isplitl [Hp_2_2]; · iexact Hp_2_2
    isplitl [Hp_2_0]; · iexact Hp_2_0
    isplitl [Hg_2_0]; · iexact Hg_2_0
    isplitl [Hp_2_1]; · iexact Hp_2_1
    iexact Hg_2_1
  iintro %v1992 ⟨%hr, HM, Hp_2_2, Hl_2_2_2, Hp_2_0, Hp_2_1, Hg_2_1⟩
  have q_v1992 := hr
  iapply (le_bind _ _ _)
  iapply (part_60 I K c A0 hA0 A1 hA1 A2 hA2 A3 hA3 A4 hA4 A5 hA5 _ _ _ _ _ q_v1992) $$ [Hg_2_1 HM Hp_2_2 Hg_2_2]
  · isplitr; · iexact HC
    isplitl [Hg_2_1]; · iexact Hg_2_1
    isplitl [HM]; · iexact HM
    isplitl [Hp_2_2]; · iexact Hp_2_2
    iexact Hg_2_2
  iintro %r ⟨HM, Hp_2_2, Hs_3_0_2⟩
  iapply (le_wp_ret _)
  iapply HK
  isplitr
  · ipureintro; rfl
  unfold Body1
  isplitl [HM]; · iexact HM
  isplitl [HB]; · iexact HB
  isplitl [Hkk]; · iexact Hkk
  isplitl [Ho]; · iexact Ho
  isplitl [Hq]; · iexact Hq
  isplitl [Hv]; · iexact Hv
  isplitl [Hw1]; · iexact Hw1
  isplitl [Hw2]; · iexact Hw2
  isplitl [Hw3]; · iexact Hw3
  isplitl [Hw4]; · iexact Hw4
  isplitl [Hx]; · iexact Hx
  isplitl [Ha_0]; · iexact Ha_0
  isplitl [Ha_1]; · iexact Ha_1
  isplitl [Ha_2]; · iexact Ha_2
  isplitl [Ha_3]; · iexact Ha_3
  isplitl [Hg_3_0]; · iexact Hg_3_0
  isplitl [Hg_3_1]; · iexact Hg_3_1
  isplitl [Hg_3_2]; · iexact Hg_3_2
  isplitl [Hl_0_0_0]; · iexact Hl_0_0_0
  isplitl [Hl_0_0_1]; · iexact Hl_0_0_1
  isplitl [Hl_0_0_2]; · iexact Hl_0_0_2
  isplitl [Hl_0_1_0]; · iexact Hl_0_1_0
  isplitl [Hl_0_1_1]; · iexact Hl_0_1_1
  isplitl [Hl_0_1_2]; · iexact Hl_0_1_2
  isplitl [Hl_0_2_0]; · iexact Hl_0_2_0
  isplitl [Hl_0_2_1]; · iexact Hl_0_2_1
  isplitl [Hl_0_2_2]; · iexact Hl_0_2_2
  isplitl [Hl_1_0_0]; · iexact Hl_1_0_0
  isplitl [Hl_1_0_1]; · iexact Hl_1_0_1
  isplitl [Hl_1_0_2]; · iexact Hl_1_0_2
  isplitl [Hl_1_1_0]; · iexact Hl_1_1_0
  isplitl [Hl_1_1_1]; · iexact Hl_1_1_1
  isplitl [Hl_1_1_2]; · iexact Hl_1_1_2
  isplitl [Hl_1_2_0]; · iexact Hl_1_2_0
  isplitl [Hl_1_2_1]; · iexact Hl_1_2_1
  isplitl [Hl_1_2_2]; · iexact Hl_1_2_2
  isplitl [Hl_2_0_0]; · iexact Hl_2_0_0
  isplitl [Hl_2_0_1]; · iexact Hl_2_0_1
  isplitl [Hl_2_0_2]; · iexact Hl_2_0_2
  isplitl [Hl_2_1_0]; · iexact Hl_2_1_0
  isplitl [Hl_2_1_1]; · iexact Hl_2_1_1
  isplitl [Hl_2_1_2]; · iexact Hl_2_1_2
  isplitl [Hl_2_2_0]; · iexact Hl_2_2_0
  isplitl [Hl_2_2_1]; · iexact Hl_2_2_1
  isplitl [Hl_2_2_2]; · iexact Hl_2_2_2
  isplitl [Hl_3_0_0]; · iexact Hl_3_0_0
  isplitl [Hl_3_0_1]; · iexact Hl_3_0_1
  isplitl [Hl_3_1_0]; · iexact Hl_3_1_0
  isplitl [Hl_3_1_1]; · iexact Hl_3_1_1
  isplitl [Hl_3_2_0]; · iexact Hl_3_2_0
  isplitl [Hl_3_2_1]; · iexact Hl_3_2_1
  isplitl [Hp_0_0]; · iexact Hp_0_0
  isplitl [Hp_0_1]; · iexact Hp_0_1
  isplitl [Hp_0_2]; · iexact Hp_0_2
  isplitl [Hp_1_0]; · iexact Hp_1_0
  isplitl [Hp_1_1]; · iexact Hp_1_1
  isplitl [Hp_1_2]; · iexact Hp_1_2
  isplitl [Hp_2_0]; · iexact Hp_2_0
  isplitl [Hp_2_1]; · iexact Hp_2_1
  isplitl [Hp_2_2]; · iexact Hp_2_2
  isplitl [Hp_3_0]; · iexact Hp_3_0
  isplitl [Hp_3_1]; · iexact Hp_3_1
  isplitl [Hp_3_2]; · iexact Hp_3_2
  isplitl [Hs_0_0_0]; · iexact Hs_0_0_0
  isplitl [Hs_0_0_1]; · iexact Hs_0_0_1
  isplitl [Hs_0_0_2]; · iexact Hs_0_0_2
  isplitl [Hs_0_1_0]; · iexact Hs_0_1_0
  isplitl [Hs_0_1_1]; · iexact Hs_0_1_1
  isplitl [Hs_0_1_2]; · iexact Hs_0_1_2
  isplitl [Hs_0_2_0]; · iexact Hs_0_2_0
  isplitl [Hs_0_2_1]; · iexact Hs_0_2_1
  isplitl [Hs_0_2_2]; · iexact Hs_0_2_2
  isplitl [Hs_1_0_0]; · iexact Hs_1_0_0
  isplitl [Hs_1_0_1]; · iexact Hs_1_0_1
  isplitl [Hs_1_0_2]; · iexact Hs_1_0_2
  isplitl [Hs_1_1_0]; · iexact Hs_1_1_0
  isplitl [Hs_1_1_1]; · iexact Hs_1_1_1
  isplitl [Hs_1_1_2]; · iexact Hs_1_1_2
  isplitl [Hs_1_2_0]; · iexact Hs_1_2_0
  isplitl [Hs_1_2_1]; · iexact Hs_1_2_1
  isplitl [Hs_1_2_2]; · iexact Hs_1_2_2
  isplitl [Hs_2_0_0]; · iexact Hs_2_0_0
  isplitl [Hs_2_0_1]; · iexact Hs_2_0_1
  isplitl [Hs_2_0_2]; · iexact Hs_2_0_2
  isplitl [Hs_2_1_0]; · iexact Hs_2_1_0
  isplitl [Hs_2_1_1]; · iexact Hs_2_1_1
  isplitl [Hs_2_1_2]; · iexact Hs_2_1_2
  isplitl [Hs_2_2_0]; · iexact Hs_2_2_0
  isplitl [Hs_2_2_1]; · iexact Hs_2_2_1
  isplitl [Hs_2_2_2]; · iexact Hs_2_2_2
  isplitl [Hs_3_0_0]; · iexact Hs_3_0_0
  isplitl [Hs_3_0_1]; · iexact Hs_3_0_1
  isplitl [Hs_3_0_2]; · iexact Hs_3_0_2
  isplitl [Hs_3_1_0]; · iexact Hs_3_1_0
  isplitl [Hs_3_1_1]; · iexact Hs_3_1_1
  isplitl [Hs_3_2_0]; · iexact Hs_3_2_0
  iexact Hs_3_2_1
/-- Before the last store. -/
def Body2 : sProp 𝕄 :=
  iprop(Comm c 72 72 72 ∗ bEnd c ∗ rb c kM 0 1024 (I c).k ∗ Ot I c A5 11 ∗ rb c qM 0 1024 (I c).q ∗ rb c vM 0 1024 (I c).v ∗ rb c A1 0 1024 (I c).wq ∗ rb c A2 0 1024 (I c).wo ∗ rb c A3 0 1024 (I c).wk ∗ rb c A4 0 1024 (I c).wv ∗ blk c A0 Finset.univ (I c).x ∗ At I c 0 8 ∗ At I c 1 8 ∗ At I c 2 8 ∗ At I c 3 8 ∗ gK (PP I) c 0 0 0 ∗ gK (PP I) c 0 1 0 ∗ gK (PP I) c 0 2 0 ∗ gK (PP I) c 1 0 0 ∗ gK (PP I) c 1 1 0 ∗ gK (PP I) c 1 2 0 ∗ gK (PP I) c 2 0 0 ∗ gK (PP I) c 2 1 0 ∗ gK (PP I) c 2 2 0 ∗ gK (PP I) c 3 0 0 ∗ gK (PP I) c 3 1 0 ∗ gK (PP I) c 3 2 0 ∗ rL (PP I) c 0 0 0 ∗ rL (PP I) c 0 0 1 ∗ rL (PP I) c 0 0 2 ∗ rL (PP I) c 0 1 0 ∗ rL (PP I) c 0 1 1 ∗ rL (PP I) c 0 1 2 ∗ rL (PP I) c 0 2 0 ∗ rL (PP I) c 0 2 1 ∗ rL (PP I) c 0 2 2 ∗ rL (PP I) c 1 0 0 ∗ rL (PP I) c 1 0 1 ∗ rL (PP I) c 1 0 2 ∗ rL (PP I) c 1 1 0 ∗ rL (PP I) c 1 1 1 ∗ rL (PP I) c 1 1 2 ∗ rL (PP I) c 1 2 0 ∗ rL (PP I) c 1 2 1 ∗ rL (PP I) c 1 2 2 ∗ rL (PP I) c 2 0 0 ∗ rL (PP I) c 2 0 1 ∗ rL (PP I) c 2 0 2 ∗ rL (PP I) c 2 1 0 ∗ rL (PP I) c 2 1 1 ∗ rL (PP I) c 2 1 2 ∗ rL (PP I) c 2 2 0 ∗ rL (PP I) c 2 2 1 ∗ rL (PP I) c 2 2 2 ∗ rL (PP I) c 3 0 0 ∗ rL (PP I) c 3 0 1 ∗ rL (PP I) c 3 0 2 ∗ rL (PP I) c 3 1 0 ∗ rL (PP I) c 3 1 1 ∗ rL (PP I) c 3 1 2 ∗ rL (PP I) c 3 2 0 ∗ rL (PP I) c 3 2 1 ∗ rL (PP I) c 3 2 2 ∗ pK (PP I) c 0 0 3 3 ∗ pK (PP I) c 0 1 3 3 ∗ pK (PP I) c 0 2 3 3 ∗ pK (PP I) c 1 0 3 3 ∗ pK (PP I) c 1 1 3 3 ∗ pK (PP I) c 1 2 3 3 ∗ pK (PP I) c 2 0 3 3 ∗ pK (PP I) c 2 1 3 3 ∗ pK (PP I) c 2 2 3 3 ∗ pK (PP I) c 3 0 3 3 ∗ pK (PP I) c 3 1 3 3 ∗ pK (PP I) c 3 2 3 3 ∗ pS c 0 0 0 ∗ pS c 0 0 1 ∗ pS c 0 0 2 ∗ pS c 0 1 0 ∗ pS c 0 1 1 ∗ pS c 0 1 2 ∗ pS c 0 2 0 ∗ pS c 0 2 1 ∗ pS c 0 2 2 ∗ pS c 1 0 0 ∗ pS c 1 0 1 ∗ pS c 1 0 2 ∗ pS c 1 1 0 ∗ pS c 1 1 1 ∗ pS c 1 1 2 ∗ pS c 1 2 0 ∗ pS c 1 2 1 ∗ pS c 1 2 2 ∗ pS c 2 0 0 ∗ pS c 2 0 1 ∗ pS c 2 0 2 ∗ pS c 2 1 0 ∗ pS c 2 1 1 ∗ pS c 2 1 2 ∗ pS c 2 2 0 ∗ pS c 2 2 1 ∗ pS c 2 2 2 ∗ pS c 3 0 0 ∗ pS c 3 0 1 ∗ pS c 3 0 2 ∗ pS c 3 1 0 ∗ pS c 3 1 1 ∗ pS c 3 1 2 ∗ pS c 3 2 0 ∗ pS c 3 2 1 ∗ pS c 3 2 2)

theorem part_88 {Q : (FVec F S256x256 .f32) → sProp 𝕄} (v3 : BitVec 32) (v4 : BitVec 32) (v5 : BitVec 32) (v9 : BitVec 1) (v12 : BitVec 1) (v15 : BitVec 1) (v1360 : BitVec 32) (v1373 : BitVec 32) (v1386 : BitVec 32) (v1459 : BitVec 32) (v1472 : BitVec 32) (v1485 : BitVec 32) (v1558 : BitVec 32) (v1571 : BitVec 32) (v1584 : BitVec 32) (v1657 : BitVec 32) (v1670 : BitVec 32) (v1683 : BitVec 32) :
    iprop(Ctx (PP I) K ∗ Body1 I c A0 A1 A2 A3 A4 A5)
      ⊢ iprop((∀ r, iprop(⌜r = k0_pay144 (gV (PP I) (3 : Fin 4) (2 : Fin 3))⌝ ∗ Body2 I c A0 A1 A2 A3 A4 A5) -∗ Q r)
        -∗ wp frame (wpE (defs₀ (F := F)) 𝒱₀ (c : Thread nD τ) none) Set.univ (k0_part88 A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 c v3 v4 v5 v9 v12 v15 v1360 v1373 v1386 v1459 v1472 v1485 v1558 v1571 v1584 v1657 v1670 v1683) Q) := by
  rw [k0_part88_eq_skeleton]
  unfold k0_part88_skel Body1
  iintro ⟨#HC, HM, HB, Hkk, Ho, Hq, Hv, Hw1, Hw2, Hw3, Hw4, Hx, Ha_0, Ha_1, Ha_2, Ha_3, Hg_3_0, Hg_3_1, Hg_3_2, Hl_0_0_0, Hl_0_0_1, Hl_0_0_2, Hl_0_1_0, Hl_0_1_1, Hl_0_1_2, Hl_0_2_0, Hl_0_2_1, Hl_0_2_2, Hl_1_0_0, Hl_1_0_1, Hl_1_0_2, Hl_1_1_0, Hl_1_1_1, Hl_1_1_2, Hl_1_2_0, Hl_1_2_1, Hl_1_2_2, Hl_2_0_0, Hl_2_0_1, Hl_2_0_2, Hl_2_1_0, Hl_2_1_1, Hl_2_1_2, Hl_2_2_0, Hl_2_2_1, Hl_2_2_2, Hl_3_0_0, Hl_3_0_1, Hl_3_1_0, Hl_3_1_1, Hl_3_2_0, Hl_3_2_1, Hp_0_0, Hp_0_1, Hp_0_2, Hp_1_0, Hp_1_1, Hp_1_2, Hp_2_0, Hp_2_1, Hp_2_2, Hp_3_0, Hp_3_1, Hp_3_2, Hs_0_0_0, Hs_0_0_1, Hs_0_0_2, Hs_0_1_0, Hs_0_1_1, Hs_0_1_2, Hs_0_2_0, Hs_0_2_1, Hs_0_2_2, Hs_1_0_0, Hs_1_0_1, Hs_1_0_2, Hs_1_1_0, Hs_1_1_1, Hs_1_1_2, Hs_1_2_0, Hs_1_2_1, Hs_1_2_2, Hs_2_0_0, Hs_2_0_1, Hs_2_0_2, Hs_2_1_0, Hs_2_1_1, Hs_2_1_2, Hs_2_2_0, Hs_2_2_1, Hs_2_2_2, Hs_3_0_0, Hs_3_0_1, Hs_3_0_2, Hs_3_1_0, Hs_3_1_1, Hs_3_2_0, Hs_3_2_1⟩ HK
  iapply (le_bind _ _ _)
  iapply (part_61 I K c A0 hA0 A1 hA1 A2 hA2 A3 hA3 A4 hA4 A5 hA5 _ _ _ _ ) $$ [HM Hp_3_0 Hp_3_1]
  · isplitr; · iexact HC
    isplitl [HM]; · iexact HM
    isplitl [Hp_3_0]; · iexact Hp_3_0
    iexact Hp_3_1
  iintro %v2060 ⟨%hr, HM, Hp_3_0, Hl_3_0_2, Hp_3_1, Hl_3_1_2, Hs_3_1_2⟩
  have q_v2060 := hr
  iapply (le_bind _ _ _)
  iapply (part_62 I K c A0 hA0 A1 hA1 A2 hA2 A3 hA3 A4 hA4 A5 hA5 _ _ _ _ _ q_v2060) $$ [Hp_3_1 HM Hp_3_2 Hp_3_0 Hg_3_0]
  · isplitr; · iexact HC
    isplitl [Hp_3_1]; · iexact Hp_3_1
    isplitl [HM]; · iexact HM
    isplitl [Hp_3_2]; · iexact Hp_3_2
    isplitl [Hp_3_0]; · iexact Hp_3_0
    iexact Hg_3_0
  iintro %r ⟨Hp_3_1, HM, Hp_3_2, Hl_3_2_2, Hp_3_0, Hg_3_0, Hs_3_2_2⟩
  iapply (le_bind _ _ _)
  iapply (part_63 I K c A0 hA0 A1 hA1 A2 hA2 A3 hA3 A4 hA4 A5 hA5 _ _ _ _ _ ) $$ [HM Hg_3_0 Hp_3_1 Hg_3_1 Hp_3_2 Hg_3_2]
  · isplitr; · iexact HC
    isplitl [HM]; · iexact HM
    isplitl [Hg_3_0]; · iexact Hg_3_0
    isplitl [Hp_3_1]; · iexact Hp_3_1
    isplitl [Hg_3_1]; · iexact Hg_3_1
    isplitl [Hp_3_2]; · iexact Hp_3_2
    iexact Hg_3_2
  iintro %v2132 ⟨HM, Hp_3_1, Hp_3_2, Hg_3_2⟩
  iapply (le_bind _ _ _)
  iapply (part_64 I K c A0 hA0 A1 hA1 A2 hA2 A3 hA3 A4 hA4 A5 hA5 _ _ _ _ _ ) $$ [HM Hg_3_2]
  · isplitr; · iexact HC
    isplitl [HM]; · iexact HM
    iexact Hg_3_2
  iintro %v2151 ⟨HM, Hg_0_0, Hg_0_1⟩
  iapply (le_bind _ _ _)
  iapply (part_65 I K c A0 hA0 A1 hA1 A2 hA2 A3 hA3 A4 hA4 A5 hA5 _ _ _ _ _ _ _ ) $$ [HM Hg_0_0]
  · isplitr; · iexact HC
    isplitl [HM]; · iexact HM
    iexact Hg_0_0
  iintro %r ⟨HM, Hg_0_2⟩
  obtain ⟨v2163, v2175⟩ := r
  iapply (le_bind _ _ _)
  iapply (part_66 I K c A0 hA0 A1 hA1 A2 hA2 A3 hA3 A4 hA4 A5 hA5 _ _ _ _ _ ) $$ [HM Hg_0_1 Hg_0_2]
  · isplitr; · iexact HC
    isplitl [HM]; · iexact HM
    isplitl [Hg_0_1]; · iexact Hg_0_1
    iexact Hg_0_2
  iintro %r ⟨HM, Hg_1_0, Hg_1_1⟩
  obtain ⟨v2217, v2222⟩ := r
  iapply (le_bind _ _ _)
  iapply (part_67 I K c A0 hA0 A1 hA1 A2 hA2 A3 hA3 A4 hA4 A5 hA5 _ _ _ _ _ _ _ ) $$ [HM Hg_1_1 Hg_1_0]
  · isplitr; · iexact HC
    isplitl [HM]; · iexact HM
    isplitl [Hg_1_1]; · iexact Hg_1_1
    iexact Hg_1_0
  iintro %r ⟨HM, Hg_1_1, Hg_1_2⟩
  obtain ⟨v2229, v2241, c1_i32_1440⟩ := r
  iapply (le_bind _ _ _)
  iapply (part_68 I K c A0 hA0 A1 hA1 A2 hA2 A3 hA3 A4 hA4 A5 hA5 _ _ _ _ _ _ ) $$ [HM Hg_1_1 Hg_1_2]
  · isplitr; · iexact HC
    isplitl [HM]; · iexact HM
    isplitl [Hg_1_1]; · iexact Hg_1_1
    iexact Hg_1_2
  iintro %v2283 ⟨HM, Hg_2_0⟩
  iapply (le_bind _ _ _)
  iapply (part_69 I K c A0 hA0 A1 hA1 A2 hA2 A3 hA3 A4 hA4 A5 hA5 _ _ _ _ _ _ _ ) $$ [HM]
  · isplitr; · iexact HC
    iexact HM
  iintro %r ⟨HM, Hg_2_1, Hg_2_2⟩
  obtain ⟨v2295, v2307⟩ := r
  iapply (le_bind _ _ _)
  iapply (part_70 I K c A0 hA0 A1 hA1 A2 hA2 A3 hA3 A4 hA4 A5 hA5 _ _ _ _ ) $$ [HM Hg_2_0 Hg_2_1 Hg_2_2]
  · isplitr; · iexact HC
    isplitl [HM]; · iexact HM
    isplitl [Hg_2_0]; · iexact Hg_2_0
    isplitl [Hg_2_1]; · iexact Hg_2_1
    iexact Hg_2_2
  iintro %r ⟨HM, Hg_3_0⟩
  iapply (le_bind _ _ _)
  iapply (part_71 I K c A0 hA0 A1 hA1 A2 hA2 A3 hA3 A4 hA4 A5 hA5 _ _ _ _ _ _ _ _ ) $$ [HM Hg_3_0]
  · isplitr; · iexact HC
    isplitl [HM]; · iexact HM
    iexact Hg_3_0
  iintro %r ⟨HM, Hg_3_0, Hg_3_1, Hg_3_2⟩
  obtain ⟨v2349, v2361, v2373⟩ := r
  iapply (le_bind _ _ _)
  iapply (part_72 I K c A0 hA0 A1 hA1 A2 hA2 A3 hA3 A4 hA4 A5 hA5 _ _ _ _ _ ) $$ [HM Hg_3_0 Hg_3_1 Hg_3_2]
  · isplitr; · iexact HC
    isplitl [HM]; · iexact HM
    isplitl [Hg_3_0]; · iexact Hg_3_0
    isplitl [Hg_3_1]; · iexact Hg_3_1
    iexact Hg_3_2
  iintro %c1_i32_1559 ⟨HM, Hg_0_0⟩
  iapply (le_bind _ _ _)
  iapply (part_73 I K c A0 hA0 A1 hA1 A2 hA2 A3 hA3 A4 hA4 A5 hA5 _ _ _ _ _ _ _ _ ) $$ [HM Hg_0_0]
  · isplitr; · iexact HC
    isplitl [HM]; · iexact HM
    iexact Hg_0_0
  iintro %r ⟨HM, Hg_0_0, Hg_0_1, Hg_0_2⟩
  obtain ⟨v2415, v2427⟩ := r
  iapply (le_bind _ _ _)
  iapply (part_74 I K c A0 hA0 A1 hA1 A2 hA2 A3 hA3 A4 hA4 A5 hA5 _ _ _ _ _ _ _ ) $$ [HM Hg_0_2 Hg_0_0 Hg_0_1]
  · isplitr; · iexact HC
    isplitl [HM]; · iexact HM
    isplitl [Hg_0_2]; · iexact Hg_0_2
    isplitl [Hg_0_0]; · iexact Hg_0_0
    iexact Hg_0_1
  iintro %r ⟨HM⟩
  iapply (le_bind _ _ _)
  iapply (part_75 I K c A0 hA0 A1 hA1 A2 hA2 A3 hA3 A4 hA4 A5 hA5 _ _ _ _ _ _ ) $$ [HM]
  · isplitr; · iexact HC
    iexact HM
  iintro %r ⟨HM, Hg_1_0, Hg_1_1, Hg_1_2⟩
  obtain ⟨v2481, v2493⟩ := r
  iapply (le_bind _ _ _)
  iapply (part_76 I K c A0 hA0 A1 hA1 A2 hA2 A3 hA3 A4 hA4 A5 hA5 _ _ _ _ _ _ _ ) $$ [HM Hg_1_2 Hg_1_0 Hg_1_1]
  · isplitr; · iexact HC
    isplitl [HM]; · iexact HM
    isplitl [Hg_1_2]; · iexact Hg_1_2
    isplitl [Hg_1_0]; · iexact Hg_1_0
    iexact Hg_1_1
  iintro %r ⟨HM, Hg_1_2⟩
  iapply (le_bind _ _ _)
  iapply (part_77 I K c A0 hA0 A1 hA1 A2 hA2 A3 hA3 A4 hA4 A5 hA5 _ _ _ _ _ _ ) $$ [HM Hg_1_2]
  · isplitr; · iexact HC
    isplitl [HM]; · iexact HM
    iexact Hg_1_2
  iintro %r ⟨HM, Hg_2_0, Hg_2_1⟩
  obtain ⟨v2547, v2559⟩ := r
  iapply (le_bind _ _ _)
  iapply (part_78 I K c A0 hA0 A1 hA1 A2 hA2 A3 hA3 A4 hA4 A5 hA5 _ _ _ _ _ _ ) $$ [HM Hg_2_0 Hg_2_1]
  · isplitr; · iexact HC
    isplitl [HM]; · iexact HM
    isplitl [Hg_2_0]; · iexact Hg_2_0
    iexact Hg_2_1
  iintro %r ⟨HM, Hg_2_2⟩
  iapply (le_bind _ _ _)
  iapply (part_79 I K c A0 hA0 A1 hA1 A2 hA2 A3 hA3 A4 hA4 A5 hA5 _ _ _ _ ) $$ [HM Hg_2_2]
  · isplitr; · iexact HC
    isplitl [HM]; · iexact HM
    iexact Hg_2_2
  iintro %v2613 ⟨HM, Hg_3_0, Hg_3_1⟩
  iapply (le_bind _ _ _)
  iapply (part_80 I K c A0 hA0 A1 hA1 A2 hA2 A3 hA3 A4 hA4 A5 hA5 _ _ _ _ _ _ _ ) $$ [HM Hg_3_1 Hg_3_0]
  · isplitr; · iexact HC
    isplitl [HM]; · iexact HM
    isplitl [Hg_3_1]; · iexact Hg_3_1
    iexact Hg_3_0
  iintro %v2637 ⟨HM, Hg_3_1, Hg_3_2⟩
  iapply (le_bind _ _ _)
  iapply (part_81 I K c A0 hA0 A1 hA1 A2 hA2 A3 hA3 A4 hA4 A5 hA5 _ _ _ _ ) $$ [HM Hg_3_1 Hg_3_2]
  · isplitr; · iexact HC
    isplitl [HM]; · iexact HM
    isplitl [Hg_3_1]; · iexact Hg_3_1
    iexact Hg_3_2
  iintro %v2682 ⟨HM, Hg_0_0, Hg_0_1⟩
  iapply (le_bind _ _ _)
  iapply (part_82 I K c A0 hA0 A1 hA1 A2 hA2 A3 hA3 A4 hA4 A5 hA5 _ _ ) $$ [HM Hg_0_1 Hg_0_0 Ho]
  · isplitr; · iexact HC
    isplitl [HM]; · iexact HM
    isplitl [Hg_0_1]; · iexact Hg_0_1
    isplitl [Hg_0_0]; · iexact Hg_0_0
    iexact Ho
  iintro %r ⟨HM, Hg_0_1, Hg_0_2, Hg_0_0, Ho⟩
  iapply (le_bind _ _ _)
  iapply (part_83 I K c A0 hA0 A1 hA1 A2 hA2 A3 hA3 A4 hA4 A5 hA5 _ _ _ ) $$ [HM]
  · isplitr; · iexact HC
    iexact HM
  iintro %r ⟨HM, Hg_1_0, Hg_1_1, Hg_1_2⟩
  iapply (le_bind _ _ _)
  iapply (part_84 I K c A0 hA0 A1 hA1 A2 hA2 A3 hA3 A4 hA4 A5 hA5 _ ) $$ [HM Hg_1_2 Hg_1_0 Ho Hg_1_1]
  · isplitr; · iexact HC
    isplitl [HM]; · iexact HM
    isplitl [Hg_1_2]; · iexact Hg_1_2
    isplitl [Hg_1_0]; · iexact Hg_1_0
    isplitl [Ho]; · iexact Ho
    iexact Hg_1_1
  iintro %r ⟨HM, Hg_1_2, Hg_1_0, Ho, Hg_1_1, Hg_2_0⟩
  iapply (le_bind _ _ _)
  iapply (part_85 I K c A0 hA0 A1 hA1 A2 hA2 A3 hA3 A4 hA4 A5 hA5 _ _ ) $$ [HM Hg_2_0 Ho]
  · isplitr; · iexact HC
    isplitl [HM]; · iexact HM
    isplitl [Hg_2_0]; · iexact Hg_2_0
    iexact Ho
  iintro %v2783 ⟨%hr, HM, Hg_2_1, Hg_2_2, Hg_2_0, Ho⟩
  have q_v2783 := hr
  iapply (le_bind _ _ _)
  iapply (part_86 I K c A0 hA0 A1 hA1 A2 hA2 A3 hA3 A4 hA4 A5 hA5 _ _ _ q_v2783) $$ [Ho HM]
  · isplitr; · iexact HC
    isplitl [Ho]; · iexact Ho
    iexact HM
  iintro %r ⟨Ho, HM, Hg_3_0, Hg_3_1, Hg_3_2⟩
  simp only [Prog.lift, Prog.bind_op, Prog.bind_ret, Prog.pure_eq_ret]
  iapply (landed_ag (PP I) K c (0 : Fin 3) (3 : Fin 4) (2 : Fin 3) (k0 := 0) (k1 := 1) rfl rfl (b := 72) (a := 72) (r := 71) rfl (by decide) rfl rfl) $$ [HM Hg_3_2]
  · isplitr; · iexact HC
    isplitl [HM]; · iexact HM
    iexact Hg_3_2
  iintro ⟨HM, Hg_3_2⟩
  iapply (load_gK (PP I) c (3 : Fin 4) (0 : Fin 3) rfl) $$ Hg_3_0
  iintro Hg_3_0
  iapply (load_o I c (3 : Fin 4) (0 : Fin 3) (M := A5) rfl) $$ Ho
  iintro %v2817 Ho
  iapply (store_o I c (3 : Fin 4) (0 : Fin 3) (M := A5) (n := 9) (n1 := 10) rfl rfl rfl rfl) $$ Ho
  iintro Ho
  iapply (load_gK (PP I) c (3 : Fin 4) (1 : Fin 3) rfl) $$ Hg_3_1
  iintro Hg_3_1
  iapply (load_o I c (3 : Fin 4) (1 : Fin 3) (M := A5) rfl) $$ Ho
  iintro %v2820 Ho
  iapply (store_o I c (3 : Fin 4) (1 : Fin 3) (M := A5) (n := 10) (n1 := 11) rfl rfl rfl rfl) $$ Ho
  iintro Ho
  iapply (load_gK (PP I) c (3 : Fin 4) (2 : Fin 3) rfl) $$ Hg_3_2
  iintro Hg_3_2
  iapply (load_o I c (3 : Fin 4) (2 : Fin 3) (M := A5) rfl) $$ Ho
  iintro %v2823 Ho
  iapply (le_wp_ret _)
  iapply HK
  isplitr
  · ipureintro; rfl
  unfold Body2
  isplitl [HM]; · iexact HM
  isplitl [HB]; · iexact HB
  isplitl [Hkk]; · iexact Hkk
  isplitl [Ho]; · iexact Ho
  isplitl [Hq]; · iexact Hq
  isplitl [Hv]; · iexact Hv
  isplitl [Hw1]; · iexact Hw1
  isplitl [Hw2]; · iexact Hw2
  isplitl [Hw3]; · iexact Hw3
  isplitl [Hw4]; · iexact Hw4
  isplitl [Hx]; · iexact Hx
  isplitl [Ha_0]; · iexact Ha_0
  isplitl [Ha_1]; · iexact Ha_1
  isplitl [Ha_2]; · iexact Ha_2
  isplitl [Ha_3]; · iexact Ha_3
  isplitl [Hg_0_0]; · iexact Hg_0_0
  isplitl [Hg_0_1]; · iexact Hg_0_1
  isplitl [Hg_0_2]; · iexact Hg_0_2
  isplitl [Hg_1_0]; · iexact Hg_1_0
  isplitl [Hg_1_1]; · iexact Hg_1_1
  isplitl [Hg_1_2]; · iexact Hg_1_2
  isplitl [Hg_2_0]; · iexact Hg_2_0
  isplitl [Hg_2_1]; · iexact Hg_2_1
  isplitl [Hg_2_2]; · iexact Hg_2_2
  isplitl [Hg_3_0]; · iexact Hg_3_0
  isplitl [Hg_3_1]; · iexact Hg_3_1
  isplitl [Hg_3_2]; · iexact Hg_3_2
  isplitl [Hl_0_0_0]; · iexact Hl_0_0_0
  isplitl [Hl_0_0_1]; · iexact Hl_0_0_1
  isplitl [Hl_0_0_2]; · iexact Hl_0_0_2
  isplitl [Hl_0_1_0]; · iexact Hl_0_1_0
  isplitl [Hl_0_1_1]; · iexact Hl_0_1_1
  isplitl [Hl_0_1_2]; · iexact Hl_0_1_2
  isplitl [Hl_0_2_0]; · iexact Hl_0_2_0
  isplitl [Hl_0_2_1]; · iexact Hl_0_2_1
  isplitl [Hl_0_2_2]; · iexact Hl_0_2_2
  isplitl [Hl_1_0_0]; · iexact Hl_1_0_0
  isplitl [Hl_1_0_1]; · iexact Hl_1_0_1
  isplitl [Hl_1_0_2]; · iexact Hl_1_0_2
  isplitl [Hl_1_1_0]; · iexact Hl_1_1_0
  isplitl [Hl_1_1_1]; · iexact Hl_1_1_1
  isplitl [Hl_1_1_2]; · iexact Hl_1_1_2
  isplitl [Hl_1_2_0]; · iexact Hl_1_2_0
  isplitl [Hl_1_2_1]; · iexact Hl_1_2_1
  isplitl [Hl_1_2_2]; · iexact Hl_1_2_2
  isplitl [Hl_2_0_0]; · iexact Hl_2_0_0
  isplitl [Hl_2_0_1]; · iexact Hl_2_0_1
  isplitl [Hl_2_0_2]; · iexact Hl_2_0_2
  isplitl [Hl_2_1_0]; · iexact Hl_2_1_0
  isplitl [Hl_2_1_1]; · iexact Hl_2_1_1
  isplitl [Hl_2_1_2]; · iexact Hl_2_1_2
  isplitl [Hl_2_2_0]; · iexact Hl_2_2_0
  isplitl [Hl_2_2_1]; · iexact Hl_2_2_1
  isplitl [Hl_2_2_2]; · iexact Hl_2_2_2
  isplitl [Hl_3_0_0]; · iexact Hl_3_0_0
  isplitl [Hl_3_0_1]; · iexact Hl_3_0_1
  isplitl [Hl_3_0_2]; · iexact Hl_3_0_2
  isplitl [Hl_3_1_0]; · iexact Hl_3_1_0
  isplitl [Hl_3_1_1]; · iexact Hl_3_1_1
  isplitl [Hl_3_1_2]; · iexact Hl_3_1_2
  isplitl [Hl_3_2_0]; · iexact Hl_3_2_0
  isplitl [Hl_3_2_1]; · iexact Hl_3_2_1
  isplitl [Hl_3_2_2]; · iexact Hl_3_2_2
  isplitl [Hp_0_0]; · iexact Hp_0_0
  isplitl [Hp_0_1]; · iexact Hp_0_1
  isplitl [Hp_0_2]; · iexact Hp_0_2
  isplitl [Hp_1_0]; · iexact Hp_1_0
  isplitl [Hp_1_1]; · iexact Hp_1_1
  isplitl [Hp_1_2]; · iexact Hp_1_2
  isplitl [Hp_2_0]; · iexact Hp_2_0
  isplitl [Hp_2_1]; · iexact Hp_2_1
  isplitl [Hp_2_2]; · iexact Hp_2_2
  isplitl [Hp_3_0]; · iexact Hp_3_0
  isplitl [Hp_3_1]; · iexact Hp_3_1
  isplitl [Hp_3_2]; · iexact Hp_3_2
  isplitl [Hs_0_0_0]; · iexact Hs_0_0_0
  isplitl [Hs_0_0_1]; · iexact Hs_0_0_1
  isplitl [Hs_0_0_2]; · iexact Hs_0_0_2
  isplitl [Hs_0_1_0]; · iexact Hs_0_1_0
  isplitl [Hs_0_1_1]; · iexact Hs_0_1_1
  isplitl [Hs_0_1_2]; · iexact Hs_0_1_2
  isplitl [Hs_0_2_0]; · iexact Hs_0_2_0
  isplitl [Hs_0_2_1]; · iexact Hs_0_2_1
  isplitl [Hs_0_2_2]; · iexact Hs_0_2_2
  isplitl [Hs_1_0_0]; · iexact Hs_1_0_0
  isplitl [Hs_1_0_1]; · iexact Hs_1_0_1
  isplitl [Hs_1_0_2]; · iexact Hs_1_0_2
  isplitl [Hs_1_1_0]; · iexact Hs_1_1_0
  isplitl [Hs_1_1_1]; · iexact Hs_1_1_1
  isplitl [Hs_1_1_2]; · iexact Hs_1_1_2
  isplitl [Hs_1_2_0]; · iexact Hs_1_2_0
  isplitl [Hs_1_2_1]; · iexact Hs_1_2_1
  isplitl [Hs_1_2_2]; · iexact Hs_1_2_2
  isplitl [Hs_2_0_0]; · iexact Hs_2_0_0
  isplitl [Hs_2_0_1]; · iexact Hs_2_0_1
  isplitl [Hs_2_0_2]; · iexact Hs_2_0_2
  isplitl [Hs_2_1_0]; · iexact Hs_2_1_0
  isplitl [Hs_2_1_1]; · iexact Hs_2_1_1
  isplitl [Hs_2_1_2]; · iexact Hs_2_1_2
  isplitl [Hs_2_2_0]; · iexact Hs_2_2_0
  isplitl [Hs_2_2_1]; · iexact Hs_2_2_1
  isplitl [Hs_2_2_2]; · iexact Hs_2_2_2
  isplitl [Hs_3_0_0]; · iexact Hs_3_0_0
  isplitl [Hs_3_0_1]; · iexact Hs_3_0_1
  isplitl [Hs_3_0_2]; · iexact Hs_3_0_2
  isplitl [Hs_3_1_0]; · iexact Hs_3_1_0
  isplitl [Hs_3_1_1]; · iexact Hs_3_1_1
  isplitl [Hs_3_1_2]; · iexact Hs_3_1_2
  isplitl [Hs_3_2_0]; · iexact Hs_3_2_0
  isplitl [Hs_3_2_1]; · iexact Hs_3_2_1
  iexact Hs_3_2_2
/-- What it holds when it ends. -/
def Body3 : sProp 𝕄 :=
  iprop(Comm c 72 72 72 ∗ bEnd c ∗ rb c kM 0 1024 (I c).k ∗ Ot I c A5 12 ∗ rb c qM 0 1024 (I c).q ∗ rb c vM 0 1024 (I c).v ∗ rb c A1 0 1024 (I c).wq ∗ rb c A2 0 1024 (I c).wo ∗ rb c A3 0 1024 (I c).wk ∗ rb c A4 0 1024 (I c).wv ∗ blk c A0 Finset.univ (I c).x ∗ At I c 0 8 ∗ At I c 1 8 ∗ At I c 2 8 ∗ At I c 3 8 ∗ gK (PP I) c 0 0 0 ∗ gK (PP I) c 0 1 0 ∗ gK (PP I) c 0 2 0 ∗ gK (PP I) c 1 0 0 ∗ gK (PP I) c 1 1 0 ∗ gK (PP I) c 1 2 0 ∗ gK (PP I) c 2 0 0 ∗ gK (PP I) c 2 1 0 ∗ gK (PP I) c 2 2 0 ∗ gK (PP I) c 3 0 0 ∗ gK (PP I) c 3 1 0 ∗ gK (PP I) c 3 2 0 ∗ rL (PP I) c 0 0 0 ∗ rL (PP I) c 0 0 1 ∗ rL (PP I) c 0 0 2 ∗ rL (PP I) c 0 1 0 ∗ rL (PP I) c 0 1 1 ∗ rL (PP I) c 0 1 2 ∗ rL (PP I) c 0 2 0 ∗ rL (PP I) c 0 2 1 ∗ rL (PP I) c 0 2 2 ∗ rL (PP I) c 1 0 0 ∗ rL (PP I) c 1 0 1 ∗ rL (PP I) c 1 0 2 ∗ rL (PP I) c 1 1 0 ∗ rL (PP I) c 1 1 1 ∗ rL (PP I) c 1 1 2 ∗ rL (PP I) c 1 2 0 ∗ rL (PP I) c 1 2 1 ∗ rL (PP I) c 1 2 2 ∗ rL (PP I) c 2 0 0 ∗ rL (PP I) c 2 0 1 ∗ rL (PP I) c 2 0 2 ∗ rL (PP I) c 2 1 0 ∗ rL (PP I) c 2 1 1 ∗ rL (PP I) c 2 1 2 ∗ rL (PP I) c 2 2 0 ∗ rL (PP I) c 2 2 1 ∗ rL (PP I) c 2 2 2 ∗ rL (PP I) c 3 0 0 ∗ rL (PP I) c 3 0 1 ∗ rL (PP I) c 3 0 2 ∗ rL (PP I) c 3 1 0 ∗ rL (PP I) c 3 1 1 ∗ rL (PP I) c 3 1 2 ∗ rL (PP I) c 3 2 0 ∗ rL (PP I) c 3 2 1 ∗ rL (PP I) c 3 2 2 ∗ pK (PP I) c 0 0 3 3 ∗ pK (PP I) c 0 1 3 3 ∗ pK (PP I) c 0 2 3 3 ∗ pK (PP I) c 1 0 3 3 ∗ pK (PP I) c 1 1 3 3 ∗ pK (PP I) c 1 2 3 3 ∗ pK (PP I) c 2 0 3 3 ∗ pK (PP I) c 2 1 3 3 ∗ pK (PP I) c 2 2 3 3 ∗ pK (PP I) c 3 0 3 3 ∗ pK (PP I) c 3 1 3 3 ∗ pK (PP I) c 3 2 3 3 ∗ pS c 0 0 0 ∗ pS c 0 0 1 ∗ pS c 0 0 2 ∗ pS c 0 1 0 ∗ pS c 0 1 1 ∗ pS c 0 1 2 ∗ pS c 0 2 0 ∗ pS c 0 2 1 ∗ pS c 0 2 2 ∗ pS c 1 0 0 ∗ pS c 1 0 1 ∗ pS c 1 0 2 ∗ pS c 1 1 0 ∗ pS c 1 1 1 ∗ pS c 1 1 2 ∗ pS c 1 2 0 ∗ pS c 1 2 1 ∗ pS c 1 2 2 ∗ pS c 2 0 0 ∗ pS c 2 0 1 ∗ pS c 2 0 2 ∗ pS c 2 1 0 ∗ pS c 2 1 1 ∗ pS c 2 1 2 ∗ pS c 2 2 0 ∗ pS c 2 2 1 ∗ pS c 2 2 2 ∗ pS c 3 0 0 ∗ pS c 3 0 1 ∗ pS c 3 0 2 ∗ pS c 3 1 0 ∗ pS c 3 1 1 ∗ pS c 3 1 2 ∗ pS c 3 2 0 ∗ pS c 3 2 1 ∗ pS c 3 2 2)

/-- The body of the kernel on device `c`. -/
theorem body_run {Q : PUnit → sProp 𝕄} :
    iprop(Ctx (PP I) K ∗ Body0 I c A0 A1 A2 A3 A4 A5)
      ⊢ iprop((Body3 I c A0 A1 A2 A3 A4 A5 -∗ Q ⟨⟩)
        -∗ wp frame (wpE (defs₀ (F := F)) 𝒱₀ (c : Thread nD τ) none) Set.univ (cc0_body A0 hA0 A1 hA1 A2 hA2 A3 hA3 A4 hA4 A5 hA5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14) Q) := by
  rw [cc0_body_eq_skeleton]
  unfold cc0_body_skel
  iintro ⟨#HC, H⟩ HK
  iapply (le_bind _ _ _)
  iapply (part_87 I K c A0 hA0 A1 hA1 A2 hA2 A3 hA3 A4 hA4 A5 hA5) $$ [H]
  · isplitr; · iexact HC
    iexact H
  iintro %r ⟨%hr, H⟩
  obtain ⟨d0, v3, v4, v5, v9, v12, v15, v1360, v1373, v1386, v1459, v1472, v1485, v1558, v1571, v1584, v1657, v1670, v1683⟩ := r
  replace hr : d0 = c := hr
  subst d0
  iapply (le_bind _ _ _)
  iapply (part_88 I K c A0 hA0 A1 hA1 A2 hA2 A3 hA3 A4 hA4 A5 hA5 _ _ _ _ _ _ _ _ _ _ _ _ _ _ _ _ _ _) $$ [H]
  · isplitr; · iexact HC
    iexact H
  iintro %v2822 ⟨%hr, H⟩
  subst hr
  simp only [Prog.lift, Prog.bind_op, Prog.bind_ret, Prog.pure_eq_ret]
  unfold Body2 Body3
  icases H with ⟨HM, HB, Hkk, Ho, Hq, Hv, Hw1, Hw2, Hw3, Hw4, Hx, Ha_0, Ha_1, Ha_2, Ha_3, Hg_0_0, Hg_0_1, Hg_0_2, Hg_1_0, Hg_1_1, Hg_1_2, Hg_2_0, Hg_2_1, Hg_2_2, Hg_3_0, Hg_3_1, Hg_3_2, Hl_0_0_0, Hl_0_0_1, Hl_0_0_2, Hl_0_1_0, Hl_0_1_1, Hl_0_1_2, Hl_0_2_0, Hl_0_2_1, Hl_0_2_2, Hl_1_0_0, Hl_1_0_1, Hl_1_0_2, Hl_1_1_0, Hl_1_1_1, Hl_1_1_2, Hl_1_2_0, Hl_1_2_1, Hl_1_2_2, Hl_2_0_0, Hl_2_0_1, Hl_2_0_2, Hl_2_1_0, Hl_2_1_1, Hl_2_1_2, Hl_2_2_0, Hl_2_2_1, Hl_2_2_2, Hl_3_0_0, Hl_3_0_1, Hl_3_0_2, Hl_3_1_0, Hl_3_1_1, Hl_3_1_2, Hl_3_2_0, Hl_3_2_1, Hl_3_2_2, Hp_0_0, Hp_0_1, Hp_0_2, Hp_1_0, Hp_1_1, Hp_1_2, Hp_2_0, Hp_2_1, Hp_2_2, Hp_3_0, Hp_3_1, Hp_3_2, Hs_0_0_0, Hs_0_0_1, Hs_0_0_2, Hs_0_1_0, Hs_0_1_1, Hs_0_1_2, Hs_0_2_0, Hs_0_2_1, Hs_0_2_2, Hs_1_0_0, Hs_1_0_1, Hs_1_0_2, Hs_1_1_0, Hs_1_1_1, Hs_1_1_2, Hs_1_2_0, Hs_1_2_1, Hs_1_2_2, Hs_2_0_0, Hs_2_0_1, Hs_2_0_2, Hs_2_1_0, Hs_2_1_1, Hs_2_1_2, Hs_2_2_0, Hs_2_2_1, Hs_2_2_2, Hs_3_0_0, Hs_3_0_1, Hs_3_0_2, Hs_3_1_0, Hs_3_1_1, Hs_3_1_2, Hs_3_2_0, Hs_3_2_1, Hs_3_2_2⟩
  iapply (store_o I c (3 : Fin 4) (2 : Fin 3) (M := A5) (n := 11) (n1 := 12) rfl rfl rfl rfl) $$ Ho
  iintro Ho
  iapply (le_wp_ret _)
  iapply HK
  isplitl [HM]; · iexact HM
  isplitl [HB]; · iexact HB
  isplitl [Hkk]; · iexact Hkk
  isplitl [Ho]; · iexact Ho
  isplitl [Hq]; · iexact Hq
  isplitl [Hv]; · iexact Hv
  isplitl [Hw1]; · iexact Hw1
  isplitl [Hw2]; · iexact Hw2
  isplitl [Hw3]; · iexact Hw3
  isplitl [Hw4]; · iexact Hw4
  isplitl [Hx]; · iexact Hx
  isplitl [Ha_0]; · iexact Ha_0
  isplitl [Ha_1]; · iexact Ha_1
  isplitl [Ha_2]; · iexact Ha_2
  isplitl [Ha_3]; · iexact Ha_3
  isplitl [Hg_0_0]; · iexact Hg_0_0
  isplitl [Hg_0_1]; · iexact Hg_0_1
  isplitl [Hg_0_2]; · iexact Hg_0_2
  isplitl [Hg_1_0]; · iexact Hg_1_0
  isplitl [Hg_1_1]; · iexact Hg_1_1
  isplitl [Hg_1_2]; · iexact Hg_1_2
  isplitl [Hg_2_0]; · iexact Hg_2_0
  isplitl [Hg_2_1]; · iexact Hg_2_1
  isplitl [Hg_2_2]; · iexact Hg_2_2
  isplitl [Hg_3_0]; · iexact Hg_3_0
  isplitl [Hg_3_1]; · iexact Hg_3_1
  isplitl [Hg_3_2]; · iexact Hg_3_2
  isplitl [Hl_0_0_0]; · iexact Hl_0_0_0
  isplitl [Hl_0_0_1]; · iexact Hl_0_0_1
  isplitl [Hl_0_0_2]; · iexact Hl_0_0_2
  isplitl [Hl_0_1_0]; · iexact Hl_0_1_0
  isplitl [Hl_0_1_1]; · iexact Hl_0_1_1
  isplitl [Hl_0_1_2]; · iexact Hl_0_1_2
  isplitl [Hl_0_2_0]; · iexact Hl_0_2_0
  isplitl [Hl_0_2_1]; · iexact Hl_0_2_1
  isplitl [Hl_0_2_2]; · iexact Hl_0_2_2
  isplitl [Hl_1_0_0]; · iexact Hl_1_0_0
  isplitl [Hl_1_0_1]; · iexact Hl_1_0_1
  isplitl [Hl_1_0_2]; · iexact Hl_1_0_2
  isplitl [Hl_1_1_0]; · iexact Hl_1_1_0
  isplitl [Hl_1_1_1]; · iexact Hl_1_1_1
  isplitl [Hl_1_1_2]; · iexact Hl_1_1_2
  isplitl [Hl_1_2_0]; · iexact Hl_1_2_0
  isplitl [Hl_1_2_1]; · iexact Hl_1_2_1
  isplitl [Hl_1_2_2]; · iexact Hl_1_2_2
  isplitl [Hl_2_0_0]; · iexact Hl_2_0_0
  isplitl [Hl_2_0_1]; · iexact Hl_2_0_1
  isplitl [Hl_2_0_2]; · iexact Hl_2_0_2
  isplitl [Hl_2_1_0]; · iexact Hl_2_1_0
  isplitl [Hl_2_1_1]; · iexact Hl_2_1_1
  isplitl [Hl_2_1_2]; · iexact Hl_2_1_2
  isplitl [Hl_2_2_0]; · iexact Hl_2_2_0
  isplitl [Hl_2_2_1]; · iexact Hl_2_2_1
  isplitl [Hl_2_2_2]; · iexact Hl_2_2_2
  isplitl [Hl_3_0_0]; · iexact Hl_3_0_0
  isplitl [Hl_3_0_1]; · iexact Hl_3_0_1
  isplitl [Hl_3_0_2]; · iexact Hl_3_0_2
  isplitl [Hl_3_1_0]; · iexact Hl_3_1_0
  isplitl [Hl_3_1_1]; · iexact Hl_3_1_1
  isplitl [Hl_3_1_2]; · iexact Hl_3_1_2
  isplitl [Hl_3_2_0]; · iexact Hl_3_2_0
  isplitl [Hl_3_2_1]; · iexact Hl_3_2_1
  isplitl [Hl_3_2_2]; · iexact Hl_3_2_2
  isplitl [Hp_0_0]; · iexact Hp_0_0
  isplitl [Hp_0_1]; · iexact Hp_0_1
  isplitl [Hp_0_2]; · iexact Hp_0_2
  isplitl [Hp_1_0]; · iexact Hp_1_0
  isplitl [Hp_1_1]; · iexact Hp_1_1
  isplitl [Hp_1_2]; · iexact Hp_1_2
  isplitl [Hp_2_0]; · iexact Hp_2_0
  isplitl [Hp_2_1]; · iexact Hp_2_1
  isplitl [Hp_2_2]; · iexact Hp_2_2
  isplitl [Hp_3_0]; · iexact Hp_3_0
  isplitl [Hp_3_1]; · iexact Hp_3_1
  isplitl [Hp_3_2]; · iexact Hp_3_2
  isplitl [Hs_0_0_0]; · iexact Hs_0_0_0
  isplitl [Hs_0_0_1]; · iexact Hs_0_0_1
  isplitl [Hs_0_0_2]; · iexact Hs_0_0_2
  isplitl [Hs_0_1_0]; · iexact Hs_0_1_0
  isplitl [Hs_0_1_1]; · iexact Hs_0_1_1
  isplitl [Hs_0_1_2]; · iexact Hs_0_1_2
  isplitl [Hs_0_2_0]; · iexact Hs_0_2_0
  isplitl [Hs_0_2_1]; · iexact Hs_0_2_1
  isplitl [Hs_0_2_2]; · iexact Hs_0_2_2
  isplitl [Hs_1_0_0]; · iexact Hs_1_0_0
  isplitl [Hs_1_0_1]; · iexact Hs_1_0_1
  isplitl [Hs_1_0_2]; · iexact Hs_1_0_2
  isplitl [Hs_1_1_0]; · iexact Hs_1_1_0
  isplitl [Hs_1_1_1]; · iexact Hs_1_1_1
  isplitl [Hs_1_1_2]; · iexact Hs_1_1_2
  isplitl [Hs_1_2_0]; · iexact Hs_1_2_0
  isplitl [Hs_1_2_1]; · iexact Hs_1_2_1
  isplitl [Hs_1_2_2]; · iexact Hs_1_2_2
  isplitl [Hs_2_0_0]; · iexact Hs_2_0_0
  isplitl [Hs_2_0_1]; · iexact Hs_2_0_1
  isplitl [Hs_2_0_2]; · iexact Hs_2_0_2
  isplitl [Hs_2_1_0]; · iexact Hs_2_1_0
  isplitl [Hs_2_1_1]; · iexact Hs_2_1_1
  isplitl [Hs_2_1_2]; · iexact Hs_2_1_2
  isplitl [Hs_2_2_0]; · iexact Hs_2_2_0
  isplitl [Hs_2_2_1]; · iexact Hs_2_2_1
  isplitl [Hs_2_2_2]; · iexact Hs_2_2_2
  isplitl [Hs_3_0_0]; · iexact Hs_3_0_0
  isplitl [Hs_3_0_1]; · iexact Hs_3_0_1
  isplitl [Hs_3_0_2]; · iexact Hs_3_0_2
  isplitl [Hs_3_1_0]; · iexact Hs_3_1_0
  isplitl [Hs_3_1_1]; · iexact Hs_3_1_1
  isplitl [Hs_3_1_2]; · iexact Hs_3_1_2
  isplitl [Hs_3_2_0]; · iexact Hs_3_2_0
  isplitl [Hs_3_2_1]; · iexact Hs_3_2_1
  iexact Hs_3_2_2
end
end Cert.TreeProof
-- ==== Proof.Bufs.lean ====
module

public import proofs.«01_k».proof.Proof.Cells
public import proofs.«01_k».proof.Proof.Compose
public import Idealize.ShloMosaic.Lib.Pipeline.Kit
public import proofs.«01_k».proof.Proof.Gen.KernelIdeal.Launch

/-! # The kernel's buffers, cut into the exchange's regions and put together again -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

omit [FloatOps F] in
theorem univ4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, bigSep_insert (by decide), bigSep_insert (by decide), bigSep_insert (by decide), bigSep_singleton]
  rfl

omit [FloatOps F] in
theorem univ6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = insert 0 (insert 1 (insert 2 (insert 3 (insert 4 {5})))) from by decide, bigSep_insert (by decide), bigSep_insert (by decide),
    bigSep_insert (by decide), bigSep_insert (by decide), bigSep_insert (by decide), bigSep_singleton]
  rfl

/-- A square array's entries by row and column numbers, `d`'s beyond. -/
def wide {α : Type} (X : Shape.Idx ⟨2, ![1024, 1024]⟩ → α) (d : ℕ → ℕ → α) (i j : ℕ) : α :=
  if h : i < 1024 ∧ j < 1024 then X (Fin.cons ⟨i, h.1⟩ (Fin.cons ⟨j, h.2⟩ fun k => k.elim0)) else d i j
theorem wide_val {α : Type} (X : Shape.Idx ⟨2, ![1024, 1024]⟩ → α) (d : ℕ → ℕ → α) (x : Shape.Idx ⟨2, ![1024, 1024]⟩) :
    wide X d (x 0).val (x 1).val = X x := by
  unfold wide
  rw [dif_pos ⟨(x 0).isLt, (x 1).isLt⟩]
  refine congrArg X (funext fun a => ?_)
  match a with
  | ⟨0, _⟩ => rfl
  | ⟨1, _⟩ => rfl

section
variable {c : Dev nD}

section
variable {A B : ℕ} {e : EltTy} {M : Memref sig .tc .vmem ⟨2, ![A, B]⟩ e}

theorem rows_all : rows A B 0 A = Finset.univ := by
  ext x
  rw [mem_rows]
  refine iff_of_true ⟨Nat.zero_le _, ?_⟩ (Finset.mem_univ x)
  rw [Nat.zero_add]
  exact (x 0).isLt

omit [FloatOps F] in
theorem blk_of_owns {s : Shape} {N : Memref sig .tc .vmem s e} {X : s.Idx → Elt F e} :
    (owns (c : Thread nD τ) N fullShare X : sProp 𝕄) ⊢ blk c N Finset.univ X := by
  unfold owns blk
  iintro ⟨%f, %hf, H⟩
  iexists f
  isplitr
  · ipureintro; exact fun x _ => congrFun hf x
  · iexact H
omit [FloatOps F] in
theorem owns_of_blk {s : Shape} {N : Memref sig .tc .vmem s e} {X : s.Idx → Elt F e} :
    (blk c N Finset.univ X : sProp 𝕄) ⊢ owns (c : Thread nD τ) N fullShare X := by
  unfold owns blk
  iintro ⟨%f, %hf, H⟩
  iexists f
  isplitr
  · ipureintro; exact funext fun x => hf x (Finset.mem_univ x)
  · iexact H

omit [FloatOps F] in
theorem rb_of_owns {X : Shape.Idx ⟨2, ![A, B]⟩ → Elt F e} {v : ℕ → ℕ → Elt F e} (h : ∀ x, X x = v (x 0).val (x 1).val) :
    (owns (c : Thread nD τ) M fullShare X : sProp 𝕄) ⊢ rb c M 0 A v := by
  unfold rb
  rw [rows_all]
  exact blk_of_owns.trans (blk_congr fun x _ => h x)
omit [FloatOps F] in
theorem owns_of_rb {X : Shape.Idx ⟨2, ![A, B]⟩ → Elt F e} {v : ℕ → ℕ → Elt F e} (h : ∀ x, X x = v (x 0).val (x 1).val) :
    (rb c M 0 A v : sProp 𝕄) ⊢ owns (c : Thread nD τ) M fullShare X := by
  unfold rb
  rw [rows_all]
  exact (blk_congr fun x _ => (h x).symm).trans owns_of_blk

omit [FloatOps F] in
theorem rbx_of_owns : (iprop(∃ X, owns (c : Thread nD τ) M fullShare X) : sProp 𝕄) ⊢ rbx c M 0 A := by
  unfold rbx blkx
  rw [rows_all]
  iintro ⟨%X, H⟩
  iexists X
  iapply blk_of_owns
  iexact H
omit [FloatOps F] in
theorem owns_of_rbx : (rbx c M 0 A : sProp 𝕄) ⊢ iprop(∃ X, owns (c : Thread nD τ) M fullShare X) := by
  unfold rbx blkx
  rw [rows_all]
  iintro ⟨%X, H⟩
  iexists X
  iapply owns_of_blk
  iexact H

omit [FloatOps F] in
theorem owns_whole_eq (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) := by
  unfold owns
  simp only [Memref.view_whole, View.read_whole, View.set_whole]
  refine Entails.antisymm ?_ ?_
  · show iprop(∃ X, ∃ f : Buf (Elt F) ((c : Thread nD τ).loc b), ⌜f = X⌝ ∗ ((c : Thread nD τ).loc b) ↦{fullShare} f) ⊢ (_ : sProp 𝕄)
    iintro ⟨%X, %f, -, H⟩
    iexists f
    iexact H
  · show (_ : sProp 𝕄) ⊢ iprop(∃ X, ∃ f : Buf (Elt F) ((c : Thread nD τ).loc b), ⌜f = X⌝ ∗ ((c : Thread nD τ).loc b) ↦{fullShare} f)
    iintro ⟨%f, H⟩
    iexists f
    iexists f
    isplitr
    · ipureintro; rfl
    · iexact H

omit [FloatOps F] in
theorem four_split {n : ℕ} : (rbx c M 0 (n + (n + (n + n))) : sProp 𝕄) ⊢ bigSep Finset.univ fun g : Fin 4 => rbx c M (n * g.val) n := by
  rw [univ4]
  iintro H
  ihave H := (rbx_split (b := n * 1) (by omega)) $$ H
  icases H with ⟨H0, H⟩
  ihave H := (rbx_split (b := n * 2) (by omega)) $$ H
  icases H with ⟨H1, H⟩
  ihave H := (rbx_split (b := n * 3) (by omega)) $$ H
  icases H with ⟨H2, H3⟩
  isplitl [H0]; · iexact H0
  isplitl [H1]; · iexact H1
  isplitl [H2]; · iexact H2
  iexact H3
omit [FloatOps F] in
theorem four_join {n : ℕ} : (bigSep Finset.univ fun g : Fin 4 => rbx c M (n * g.val) n : sProp 𝕄) ⊢ rbx c M 0 (n + (n + (n + n))) := by
  rw [univ4]
  iintro ⟨H0, H1, H2, H3⟩
  iapply (rbx_join (b := n * 1) (by omega))
  isplitl [H0]; · iexact H0
  iapply (rbx_join (b := n * 2) (by omega))
  isplitl [H1]; · iexact H1
  iapply (rbx_join (b := n * 3) (by omega))
  isplitl [H2]; · iexact H2
  iexact H3

omit [FloatOps F] in
/-- What is kept after `k` halvings is what is kept after one more beside what is sent. -/
theorem half_split (g : Fin 4) (p k : Fin 3) : (rbx c M (256 * g.val + keep c p k.val) (256 / 2 ^ k.val) : sProp 𝕄)
    ⊢ iprop(rbx c M (256 * g.val + keep c p (k.val + 1)) (256 / 2 ^ (k.val + 1)) ∗ rbx c M (256 * g.val + snt c p k.val) (sz k.val)) := by
  obtain ⟨h, h1, h2⟩ := halves c p k
  rw [h1, h2]
  rcases h with ⟨ha, hb⟩ | ⟨ha, hb⟩
  · rw [ha, hb]
    exact rbx_split (by omega)
  · rw [ha, hb]
    refine (rbx_split (b := 256 * g.val + (keep c p k.val + sz k.val)) (by omega)).trans ?_
    iintro ⟨H1, H2⟩
    isplitl [H2] <;> iassumption
omit [FloatOps F] in
theorem half_join (g : Fin 4) (p k : Fin 3) : (iprop(rbx c M (256 * g.val + keep c p (k.val + 1)) (256 / 2 ^ (k.val + 1)) ∗ rbx c M (256 * g.val + snt c p k.val) (sz k.val)) : sProp 𝕄)
    ⊢ rbx c M (256 * g.val + keep c p k.val) (256 / 2 ^ k.val) := by
  obtain ⟨h, h1, h2⟩ := halves c p k
  rw [h1, h2]
  rcases h with ⟨ha, hb⟩ | ⟨ha, hb⟩
  · rw [ha, hb]
    exact rbx_join (by omega)
  · rw [ha, hb]
    refine BIBase.Entails.trans ?_ (rbx_join (b := 256 * g.val + (keep c p k.val + sz k.val)) (by omega))
    iintro ⟨H1, H2⟩
    isplitl [H2] <;> iassumption

omit [FloatOps F] in
/-- A group's rows as the three parts sent and what is left. -/
theorem group_split (g : Fin 4) (p : Fin 3) : (rbx c M (256 * g.val) 256 : sProp 𝕄)
    ⊢ iprop(rbx c M (256 * g.val + keep c p 3) 32 ∗ rbx c M (256 * g.val + snt c p 0) (sz 0) ∗ rbx c M (256 * g.val + snt c p 1) (sz 1) ∗ rbx c M (256 * g.val + snt c p 2) (sz 2)) := by
  iintro H
  ihave H := (show (rbx c M (256 * g.val) 256 : sProp 𝕄) ⊢ iprop(rbx c M (256 * g.val + keep c p 1) 128 ∗ rbx c M (256 * g.val + snt c p 0) (sz 0)) from half_split g p 0) $$ H
  icases H with ⟨H, H0⟩
  ihave H := (show (rbx c M (256 * g.val + keep c p 1) 128 : sProp 𝕄) ⊢ iprop(rbx c M (256 * g.val + keep c p 2) 64 ∗ rbx c M (256 * g.val + snt c p 1) (sz 1)) from half_split g p 1) $$ H
  icases H with ⟨H, H1⟩
  ihave H := (show (rbx c M (256 * g.val + keep c p 2) 64 : sProp 𝕄) ⊢ iprop(rbx c M (256 * g.val + keep c p 3) 32 ∗ rbx c M (256 * g.val + snt c p 2) (sz 2)) from half_split g p 2) $$ H
  icases H with ⟨H, H2⟩
  isplitl [H]; · iexact H
  isplitl [H0]; · iexact H0
  isplitl [H1]; · iexact H1
  iexact H2
omit [FloatOps F] in
theorem group_join (g : Fin 4) (p : Fin 3) : (iprop(rbx c M (256 * g.val + keep c p 3) 32 ∗ rbx c M (256 * g.val + snt c p 0) (sz 0) ∗ rbx c M (256 * g.val + snt c p 1) (sz 1) ∗ rbx c M (256 * g.val + snt c p 2) (sz 2)) : sProp 𝕄)
    ⊢ rbx c M (256 * g.val) 256 := by
  iintro ⟨H, H0, H1, H2⟩
  iapply (show (iprop(rbx c M (256 * g.val + keep c p 1) 128 ∗ rbx c M (256 * g.val + snt c p 0) (sz 0)) : sProp 𝕄) ⊢ rbx c M (256 * g.val) 256 from half_join g p 0)
  isplitr [H0]
  · iapply (show (iprop(rbx c M (256 * g.val + keep c p 2) 64 ∗ rbx c M (256 * g.val + snt c p 1) (sz 1)) : sProp 𝕄) ⊢ rbx c M (256 * g.val + keep c p 1) 128 from half_join g p 1)
    isplitr [H1]
    · iapply (show (iprop(rbx c M (256 * g.val + keep c p 3) 32 ∗ rbx c M (256 * g.val + snt c p 2) (sz 2)) : sProp 𝕄) ⊢ rbx c M (256 * g.val + keep c p 2) 64 from half_join g p 2)
      isplitl [H]; · iexact H
      iexact H2
    · iexact H1
  · iexact H0
omit [FloatOps F] in
/-- A group's landing slots. -/
theorem slots_split (g : Fin 4) : (rbx c M (224 * g.val) 224 : sProp 𝕄)
    ⊢ iprop(rbx c M (224 * g.val + slot 0) (sz 0) ∗ rbx c M (224 * g.val + slot 1) (sz 1) ∗ rbx c M (224 * g.val + slot 2) (sz 2)) := by
  iintro H
  ihave H := (rbx_split (n := 128) (m := 64 + 32) (b := 224 * g.val + 128) rfl) $$ H
  icases H with ⟨H0, H⟩
  ihave H := (rbx_split (n := 64) (m := 32) (b := 224 * g.val + 192) (by omega)) $$ H
  icases H with ⟨H1, H2⟩
  isplitl [H0]; · iexact H0
  isplitl [H1]; · iexact H1
  iexact H2
omit [FloatOps F] in
theorem slots_join (g : Fin 4) : (iprop(rbx c M (224 * g.val + slot 0) (sz 0) ∗ rbx c M (224 * g.val + slot 1) (sz 1) ∗ rbx c M (224 * g.val + slot 2) (sz 2)) : sProp 𝕄)
    ⊢ rbx c M (224 * g.val) 224 := by
  iintro ⟨H0, H1, H2⟩
  iapply (rbx_join (n := 128) (m := 64 + 32) (b := 224 * g.val + 128) rfl)
  isplitl [H0]; · iexact H0
  iapply (rbx_join (n := 64) (m := 32) (b := 224 * g.val + 192) (by omega))
  isplitl [H1]; · iexact H1
  iexact H2
end

/-! ## The scratch buffers -/

def Room (c : Dev nD) : sProp 𝕄 :=
  iprop(rbx c aM 0 1024 ∗ rbx c qM 0 1024 ∗ rbx c kM 0 1024 ∗ rbx c vM 0 1024 ∗ (bigSep Finset.univ fun p : Fin 3 => rbx c (pM p) 0 1024)
    ∗ (bigSep Finset.univ fun p : Fin 3 => rbx c (rM p) 0 896) ∗ bigSep Finset.univ fun p : Fin 3 => rbx c (gM p) 0 1024)

omit [FloatOps F] in
theorem room_of : (Pipeline.scopedRest (Ix := Unit) (Name := ℕ) (U := UU) (Lvl := ℕ) (Val := Elt F) spec0 c : sProp 𝕄) ⊢ Room c := by
  rw [scopedRest0_eq]
  simp only [← owns_whole_eq]
  unfold Room
  simp only [univ3]
  iintro ⟨H0, H1, H2, H3, H4, H5, H6, H7, H8, H9, H10, H11, H12⟩
  ihave H0 := (show (iprop(∃ X, owns (c : Thread nD τ) (Memref.whole cc0_scratch0) fullShare X) : sProp 𝕄) ⊢ rbx c aM 0 1024 from rbx_of_owns) $$ H0
  ihave H1 := (show (iprop(∃ X, owns (c : Thread nD τ) (Memref.whole cc0_scratch1) fullShare X) : sProp 𝕄) ⊢ rbx c qM 0 1024 from rbx_of_owns) $$ H1
  ihave H2 := (show (iprop(∃ X, owns (c : Thread nD τ) (Memref.whole cc0_scratch2) fullShare X) : sProp 𝕄) ⊢ rbx c kM 0 1024 from rbx_of_owns) $$ H2
  ihave H3 := (show (iprop(∃ X, owns (c : Thread nD τ) (Memref.whole cc0_scratch3) fullShare X) : sProp 𝕄) ⊢ rbx c vM 0 1024 from rbx_of_owns) $$ H3
  ihave H4 := (show (iprop(∃ X, owns (c : Thread nD τ) (Memref.whole cc0_scratch4) fullShare X) : sProp 𝕄) ⊢ rbx c (pM 0) 0 1024 from rbx_of_owns) $$ H4
  ihave H5 := (show (iprop(∃ X, owns (c : Thread nD τ) (Memref.whole cc0_scratch5) fullShare X) : sProp 𝕄) ⊢ rbx c (pM 1) 0 1024 from rbx_of_owns) $$ H5
  ihave H6 := (show (iprop(∃ X, owns (c : Thread nD τ) (Memref.whole cc0_scratch6) fullShare X) : sProp 𝕄) ⊢ rbx c (pM 2) 0 1024 from rbx_of_owns) $$ H6
  ihave H7 := (show (iprop(∃ X, owns (c : Thread nD τ) (Memref.whole cc0_scratch7) fullShare X) : sProp 𝕄) ⊢ rbx c (rM 0) 0 896 from rbx_of_owns) $$ H7
  ihave H8 := (show (iprop(∃ X, owns (c : Thread nD τ) (Memref.whole cc0_scratch8) fullShare X) : sProp 𝕄) ⊢ rbx c (rM 1) 0 896 from rbx_of_owns) $$ H8
  ihave H9 := (show (iprop(∃ X, owns (c : Thread nD τ) (Memref.whole cc0_scratch9) fullShare X) : sProp 𝕄) ⊢ rbx c (rM 2) 0 896 from rbx_of_owns) $$ H9
  ihave H10 := (show (iprop(∃ X, owns (c : Thread nD τ) (Memref.whole cc0_scratch10) fullShare X) : sProp 𝕄) ⊢ rbx c (gM 0) 0 1024 from rbx_of_owns) $$ H10
  ihave H11 := (show (iprop(∃ X, owns (c : Thread nD τ) (Memref.whole cc0_scratch11) fullShare X) : sProp 𝕄) ⊢ rbx c (gM 1) 0 1024 from rbx_of_owns) $$ H11
  ihave H12 := (show (iprop(∃ X, owns (c : Thread nD τ) (Memref.whole cc0_scratch12) fullShare X) : sProp 𝕄) ⊢ rbx c (gM 2) 0 1024 from rbx_of_owns) $$ H12
  isplitl [H0]; · iexact H0
  isplitl [H1]; · iexact H1
  isplitl [H2]; · iexact H2
  isplitl [H3]; · iexact H3
  isplitl [H4 H5 H6]
  · isplitl [H4]; · iexact H4
    isplitl [H5]; · iexact H5
    iexact H6
  isplitl [H7 H8 H9]
  · isplitl [H7]; · iexact H7
    isplitl [H8]; · iexact H8
    iexact H9
  isplitl [H10]; · iexact H10
  isplitl [H11]; · iexact H11
  iexact H12

omit [FloatOps F] in
theorem of_room : (Room c : sProp 𝕄) ⊢ Pipeline.scopedRest (Ix := Unit) (Name := ℕ) (U := UU) (Lvl := ℕ) (Val := Elt F) spec0 c := by
  rw [scopedRest0_eq]
  simp only [← owns_whole_eq]
  unfold Room
  simp only [univ3]
  iintro ⟨H0, H1, H2, H3, ⟨H4, H5, H6⟩, ⟨H7, H8, H9⟩, H10, H11, H12⟩
  ihave H0 := (show (rbx c aM 0 1024 : sProp 𝕄) ⊢ iprop(∃ X, owns (c : Thread nD τ) (Memref.whole cc0_scratch0) fullShare X) from owns_of_rbx) $$ H0
  ihave H1 := (show (rbx c qM 0 1024 : sProp 𝕄) ⊢ iprop(∃ X, owns (c : Thread nD τ) (Memref.whole cc0_scratch1) fullShare X) from owns_of_rbx) $$ H1
  ihave H2 := (show (rbx c kM 0 1024 : sProp 𝕄) ⊢ iprop(∃ X, owns (c : Thread nD τ) (Memref.whole cc0_scratch2) fullShare X) from owns_of_rbx) $$ H2
  ihave H3 := (show (rbx c vM 0 1024 : sProp 𝕄) ⊢ iprop(∃ X, owns (c : Thread nD τ) (Memref.whole cc0_scratch3) fullShare X) from owns_of_rbx) $$ H3
  ihave H4 := (show (rbx c (pM 0) 0 1024 : sProp 𝕄) ⊢ iprop(∃ X, owns (c : Thread nD τ) (Memref.whole cc0_scratch4) fullShare X) from owns_of_rbx) $$ H4
  ihave H5 := (show (rbx c (pM 1) 0 1024 : sProp 𝕄) ⊢ iprop(∃ X, owns (c : Thread nD τ) (Memref.whole cc0_scratch5) fullShare X) from owns_of_rbx) $$ H5
  ihave H6 := (show (rbx c (pM 2) 0 1024 : sProp 𝕄) ⊢ iprop(∃ X, owns (c : Thread nD τ) (Memref.whole cc0_scratch6) fullShare X) from owns_of_rbx) $$ H6
  ihave H7 := (show (rbx c (rM 0) 0 896 : sProp 𝕄) ⊢ iprop(∃ X, owns (c : Thread nD τ) (Memref.whole cc0_scratch7) fullShare X) from owns_of_rbx) $$ H7
  ihave H8 := (show (rbx c (rM 1) 0 896 : sProp 𝕄) ⊢ iprop(∃ X, owns (c : Thread nD τ) (Memref.whole cc0_scratch8) fullShare X) from owns_of_rbx) $$ H8
  ihave H9 := (show (rbx c (rM 2) 0 896 : sProp 𝕄) ⊢ iprop(∃ X, owns (c : Thread nD τ) (Memref.whole cc0_scratch9) fullShare X) from owns_of_rbx) $$ H9
  ihave H10 := (show (rbx c (gM 0) 0 1024 : sProp 𝕄) ⊢ iprop(∃ X, owns (c : Thread nD τ) (Memref.whole cc0_scratch10) fullShare X) from owns_of_rbx) $$ H10
  ihave H11 := (show (rbx c (gM 1) 0 1024 : sProp 𝕄) ⊢ iprop(∃ X, owns (c : Thread nD τ) (Memref.whole cc0_scratch11) fullShare X) from owns_of_rbx) $$ H11
  ihave H12 := (show (rbx c (gM 2) 0 1024 : sProp 𝕄) ⊢ iprop(∃ X, owns (c : Thread nD τ) (Memref.whole cc0_scratch12) fullShare X) from owns_of_rbx) $$ H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

omit [FloatOps F] in
theorem lands_of : (iprop((bigSep Finset.univ fun g : Fin 4 => bigSep Finset.univ fun p : Fin 3 => iprop(land (F := F) c (0, g, p) ∗ land c (1, g, p) ∗ land c (2, g, p)))
      ∗ bigSep Finset.univ fun g : Fin 4 => bigSep Finset.univ fun p : Fin 3 => iprop(land c (5, g, p) ∗ land c (4, g, p) ∗ land c (3, g, p))) : sProp 𝕄)
    ⊢ bigSep Finset.univ fun t : Tri => land c t := by
  rw [bigSep_univ_prod]
  simp only [bigSep_univ_prod (α := Fin 4) (β := Fin 3)]
  rw [univ6]
  simp only [bigSep_sep']
  iintro ⟨⟨H0, H1, H2⟩, H5, H4, H3⟩
  isplitl [H0]; · iexact H0
  isplitl [H1]; · iexact H1
  isplitl [H2]; · iexact H2
  isplitl [H3]; · iexact H3
  isplitl [H4]; · iexact H4
  iexact H5

omit [FloatOps F] in
theorem gather_split : (bigSep Finset.univ fun p : Fin 3 => rbx (F := F) c (gM p) 0 1024 : sProp 𝕄)
    ⊢ iprop((bigSep Finset.univ fun g : Fin 4 => bigSep Finset.univ fun p : Fin 3 => gJ (F := F) c g p)
      ∗ bigSep Finset.univ fun g : Fin 4 => bigSep Finset.univ fun p : Fin 3 => iprop(land (F := F) c (5, g, p) ∗ land c (4, g, p) ∗ land c (3, g, p))) := by
  refine (bigSep_mono fun p _ => (four_split (n := 256)).trans (bigSep_mono fun g _ => group_split g p)).trans ?_
  rw [bigSep_univ_comm]
  simp only [bigSep_sep']
  exact Idealize.SL.BI.Entails.refl _

omit [FloatOps F] in
theorem slot_split : (bigSep Finset.univ fun p : Fin 3 => rbx (F := F) c (rM p) 0 896 : sProp 𝕄)
    ⊢ bigSep Finset.univ fun g : Fin 4 => bigSep Finset.univ fun p : Fin 3 => iprop(land (F := F) c (0, g, p) ∗ land c (1, g, p) ∗ land c (2, g, p)) := by
  refine (bigSep_mono fun p _ => (four_split (n := 224)).trans (bigSep_mono fun g _ => slots_split g)).trans ?_
  rw [bigSep_univ_comm]
  exact Idealize.SL.BI.Entails.refl _

omit [FloatOps F] in
theorem parts_split : (bigSep Finset.univ fun p : Fin 3 => rbx (F := F) c (pM p) 0 1024 : sProp 𝕄)
    ⊢ bigSep Finset.univ fun g : Fin 4 => bigSep Finset.univ fun p : Fin 3 => pJ (F := F) c g p := by
  refine (bigSep_mono fun p _ => (four_split (n := 256))).trans ?_
  rw [bigSep_univ_comm]
  exact Idealize.SL.BI.Entails.refl _

variable (I : Dev nD → Ins F)

theorem at_start (g : Fin 4) : (rbx (F := F) c aM (256 * g.val) 256 : sProp 𝕄) ⊢ At I c g 0 := by
  unfold At rbx blkx rb
  iintro ⟨%v, H⟩
  iexists (wide v (I c).attn)
  isplitr
  · ipureintro; exact fun i j _ _ h => absurd h (by omega)
  · iapply (blk_congr fun x _ => (wide_val _ _ x).symm) $$ H
theorem at_split : (rbx (F := F) c aM 0 1024 : sProp 𝕄) ⊢ bigSep Finset.univ fun g : Fin 4 => At I c g 0 :=
  (four_split (n := 256)).trans (bigSep_mono fun g _ => at_start I g)

/-- The result's buffer before anything is in place. -/
theorem ot_start {M : Memref sig .tc .vmem ⟨2, ![1024, 1024]⟩ .f32} {X : Shape.Idx ⟨2, ![1024, 1024]⟩ → Elt F .f32} :
    (owns (c : Thread nD τ) M fullShare X : sProp 𝕄) ⊢ Ot I c M 0 := by
  unfold Ot
  iintro H
  iexists (wide X (ov I))
  isplitr
  · ipureintro; exact fun i j _ _ h => absurd h (by omega)
  · iapply (rb_of_owns (X := X) fun x => (wide_val _ _ x).symm) $$ H
/-- The result's buffer at the end. -/
theorem ot_end {M : Memref sig .tc .vmem ⟨2, ![1024, 1024]⟩ .f32} :
    (Ot I c M 12 : sProp 𝕄) ⊢ owns (c : Thread nD τ) M fullShare (fun x => ov I (x 0).val (x 1).val) := by
  unfold Ot
  iintro ⟨%u, %h, H⟩
  ihave H := (owns_of_rb (X := fun x => u (x 0).val (x 1).val) (v := u) fun x => rfl) $$ H
  rw [show (fun x : Shape.Idx ⟨2, ![1024, 1024]⟩ => ov I (x 0).val (x 1).val) = fun x => u (x 0).val (x 1).val from
    funext fun x => (h _ _ (x 0).isLt (x 1).isLt (by
      have h0 : (x 0).val < 1024 := (x 0).isLt
      have h1 : (x 1).val < 1024 := (x 1).isLt
      omega)).symm]
  iexact H

/-- The regions a device starts with. -/
def Cut : sProp 𝕄 :=
  iprop((bigSep Finset.univ fun t : Tri => land c t) ∗ rbx c kM 0 1024 ∗ rbx c qM 0 1024 ∗ rbx c vM 0 1024 ∗ (bigSep Finset.univ fun g : Fin 4 => At I c g 0)
    ∗ (bigSep Finset.univ fun g : Fin 4 => bigSep Finset.univ fun p : Fin 3 => gJ c g p) ∗ (bigSep Finset.univ fun g : Fin 4 => bigSep Finset.univ fun p : Fin 3 => pJ c g p))
theorem room_cut : (Room c : sProp 𝕄) ⊢ Cut (c := c) I := by
  unfold Room Cut
  iintro ⟨Ha, Hq, Hk, Hv, Hp, Hr, Hg⟩
  ihave Ha := (at_split I) $$ Ha
  ihave Hp := parts_split $$ Hp
  ihave Hr := slot_split $$ Hr
  ihave Hg := gather_split $$ Hg
  icases Hg with ⟨Hj, Hg⟩
  isplitl [Hr Hg]
  · iapply lands_of
    isplitl [Hr] <;> iassumption
  isplitl [Hk]; · iexact Hk
  isplitl [Hq]; · iexact Hq
  isplitl [Hv]; · iexact Hv
  isplitl [Ha]; · iexact Ha
  isplitl [Hj] <;> iassumption

/-- The regions it ends with. -/
def Mended : sProp 𝕄 :=
  iprop(rb c kM 0 1024 (I c).k ∗ rb c qM 0 1024 (I c).q ∗ rb c vM 0 1024 (I c).v ∗ (bigSep Finset.univ fun g : Fin 4 => At I c g 8)
    ∗ (bigSep Finset.univ fun g : Fin 4 => bigSep Finset.univ fun p : Fin 3 => gK (PP I) c g p 0)
    ∗ (bigSep Finset.univ fun g : Fin 4 => bigSep Finset.univ fun p : Fin 3 => iprop(rL (PP I) c g p 0 ∗ rL (PP I) c g p 1 ∗ rL (PP I) c g p 2))
    ∗ (bigSep Finset.univ fun g : Fin 4 => bigSep Finset.univ fun p : Fin 3 => pK (PP I) c g p 3 3)
    ∗ (bigSep Finset.univ fun g : Fin 4 => bigSep Finset.univ fun p : Fin 3 => iprop(pS (F := F) c g p 0 ∗ pS c g p 1 ∗ pS c g p 2)))

theorem at_back (g : Fin 4) : (At I c g 8 : sProp 𝕄) ⊢ rbx c aM (256 * g.val) 256 := by
  unfold At
  iintro ⟨%u, -, H⟩
  iapply rb_forget
  iexact H
theorem gather_back (g : Fin 4) (p : Fin 3) : (gK (PP I) c g p 0 : sProp 𝕄) ⊢ rbx c (gM p) (256 * g.val) 256 := by
  unfold gK; exact rb_forget
theorem slot_back (g : Fin 4) (p : Fin 3) : (iprop(rL (PP I) c g p 0 ∗ rL (PP I) c g p 1 ∗ rL (PP I) c g p 2) : sProp 𝕄) ⊢ rbx c (rM p) (224 * g.val) 224 :=
  (BIClass.sep_mono rb_forget (BIClass.sep_mono rb_forget rb_forget)).trans (slots_join g)
theorem parts_back (g : Fin 4) (p : Fin 3) : (iprop(pK (PP I) c g p 3 3 ∗ pS c g p 0 ∗ pS c g p 1 ∗ pS c g p 2) : sProp 𝕄) ⊢ rbx c (pM p) (256 * g.val) 256 :=
  (BIClass.sep_mono rb_forget .rfl).trans (group_join g p)

theorem room_mend : (Mended (c := c) I : sProp 𝕄) ⊢ Room c := by
  have e1 : (iprop((bigSep Finset.univ fun g : Fin 4 => bigSep Finset.univ fun p : Fin 3 => pK (PP I) c g p 3 3)
      ∗ bigSep Finset.univ fun g : Fin 4 => bigSep Finset.univ fun p : Fin 3 => iprop(pS c g p 0 ∗ pS c g p 1 ∗ pS c g p 2)) : sProp 𝕄)
      ⊢ bigSep Finset.univ fun p : Fin 3 => rbx c (pM p) 0 1024 := by
    rw [← bigSep_sep']
    simp only [← bigSep_sep']
    rw [bigSep_univ_comm]
    exact bigSep_mono fun p _ => (bigSep_mono fun g _ => parts_back I g p).trans (four_join (n := 256))
  have e2 : (bigSep Finset.univ fun g : Fin 4 => bigSep Finset.univ fun p : Fin 3 => iprop(rL (PP I) c g p 0 ∗ rL (PP I) c g p 1 ∗ rL (PP I) c g p 2) : sProp 𝕄)
      ⊢ bigSep Finset.univ fun p : Fin 3 => rbx c (rM p) 0 896 := by
    rw [bigSep_univ_comm]
    exact bigSep_mono fun p _ => (bigSep_mono fun g _ => slot_back I g p).trans (four_join (n := 224))
  have e3 : (bigSep Finset.univ fun g : Fin 4 => bigSep Finset.univ fun p : Fin 3 => gK (PP I) c g p 0 : sProp 𝕄)
      ⊢ bigSep Finset.univ fun p : Fin 3 => rbx c (gM p) 0 1024 := by
    rw [bigSep_univ_comm]
    exact bigSep_mono fun p _ => (bigSep_mono fun g _ => gather_back I g p).trans (four_join (n := 256))
  have e4 : (bigSep Finset.univ fun g : Fin 4 => At I c g 8 : sProp 𝕄) ⊢ rbx c aM 0 1024 := (bigSep_mono fun g _ => at_back I g).trans (four_join (n := 256))
  unfold Mended Room
  iintro ⟨Hk, Hq, Hv, Ha, Hg, Hr, Hp, Hs⟩
  isplitl [Ha]; · iapply e4; iexact Ha
  isplitl [Hq]; · iapply rb_forget; iexact Hq
  isplitl [Hk]; · iapply rb_forget; iexact Hk
  isplitl [Hv]; · iapply rb_forget; iexact Hv
  isplitl [Hp Hs]
  · iapply e1
    isplitl [Hp] <;> iassumption
  isplitl [Hr]; · iapply e2; iexact Hr
  iapply e3; iexact Hg
end

section
set_option maxHeartbeats 1600000
variable (I : Dev nD → Ins F) (c : Dev nD)
  (A0 : Memref sig .tc .vmem S4x256x1024 .f32) (A1 : Memref sig .tc .vmem S1024x1024 .f32)
  (A2 : Memref sig .tc .vmem S1024x1024 .f32) (A3 : Memref sig .tc .vmem S1024x256 .f32)
  (A4 : Memref sig .tc .vmem S1024x256 .f32) (A5 : Memref sig .tc .vmem S1024x1024 .f32)

/-- The operands in their windows. -/
def Wins : sProp 𝕄 :=
  iprop(rb c A1 0 1024 (I c).wq ∗ rb c A2 0 1024 (I c).wo ∗ rb c A3 0 1024 (I c).wk ∗ rb c A4 0 1024 (I c).wv ∗ blk c A0 Finset.univ (I c).x)

theorem body0_intro :
    iprop((∃ W, owes (c : Thread nD τ) (O₀ c) W) ∗ Held c ∗ Room c ∗ Wins I c A0 A1 A2 A3 A4 ∗ Ot I c A5 0) ⊢ (Body0 I c A0 A1 A2 A3 A4 A5 : sProp 𝕄) := by
  have hc := room_cut (c := c) I
  unfold Wins Body0
  iintro ⟨HO, Hh, Hr, ⟨Hw1, Hw2, Hw3, Hw4, Hx⟩, Ho⟩
  ihave Hr := hc $$ Hr
  unfold Cut
  simp only [univ4, univ3]
  icases Hr with ⟨Hl, Hk, Hq, Hv, ⟨Ha_0, Ha_1, Ha_2, Ha_3⟩, ⟨⟨Hg_0_0, Hg_0_1, Hg_0_2⟩, ⟨Hg_1_0, Hg_1_1, Hg_1_2⟩, ⟨Hg_2_0, Hg_2_1, Hg_2_2⟩, ⟨Hg_3_0, Hg_3_1, Hg_3_2⟩⟩, ⟨⟨Hp_0_0, Hp_0_1, Hp_0_2⟩, ⟨Hp_1_0, Hp_1_1, Hp_1_2⟩, ⟨Hp_2_0, Hp_2_1, Hp_2_2⟩, ⟨Hp_3_0, Hp_3_1, Hp_3_2⟩⟩⟩
  isplitl [HO Hh Hl]
  · iapply (init_intro c)
    isplitl [HO]; · iexact HO
    isplitl [Hh] <;> iassumption
  isplitl [Hk]; · iexact Hk
  isplitl [Ho]; · iexact Ho
  isplitl [Hq]; · iexact Hq
  isplitl [Hv]; · iexact Hv
  isplitl [Hw1]; · iexact Hw1
  isplitl [Hw2]; · iexact Hw2
  isplitl [Hw3]; · iexact Hw3
  isplitl [Hw4]; · iexact Hw4
  isplitl [Hx]; · iexact Hx
  isplitl [Ha_0]; · iexact Ha_0
  isplitl [Ha_1]; · iexact Ha_1
  isplitl [Ha_2]; · iexact Ha_2
  isplitl [Ha_3]; · iexact Ha_3
  isplitl [Hg_0_0]; · iexact Hg_0_0
  isplitl [Hg_0_1]; · iexact Hg_0_1
  isplitl [Hg_0_2]; · iexact Hg_0_2
  isplitl [Hg_1_0]; · iexact Hg_1_0
  isplitl [Hg_1_1]; · iexact Hg_1_1
  isplitl [Hg_1_2]; · iexact Hg_1_2
  isplitl [Hg_2_0]; · iexact Hg_2_0
  isplitl [Hg_2_1]; · iexact Hg_2_1
  isplitl [Hg_2_2]; · iexact Hg_2_2
  isplitl [Hg_3_0]; · iexact Hg_3_0
  isplitl [Hg_3_1]; · iexact Hg_3_1
  isplitl [Hg_3_2]; · iexact Hg_3_2
  isplitl [Hp_0_0]; · iexact Hp_0_0
  isplitl [Hp_0_1]; · iexact Hp_0_1
  isplitl [Hp_0_2]; · iexact Hp_0_2
  isplitl [Hp_1_0]; · iexact Hp_1_0
  isplitl [Hp_1_1]; · iexact Hp_1_1
  isplitl [Hp_1_2]; · iexact Hp_1_2
  isplitl [Hp_2_0]; · iexact Hp_2_0
  isplitl [Hp_2_1]; · iexact Hp_2_1
  isplitl [Hp_2_2]; · iexact Hp_2_2
  isplitl [Hp_3_0]; · iexact Hp_3_0
  isplitl [Hp_3_1]; · iexact Hp_3_1
  iexact Hp_3_2

theorem body3_elim : (Body3 I c A0 A1 A2 A3 A4 A5 : sProp 𝕄) ⊢ iprop(Comm c 72 72 72 ∗ bEnd c ∗ Room c ∗ Wins I c A0 A1 A2 A3 A4 ∗ Ot I c A5 12) := by
  have hm := room_mend (c := c) I
  unfold Wins Body3
  iintro ⟨HC, HB, Hk, Ho, Hq, Hv, Hw1, Hw2, Hw3, Hw4, Hx, Ha_0, Ha_1, Ha_2, Ha_3, Hg_0_0, Hg_0_1, Hg_0_2, Hg_1_0, Hg_1_1, Hg_1_2, Hg_2_0, Hg_2_1, Hg_2_2, Hg_3_0, Hg_3_1, Hg_3_2, Hl_0_0_0, Hl_0_0_1, Hl_0_0_2, Hl_0_1_0, Hl_0_1_1, Hl_0_1_2, Hl_0_2_0, Hl_0_2_1, Hl_0_2_2, Hl_1_0_0, Hl_1_0_1, Hl_1_0_2, Hl_1_1_0, Hl_1_1_1, Hl_1_1_2, Hl_1_2_0, Hl_1_2_1, Hl_1_2_2, Hl_2_0_0, Hl_2_0_1, Hl_2_0_2, Hl_2_1_0, Hl_2_1_1, Hl_2_1_2, Hl_2_2_0, Hl_2_2_1, Hl_2_2_2, Hl_3_0_0, Hl_3_0_1, Hl_3_0_2, Hl_3_1_0, Hl_3_1_1, Hl_3_1_2, Hl_3_2_0, Hl_3_2_1, Hl_3_2_2, Hp_0_0, Hp_0_1, Hp_0_2, Hp_1_0, Hp_1_1, Hp_1_2, Hp_2_0, Hp_2_1, Hp_2_2, Hp_3_0, Hp_3_1, Hp_3_2, Hs_0_0_0, Hs_0_0_1, Hs_0_0_2, Hs_0_1_0, Hs_0_1_1, Hs_0_1_2, Hs_0_2_0, Hs_0_2_1, Hs_0_2_2, Hs_1_0_0, Hs_1_0_1, Hs_1_0_2, Hs_1_1_0, Hs_1_1_1, Hs_1_1_2, Hs_1_2_0, Hs_1_2_1, Hs_1_2_2, Hs_2_0_0, Hs_2_0_1, Hs_2_0_2, Hs_2_1_0, Hs_2_1_1, Hs_2_1_2, Hs_2_2_0, Hs_2_2_1, Hs_2_2_2, Hs_3_0_0, Hs_3_0_1, Hs_3_0_2, Hs_3_1_0, Hs_3_1_1, Hs_3_1_2, Hs_3_2_0, Hs_3_2_1, Hs_3_2_2⟩
  isplitl [HC]; · iexact HC
  isplitl [HB]; · iexact HB
  isplitr [Hw1 Hw2 Hw3 Hw4 Hx Ho]
  · iapply hm
    unfold Mended
    simp only [univ4, univ3]
    isplitl [Hk]; · iexact Hk
    isplitl [Hq]; · iexact Hq
    isplitl [Hv]; · iexact Hv
    isplitl [Ha_0 Ha_1 Ha_2 Ha_3]
    · isplitl [Ha_0]; · iexact Ha_0
      isplitl [Ha_1]; · iexact Ha_1
      isplitl [Ha_2]; · iexact Ha_2
      iexact Ha_3
    isplitl [Hg_0_0 Hg_0_1 Hg_0_2 Hg_1_0 Hg_1_1 Hg_1_2 Hg_2_0 Hg_2_1 Hg_2_2 Hg_3_0 Hg_3_1 Hg_3_2]
    · isplitl [Hg_0_0 Hg_0_1 Hg_0_2]
      · isplitl [Hg_0_0]; · iexact Hg_0_0
        isplitl [Hg_0_1]; · iexact Hg_0_1
        iexact Hg_0_2
      isplitl [Hg_1_0 Hg_1_1 Hg_1_2]
      · isplitl [Hg_1_0]; · iexact Hg_1_0
        isplitl [Hg_1_1]; · iexact Hg_1_1
        iexact Hg_1_2
      isplitl [Hg_2_0 Hg_2_1 Hg_2_2]
      · isplitl [Hg_2_0]; · iexact Hg_2_0
        isplitl [Hg_2_1]; · iexact Hg_2_1
        iexact Hg_2_2
      isplitl [Hg_3_0]; · iexact Hg_3_0
      isplitl [Hg_3_1]; · iexact Hg_3_1
      iexact Hg_3_2
    isplitl [Hl_0_0_0 Hl_0_0_1 Hl_0_0_2 Hl_0_1_0 Hl_0_1_1 Hl_0_1_2 Hl_0_2_0 Hl_0_2_1 Hl_0_2_2 Hl_1_0_0 Hl_1_0_1 Hl_1_0_2 Hl_1_1_0 Hl_1_1_1 Hl_1_1_2 Hl_1_2_0 Hl_1_2_1 Hl_1_2_2 Hl_2_0_0 Hl_2_0_1 Hl_2_0_2 Hl_2_1_0 Hl_2_1_1 Hl_2_1_2 Hl_2_2_0 Hl_2_2_1 Hl_2_2_2 Hl_3_0_0 Hl_3_0_1 Hl_3_0_2 Hl_3_1_0 Hl_3_1_1 Hl_3_1_2 Hl_3_2_0 Hl_3_2_1 Hl_3_2_2]
    · isplitl [Hl_0_0_0 Hl_0_0_1 Hl_0_0_2 Hl_0_1_0 Hl_0_1_1 Hl_0_1_2 Hl_0_2_0 Hl_0_2_1 Hl_0_2_2]
      · isplitl [Hl_0_0_0 Hl_0_0_1 Hl_0_0_2]
        · isplitl [Hl_0_0_0]; · iexact Hl_0_0_0
          isplitl [Hl_0_0_1]; · iexact Hl_0_0_1
          iexact Hl_0_0_2
        isplitl [Hl_0_1_0 Hl_0_1_1 Hl_0_1_2]
        · isplitl [Hl_0_1_0]; · iexact Hl_0_1_0
          isplitl [Hl_0_1_1]; · iexact Hl_0_1_1
          iexact Hl_0_1_2
        isplitl [Hl_0_2_0]; · iexact Hl_0_2_0
        isplitl [Hl_0_2_1]; · iexact Hl_0_2_1
        iexact Hl_0_2_2
      isplitl [Hl_1_0_0 Hl_1_0_1 Hl_1_0_2 Hl_1_1_0 Hl_1_1_1 Hl_1_1_2 Hl_1_2_0 Hl_1_2_1 Hl_1_2_2]
      · isplitl [Hl_1_0_0 Hl_1_0_1 Hl_1_0_2]
        · isplitl [Hl_1_0_0]; · iexact Hl_1_0_0
          isplitl [Hl_1_0_1]; · iexact Hl_1_0_1
          iexact Hl_1_0_2
        isplitl [Hl_1_1_0 Hl_1_1_1 Hl_1_1_2]
        · isplitl [Hl_1_1_0]; · iexact Hl_1_1_0
          isplitl [Hl_1_1_1]; · iexact Hl_1_1_1
          iexact Hl_1_1_2
        isplitl [Hl_1_2_0]; · iexact Hl_1_2_0
        isplitl [Hl_1_2_1]; · iexact Hl_1_2_1
        iexact Hl_1_2_2
      isplitl [Hl_2_0_0 Hl_2_0_1 Hl_2_0_2 Hl_2_1_0 Hl_2_1_1 Hl_2_1_2 Hl_2_2_0 Hl_2_2_1 Hl_2_2_2]
      · isplitl [Hl_2_0_0 Hl_2_0_1 Hl_2_0_2]
        · isplitl [Hl_2_0_0]; · iexact Hl_2_0_0
          isplitl [Hl_2_0_1]; · iexact Hl_2_0_1
          iexact Hl_2_0_2
        isplitl [Hl_2_1_0 Hl_2_1_1 Hl_2_1_2]
        · isplitl [Hl_2_1_0]; · iexact Hl_2_1_0
          isplitl [Hl_2_1_1]; · iexact Hl_2_1_1
          iexact Hl_2_1_2
        isplitl [Hl_2_2_0]; · iexact Hl_2_2_0
        isplitl [Hl_2_2_1]; · iexact Hl_2_2_1
        iexact Hl_2_2_2
      isplitl [Hl_3_0_0 Hl_3_0_1 Hl_3_0_2]
      · isplitl [Hl_3_0_0]; · iexact Hl_3_0_0
        isplitl [Hl_3_0_1]; · iexact Hl_3_0_1
        iexact Hl_3_0_2
      isplitl [Hl_3_1_0 Hl_3_1_1 Hl_3_1_2]
      · isplitl [Hl_3_1_0]; · iexact Hl_3_1_0
        isplitl [Hl_3_1_1]; · iexact Hl_3_1_1
        iexact Hl_3_1_2
      isplitl [Hl_3_2_0]; · iexact Hl_3_2_0
      isplitl [Hl_3_2_1]; · iexact Hl_3_2_1
      iexact Hl_3_2_2
    isplitl [Hp_0_0 Hp_0_1 Hp_0_2 Hp_1_0 Hp_1_1 Hp_1_2 Hp_2_0 Hp_2_1 Hp_2_2 Hp_3_0 Hp_3_1 Hp_3_2]
    · isplitl [Hp_0_0 Hp_0_1 Hp_0_2]
      · isplitl [Hp_0_0]; · iexact Hp_0_0
        isplitl [Hp_0_1]; · iexact Hp_0_1
        iexact Hp_0_2
      isplitl [Hp_1_0 Hp_1_1 Hp_1_2]
      · isplitl [Hp_1_0]; · iexact Hp_1_0
        isplitl [Hp_1_1]; · iexact Hp_1_1
        iexact Hp_1_2
      isplitl [Hp_2_0 Hp_2_1 Hp_2_2]
      · isplitl [Hp_2_0]; · iexact Hp_2_0
        isplitl [Hp_2_1]; · iexact Hp_2_1
        iexact Hp_2_2
      isplitl [Hp_3_0]; · iexact Hp_3_0
      isplitl [Hp_3_1]; · iexact Hp_3_1
      iexact Hp_3_2
    isplitl [Hs_0_0_0 Hs_0_0_1 Hs_0_0_2 Hs_0_1_0 Hs_0_1_1 Hs_0_1_2 Hs_0_2_0 Hs_0_2_1 Hs_0_2_2]
    · isplitl [Hs_0_0_0 Hs_0_0_1 Hs_0_0_2]
      · isplitl [Hs_0_0_0]; · iexact Hs_0_0_0
        isplitl [Hs_0_0_1]; · iexact Hs_0_0_1
        iexact Hs_0_0_2
      isplitl [Hs_0_1_0 Hs_0_1_1 Hs_0_1_2]
      · isplitl [Hs_0_1_0]; · iexact Hs_0_1_0
        isplitl [Hs_0_1_1]; · iexact Hs_0_1_1
        iexact Hs_0_1_2
      isplitl [Hs_0_2_0]; · iexact Hs_0_2_0
      isplitl [Hs_0_2_1]; · iexact Hs_0_2_1
      iexact Hs_0_2_2
    isplitl [Hs_1_0_0 Hs_1_0_1 Hs_1_0_2 Hs_1_1_0 Hs_1_1_1 Hs_1_1_2 Hs_1_2_0 Hs_1_2_1 Hs_1_2_2]
    · isplitl [Hs_1_0_0 Hs_1_0_1 Hs_1_0_2]
      · isplitl [Hs_1_0_0]; · iexact Hs_1_0_0
        isplitl [Hs_1_0_1]; · iexact Hs_1_0_1
        iexact Hs_1_0_2
      isplitl [Hs_1_1_0 Hs_1_1_1 Hs_1_1_2]
      · isplitl [Hs_1_1_0]; · iexact Hs_1_1_0
        isplitl [Hs_1_1_1]; · iexact Hs_1_1_1
        iexact Hs_1_1_2
      isplitl [Hs_1_2_0]; · iexact Hs_1_2_0
      isplitl [Hs_1_2_1]; · iexact Hs_1_2_1
      iexact Hs_1_2_2
    isplitl [Hs_2_0_0 Hs_2_0_1 Hs_2_0_2 Hs_2_1_0 Hs_2_1_1 Hs_2_1_2 Hs_2_2_0 Hs_2_2_1 Hs_2_2_2]
    · isplitl [Hs_2_0_0 Hs_2_0_1 Hs_2_0_2]
      · isplitl [Hs_2_0_0]; · iexact Hs_2_0_0
        isplitl [Hs_2_0_1]; · iexact Hs_2_0_1
        iexact Hs_2_0_2
      isplitl [Hs_2_1_0 Hs_2_1_1 Hs_2_1_2]
      · isplitl [Hs_2_1_0]; · iexact Hs_2_1_0
        isplitl [Hs_2_1_1]; · iexact Hs_2_1_1
        iexact Hs_2_1_2
      isplitl [Hs_2_2_0]; · iexact Hs_2_2_0
      isplitl [Hs_2_2_1]; · iexact Hs_2_2_1
      iexact Hs_2_2_2
    isplitl [Hs_3_0_0 Hs_3_0_1 Hs_3_0_2]
    · isplitl [Hs_3_0_0]; · iexact Hs_3_0_0
      isplitl [Hs_3_0_1]; · iexact Hs_3_0_1
      iexact Hs_3_0_2
    isplitl [Hs_3_1_0 Hs_3_1_1 Hs_3_1_2]
    · isplitl [Hs_3_1_0]; · iexact Hs_3_1_0
      isplitl [Hs_3_1_1]; · iexact Hs_3_1_1
      iexact Hs_3_1_2
    isplitl [Hs_3_2_0]; · iexact Hs_3_2_0
    isplitl [Hs_3_2_1]; · iexact Hs_3_2_1
    iexact Hs_3_2_2
  isplitl [Hw1 Hw2 Hw3 Hw4 Hx]
  · isplitl [Hw1]; · iexact Hw1
    isplitl [Hw2]; · iexact Hw2
    isplitl [Hw3]; · iexact Hw3
    isplitl [Hw4]; · iexact Hw4
    iexact Hx
  iexact Ho
end
end Cert.TreeProof
-- ==== Proof.Launch.lean ====
module

public import proofs.«01_k».proof.Proof.Bufs
public import Idealize.ShloMosaic.Lib.Pipeline.CollectiveSegs
public import Idealize.ShloMosaic.Lib.Quiescent
public import Idealize.ShloMosaic.Lib.Pipeline.ValueKit.Geometry
public import proofs.«01_k».proof.Proof.Gen.KernelIdeal.Regions
public import proofs.«01_k».proof.Proof.Gen.KernelIdeal.Points

/-! # The launch and the run of the whole program -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- A matrix's entries by row and column numbers. -/
def tab {A B : ℕ} [NeZero A] [NeZero B] {α : Type} (X : Shape.Idx ⟨2, ![A, B]⟩ → α) (i j : ℕ) : α :=
  X (Fin.cons (Fin.ofNat A i) (Fin.cons (Fin.ofNat B j) fun k => k.elim0))
theorem tab_val {A B : ℕ} [NeZero A] [NeZero B] {α : Type} (X : Shape.Idx ⟨2, ![A, B]⟩ → α) (x : Shape.Idx ⟨2, ![A, B]⟩) :
    tab X (x 0).val (x 1).val = X x := by
  unfold tab
  refine congrArg X (funext fun a => ?_)
  match a with
  | ⟨0, _⟩ => exact Fin.ext (Nat.mod_eq_of_lt (x 0).isLt)
  | ⟨1, _⟩ => exact Fin.ext (Nat.mod_eq_of_lt (x 1).isLt)

variable (m : (ℓ : Loc nD τ sig) → Buf (Elt F) ℓ) (ρ : Dev nD → PrngReg)

def arrX (c : Dev nD) : S4x256x1024.Idx → Elt F .f32 := V1 m c main_arg0
def arrWq (c : Dev nD) : S1024x1024.Idx → Elt F .f32 := V1 m c main_arg1
def arrWo (c : Dev nD) : S1024x1024.Idx → Elt F .f32 := V1 m c main_arg4
def arrWk (c : Dev nD) : S1024x256.Idx → Elt F .f32 := V1 m c main_v9
def arrWv (c : Dev nD) : S1024x256.Idx → Elt F .f32 := V1 m c main_v14

/-- Each device's operands, as its host operations leave them. -/
def ins (c : Dev nD) : Ins F where
  x := arrX m c
  wq := tab (A := 1024) (B := 1024) (arrWq m c)
  wo := tab (A := 1024) (B := 1024) (arrWo m c)
  wk := tab (A := 1024) (B := 256) (arrWk m c)
  wv := tab (A := 1024) (B := 256) (arrWv m c)

/-- What the kernel leaves in its result. -/
def outv : S1024x1024.Idx → Elt F .f32 := fun x => ov (ins m) (x 0).val (x 1).val

abbrev osem (x : Bool × Tri) : SemLoc sig := (kcell (0, some x)).2
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : Bool × Tri => semVal (kcell (c, some x)) 0 := by
  unfold Pipeline.ownSems0
  exact bigSep_congr fun x _ => by
    rw [show (((c.tc : Thread nD τ), osem x) : GSem nD τ sig) = kcell (c, some x) from by rcases x with ⟨_ | _, _⟩ <;> rfl]

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc = true) = {SemLoc.reg barS} from by decide +kernel, bigSep_singleton]

/-! ## The region's data -/

def start (c : Dev nD) : sProp 𝕄 := iprop(∃ K, Ctx (PP (ins m)) K ∗ Held (F := F) c)
def Φ₀ (c : Dev nD) : sProp 𝕄 := iprop(start m c ∗ Room c)
def Φ₁ (c : Dev nD) : sProp 𝕄 := iprop((unscopedSems0 c : sProp 𝕄) ∗ Pipeline.ownSems0 (τ := τ) osem c ∗ Room c)

def dats (_ : Fin 1) (c : Dev nD) : Dat τ (Elt F) Unit ℕ UU ℕ cfg0 c where
  A w := V1 m c (Pipeline.arrRef cfg0.spec w)
  after w _ := match w with
    | ⟨0, _⟩ => arrX m c
    | ⟨1, _⟩ => arrWq m c
    | ⟨2, _⟩ => arrWo m c
    | ⟨3, _⟩ => arrWk m c
    | ⟨4, _⟩ => arrWv m c
    | ⟨5, _⟩ => outv m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem at_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by first | rfl | skip) :
    (iprop(∃ W, owes (c : Thread nD τ) O W) : sProp 𝕄) ⊢ dat.owesAt () t := by
  unfold Dat.owesAt Pipeline.owesWithin Dat.bound
  rw [h0, hr]
  iintro ⟨%W, HO⟩
  iexists W
  isplitr
  · ipureintro; exact fun _ _ => Or.inl trivial
  · iexact HO
omit [FloatOps F] in
theorem at_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

section
variable (c : Dev nD) (d0 : S4x256x1024.Idx → Elt F .f32) (d1 d2 d5 : S1024x1024.Idx → Elt F .f32) (d3 d4 : S1024x256.Idx → Elt F .f32)
theorem before_0 : (dats m 0 c).before (0 : Fin 6) t0_0 d0 = arrX m c := by unfold Dat.before; rw [if_pos (fetch0_0 t0_0)]; exact congrArg (fun h => fun x => arrX m c (h x)) (funext fun x => funext fun a => Fin.ext ((win0 0).rect_emb_val_of_index_zero t0_0 a rfl x))
theorem before_1 : (dats m 0 c).before (1 : Fin 6) t0_0 d1 = arrWq m c := by unfold Dat.before; rw [if_pos (fetch0_1 t0_0)]; exact congrArg (fun h => fun x => arrWq m c (h x)) (funext fun x => funext fun a => Fin.ext ((win0 1).rect_emb_val_of_index_zero t0_0 a rfl x))
theorem before_2 : (dats m 0 c).before (2 : Fin 6) t0_0 d2 = arrWo m c := by unfold Dat.before; rw [if_pos (fetch0_2 t0_0)]; exact congrArg (fun h => fun x => arrWo m c (h x)) (funext fun x => funext fun a => Fin.ext ((win0 2).rect_emb_val_of_index_zero t0_0 a rfl x))
theorem before_3 : (dats m 0 c).before (3 : Fin 6) t0_0 d3 = arrWk m c := by unfold Dat.before; rw [if_pos (fetch0_3 t0_0)]; exact congrArg (fun h => fun x => arrWk m c (h x)) (funext fun x => funext fun a => Fin.ext ((win0 3).rect_emb_val_of_index_zero t0_0 a rfl x))
theorem before_4 : (dats m 0 c).before (4 : Fin 6) t0_0 d4 = arrWv m c := by unfold Dat.before; rw [if_pos (fetch0_4 t0_0)]; exact congrArg (fun h => fun x => arrWv m c (h x)) (funext fun x => funext fun a => Fin.ext ((win0 4).rect_emb_val_of_index_zero t0_0 a rfl x))
end

/-! ## The body -/

section
variable (c : Dev nD)

abbrev W0 : Memref sig .tc .vmem S4x256x1024 .f32 := Memref.whole cc0_stg0_0
abbrev W1 : Memref sig .tc .vmem S1024x1024 .f32 := Memref.whole cc0_stg1_0
abbrev W2 : Memref sig .tc .vmem S1024x1024 .f32 := Memref.whole cc0_stg2_0
abbrev W3 : Memref sig .tc .vmem S1024x256 .f32 := Memref.whole cc0_stg3_0
abbrev W4 : Memref sig .tc .vmem S1024x256 .f32 := Memref.whole cc0_stg4_0
abbrev W5 : Memref sig .tc .vmem S1024x1024 .f32 := Memref.whole cc0_stg5_0

def bodyPre : sProp 𝕄 :=
  iprop(Φ₀ m c ∗ (dats m 0 c).owesAt () t0_0.castSucc
    ∗ (∃ d, owns (c : Thread nD τ) W0 fullShare ((dats m 0 c).before (0 : Fin 6) t0_0 d))
    ∗ (∃ d, owns (c : Thread nD τ) W1 fullShare ((dats m 0 c).before (1 : Fin 6) t0_0 d))
    ∗ (∃ d, owns (c : Thread nD τ) W2 fullShare ((dats m 0 c).before (2 : Fin 6) t0_0 d))
    ∗ (∃ d, owns (c : Thread nD τ) W3 fullShare ((dats m 0 c).before (3 : Fin 6) t0_0 d))
    ∗ (∃ d, owns (c : Thread nD τ) W4 fullShare ((dats m 0 c).before (4 : Fin 6) t0_0 d))
    ∗ (∃ d, owns (c : Thread nD τ) W5 fullShare ((dats m 0 c).before (5 : Fin 6) t0_0 d)))
def bodyPost : sProp 𝕄 :=
  iprop(Φ₁ (F := F) c ∗ (dats m 0 c).owesAt () t0_0.succ
    ∗ owns (c : Thread nD τ) W0 fullShare (arrX m c)
    ∗ owns (c : Thread nD τ) W1 fullShare (arrWq m c)
    ∗ owns (c : Thread nD τ) W2 fullShare (arrWo m c)
    ∗ owns (c : Thread nD τ) W3 fullShare (arrWk m c)
    ∗ owns (c : Thread nD τ) W4 fullShare (arrWv m c)
    ∗ owns (c : Thread nD τ) W5 fullShare (outv m))

theorem wins_intro :
    iprop(owns (c : Thread nD τ) W0 fullShare (arrX m c) ∗ owns (c : Thread nD τ) W1 fullShare (arrWq m c) ∗ owns (c : Thread nD τ) W2 fullShare (arrWo m c)
      ∗ owns (c : Thread nD τ) W3 fullShare (arrWk m c) ∗ owns (c : Thread nD τ) W4 fullShare (arrWv m c))
      ⊢ (Wins (ins m) c W0 W1 W2 W3 W4 : sProp 𝕄) := by
  unfold Wins
  iintro ⟨H0, H1, H2, H3, H4⟩
  isplitl [H1]; · iapply (rb_of_owns (v := (ins m c).wq) fun x => (tab_val (A := 1024) (B := 1024) (arrWq m c) x).symm); iexact H1
  isplitl [H2]; · iapply (rb_of_owns (v := (ins m c).wo) fun x => (tab_val (A := 1024) (B := 1024) (arrWo m c) x).symm); iexact H2
  isplitl [H3]; · iapply (rb_of_owns (v := (ins m c).wk) fun x => (tab_val (A := 1024) (B := 256) (arrWk m c) x).symm); iexact H3
  isplitl [H4]; · iapply (rb_of_owns (v := (ins m c).wv) fun x => (tab_val (A := 1024) (B := 256) (arrWv m c) x).symm); iexact H4
  iapply blk_of_owns; iexact H0
theorem wins_elim :
    (Wins (ins m) c W0 W1 W2 W3 W4 : sProp 𝕄)
      ⊢ iprop(owns (c : Thread nD τ) W0 fullShare (arrX m c) ∗ owns (c : Thread nD τ) W1 fullShare (arrWq m c) ∗ owns (c : Thread nD τ) W2 fullShare (arrWo m c)
        ∗ owns (c : Thread nD τ) W3 fullShare (arrWk m c) ∗ owns (c : Thread nD τ) W4 fullShare (arrWv m c)) := by
  unfold Wins
  iintro ⟨H1, H2, H3, H4, H0⟩
  isplitl [H0]; · iapply owns_of_blk; iexact H0
  isplitl [H1]; · iapply (owns_of_rb (v := (ins m c).wq) fun x => (tab_val (A := 1024) (B := 1024) (arrWq m c) x).symm); iexact H1
  isplitl [H2]; · iapply (owns_of_rb (v := (ins m c).wo) fun x => (tab_val (A := 1024) (B := 1024) (arrWo m c) x).symm); iexact H2
  isplitl [H3]; · iapply (owns_of_rb (v := (ins m c).wk) fun x => (tab_val (A := 1024) (B := 256) (arrWk m c) x).symm); iexact H3
  iapply (owns_of_rb (v := (ins m c).wv) fun x => (tab_val (A := 1024) (B := 256) (arrWv m c) x).symm); iexact H4

theorem pre_intro : (bodyPre m c : sProp 𝕄) ⊢ iprop(∃ K, Ctx (PP (ins m)) K ∗ Body0 (ins m) c W0 W1 W2 W3 W4 W5) := by
  unfold bodyPre Φ₀ start
  iintro ⟨⟨⟨%K, #HC, Hh⟩, Hr⟩, HO, ⟨%d0, H0⟩, ⟨%d1, H1⟩, ⟨%d2, H2⟩, ⟨%d3, H3⟩, ⟨%d4, H4⟩, ⟨%d5, H5⟩⟩
  ihave H0 := (Entails.of_eq (congrArg (owns (c : Thread nD τ) W0 fullShare) (before_0 m c d0))) $$ H0
  ihave H1 := (Entails.of_eq (congrArg (owns (c : Thread nD τ) W1 fullShare) (before_1 m c d1))) $$ H1
  ihave H2 := (Entails.of_eq (congrArg (owns (c : Thread nD τ) W2 fullShare) (before_2 m c d2))) $$ H2
  ihave H3 := (Entails.of_eq (congrArg (owns (c : Thread nD τ) W3 fullShare) (before_3 m c d3))) $$ H3
  ihave H4 := (Entails.of_eq (congrArg (owns (c : Thread nD τ) W4 fullShare) (before_4 m c d4))) $$ H4
  iexists K
  isplitr; · iexact HC
  iapply (body0_intro (ins m) c W0 W1 W2 W3 W4 W5)
  isplitl [HO]; · iapply (at_elim (dats m 0 c) t0_0.castSucc (O₀ c) rfl); iexact HO
  isplitl [Hh]; · iexact Hh
  isplitl [Hr]; · iexact Hr
  isplitr [H5]
  · iapply (wins_intro m c)
    isplitl [H0]; · iexact H0
    isplitl [H1]; · iexact H1
    isplitl [H2]; · iexact H2
    isplitl [H3] <;> iassumption
  · iapply (ot_start (ins m)); iexact H5

theorem post_intro (K : Dev nD × Key → ℕ) :
    (iprop(Ctx (PP (ins m)) K ∗ Body3 (ins m) c W0 W1 W2 W3 W4 W5) : sProp 𝕄) ⊢ |={Set.univ}=> bodyPost m c := by
  iintro ⟨#HC, H⟩
  ihave H := (body3_elim (ins m) c W0 W1 W2 W3 W4 W5) $$ H
  icases H with ⟨Hcm, Hb, Hr, Hw, Ho⟩
  unfold Comm
  icases Hcm with ⟨HO, -, -, -, -, Hs, Hv⟩
  imod (close_bar (PP (ins m)) K c) $$ [Hb] with Hb
  · isplitr; · iexact HC
    iexact Hb
  imod (close_own (PP (ins m)) K c) $$ [Hs Hv] with Hk
  · isplitr; · iexact HC
    isplitl [Hs] <;> iassumption
  imodintro
  unfold bodyPost Φ₁
  isplitl [Hb Hk Hr]
  · isplitl [Hb]; · iapply (Entails.of_eq (unscopedSems0_eq c).symm); iexact Hb
    isplitl [Hk]; · iapply (Entails.of_eq (ownSems0_eq c).symm); iexact Hk
    iexact Hr
  isplitl [HO]
  · iapply (at_intro (dats m 0 c) t0_0.succ 0 rfl)
    icases HO with ⟨%W, HO⟩
    iexists W
    iapply (Entails.of_eq (congrArg (fun O => (owes (c : Thread nD τ) O W : sProp 𝕄)) (OC_end c)))
    iexact HO
  ihave Hw := (wins_elim m c) $$ Hw
  icases Hw with ⟨H0, H1, H2, H3, H4⟩
  isplitl [H0]; · iexact H0
  isplitl [H1]; · iexact H1
  isplitl [H2]; · iexact H2
  isplitl [H3]; · iexact H3
  isplitl [H4]; · iexact H4
  iapply (ot_end (ins m)); iexact Ho

set_option maxRecDepth 100000 in
theorem body_obligation : BodyObligation (dats (F := F) m 0 c) (defs₀ (F := F)) 𝒱₀ () Set.univ := fun t => by
  rw [fin_N0 t, bigSep_W0, bigSep_W0]
  show bodyPre m c ⊢ wp frame (wpE (defs₀ (F := F)) 𝒱₀ (c : Thread nD τ) none) Set.univ
    (cc0_body W0 (Memref.isWhole_whole _) W1 (Memref.isWhole_whole _) W2 (Memref.isWhole_whole _) W3 (Memref.isWhole_whole _) W4 (Memref.isWhole_whole _) W5 (Memref.isWhole_whole _)
      (Memref.whole cc0_scratch0) (Memref.isWhole_whole _)
      (Memref.whole cc0_scratch1) (Memref.isWhole_whole _)
      (Memref.whole cc0_scratch2) (Memref.isWhole_whole _)
      (Memref.whole cc0_scratch3) (Memref.isWhole_whole _)
      (Memref.whole cc0_scratch4) (Memref.isWhole_whole _)
      (Memref.whole cc0_scratch5) (Memref.isWhole_whole _)
      (Memref.whole cc0_scratch6) (Memref.isWhole_whole _)
      (Memref.whole cc0_scratch7) (Memref.isWhole_whole _)
      (Memref.whole cc0_scratch8) (Memref.isWhole_whole _)
      (Memref.whole cc0_scratch9) (Memref.isWhole_whole _)
      (Memref.whole cc0_scratch10) (Memref.isWhole_whole _)
      (Memref.whole cc0_scratch11) (Memref.isWhole_whole _)
      (Memref.whole cc0_scratch12) (Memref.isWhole_whole _)
      cc0_scratch13 cc0_scratch14) (fun _ => bodyPost m c)
  iintro H
  ihave H := (pre_intro m c) $$ H
  icases H with ⟨%K, #HC, H⟩
  iapply (wp_fupd frame _ Set.univ)
  iapply (body_run (ins m) K c W0 (Memref.isWhole_whole _) W1 (Memref.isWhole_whole _) W2 (Memref.isWhole_whole _) W3 (Memref.isWhole_whole _) W4 (Memref.isWhole_whole _) W5 (Memref.isWhole_whole _)) $$ [H]
  · isplitr; · iexact HC
    iexact H
  iintro H
  iapply (post_intro m c K)
  isplitr; · iexact HC
  iexact H
end
end Cert.TreeProof
-- ==== Proof.Run.lean ====
module

public import proofs.«01_k».proof.Proof.Launch

/-! # The run of the whole program -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

def u₀ : UU := (initOf (Pipeline.cells cfgs cellOf_inj) (Pipeline.launchToks cfgs cellOf_inj), launchOf barCells ownCells duties)

/-- The rounds' launch element, held by device 0 until the cells are made. -/
def G (c : Dev nD) : sProp 𝕄 := if c = 0 then BI.own (ER (launchOf barCells ownCells duties)) else BI.emp
omit [FloatOps F] in
theorem G_all : (bigSep Finset.univ fun c : Dev nD => (G c : sProp 𝕄)) = BI.own (ER (launchOf barCells ownCells duties)) := by
  have he : (bigSep (Finset.univ.erase (0 : Dev nD)) fun c => (G c : sProp 𝕄)) = bigSep (Finset.univ.erase (0 : Dev nD)) fun _ => BI.emp :=
    bigSep_congr fun c hc => if_neg (Finset.ne_of_mem_erase hc)
  rw [show (Finset.univ : Finset (Dev nD)) = insert 0 (Finset.univ.erase 0) from (Finset.insert_erase (Finset.mem_univ _)).symm,
    bigSep_insert (Finset.notMem_erase _ _), show (G 0 : sProp 𝕄) = BI.own (ER (launchOf barCells ownCells duties)) from if_pos rfl,
    he, BI.bigSep_emp_const]
  exact at_one _

/-- What a device brings to the kernel beside its buffers. -/
def brings (c : Dev nD) : sProp 𝕄 :=
  iprop(dealt (PP (ins m)) c ∗ (∃ W, owes (c : Thread nD τ) (O₀ c) W)
    ∗ cred (tallyAt (barCell c) () 3) ∗ bigSep Finset.univ fun t : Tri => cred (tallyAt (rcvCell c t) () (amt t)))

abbrev rides : Fin 2 → Dev nD → sProp 𝕄 := fun _ => brings m

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

abbrev Tₙ (c : Dev nD) : sProp 𝕄 :=
  iprop((dats m 0 c).arrays ((dats m 0 c).arrAt · cfg0.N) ∗ (((c : Thread nD τ).loc main_arg2) ↦{fullShare} V1 m c main_arg2)
    ∗ (((c : Thread nD τ).loc main_arg3) ↦{fullShare} V1 m c main_arg3) ∗ (unscopedSems0 c : sProp 𝕄))

set_option backward.isDefEq.respectTransparency.types false in
def reg0 : Pipeline.RegionSeg (pcfgs (F := F)) adm (dats m) () defs₀ 𝒱₀ L lv 0 where
  win := launch0.win.to₀
  block_pos := launch0.block_pos
  stage_whole := launch0.stage_whole
  K := Bool × Tri
  osem := osem
  ho := ownSemFacts
  hbody c := (body_obligation m c).loose
  hwaits := waits m
  pre c := iprop(StableHlo.held (c : Thread nD τ) (Pipeline.ucRefs τ sig) (V1 m c) ∗ brings m c)
  post c := iprop(Tₙ m c ∗ ∃ W, owes (c : Thread nD τ) (0 : CellTallies nD τ sig Unit) W)
  X c := start m c
  Y c := (unscopedSems0 c : sProp 𝕄)
  Z c := iprop((((c : Thread nD τ).loc main_arg2) ↦{fullShare} V1 m c main_arg2) ∗ (((c : Thread nD τ).loc main_arg3) ↦{fullShare} V1 m c main_arg3))
  hentry c := by
    rw [show StableHlo.held (c : Thread nD τ) (Pipeline.ucRefs τ sig) (V1 m c) = unscopedBufs c (fun b => V1 m c b) from (Pipeline.unscopedBufs_held c _).symm,
      ownSems0_eq]
    have hsplit := (Pipeline.arrays_of_unscopedBufs (pcfgs (F := F)) adm (dats m) launch0.win launch0.arr_whole c
      ((dats m 0 c).share_full fun _ => rfl) (fun b => V1 m c b) (fun _ => rfl)).trans (BIClass.sep_mono .rfl (Entails.of_eq (unscopedRest0_eq c (fun b => V1 m c b))))
    unfold brings dealt
    iintro ⟨⟨Hub, ⟨%K, ⟨#HC, #HM⟩, Hsh⟩, HO, Hcr⟩, Hos, -⟩
    ihave H := hsplit $$ Hub
    icases H with ⟨Ha, H2, H3, -⟩
    imod (enter (PP (ins m)) K c) $$ [Hsh Hcr Hos] with Hh
    · isplitr
      · isplitr
        · iexact HC
        · iexact HM
      isplitl [Hsh]; · iexact Hsh
      isplitl [Hcr]; · iexact Hcr
      iexact Hos
    imodintro
    isplitl [Ha]; · iexact Ha
    isplitr; · unfold Pipeline.prefHeld; rw [show (Finset.univ : Finset (Fin 0)) = ∅ from rfl, BI.bigSep_empty]; iempintro
    isplitl [HO]
    · iapply (at_intro (dats m 0 c) 0 (O₀ c) rfl); iexact HO
    isplitl [Hh]
    · unfold start
      iexists K
      isplitr; · iexact HC
      iexact Hh
    isplitl [H2] <;> iassumption
  hin c := by
    rw [show (dats m 0 c).Φ 0 = Φ₀ m c from rfl]; unfold Φ₀
    iintro ⟨Hs, -, Hr⟩
    isplitl [Hs]; · iexact Hs
    iapply room_of; iexact Hr
  hout c := by
    rw [show (dats m 0 c).Φ (Fin.last cfg0.N) = Φ₁ c from rfl]; unfold Φ₁
    iintro ⟨Hu, Hos, Hr⟩
    isplitl [Hu]; · iexact Hu
    isplitl [Hos]; · iexact Hos
    iapply of_room; iexact Hr
  hexit c := by
    iintro ⟨Ha, HO, HY, H2, H3⟩
    imodintro
    isplitr [HO]
    · isplitl [Ha]; · iexact Ha
      isplitl [H2]; · iexact H2
      isplitl [H3] <;> iassumption
    · iapply (at_elim (dats m 0 c) (Fin.last cfg0.N) 0 rfl); iexact HO

/-- What each device holds at the end. -/
def Ends (m : (ℓ : Loc nD τ sig) → Buf (Elt F) ℓ) (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v15) = outv m

theorem out_at (c : Dev nD) : (dats m 0 c).arrAt 5 cfg0.N = outv m := by
  have h := Dat.arrAt_eq_of_after_last (dat := dats m 0 c) (5 : Fin 6) t0_0 (by decide +kernel) (outv m)
  exact h fun j => congrArg (outv m) (funext fun a => Fin.ext rfl)

omit [FloatOps F] in
theorem entails {A B : sProp 𝕄} (h : Idealize.SL.BI.Entails A B) : A ⊢ B := h

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ brings m c) : sProp 𝕄) := by
  have h1 (c : Dev nD) : iprop(unscopedBufs c (fun b => m ((c : Thread nD τ).loc b)) ∗ unscopedSems0 c
          ∗ owes (c : Thread nD τ) (O₀ c) ∅ ∗ Pipeline.launchCred O₀ c ∗ prngReg c (ρ c) ∗ G c)
      ⊢ (iprop((StableHlo.held (c : Thread nD τ) (Pipeline.ucRefs τ sig) (V0 m c)
          ∗ (∃ W, owes (c : Thread nD τ) (O₀ c) W) ∗ cred (tallyAt (barCell c) () 3) ∗ bigSep Finset.univ fun t : Tri => cred (tallyAt (rcvCell c t) () (amt t)))
          ∗ semVal (barCell c) 0 ∗ G c) : sProp 𝕄) := by
    rw [show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c), unscopedSems0_eq]
    iintro ⟨Hub, Hus, HO, Hcr, -, HG⟩
    isplitr [Hus HG]
    · isplitl [Hub]; · iexact Hub
      isplitl [HO]; · iexists ∅; iexact HO
      iapply (cred_dealt c); iexact Hcr
    · isplitl [Hus] <;> iassumption
  have h2 (c : Dev nD) : iprop((StableHlo.held (c : Thread nD τ) (Pipeline.ucRefs τ sig) (V0 m c)
          ∗ (∃ W, owes (c : Thread nD τ) (O₀ c) W) ∗ cred (tallyAt (barCell c) () 3) ∗ bigSep Finset.univ fun t : Tri => cred (tallyAt (rcvCell c t) () (amt t)))
          ∗ dealt (PP (ins m)) c)
      ⊢ (iprop(StableHlo.held (c : Thread nD τ) (Pipeline.ucRefs τ sig) (V0 m c) ∗ brings m c) : sProp 𝕄) := by
    unfold brings
    iintro ⟨⟨Hh, Hr⟩, Hd⟩
    isplitl [Hh]; · iexact Hh
    isplitl [Hd] <;> iassumption
  have h3 := bigSep_mono (s := (Finset.univ : Finset (Dev nD))) fun c _ => h1 c
  have h4 := bigSep_mono (s := (Finset.univ : Finset (Dev nD))) fun c _ => h2 c
  have e3 : (bigSep (Finset.univ : Finset (Dev nD)) fun c => iprop((StableHlo.held (c : Thread nD τ) (Pipeline.ucRefs τ sig) (V0 m c)
          ∗ (∃ W, owes (c : Thread nD τ) (O₀ c) W) ∗ cred (tallyAt (barCell c) () 3) ∗ bigSep Finset.univ fun t : Tri => cred (tallyAt (rcvCell c t) () (amt t)))
          ∗ semVal (barCell c) 0 ∗ G c) : sProp 𝕄)
      = iprop((bigSep Finset.univ fun c : Dev nD => iprop(StableHlo.held (c : Thread nD τ) (Pipeline.ucRefs τ sig) (V0 m c)
          ∗ (∃ W, owes (c : Thread nD τ) (O₀ c) W) ∗ cred (tallyAt (barCell c) () 3) ∗ bigSep Finset.univ fun t : Tri => cred (tallyAt (rcvCell c t) () (amt t))))
        ∗ (bigSep Finset.univ fun c : Dev nD => semVal (barCell c) 0) ∗ BI.own (ER (launchOf barCells ownCells duties))) := by
    rw [bigSep_sep', bigSep_sep' (s := Finset.univ) (Φ := fun c : Dev nD => semVal (barCell c) 0), G_all]
  rw [e3] at h3
  rw [bigSep_sep'] at h4
  iintro ⟨H, Hlv⟩
  ihave H' := (entails h3) $$ H
  icases H' with ⟨Hk, Hs, HG⟩
  imod (deal (PP (ins m))) $$ [Hs HG Hlv] with Hd
  · isplitl [Hs]; · iexact Hs
    isplitl [HG]; · iexact HG
    iexact Hlv
  imodintro
  iapply (entails h4)
  isplitl [Hk]; · iexact Hk
  iexact Hd

set_option backward.isDefEq.respectTransparency.types false in
/-- Over any float values, from any memory with zero counters: the program terminates on the eight devices, every argument is as launched,
    every device holds the same result, and every counter is zero again. -/
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (dats m) () cellOf_inj EP defs₀ 𝒱₀ L lv m ρ main
    (segs m 𝒱₀ L lv (rides m) () (dats m) (reg0 m))
    (fun c Q => by
      rewrite [main_chain c, Pipeline.Seg.run_eq_chain,
        show (segs m 𝒱₀ L lv (rides m) () (dats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ brings m c)) (Tₙ := Tₙ m)
    (hch := fun c => ⟨.rfl, .rfl, .rfl⟩)
    (hinit := init m ρ)
    (QY := fun c s => Ends m c s ∧ ∀ sm : SemLoc sig, sm.isScoped .tc = false → s.sem ((c.tc : Thread nD τ), sm) = 0)
    (hfin := fun c s' => by
      dsimp only [Tₙ]
      iintro ⟨⟨Ha, H2, H3, Hu⟩, HSI⟩
      icombine HSI H2 gives %h2
      icombine HSI H3 gives %h3
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imod (Pipeline.unscopedSems0_read (X := (unscopedSems0 c : sProp 𝕄)) (c := c) (fupd_intro) s') $$ [Hu HSI] with ⟨%hz, HSI⟩
      · isplitl [Hu] <;> iassumption
      imodintro
      isplitr
      · ipureintro
        refine ⟨⟨?_, ?_, ?_, ?_, ?_, ?_⟩, hz⟩
        · exact (ha 0).trans (((dats m 0 c).arrAt_in 0 rfl _).trans (V1_of m c main_arg0 (by decide)))
        · exact (ha 1).trans (((dats m 0 c).arrAt_in 1 rfl _).trans (V1_of m c main_arg1 (by decide)))
        · exact (Buf.eq_of_forall_mem_univ h2).trans (V1_of m c main_arg2 (by decide))
        · exact (Buf.eq_of_forall_mem_univ h3).trans (V1_of m c main_arg3 (by decide))
        · exact (ha 2).trans (((dats m 0 c).arrAt_in 2 rfl _).trans (V1_of m c main_arg4 (by decide)))
        · exact (ha 5).trans (out_at m c)
      iexact HSI)
    (hQ := fun s h hs => ⟨fun c => (h c).1, sem_eq_zero hs fun c => (h c).2⟩)

end Cert.TreeProof

end
-- ==== Proof.Value.lean ====
module

public import proofs.«01_k».proof.Proof.Vals
public import Idealize.ShloMosaic.Lib.Pointwise

/-! # What both programs compute, over the extended reals -/

@[expose] public section
set_option maxRecDepth 16384
noncomputable section
namespace Cert.TreeProof
open Idealize.ShloMosaic

theorem at2_ix {α : Type} {A B : ℕ} [NeZero A] [NeZero B] (f : Shape.Idx ⟨2, ![A, B]⟩ → α) (a : Fin A) (b : Fin B) :
    f (ix2 a b) = at2 f a.val b.val := (at2_of f (ix2 a b) rfl rfl).symm

/-- The constants of the programs: the scale, and where a maximum starts. -/
def scl : EReal := Ideal.ofBits FTy.f32 0x3DB504F3#32
def neg : EReal := Ideal.ofBits FTy.f32 0xFF800000#32

/-- The scores' weighted mean of the values: weights by `exp (score - greatest score)`. -/
def mean (s v : Fin 256 → EReal) : EReal :=
  Ideal.div (∑ t, Ideal.exp (s t - Finset.fold max neg s Finset.univ) * v t) (∑ t, Ideal.exp (s t - Finset.fold max neg s Finset.univ))

theorem max_fold (s : Fin 256 → EReal) : max neg (Finset.fold max neg s Finset.univ) = Finset.fold max neg s Finset.univ :=
  max_eq_right ((Finset.le_fold_max neg).2 (.inl le_rfl))

/-- Entry `(i, n)` of all heads' results side by side: row `i` of the batches' rows, head `n / 128`. -/
def heads (X : Shape.Idx ⟨3, ![4, 256, 1024]⟩ → EReal) (WQ WK WV : ℕ → ℕ → EReal) (i n : ℕ) : EReal :=
  mean
    (fun t => (∑ d : Fin 128, (∑ a : Fin 1024, X (ix3 (Fin.ofNat 4 (i / 256)) (Fin.ofNat 256 (i % 256)) a) * WQ a (n / 128 * 128 + d))
        * ∑ a : Fin 1024, X (ix3 (Fin.ofNat 4 (i / 256)) t a) * WK a (n / 128 / 4 * 128 + d)) * scl)
    (fun t => ∑ a : Fin 1024, X (ix3 (Fin.ofNat 4 (i / 256)) t a) * WV a (n / 128 / 4 * 128 + n % 128))
end Cert.TreeProof
-- ==== Proof.Value2.lean ====
module

public import proofs.«01_k».proof.Proof.Gen.ReferenceIdeal.Run
public import proofs.«01_k».proof.Proof.Value

/-! # The reference's values over the extended reals -/

@[expose] public section
set_option maxRecDepth 16384
noncomputable section
namespace Cert.TreeProof.Ref
open Cert.ReferenceIdeal Cert.ReferenceIdeal.Gen
open Idealize.ShloMosaic
open Idealize.ShloMosaic.TcCoe

/-! ## Its operations, in stages over plain arrays -/

def rQ (X : FVec Ideal S4x256x1024 .f32) (W : FVec Ideal S1024x8192 .f32) : FVec Ideal S4x256x64x128 .f32 :=
  shapeCast _ (Host.dotGeneral (φ₁ := .f32) (φ₂ := .f32) dot_S4x256x1024_S1024x8192_S4x256x8192_2_0_01_1_n_n none X W) shapeCasts_S4x256x8192_S4x256x64x128
def rK (X : FVec Ideal S4x256x1024 .f32) (W : FVec Ideal S1024x2048 .f32) : FVec Ideal S4x256x64x128 .f32 :=
  shapeCast _ (broadcastInDim S4x256x16x4x128 ![0, 1, 2, 4] bcast_S4x256x16x128_S4x256x16x4x128_0_1_2_4
    (shapeCast S4x256x16x128 (Host.dotGeneral (φ₁ := .f32) (φ₂ := .f32) dot_S4x256x1024_S1024x2048_S4x256x2048_2_0_01_1_n_n none X W) shapeCasts_S4x256x2048_S4x256x16x128)) shapeCasts_S4x256x16x4x128_S4x256x64x128
def rS (Q K : FVec Ideal S4x256x64x128 .f32) : FVec Ideal S4x64x256x256 .f32 :=
  mulf (Host.dotGeneral (φ₁ := .f32) (φ₂ := .f32) dot_S4x256x64x128_S4x256x64x128_S4x64x256x256_3_3_1_1_02_02 none Q K) (broadcastInDim S4x64x256x256 ![] bcast_S_S4x64x256x256 (constant S_ .f32 0x3DB504F3#32))
def rN : FVec Ideal S4x64x256x1 .f32 := broadcastInDim S4x64x256x1 ![] bcast_S_S4x64x256x1 (constant S_ .f32 0xFF800000#32)
def rM (s : FVec Ideal S4x64x256x256 .f32) : FVec Ideal S4x64x256x1 .f32 :=
  maximumf rN (broadcastInDim S4x64x256x1 ![0, 1, 2] bcast_S4x64x256_S4x64x256x1_0_1_2 (Host.reduce FloatOps.maximumf s (constant S_ .f32 0xFF800000#32) reducesTo_S4x64x256x256_S4x64x256_d3 h_S_))
def rA (s : FVec Ideal S4x64x256x256 .f32) : FVec Ideal S4x64x256x1 .f32 := Host.exp (subf rN (rM s))
def rP (s : FVec Ideal S4x64x256x256 .f32) : FVec Ideal S4x64x256x256 .f32 :=
  Host.exp (subf s (broadcastInDim S4x64x256x256 ![0, 1, 2, 3] bcast_S4x64x256x1_S4x64x256x256_0_1_2_3 (rM s)))
def rD (a : FVec Ideal S4x64x256x1 .f32) (p : FVec Ideal S4x64x256x256 .f32) : FVec Ideal S4x64x256x1 .f32 :=
  addf (mulf (broadcastInDim S4x64x256x1 ![] bcast_S_S4x64x256x1 (constant S_ .f32 0x00000000#32)) a)
    (broadcastInDim S4x64x256x1 ![0, 1, 2] bcast_S4x64x256_S4x64x256x1_0_1_2 (Host.reduceAdd p (constant S_ .f32 0x00000000#32) reducesTo_S4x64x256x256_S4x64x256_d3 h_S_))
def rU (a : FVec Ideal S4x64x256x1 .f32) (p : FVec Ideal S4x64x256x256 .f32) (V : FVec Ideal S4x256x64x128 .f32) : FVec Ideal S4x256x64x128 .f32 :=
  addf (mulf (broadcastInDim S4x256x64x128 ![] bcast_S_S4x256x64x128 (constant S_ .f32 0x00000000#32))
      (broadcastInDim S4x256x64x128 ![0, 1, 2, 3] bcast_S4x256x64x1_S4x256x64x128_0_1_2_3 (transpose S4x256x64x1 [0, 2, 1, 3] a transposes_S4x64x256x1_S4x256x64x1_0_2_1_3)))
    (transpose S4x256x64x128 [0, 3, 1, 2] (Host.dotGeneral (φ₁ := .f32) (φ₂ := .f32) dot_S4x256x64x128_S4x64x256x256_S4x64x128x256_1_3_3_2_02_01 none V p) transposes_S4x64x128x256_S4x256x64x128_0_3_1_2)
def rO (u : FVec Ideal S4x256x64x128 .f32) (d : FVec Ideal S4x64x256x1 .f32) : FVec Ideal S4x256x64x128 .f32 :=
  Host.divf u (broadcastInDim S4x256x64x128 ![0, 1, 2, 3] bcast_S4x256x64x1_S4x256x64x128_0_1_2_3 (transpose S4x256x64x1 [0, 2, 1, 3] d transposes_S4x64x256x1_S4x256x64x1_0_2_1_3))
def rR (o : FVec Ideal S4x256x64x128 .f32) (W : FVec Ideal S8192x1024 .f32) : FVec Ideal S1024x1024 .f32 :=
  shapeCast S1024x1024 (Host.dotGeneral (φ₁ := .f32) (φ₂ := .f32) dot_S4x256x8192_S8192x1024_S4x256x1024_2_0_01_1_n_n none (shapeCast S4x256x8192 o shapeCasts_S4x256x64x128_S4x256x8192) W) shapeCasts_S4x256x1024_S1024x1024

/-! ## Each stage at an index -/

theorem rQ_at (X : FVec Ideal S4x256x1024 .f32) (W : FVec Ideal S1024x8192 .f32) (b : Fin 4) (i : Fin 256) (h : Fin 64) (d : Fin 128) :
    rQ X W (ix4 b i h d) = ∑ a : Fin 1024, X (ix3 b i a) * W (ix2 a ⟨h * 128 + d, by omega⟩) := by
  pointwise [rQ]

theorem rK_at (X : FVec Ideal S4x256x1024 .f32) (W : FVec Ideal S1024x2048 .f32) (b : Fin 4) (i : Fin 256) (h : Fin 64) (d : Fin 128) :
    rK X W (ix4 b i h d) = ∑ a : Fin 1024, X (ix3 b i a) * W (ix2 a ⟨h / 4 * 128 + d, by omega⟩) := by
  pointwise [rK]

theorem rS_at (Q K : FVec Ideal S4x256x64x128 .f32) (b : Fin 4) (h : Fin 64) (i t : Fin 256) :
    rS Q K (ix4 b h i t) = (∑ d : Fin 128, Q (ix4 b i h d) * K (ix4 b t h d)) * scl := by
  pointwise [rS]
  rfl

theorem red_max (s : FVec Ideal S4x64x256x256 .f32) (c : FVec Ideal S_ .f32) (b : Fin 4) (h : Fin 64) (i : Fin 256) :
    Host.reduce FloatOps.maximumf s c reducesTo_S4x64x256x256_S4x64x256_d3 h_S_ (ix3 b h i)
      = Finset.fold max (c (Shape.Idx.first h_S_)) (fun t : Fin 256 => s (ix4 b h i t)) Finset.univ := by
  have hr : S4x64x256x256.Reduces [3] S4x64x256 := by decide
  refine (Host.reduce_eq_fold_single (f := (max : EReal → EReal → EReal)) s c reducesTo_S4x64x256x256_S4x64x256_d3 hr h_S_ (ix3 b h i)).trans ?_
  have hl : ∀ t : Fin 256, hr.lift (ix3 b h i) t = ix4 b h i t := by
    intro t
    funext q
    refine Fin.ext ?_
    refine (Shape.Reduces.lift_val hr (ix3 b h i) t q).trans ?_
    fin_cases q <;> rfl
  exact congrArg (fun f => Finset.fold max (c (Shape.Idx.first h_S_)) f Finset.univ) (funext fun t => congrArg s (hl t))
theorem rM_of (R : FVec Ideal S4x64x256 .f32) (b : Fin 4) (h : Fin 64) (i : Fin 256) :
    maximumf rN (broadcastInDim S4x64x256x1 ![0, 1, 2] bcast_S4x64x256_S4x64x256x1_0_1_2 R) (ix4 b h i 0) = max neg (R (ix3 b h i)) := by
  pointwise [rN]
  rfl
theorem rM_at (s : FVec Ideal S4x64x256x256 .f32) (b : Fin 4) (h : Fin 64) (i : Fin 256) :
    rM s (ix4 b h i 0) = Finset.fold max neg (fun t : Fin 256 => s (ix4 b h i t)) Finset.univ :=
  (rM_of _ b h i).trans ((congrArg (max neg) (red_max s (constant S_ .f32 0xFF800000#32) b h i)).trans (max_fold fun t : Fin 256 => s (ix4 b h i t)))
theorem rP_at (s : FVec Ideal S4x64x256x256 .f32) (b : Fin 4) (h : Fin 64) (i t : Fin 256) :
    rP s (ix4 b h i t) = Ideal.exp (s (ix4 b h i t) - rM s (ix4 b h i 0)) := by
  pointwise [rP]

theorem rD_at (a : FVec Ideal S4x64x256x1 .f32) (p : FVec Ideal S4x64x256x256 .f32) (b : Fin 4) (h : Fin 64) (i : Fin 256) :
    rD a p (ix4 b h i 0) = ∑ t : Fin 256, p (ix4 b h i t) := by
  pointwise [rD]
  rw [zero_mul, zero_add]

theorem rU_at (a : FVec Ideal S4x64x256x1 .f32) (p : FVec Ideal S4x64x256x256 .f32) (V : FVec Ideal S4x256x64x128 .f32) (b : Fin 4) (h : Fin 64) (i : Fin 256) (d : Fin 128) :
    rU a p V (ix4 b i h d) = ∑ t : Fin 256, p (ix4 b h i t) * V (ix4 b t h d) := by
  pointwise [rU]
  rw [zero_mul, zero_add]
  exact Finset.sum_congr rfl fun t _ => mul_comm _ _

theorem rO_at (u : FVec Ideal S4x256x64x128 .f32) (D : FVec Ideal S4x64x256x1 .f32) (b : Fin 4) (h : Fin 64) (i : Fin 256) (d : Fin 128) :
    rO u D (ix4 b i h d) = Ideal.div (u (ix4 b i h d)) (D (ix4 b h i 0)) := by
  pointwise [rO]

theorem rR_at (o : FVec Ideal S4x256x64x128 .f32) (W : FVec Ideal S8192x1024 .f32) (i j : Fin 1024) :
    rR o W (ix2 i j) = ∑ n : Fin 8192, o (ix4 ⟨i / 256, by omega⟩ ⟨i % 256, by omega⟩ ⟨n / 128, by omega⟩ ⟨n % 128, by omega⟩) * W (ix2 n j) := by
  pointwise [rR]

/-- The reference's operations, composed. -/
def rall (X : FVec Ideal S4x256x1024 .f32) (W1 : FVec Ideal S1024x8192 .f32) (W2 W3 : FVec Ideal S1024x2048 .f32) (W4 : FVec Ideal S8192x1024 .f32) : FVec Ideal S1024x1024 .f32 :=
  rR (rO (rU (rA (rS (rQ X W1) (rK X W2))) (rP (rS (rQ X W1) (rK X W2))) (rK X W3)) (rD (rA (rS (rQ X W1) (rK X W2))) (rP (rS (rQ X W1) (rK X W2))))) W4

theorem mean_at (s : FVec Ideal S4x64x256x256 .f32) (V : FVec Ideal S4x256x64x128 .f32) (b : Fin 4) (h : Fin 64) (i : Fin 256) (d : Fin 128) :
    rO (rU (rA s) (rP s) V) (rD (rA s) (rP s)) (ix4 b i h d) = mean (fun t => s (ix4 b h i t)) (fun t => V (ix4 b t h d)) := by
  rw [rO_at, rU_at, rD_at]
  simp only [rP_at, rM_at]
  rfl

theorem rall_at (X : FVec Ideal S4x256x1024 .f32) (W1 : FVec Ideal S1024x8192 .f32) (W2 W3 : FVec Ideal S1024x2048 .f32) (W4 : FVec Ideal S8192x1024 .f32) (i j : Fin 1024) :
    rall X W1 W2 W3 W4 (ix2 i j)
      = ∑ n : Fin 8192, heads X (at2 (A := 1024) (B := 8192) W1) (at2 (A := 1024) (B := 2048) W2) (at2 (A := 1024) (B := 2048) W3) i n * at2 (A := 8192) (B := 1024) W4 n j := by
  have e1 : Fin.ofNat 4 (i.val / 256) = ⟨i / 256, by omega⟩ := Fin.ext (Nat.mod_eq_of_lt (by omega))
  have e2 : Fin.ofNat 256 (i.val % 256) = ⟨i % 256, by omega⟩ := Fin.ext (Nat.mod_eq_of_lt (by omega))
  unfold rall
  rw [rR_at]
  refine Finset.sum_congr rfl fun n _ => ?_
  refine congrArg₂ (· * ·) ((mean_at _ _ _ _ _ _).trans ?_) (at2_ix (A := 8192) (B := 1024) W4 n j)
  unfold heads
  rw [e1, e2]
  simp only [rS_at, rQ_at, rK_at, at2_ix (A := 1024) (B := 8192) W1, at2_ix (A := 1024) (B := 2048) W2, at2_ix (A := 1024) (B := 2048) W3]

theorem res_eq (m : (ℓ : Loc nD τ sig) → Buf (Elt Ideal) ℓ) (c : Dev nD) :
    Cert.ReferenceIdeal.Value.res_main_v39 m c
      = rall (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v39
  rfl
end Cert.TreeProof.Ref
-- ==== Proof.Value1.lean ====
module

public import proofs.«01_k».proof.Proof.Run
public import proofs.«01_k».proof.Proof.Value

/-! # One device's values over the extended reals -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem head_at (h : Fin 8) (q : Vec Ideal S256x1024 .f32) (k v : Vec Ideal S256x256 .f32) (i : Fin 256) (d : Fin 128) :
    head h q k v (ix2 i d) = mean
      (fun t => (∑ e : Fin 128, at2 (A := 256) (B := 1024) q i (128 * h.val + e) * at2 (A := 256) (B := 256) k t (128 * (h.val / 4) + e)) * scl)
      (fun t => at2 (A := 256) (B := 256) v t (128 * (h.val / 4) + d)) := by
  pointwise [head, k0_pay20, k0_pay19]
  simp only [at2_ix (A := 256) (B := 1024) q, at2_ix (A := 256) (B := 256) k, at2_ix (A := 256) (B := 256) v]
  rfl

theorem pay21_at (a : Vec Ideal S256x1024 .f32) (w : Vec Ideal S1024x384 .f32) (i : Fin 256) (j : Fin 384) :
    (k0_pay21 a w (ix2 i j) : EReal) = ∑ y : Fin 1024, a (ix2 i y) * w (ix2 y j) := by
  pointwise [k0_pay21]
theorem pay23_at (a : Vec Ideal S256x1024 .f32) (w : Vec Ideal S1024x256 .f32) (i : Fin 256) (j : Fin 256) :
    (k0_pay23 a w (ix2 i j) : EReal) = ∑ y : Fin 1024, a (ix2 i y) * w (ix2 y j) := by
  pointwise [k0_pay23]
theorem pay2_at (x : Vec Ideal S4x256x1024 .f32) (w : Vec Ideal S1024x1024 .f32) (i : Fin 1024) (j : Fin 1024) :
    (k0_pay2 (k0_pay1 x) w (ix2 i j) : EReal) = ∑ a : Fin 1024, x (ix3 ⟨i / 256, by omega⟩ ⟨i % 256, by omega⟩ a) * w (ix2 a j) := by
  pointwise [k0_pay2, k0_pay1]
theorem pay3_at (x : Vec Ideal S4x256x1024 .f32) (w : Vec Ideal S1024x256 .f32) (i : Fin 1024) (j : Fin 256) :
    (k0_pay3 (k0_pay1 x) w (ix2 i j) : EReal) = ∑ a : Fin 1024, x (ix3 ⟨i / 256, by omega⟩ ⟨i % 256, by omega⟩ a) * w (ix2 a j) := by
  pointwise [k0_pay3, k0_pay1]
theorem pay4_at (x : Vec Ideal S4x256x1024 .f32) (w : Vec Ideal S1024x256 .f32) (i : Fin 1024) (j : Fin 256) :
    (k0_pay4 (k0_pay1 x) w (ix2 i j) : EReal) = ∑ a : Fin 1024, x (ix3 ⟨i / 256, by omega⟩ ⟨i % 256, by omega⟩ a) * w (ix2 a j) := by
  pointwise [k0_pay4, k0_pay1]

/-- A device's inputs are its share of the whole ones. -/
structure Share (I : Ins Ideal) (c : ℕ) (X : Shape.Idx ⟨3, ![4, 256, 1024]⟩ → EReal) (WQ WK WV WO : ℕ → ℕ → EReal) : Prop where
  x : I.x = X
  wq : ∀ i j, i < 1024 → j < 1024 → I.wq i j = WQ i (1024 * c + j)
  wk : ∀ i j, i < 1024 → j < 256 → I.wk i j = WK i (256 * c + j)
  wv : ∀ i j, i < 1024 → j < 256 → I.wv i j = WV i (256 * c + j)
  wo : ∀ i j, i < 1024 → j < 1024 → I.wo i j = WO (1024 * c + i) j

namespace Share
variable {I : Ins Ideal} {c : ℕ} {X : Shape.Idx ⟨3, ![4, 256, 1024]⟩ → EReal} {WQ WK WV WO : ℕ → ℕ → EReal} (S : Share I c X WQ WK WV WO)
include S

theorem x_at (i : Fin 1024) (a : Fin 1024) :
    I.x (ix3 ⟨i / 256, by omega⟩ ⟨i % 256, by omega⟩ a) = X (ix3 (Fin.ofNat 4 (i / 256)) (Fin.ofNat 256 (i % 256)) a) := by
  rw [S.x]
  congr 1
  rw [show Fin.ofNat 4 (i.val / 256) = ⟨i / 256, by omega⟩ from Fin.ext (Nat.mod_eq_of_lt (by omega)),
    show Fin.ofNat 256 (i.val % 256) = ⟨i % 256, by omega⟩ from Fin.ext (Nat.mod_eq_of_lt (by omega))]

theorem q_at (i j : ℕ) (hi : i < 1024) (hj : j < 1024) :
    I.q i j = ∑ a : Fin 1024, X (ix3 (Fin.ofNat 4 (i / 256)) (Fin.ofNat 256 (i % 256)) a) * WQ a (1024 * c + j) := by
  refine (at2_ix (A := 1024) (B := 1024) _ ⟨i, hi⟩ ⟨j, hj⟩).symm.trans ((pay2_at _ _ _ _).trans ?_)
  refine Finset.sum_congr rfl fun a _ => ?_
  rw [S.x_at ⟨i, hi⟩ a]
  congr 1
  refine (S.wq _ _ ?_ ?_).trans ?_ <;> simp [ix2, hj] <;> omega
theorem k_at (i j : ℕ) (hi : i < 1024) (hj : j < 256) :
    I.k i j = ∑ a : Fin 1024, X (ix3 (Fin.ofNat 4 (i / 256)) (Fin.ofNat 256 (i % 256)) a) * WK a (256 * c + j) := by
  refine (at2_ix (A := 1024) (B := 256) _ ⟨i, hi⟩ ⟨j, hj⟩).symm.trans ((pay3_at _ _ _ _).trans ?_)
  refine Finset.sum_congr rfl fun a _ => ?_
  rw [S.x_at ⟨i, hi⟩ a]
  congr 1
  refine (S.wk _ _ ?_ ?_).trans ?_ <;> simp [ix2, hj] <;> omega
theorem v_at (i j : ℕ) (hi : i < 1024) (hj : j < 256) :
    I.v i j = ∑ a : Fin 1024, X (ix3 (Fin.ofNat 4 (i / 256)) (Fin.ofNat 256 (i % 256)) a) * WV a (256 * c + j) := by
  refine (at2_ix (A := 1024) (B := 256) _ ⟨i, hi⟩ ⟨j, hj⟩).symm.trans ((pay4_at _ _ _ _).trans ?_)
  refine Finset.sum_congr rfl fun a _ => ?_
  rw [S.x_at ⟨i, hi⟩ a]
  congr 1
  refine (S.wv _ _ ?_ ?_).trans ?_ <;> simp [ix2, hj] <;> omega

theorem attn_at (i j : ℕ) (hi : i < 1024) (hj : j < 1024) : I.attn i j = heads X WQ WK WV i (1024 * c + j) := by
  have h8 : j / 128 < 8 := by omega
  have hh : (Fin.ofNat 8 (j / 128)).val = j / 128 := Nat.mod_eq_of_lt h8
  refine (at2_ix (A := 256) (B := 128) _ ⟨i % 256, by omega⟩ ⟨j % 128, by omega⟩).symm.trans ((head_at _ _ _ _ _ _).trans ?_)
  have e1 : (1024 * c + j) / 128 * 128 = 1024 * c + 128 * (j / 128) := by omega
  have e2 : (1024 * c + j) / 128 / 4 * 128 = 256 * c + 128 * (j / 128 / 4) := by omega
  have e3 : (1024 * c + j) % 128 = j % 128 := by omega
  unfold heads
  rw [hh, e1, e2, e3]
  have hq : ∀ e : Fin 128, at2 (A := 256) (B := 1024) (box I.q (256 * (i / 256)) 0 256 1024) (i % 256) (128 * (j / 128) + e) = I.q i (128 * (j / 128) + e) := by
    intro e
    have e4 := e.isLt
    refine (at2_ix (A := 256) (B := 1024) _ ⟨i % 256, by omega⟩ ⟨128 * (j / 128) + e, by omega⟩).symm.trans ?_
    show I.q (256 * (i / 256) + i % 256) (0 + (128 * (j / 128) + e)) = _
    congr 1 <;> omega
  have hk : ∀ (u : ℕ → ℕ → EReal) (t : Fin 256) (e : Fin 128), at2 (A := 256) (B := 256) (box u (256 * (i / 256)) 0 256 256) t (128 * (j / 128 / 4) + e) = u (256 * (i / 256) + t) (128 * (j / 128 / 4) + e) := by
    intro u t e
    have e4 := e.isLt
    refine (at2_ix (A := 256) (B := 256) _ t ⟨128 * (j / 128 / 4) + e, by omega⟩).symm.trans ?_
    show u (256 * (i / 256) + t) (0 + (128 * (j / 128 / 4) + e)) = _
    congr 1; omega
  have hx : ∀ (t : Fin 256) (a : Fin 1024), X (ix3 (Fin.ofNat 4 ((256 * (i / 256) + t.val) / 256)) (Fin.ofNat 256 ((256 * (i / 256) + t.val) % 256)) a) = X (ix3 (Fin.ofNat 4 (i / 256)) t a) := by
    intro t a
    have := t.isLt
    rw [show (256 * (i / 256) + t.val) / 256 = i / 256 from by omega, show (256 * (i / 256) + t.val) % 256 = t.val from by omega,
      show Fin.ofNat 256 t.val = t from Fin.ext (Nat.mod_eq_of_lt t.isLt)]
  congr 1
  · funext t
    have ht := t.isLt
    congr 1
    refine Finset.sum_congr rfl fun e _ => ?_
    have e4 := e.isLt
    refine congrArg₂ (· * ·) ((hq e).trans ?_) ((hk I.k t e).trans ?_)
    · rw [S.q_at _ _ hi (by omega)]
      simp only [Nat.add_assoc]
    · rw [S.k_at _ _ (by omega) (by omega)]
      simp only [hx, Nat.add_assoc]
  · funext t
    have ht := t.isLt
    refine (hk I.v t ⟨j % 128, by omega⟩).trans ?_
    rw [S.v_at _ _ (by omega) (by omega)]
    simp only [hx, Nat.add_assoc]

theorem part_at (p : Fin 3) (i j : ℕ) (hi : i < 1024) (hj : j < CC p) :
    (I.part p i j : EReal) = ∑ y : Fin 1024, heads X WQ WK WV i (1024 * c + y) * WO (1024 * c + y) (384 * p.val + j) := by
  have ha : ∀ y : Fin 1024, box I.attn (256 * (i / 256)) 0 256 1024 (ix2 ⟨i % 256, by omega⟩ y) = heads X WQ WK WV i (1024 * c + y) := by
    intro y
    show I.attn (256 * (i / 256) + i % 256) (0 + y.val) = _
    rw [show 256 * (i / 256) + i % 256 = i from by omega, Nat.zero_add]
    exact S.attn_at i y hi y.isLt
  match p, hj with
  | 0, hj =>
    have hj : j < 384 := hj
    refine (at2_ix (A := 256) (B := 384) _ ⟨i % 256, by omega⟩ ⟨j, hj⟩).symm.trans ((pay21_at _ _ _ _).trans (Finset.sum_congr rfl fun y _ => ?_))
    refine congrArg₂ (· * ·) (ha y) ((S.wo (0 + y.val) (0 + j) (by omega) (by omega)).trans ?_)
    congr 1 <;> simp
  | 1, hj =>
    have hj : j < 384 := hj
    refine (at2_ix (A := 256) (B := 384) _ ⟨i % 256, by omega⟩ ⟨j, hj⟩).symm.trans ((pay21_at _ _ _ _).trans (Finset.sum_congr rfl fun y _ => ?_))
    refine congrArg₂ (· * ·) (ha y) ((S.wo (0 + y.val) (384 + j) (by omega) (by omega)).trans ?_)
    congr 1 <;> simp
  | 2, hj =>
    have hj : j < 256 := hj
    refine (at2_ix (A := 256) (B := 256) _ ⟨i % 256, by omega⟩ ⟨j, hj⟩).symm.trans ((pay23_at _ _ _ _).trans (Finset.sum_congr rfl fun y _ => ?_))
    refine congrArg₂ (· * ·) (ha y) ((S.wo (0 + y.val) (768 + j) (by omega) (by omega)).trans ?_)
    congr 1 <;> simp
end Share
end Cert.TreeProof
-- ==== Proof.Value3.lean ====
module

public import proofs.«01_k».proof.Proof.Value1

/-! # The finished sums over the extended reals -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The devices a finished sum has met, in the order it met them. -/
def met (p : Fin 3) (c : Dev nD) : List (Dev nD) :=
  [c, mate c p 0, mate c p 1, mate (mate c p 1) p 0, mate c p 2, mate (mate c p 2) p 0, mate (mate c p 2) p 1, mate (mate (mate c p 2) p 1) p 0]
theorem met_perm : ∀ (p : Fin 3) (c : Dev nD), (met p c).Perm (List.finRange nD) := by decide +kernel

theorem red_sum (f : Dev nD → Fin 3 → ℕ → ℕ → EReal) (p : Fin 3) (c : Dev nD) (i j : ℕ) :
    (red (F := Ideal) f p 3 c i j : EReal) = ∑ d : Dev nD, f d p i j := by
  have h : ((met p c).map fun d => f d p i j).sum = ∑ d : Dev nD, f d p i j := by
    rw [((met_perm p c).map _).sum_eq, ← List.ofFn_eq_map, List.sum_ofFn]
  rw [← h]
  show ((f c p i j + f (mate c p 0) p i j) + (f (mate c p 1) p i j + f (mate (mate c p 1) p 0) p i j))
    + ((f (mate c p 2) p i j + f (mate (mate c p 2) p 0) p i j) + (f (mate (mate c p 2) p 1) p i j + f (mate (mate (mate c p 2) p 1) p 0) p i j)) = _
  simp only [met, List.map_cons, List.map_nil, List.sum_cons, List.sum_nil, add_zero, add_assoc]

theorem sum_split (f : ℕ → EReal) : ∑ c : Fin 8, ∑ y : Fin 1024, f (1024 * c.val + y.val) = ∑ n : Fin 8192, f n.val := by
  rw [← Fintype.sum_prod_type' fun (c : Fin 8) (y : Fin 1024) => f (1024 * c.val + y.val)]
  refine Fintype.sum_equiv (finProdFinEquiv (m := 8) (n := 1024)) _ _ fun x => ?_
  congr 1
  show _ = x.2.val + 1024 * x.1.val
  omega

theorem ov_at {I : Dev nD → Ins Ideal} {X : Shape.Idx ⟨3, ![4, 256, 1024]⟩ → EReal} {WQ WK WV WO : ℕ → ℕ → EReal}
    (S : ∀ c : Dev nD, Share (I c) c.val X WQ WK WV WO) (i j : ℕ) (hi : i < 1024) (hj : j < 1024) :
    (ov I i j : EReal) = ∑ n : Fin 8192, heads X WQ WK WV i n * WO n j := by
  have hp : (Fin.ofNat 3 (j / 384)).val = j / 384 := Nat.mod_eq_of_lt (by omega)
  obtain ⟨-, -, hC3, hC4⟩ := CC_lt (Fin.ofNat 3 (j / 384))
  have hc : j % 384 < CC (Fin.ofNat 3 (j / 384)) := by
    rcases Nat.lt_or_ge (j / 384) 2 with h | h
    · rw [hC3 (by omega)]; omega
    · rw [hC4 (by omega)]; omega
  refine (red_sum (PP I) (Fin.ofNat 3 (j / 384)) _ i (j % 384)).trans ?_
  have ht : ∀ d : Dev nD, PP I d (Fin.ofNat 3 (j / 384)) i (j % 384) = ∑ y : Fin 1024, (fun n => heads X WQ WK WV i n * WO n j) (1024 * d.val + y.val) := by
    intro d
    refine ((S d).part_at _ i (j % 384) hi hc).trans ?_
    rw [hp, show 384 * (j / 384) + j % 384 = j from by omega]
  rw [Finset.sum_congr rfl fun d _ => ht d]
  exact sum_split fun n => heads X WQ WK WV i n * WO n j
end Cert.TreeProof
-- ==== Proof.Value4.lean ====
module

public import proofs.«01_k».proof.Proof.Value1
public import Idealize.ShloMosaic.Lib.StableHlo.ReadAt
public import Idealize.ShloMosaic.Lib.Tactic.WordOmega

/-! # A device's share of the inputs -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem start_word : ∀ c : Dev nD, Scalar.select
      (IntOp.cmpi CmpIPredicate.slt
        (IntOp.muli (IntOp.remui ArithUnit.host (IntOp.divui ArithUnit.host c.word 1#32) 8#32) 256#32) 0#32)
      (IntOp.addi (IntOp.muli (IntOp.remui ArithUnit.host (IntOp.divui ArithUnit.host c.word 1#32) 8#32) 256#32)
        2048#32)
      (IntOp.muli (IntOp.remui ArithUnit.host (IntOp.divui ArithUnit.host c.word 1#32) 8#32) 256#32) =
    BitVec.ofNat 32 (256 * c.val) := by decide

theorem start_int : ∀ c : Dev nD, (BitVec.ofNat 32 (256 * c.val)).toInt = ((256 * c.val : ℕ) : ℤ) := by decide

theorem slice_val {α : Type} (a : S1024x2048.Idx → α) (start : Fin S1024x2048.rank → Int) (h : S1024x2048.Slices (fun _ => 0) S1024x256) (c : Dev nD)
    (e0 : start 0 = 0) (e1 : start 1 = ((256 * c.val : ℕ) : ℤ)) (k : Fin 1024) (j : Fin 256) :
    Host.dynamicSlice S1024x256 a start h (ix2 k j) = a (ix2 k ⟨256 * c.val + j, by have := c.isLt; have : c.val < 8 := this; omega⟩) := by
  have hc : c.val < 8 := c.isLt
  rw [Host.dynamicSlice_apply]
  refine congrArg a (funext fun x => Fin.ext ?_)
  match x with
  | ⟨0, _⟩ =>
    refine (congrArg (· + k.val) (Host.clampedStart_of_le (s := S1024x2048) (t := S1024x256) h.1 start 0 0 e0 (by show 0 + 1024 ≤ 1024; omega))).trans ?_
    exact Nat.zero_add _
  | ⟨1, _⟩ =>
    exact congrArg (· + j.val) (Host.clampedStart_of_le (s := S1024x2048) (t := S1024x256) h.1 start 1 (256 * c.val) e1 (by show 256 * c.val + 256 ≤ 2048; omega))

variable (m : (ℓ : Loc nD τ sig) → Buf (Elt F) ℓ)

theorem v8_at (c : Dev nD) (x : S_.Idx) :
    (StableHlo.upto (hostOps0 c) (V0 m c) 14 (Proc.tc.devRef main_v8) : S_.Idx → BitVec 32) x = BitVec.ofNat 32 (256 * c.val) := by
  unfold StableHlo.upto
  simp only [List.take]
  after_reads_at
  simp only [id_eq]
  pointwise
  exact start_word c

theorem c_4_at (c : Dev nD) (x : S_.Idx) :
    (StableHlo.upto (hostOps0 c) (V0 m c) 14 (Proc.tc.devRef main_c_4) : S_.Idx → BitVec 32) x = 0#32 := by
  unfold StableHlo.upto
  simp only [List.take]
  after_reads_at

theorem v9_at (c : Dev nD) (k : Fin 1024) (j : Fin 256) :
    (V1 m c main_v9 : S1024x256.Idx → Elt F .f32) (ix2 k j) = (V0 m c main_arg2 : S1024x2048.Idx → Elt F .f32) (ix2 k ⟨256 * c.val + j, by have := c.isLt; have : c.val < 8 := this; omega⟩) := by
  have e0 := (congrArg BitVec.toInt (c_4_at m c (Shape.Idx.first h_S_)))
  have e1 := (congrArg BitVec.toInt (v8_at m c (Shape.Idx.first h_S_))).trans (start_int c)
  unfold V1
  after_reads_simp
  refine (slice_val (V0 m c main_arg2 : S1024x2048.Idx → Elt F .f32) _ _ c ?_ ?_ k j)
  · exact e0
  · exact e1

theorem v13_at (c : Dev nD) (x : S_.Idx) :
    (StableHlo.upto (hostOps0 c) (V0 m c) 23 (Proc.tc.devRef main_v13) : S_.Idx → BitVec 32) x = BitVec.ofNat 32 (256 * c.val) := by
  unfold StableHlo.upto
  simp only [List.take]
  after_reads_at
  simp only [id_eq]
  pointwise
  exact start_word c

theorem c_8_at (c : Dev nD) (x : S_.Idx) :
    (StableHlo.upto (hostOps0 c) (V0 m c) 23 (Proc.tc.devRef main_c_8) : S_.Idx → BitVec 32) x = 0#32 := by
  unfold StableHlo.upto
  simp only [List.take]
  after_reads_at

theorem v14_at (c : Dev nD) (k : Fin 1024) (j : Fin 256) :
    (V1 m c main_v14 : S1024x256.Idx → Elt F .f32) (ix2 k j) = (V0 m c main_arg3 : S1024x2048.Idx → Elt F .f32) (ix2 k ⟨256 * c.val + j, by have := c.isLt; have : c.val < 8 := this; omega⟩) := by
  have e0 := (congrArg BitVec.toInt (c_8_at m c (Shape.Idx.first h_S_)))
  have e1 := (congrArg BitVec.toInt (v13_at m c (Shape.Idx.first h_S_))).trans (start_int c)
  unfold V1
  after_reads_simp
  refine (slice_val (V0 m c main_arg3 : S1024x2048.Idx → Elt F .f32) _ _ c ?_ ?_ k j)
  · exact e0
  · exact e1

end Cert.TreeProof
-- ==== Proof.Value5.lean ====
module

public import proofs.«01_k».proof.Proof.Value2
public import proofs.«01_k».proof.Proof.Value3
public import proofs.«01_k».proof.Proof.Value4
public import Idealize.ShloMosaic.Lib.LayoutAt

/-! # The kernel's result is the reference's -/

@[expose] public section
set_option maxRecDepth 16384
noncomputable section
namespace Cert.TreeProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws
open Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt Ideal) ℓ)

theorem tab_ix {A B : ℕ} [NeZero A] [NeZero B] {α : Type} (f : Shape.Idx ⟨2, ![A, B]⟩ → α) (a : Fin A) (b : Fin B) :
    tab f a.val b.val = f (ix2 a b) := tab_val f (ix2 a b)

/-- A block of columns, by row and column numbers. -/
theorem cols_at (W : Shape.Idx ⟨2, ![1024, 8192]⟩ → EReal) (c : Dev nD) (h : Layout.Tiles ⟨2, ![1024, 1024]⟩ ⟨2, ![1024, 8192]⟩ 1 8) (i j : Fin 1024) :
    Layout.block ⟨2, ![1024, 1024]⟩ ⟨2, ![1024, 8192]⟩ 1 8 c W h (ix2 i j) = at2 (A := 1024) (B := 8192) W i (1024 * c.val + j) := by
  rw [Layout.block_apply]
  refine (at2_of (A := 1024) (B := 8192) W _ ?_ ?_).symm
  · exact (Layout.Tiles.idx_val_of_ne h c (ix2 i j) 0 (by decide)).symm
  · refine Eq.trans ?_ (Layout.Tiles.idx_val_self h c (ix2 i j) 1 rfl).symm
    show 1024 * c.val + j.val = c.val * 1024 + j.val
    omega

/-- A block of rows likewise. -/
theorem rows_at (W : Shape.Idx ⟨2, ![8192, 1024]⟩ → EReal) (c : Dev nD) (h : Layout.Tiles ⟨2, ![1024, 1024]⟩ ⟨2, ![8192, 1024]⟩ 0 8) (i j : Fin 1024) :
    Layout.block ⟨2, ![1024, 1024]⟩ ⟨2, ![8192, 1024]⟩ 0 8 c W h (ix2 i j) = at2 (A := 8192) (B := 1024) W (1024 * c.val + i) j := by
  rw [Layout.block_apply]
  refine (at2_of (A := 8192) (B := 1024) W _ ?_ ?_).symm
  · refine Eq.trans ?_ (Layout.Tiles.idx_val_self h c (ix2 i j) 0 rfl).symm
    show 1024 * c.val + i.val = c.val * 1024 + i.val
    omega
  · exact (Layout.Tiles.idx_val_of_ne h c (ix2 i j) 1 (by decide)).symm

theorem share_of (X : Shape.Idx ⟨3, ![4, 256, 1024]⟩ → EReal) (W1 : Shape.Idx ⟨2, ![1024, 8192]⟩ → EReal) (W2 W3 : Shape.Idx ⟨2, ![1024, 2048]⟩ → EReal)
    (W4 : Shape.Idx ⟨2, ![8192, 1024]⟩ → EReal) (c : Dev nD)
    (h0 : m ((c.tc : Thread nD τ).loc main_arg0) = X)
    (h1 : m ((c.tc : Thread nD τ).loc main_arg1) = Layout.block ⟨2, ![1024, 1024]⟩ ⟨2, ![1024, 8192]⟩ 1 8 c W1)
    (h2 : m ((c.tc : Thread nD τ).loc main_arg2) = W2)
    (h3 : m ((c.tc : Thread nD τ).loc main_arg3) = W3)
    (h4 : m ((c.tc : Thread nD τ).loc main_arg4) = Layout.block ⟨2, ![1024, 1024]⟩ ⟨2, ![8192, 1024]⟩ 0 8 c W4) :
    Share (ins m c) c.val X (at2 (A := 1024) (B := 8192) W1) (at2 (A := 1024) (B := 2048) W2) (at2 (A := 1024) (B := 2048) W3) (at2 (A := 8192) (B := 1024) W4) where
  x := (V1_of m c main_arg0 (by decide)).trans h0
  wq i j hi hj := (tab_ix (A := 1024) (B := 1024) (arrWq m c) ⟨i, hi⟩ ⟨j, hj⟩).trans
    ((congrFun ((V1_of m c main_arg1 (by decide)).trans h1) (ix2 ⟨i, hi⟩ ⟨j, hj⟩)).trans (cols_at W1 c _ ⟨i, hi⟩ ⟨j, hj⟩))
  wk i j hi hj := (tab_ix (A := 1024) (B := 256) (arrWk m c) ⟨i, hi⟩ ⟨j, hj⟩).trans
    ((v9_at m c ⟨i, hi⟩ ⟨j, hj⟩).trans ((congrFun h2 _).trans (at2_ix (A := 1024) (B := 2048) W2 _ _)))
  wv i j hi hj := (tab_ix (A := 1024) (B := 256) (arrWv m c) ⟨i, hi⟩ ⟨j, hj⟩).trans
    ((v14_at m c ⟨i, hi⟩ ⟨j, hj⟩).trans ((congrFun h3 _).trans (at2_ix (A := 1024) (B := 2048) W3 _ _)))
  wo i j hi hj := (tab_ix (A := 1024) (B := 1024) (arrWo m c) ⟨i, hi⟩ ⟨j, hj⟩).trans
    ((congrFun ((V1_of m c main_arg4 (by decide)).trans h4) (ix2 ⟨i, hi⟩ ⟨j, hj⟩)).trans (rows_at W4 c _ ⟨i, hi⟩ ⟨j, hj⟩))

theorem out_eq (X : Shape.Idx ⟨3, ![4, 256, 1024]⟩ → EReal) (W1 : Shape.Idx ⟨2, ![1024, 8192]⟩ → EReal) (W2 W3 : Shape.Idx ⟨2, ![1024, 2048]⟩ → EReal)
    (W4 : Shape.Idx ⟨2, ![8192, 1024]⟩ → EReal)
    (h : ∀ c : Dev nD, m ((c.tc : Thread nD τ).loc main_arg0) = X
      ∧ m ((c.tc : Thread nD τ).loc main_arg1) = Layout.block ⟨2, ![1024, 1024]⟩ ⟨2, ![1024, 8192]⟩ 1 8 c W1
      ∧ m ((c.tc : Thread nD τ).loc main_arg2) = W2
      ∧ m ((c.tc : Thread nD τ).loc main_arg3) = W3
      ∧ m ((c.tc : Thread nD τ).loc main_arg4) = Layout.block ⟨2, ![1024, 1024]⟩ ⟨2, ![8192, 1024]⟩ 0 8 c W4) :
    (outv m : S1024x1024.Idx → EReal) = Ref.rall X W1 W2 W3 W4 := by
  funext x
  have hx : x = ix2 (n0 := 1024) (n1 := 1024) (x 0) (x 1) := eq_ix2 x
  refine (ov_at (fun c => share_of m X W1 W2 W3 W4 c (h c).1 (h c).2.1 (h c).2.2.1 (h c).2.2.2.1 (h c).2.2.2.2) (x 0).val (x 1).val (x 0).isLt (x 1).isLt).trans ?_
  refine Eq.trans ?_ (congrArg (Ref.rall X W1 W2 W3 W4) hx).symm
  exact (Ref.rall_at X W1 W2 W3 W4 (x 0) (x 1)).symm

end Cert.TreeProof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value5
public import Idealize.ShloMosaic.Adequacy
public import Idealize.ShloMosaic.Init

/-! # The claims, assembled -/

@[expose] public section

noncomputable section

namespace Cert.Proof

open Idealize.ShloMosaic Idealize.SL.Sem Cert.Kernel

/-- The kernel at the real-number reading of its floats: it ends, its arguments are as launched and every counter is zero again. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.TreeProof.run_main (F := Ideal) m ρ)

/-- The kernel's body at machine floats and at real numbers is one text, -/
theorem body_eq : @Cert.Kernel.cc0_body Bits _ _ = @Cert.KernelIdeal.cc0_body Bits _ _ := rfl
/-- so are the tables of bodies, -/
theorem table_eq : Cert.Kernel.defs₀ (F := Bits) = Cert.KernelIdeal.defs₀ (F := Bits) := by
  refine congrArg Defs.onTc (funext fun l => ?_)
  match l with
  | ⟨0, _⟩ => rfl
theorem defs_eq : Cert.Kernel.defs (F := Bits) = Cert.KernelIdeal.defs (F := Bits) :=
  congrArg (Pipeline.defs Cert.KernelIdeal.pcfgs) table_eq

/-- so the kernel at machine floats has the same frame. -/
theorem frame_kernel : Cert.quiescent_Kernel := fun m ρ _ => by
  rw [defs_eq]
  exact (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.TreeProof.run_main (F := Bits) m ρ)

/-- The reference ends, its arguments are as launched, and it has no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- At real numbers the kernel, on 8 devices, leaves on every device the reference's result. -/
theorem algebraic : Cert.algebraic_KernelIdeal_ReferenceIdeal := fun m g m' g' _ h => by
  refine ⟨Cert.ReferenceIdeal.Value.res_main_v39 m' 0, ?_, ?_⟩
  · refine (θ_run Cert.KernelIdeal.defs _ _).mono (fun r hr c => ?_) (Cert.TreeProof.run_main (F := Ideal) m g)
    obtain ⟨a0, a1, a2, a3, a4, e⟩ := hr.1 c
    exact ⟨e.trans ((Cert.TreeProof.out_eq m _ _ _ _ _ h).trans (Cert.TreeProof.Ref.res_eq m' 0).symm), a0, a1, a2, a3, a4⟩
  · exact (θ_run Cert.ReferenceIdeal.defs _ _).mono (fun _ hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
